-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def preserves_Kernel2_Kernel2Ideal : Prop :=
  IdealRules.named_const.Statement Cert.Kernel2Ideal.κ "scale_a" .f32 0x3E38AA3B#32 (((1 / 8) * (Real.log 2)⁻¹ : ℝ) : EReal)
  ∧ IdealRules.named_const.Statement Cert.Kernel2Ideal.κ "scale_c" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)) (v7 : (c : Dev Cert.Kernel2Ideal.nD) → Buf (Elt Ideal) ((c.tc : Thread Cert.Kernel2Ideal.nD Cert.Kernel2Ideal.τ).loc Cert.Kernel2Ideal.main_v5_7)) (v8 : (c : Dev Cert.Kernel2Ideal.nD) → Buf (Elt Ideal) ((c.tc : Thread Cert.Kernel2Ideal.nD Cert.Kernel2Ideal.τ).loc Cert.Kernel2Ideal.main_v5_8)) (v9 : (c : Dev Cert.Kernel2Ideal.nD) → Buf (Elt Ideal) ((c.tc : Thread Cert.Kernel2Ideal.nD Cert.Kernel2Ideal.τ).loc Cert.Kernel2Ideal.main_v5_9)) (v10 : (c : Dev Cert.Kernel2Ideal.nD) → Buf (Elt Ideal) ((c.tc : Thread Cert.Kernel2Ideal.nD Cert.Kernel2Ideal.τ).loc Cert.Kernel2Ideal.main_v5_10)) (v11 : (c : Dev Cert.Kernel2Ideal.nD) → Buf (Elt Ideal) ((c.tc : Thread Cert.Kernel2Ideal.nD Cert.Kernel2Ideal.τ).loc Cert.Kernel2Ideal.main_v5_11)) (v12 : (c : Dev Cert.Kernel2Ideal.nD) → Buf (Elt Ideal) ((c.tc : Thread Cert.Kernel2Ideal.nD Cert.Kernel2Ideal.τ).loc Cert.Kernel2Ideal.main_v5_12)) (v13 : (c : Dev Cert.Kernel2Ideal.nD) → Buf (Elt Ideal) ((c.tc : Thread Cert.Kernel2Ideal.nD Cert.Kernel2Ideal.τ).loc Cert.Kernel2Ideal.main_v5_13)) (v14 : (c : Dev Cert.Kernel2Ideal.nD) → Buf (Elt Ideal) ((c.tc : Thread Cert.Kernel2Ideal.nD Cert.Kernel2Ideal.τ).loc Cert.Kernel2Ideal.main_v5_14)) (v15 : (c : Dev Cert.Kernel2Ideal.nD) → Buf (Elt Ideal) ((c.tc : Thread Cert.Kernel2Ideal.nD Cert.Kernel2Ideal.τ).loc Cert.Kernel2Ideal.main_v5_15)) (v16 : (c : Dev Cert.Kernel2Ideal.nD) → Buf (Elt Ideal) ((c.tc : Thread Cert.Kernel2Ideal.nD Cert.Kernel2Ideal.τ).loc Cert.Kernel2Ideal.main_v5_16)) (v17 : (c : Dev Cert.Kernel2Ideal.nD) → Buf (Elt Ideal) ((c.tc : Thread Cert.Kernel2Ideal.nD Cert.Kernel2Ideal.τ).loc Cert.Kernel2Ideal.main_v5_17)) (v18 : (c : Dev Cert.Kernel2Ideal.nD) → Buf (Elt Ideal) ((c.tc : Thread Cert.Kernel2Ideal.nD Cert.Kernel2Ideal.τ).loc Cert.Kernel2Ideal.main_v5_18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_v5_7) = v7 c
          ∧ r.2.mem ((c.tc : Thread Cert.Kernel2Ideal.nD Cert.Kernel2Ideal.τ).loc Cert.Kernel2Ideal.main_v5_8) = v8 c
          ∧ r.2.mem ((c.tc : Thread Cert.Kernel2Ideal.nD Cert.Kernel2Ideal.τ).loc Cert.Kernel2Ideal.main_v5_9) = v9 c
          ∧ r.2.mem ((c.tc : Thread Cert.Kernel2Ideal.nD Cert.Kernel2Ideal.τ).loc Cert.Kernel2Ideal.main_v5_10) = v10 c
          ∧ r.2.mem ((c.tc : Thread Cert.Kernel2Ideal.nD Cert.Kernel2Ideal.τ).loc Cert.Kernel2Ideal.main_v5_11) = v11 c
          ∧ r.2.mem ((c.tc : Thread Cert.Kernel2Ideal.nD Cert.Kernel2Ideal.τ).loc Cert.Kernel2Ideal.main_v5_12) = v12 c
          ∧ r.2.mem ((c.tc : Thread Cert.Kernel2Ideal.nD Cert.Kernel2Ideal.τ).loc Cert.Kernel2Ideal.main_v5_13) = v13 c
          ∧ r.2.mem ((c.tc : Thread Cert.Kernel2Ideal.nD Cert.Kernel2Ideal.τ).loc Cert.Kernel2Ideal.main_v5_14) = v14 c
          ∧ r.2.mem ((c.tc : Thread Cert.Kernel2Ideal.nD Cert.Kernel2Ideal.τ).loc Cert.Kernel2Ideal.main_v5_15) = v15 c
          ∧ r.2.mem ((c.tc : Thread Cert.Kernel2Ideal.nD Cert.Kernel2Ideal.τ).loc Cert.Kernel2Ideal.main_v5_16) = v16 c
          ∧ r.2.mem ((c.tc : Thread Cert.Kernel2Ideal.nD Cert.Kernel2Ideal.τ).loc Cert.Kernel2Ideal.main_v5_17) = v17 c
          ∧ r.2.mem ((c.tc : Thread Cert.Kernel2Ideal.nD Cert.Kernel2Ideal.τ).loc Cert.Kernel2Ideal.main_v5_18) = v18 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v121) = v0 c
          ∧ r.2.mem ((c.tc : Thread Cert.Reference2Ideal.nD Cert.Reference2Ideal.τ).loc Cert.Reference2Ideal.main_v122) = v1 c
          ∧ r.2.mem ((c.tc : Thread Cert.Reference2Ideal.nD Cert.Reference2Ideal.τ).loc Cert.Reference2Ideal.main_v123) = v2 c
          ∧ r.2.mem ((c.tc : Thread Cert.Reference2Ideal.nD Cert.Reference2Ideal.τ).loc Cert.Reference2Ideal.main_v124) = v3 c
          ∧ r.2.mem ((c.tc : Thread Cert.Reference2Ideal.nD Cert.Reference2Ideal.τ).loc Cert.Reference2Ideal.main_v125) = v4 c
          ∧ r.2.mem ((c.tc : Thread Cert.Reference2Ideal.nD Cert.Reference2Ideal.τ).loc Cert.Reference2Ideal.main_v126) = v5 c
          ∧ r.2.mem ((c.tc : Thread Cert.Reference2Ideal.nD Cert.Reference2Ideal.τ).loc Cert.Reference2Ideal.main_v127) = v6 c
          ∧ r.2.mem ((c.tc : Thread Cert.Reference2Ideal.nD Cert.Reference2Ideal.τ).loc Cert.Reference2Ideal.main_v128) = v7 c
          ∧ r.2.mem ((c.tc : Thread Cert.Reference2Ideal.nD Cert.Reference2Ideal.τ).loc Cert.Reference2Ideal.main_v129) = v8 c
          ∧ r.2.mem ((c.tc : Thread Cert.Reference2Ideal.nD Cert.Reference2Ideal.τ).loc Cert.Reference2Ideal.main_v130) = v9 c
          ∧ r.2.mem ((c.tc : Thread Cert.Reference2Ideal.nD Cert.Reference2Ideal.τ).loc Cert.Reference2Ideal.main_v131) = v10 c
          ∧ r.2.mem ((c.tc : Thread Cert.Reference2Ideal.nD Cert.Reference2Ideal.τ).loc Cert.Reference2Ideal.main_v132) = v11 c
          ∧ r.2.mem ((c.tc : Thread Cert.Reference2Ideal.nD Cert.Reference2Ideal.τ).loc Cert.Reference2Ideal.main_v133) = v12 c
          ∧ r.2.mem ((c.tc : Thread Cert.Reference2Ideal.nD Cert.Reference2Ideal.τ).loc Cert.Reference2Ideal.main_v135) = v13 c
          ∧ r.2.mem ((c.tc : Thread Cert.Reference2Ideal.nD Cert.Reference2Ideal.τ).loc Cert.Reference2Ideal.main_v136) = v14 c
          ∧ r.2.mem ((c.tc : Thread Cert.Reference2Ideal.nD Cert.Reference2Ideal.τ).loc Cert.Reference2Ideal.main_v138) = v15 c
          ∧ r.2.mem ((c.tc : Thread Cert.Reference2Ideal.nD Cert.Reference2Ideal.τ).loc Cert.Reference2Ideal.main_v139) = v16 c
          ∧ r.2.mem ((c.tc : Thread Cert.Reference2Ideal.nD Cert.Reference2Ideal.τ).loc Cert.Reference2Ideal.main_v141) = v17 c
          ∧ r.2.mem ((c.tc : Thread Cert.Reference2Ideal.nD Cert.Reference2Ideal.τ).loc Cert.Reference2Ideal.main_v143) = v18 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x18x4096x128 : Shape := ⟨4, ![4, 18, 4096, 128]⟩
abbrev S32x12 : Shape := ⟨2, ![32, 12]⟩
abbrev S129 : Shape := ⟨1, ![129]⟩
abbrev S128x256 : Shape := ⟨2, ![128, 256]⟩
abbrev S_ : Shape := ⟨0, ![]⟩
abbrev S128x256x1 : Shape := ⟨3, ![128, 256, 1]⟩
abbrev S1x128x256 : Shape := ⟨3, ![1, 128, 256]⟩
abbrev S32x128x256 : Shape := ⟨3, ![32, 128, 256]⟩
abbrev S12x32 : Shape := ⟨2, ![12, 32]⟩
abbrev S12x128x256 : Shape := ⟨3, ![12, 128, 256]⟩
abbrev S12x1x128x256 : Shape := ⟨4, ![12, 1, 128, 256]⟩
abbrev S12x2x128x256 : Shape := ⟨4, ![12, 2, 128, 256]⟩
abbrev S6x2x2x128x256 : Shape := ⟨5, ![6, 2, 2, 128, 256]⟩
abbrev S6x2x256x256 : Shape := ⟨4, ![6, 2, 256, 256]⟩
abbrev S1x6x2x256x256 : Shape := ⟨5, ![1, 6, 2, 256, 256]⟩
abbrev S3x6x2x256x256 : Shape := ⟨5, ![3, 6, 2, 256, 256]⟩
abbrev S4x6x4096x128 : Shape := ⟨4, ![4, 6, 4096, 128]⟩
abbrev S1x1x4096x128 : Shape := ⟨4, ![1, 1, 4096, 128]⟩
abbrev S3x1x2x256x256 : Shape := ⟨5, ![3, 1, 2, 256, 256]⟩
abbrev S4096x128 : Shape := ⟨2, ![4096, 128]⟩
abbrev S3x4096x128 : Shape := ⟨3, ![3, 4096, 128]⟩
abbrev S128x128 : Shape := ⟨2, ![128, 128]⟩
abbrev S256x128 : Shape := ⟨2, ![256, 128]⟩
abbrev S1x1x256x128 : Shape := ⟨4, ![1, 1, 256, 128]⟩
abbrev S1x256x128 : Shape := ⟨3, ![1, 256, 128]⟩
abbrev S1x4096x128 : Shape := ⟨3, ![1, 4096, 128]⟩
abbrev S256x256 : Shape := ⟨2, ![256, 256]⟩
abbrev S1x1x1x256x256 : Shape := ⟨5, ![1, 1, 1, 256, 256]⟩
abbrev S256 : Shape := ⟨1, ![256]⟩
abbrev S256x1 : Shape := ⟨2, ![256, 1]⟩
abbrev S1x1x128x128 : Shape := ⟨4, ![1, 1, 128, 128]⟩

abbrev nBuf : Space → Nat
  | .hbm => 170
  | .vmem => 20
  | .smem => 0
  | _ => 0

abbrev hbmTy0_0 (i : Nat) : BufTy := match i % 128 with
  | 0 => ⟨S4x18x4096x128, .bf16⟩
  | 1 => ⟨S32x12, .f32⟩
  | 2 => ⟨S129, .i32⟩
  | 3 => ⟨S129, .i32⟩
  | 4 => ⟨S129, .i32⟩
  | 5 => ⟨S128x256, .i32⟩
  | 6 => ⟨S128x256, .i32⟩
  | 7 => ⟨S128x256, .i32⟩
  | 8 => ⟨S_, .i32⟩
  | 9 => ⟨S128x256, .i32⟩
  | 10 => ⟨S128x256, .i32⟩
  | 11 => ⟨S_, .i32⟩
  | 12 => ⟨S128x256, .i32⟩
  | 13 => ⟨S128x256, .i1⟩
  | 14 => ⟨S_, .i32⟩
  | 15 => ⟨S128x256, .i32⟩
  | 16 => ⟨S128x256, .i1⟩
  | 17 => ⟨S128x256, .i1⟩
  | 18 => ⟨S_, .i32⟩
  | 19 => ⟨S_, .i32⟩
  | 20 => ⟨S_, .i32⟩
  | 21 => ⟨S128x256, .i32⟩
  | 22 => ⟨S128x256, .i32⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i1⟩
  | 29 => ⟨S_, .i32⟩
  | 30 => ⟨S128x256, .i32⟩
  | 31 => ⟨S128x256, .i32⟩
  | 32 => ⟨S128x256, .i32⟩
  | 33 => ⟨S128x256x1, .i32⟩
  | 34 => ⟨S128x256, .i32⟩
  | 35 => ⟨S1x128x256, .i32⟩
  | 36 => ⟨S32x128x256, .i32⟩
  | 37 => ⟨S32x128x256, .i32⟩
  | 38 => ⟨S32x128x256, .i1⟩
  | 39 => ⟨S32x128x256, .f32⟩
  | 40 => ⟨S12x32, .f32⟩
  | 41 => ⟨S12x128x256, .f32⟩
  | 42 => ⟨S_, .f32⟩
  | 43 => ⟨S12x128x256, .f32⟩
  | 44 => ⟨S12x128x256, .f32⟩
  | 45 => ⟨S1x128x256, .i1⟩
  | 46 => ⟨S_, .f32⟩
  | 47 => ⟨S_, .f32⟩
  | 48 => ⟨S12x128x256, .i1⟩
  | 49 => ⟨S12x128x256, .f32⟩
  | 50 => ⟨S12x128x256, .f32⟩
  | 51 => ⟨S_, .i32⟩
  | 52 => ⟨S128x256, .i32⟩
  | 53 => ⟨S128x256, .i1⟩
  | 54 => ⟨S128x256, .i1⟩
  | 55 => ⟨S1x128x256, .i1⟩
  | 56 => ⟨S_, .f32⟩
  | 57 => ⟨S_, .f32⟩
  | 58 => ⟨S12x128x256, .i1⟩
  | 59 => ⟨S12x128x256, .f32⟩
  | 60 => ⟨S12x128x256, .f32⟩
  | 61 => ⟨S12x1x128x256, .f32⟩
  | 62 => ⟨S12x1x128x256, .f32⟩
  | 63 => ⟨S12x2x128x256, .f32⟩
  | 64 => ⟨S6x2x2x128x256, .f32⟩
  | 65 => ⟨S6x2x2x128x256, .f32⟩
  | 66 => ⟨S6x2x256x256, .f32⟩
  | 67 => ⟨S_, .i32⟩
  | 68 => ⟨S_, .i32⟩
  | 69 => ⟨S_, .i32⟩
  | 70 => ⟨S128x256, .i32⟩
  | 71 => ⟨S128x256, .i32⟩
  | 72 => ⟨S_, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i32⟩
  | 81 => ⟨S128x256, .i32⟩
  | 82 => ⟨S128x256x1, .i32⟩
  | 83 => ⟨S128x256, .i32⟩
  | 84 => ⟨S1x128x256, .i32⟩
  | 85 => ⟨S32x128x256, .i32⟩
  | 86 => ⟨S32x128x256, .i32⟩
  | 87 => ⟨S32x128x256, .i1⟩
  | 88 => ⟨S32x128x256, .f32⟩
  | 89 => ⟨S12x32, .f32⟩
  | 90 => ⟨S12x128x256, .f32⟩
  | 91 => ⟨S_, .f32⟩
  | 92 => ⟨S12x128x256, .f32⟩
  | 93 => ⟨S12x128x256, .f32⟩
  | 94 => ⟨S1x128x256, .i1⟩
  | 95 => ⟨S_, .f32⟩
  | 96 => ⟨S_, .f32⟩
  | 97 => ⟨S12x128x256, .i1⟩
  | 98 => ⟨S12x128x256, .f32⟩
  | 99 => ⟨S12x128x256, .f32⟩
  | 100 => ⟨S_, .i32⟩
  | 101 => ⟨S128x256, .i32⟩
  | 102 => ⟨S128x256, .i1⟩
  | 103 => ⟨S128x256, .i1⟩
  | 104 => ⟨S1x128x256, .i1⟩
  | 105 => ⟨S_, .f32⟩
  | 106 => ⟨S_, .f32⟩
  | 107 => ⟨S12x128x256, .i1⟩
  | 108 => ⟨S12x128x256, .f32⟩
  | 109 => ⟨S12x128x256, .f32⟩
  | 110 => ⟨S12x1x128x256, .f32⟩
  | 111 => ⟨S12x1x128x256, .f32⟩
  | 112 => ⟨S12x2x128x256, .f32⟩
  | 113 => ⟨S6x2x2x128x256, .f32⟩
  | 114 => ⟨S6x2x2x128x256, .f32⟩
  | 115 => ⟨S6x2x256x256, .f32⟩
  | 116 => ⟨S_, .i32⟩
  | 117 => ⟨S_, .i32⟩
  | 118 => ⟨S_, .i32⟩
  | 119 => ⟨S128x256, .i32⟩
  | 120 => ⟨S128x256, .i32⟩
  | 121 => ⟨S_, .i32⟩
  | 122 => ⟨S128x256, .i32⟩
  | 123 => ⟨S128x256, .i32⟩
  | 124 => ⟨S_, .i32⟩
  | 125 => ⟨S128x256, .i32⟩
  | 126 => ⟨S128x256, .i1⟩
  | 127 => ⟨S_, .i32⟩
  | _ => ⟨S4x18x4096x128, .bf16⟩

abbrev hbmTy0_1 (i : Nat) : BufTy := match i % 128 with
  | 0 => ⟨S128x256, .i32⟩
  | 1 => ⟨S128x256, .i32⟩
  | 2 => ⟨S128x256, .i32⟩
  | 3 => ⟨S128x256x1, .i32⟩
  | 4 => ⟨S128x256, .i32⟩
  | 5 => ⟨S1x128x256, .i32⟩
  | 6 => ⟨S32x128x256, .i32⟩
  | 7 => ⟨S32x128x256, .i32⟩
  | 8 => ⟨S32x128x256, .i1⟩
  | 9 => ⟨S32x128x256, .f32⟩
  | 10 => ⟨S12x32, .f32⟩
  | 11 => ⟨S12x128x256, .f32⟩
  | 12 => ⟨S_, .f32⟩
  | 13 => ⟨S12x128x256, .f32⟩
  | 14 => ⟨S12x128x256, .f32⟩
  | 15 => ⟨S1x128x256, .i1⟩
  | 16 => ⟨S_, .f32⟩
  | 17 => ⟨S_, .f32⟩
  | 18 => ⟨S12x128x256, .i1⟩
  | 19 => ⟨S12x128x256, .f32⟩
  | 20 => ⟨S12x128x256, .f32⟩
  | 21 => ⟨S_, .i32⟩
  | 22 => ⟨S128x256, .i32⟩
  | 23 => ⟨S128x256, .i1⟩
  | 24 => ⟨S128x256, .i1⟩
  | 25 => ⟨S1x128x256, .i1⟩
  | 26 => ⟨S_, .f32⟩
  | 27 => ⟨S_, .f32⟩
  | 28 => ⟨S12x128x256, .i1⟩
  | 29 => ⟨S12x128x256, .f32⟩
  | 30 => ⟨S12x128x256, .f32⟩
  | 31 => ⟨S12x1x128x256, .f32⟩
  | 32 => ⟨S12x1x128x256, .f32⟩
  | 33 => ⟨S12x2x128x256, .f32⟩
  | 34 => ⟨S6x2x2x128x256, .f32⟩
  | 35 => ⟨S6x2x2x128x256, .f32⟩
  | 36 => ⟨S6x2x256x256, .f32⟩
  | 37 => ⟨S1x6x2x256x256, .f32⟩
  | 38 => ⟨S1x6x2x256x256, .f32⟩
  | 39 => ⟨S1x6x2x256x256, .f32⟩
  | 40 => ⟨S3x6x2x256x256, .f32⟩
  | 41 => ⟨S4x6x4096x128, .bf16⟩
  | _ => ⟨S4x18x4096x128, .bf16⟩

abbrev hbmTy (i : Nat) : BufTy := match i / 128 with
  | 0 => hbmTy0_0 i
  | 1 => hbmTy0_1 i
  | _ => ⟨S4x18x4096x128, .bf16⟩

abbrev bufTy : (tb : Table) → Fin (tcTables nBuf tb) → BufTy
  | .hbm, ⟨i, _⟩ => hbmTy i
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S3x1x2x256x256, .f32⟩
  | .local _ .vmem, ⟨7, _⟩ => ⟨S3x1x2x256x256, .f32⟩
  | .local _ .vmem, ⟨8, _⟩ => ⟨S1x1x4096x128, .bf16⟩
  | .local _ .vmem, ⟨9, _⟩ => ⟨S1x1x4096x128, .bf16⟩
  | .local _ .vmem, ⟨10, _⟩ => ⟨S4096x128, .f32⟩
  | .local _ .vmem, ⟨11, _⟩ => ⟨S4096x128, .f32⟩
  | .local _ .vmem, ⟨12, _⟩ => ⟨S3x4096x128, .bf16⟩
  | .local _ .vmem, ⟨13, _⟩ => ⟨S3x4096x128, .bf16⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | _, _ => ⟨S4x18x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_c_3 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_5 : Ref sig .tc := ⟨.hbm, 18, rfl⟩
abbrev main_c_6 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_c_7 : Ref sig .tc := ⟨.hbm, 26, rfl⟩
abbrev main_v11 : Ref sig .tc := ⟨.hbm, 27, rfl⟩
abbrev main_v12 : Ref sig .tc := ⟨.hbm, 28, rfl⟩
abbrev main_c_8 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_c_10 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_12 : Ref sig .tc := ⟨.hbm, 67, rfl⟩
abbrev main_c_13 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v40 : Ref sig .tc := ⟨.hbm, 74, rfl⟩
abbrev main_c_14 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_17 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v58 : Ref sig .tc := ⟨.hbm, 99, rfl⟩
abbrev main_c_18 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_19 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_20 : Ref sig .tc := ⟨.hbm, 116, rfl⟩
abbrev main_c_21 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v70 : Ref sig .tc := ⟨.hbm, 123, rfl⟩
abbrev main_c_22 : Ref sig .tc := ⟨.hbm, 124, rfl⟩
abbrev main_v71 : Ref sig .tc := ⟨.hbm, 125, rfl⟩
abbrev main_v72 : Ref sig .tc := ⟨.hbm, 126, rfl⟩
abbrev main_c_23 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_24 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_25 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_v88 : Ref sig .tc := ⟨.hbm, 148, rfl⟩
abbrev main_c_26 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_27 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 6], ![false, false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v9003 : BitVec 32 := Scalar.muli arg17 c256_i32
  v9003
def k0_off1 (k0_t1 : Fin k0_t1_loop.trips) : Fin 4 → Nat :=
  let c0_4752 : Index := 0#32
  let c0_4753 : Index := 0#32
  let c0_i32 : BitVec 32 := 0#32
  let c1_i32 : BitVec 32 := 1#32
  let arg17 : BitVec 32 := Scf.iv c0_i32 c1_i32 k0_t1
  let c256_i32 : BitVec 32 := 256#32
  let v9003 : BitVec 32 := Scalar.muli arg17 c256_i32
  let v9004 : BitVec 32 := v9003
  let v9005 : Index := Scalar.indexCast v9004
  let c0_4754 : Index := 0#32
  ![0, 0, v9005.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v9003 : BitVec 32 := Scalar.muli arg17 c256_i32
  let v9004 : BitVec 32 := v9003
  let v9009 : Index := Scalar.indexCast v9004
  let c0_4755 : Index := 0#32
  ![v9009.toNat, 0]
@[reducible] def k0_t2_loop : Scf.Loop 32 :=
  let c0_i32_2 : BitVec 32 := 0#32
  let c4_i32 : BitVec 32 := 4#32
  let v13 : BitVec 32 := Scalar.addi c0_i32_2 c4_i32
  let c1_i32_3 : BitVec 32 := 1#32
  ⟨c0_i32_2, v13, c1_i32_3⟩
def k0_mult2 (k0_t2 : Fin k0_t2_loop.trips) : BitVec 32 :=
  let c0_i32_2 : BitVec 32 := 0#32
  let c1_i32_3 : BitVec 32 := 1#32
  let arg17 : BitVec 32 := Scf.iv c0_i32_2 c1_i32_3 k0_t2
  let c256_i32 : BitVec 32 := 256#32
  let v9003 : BitVec 32 := Scalar.muli arg17 c256_i32
  v9003
def k0_off3 (k0_t2 : Fin k0_t2_loop.trips) : Fin 2 → Nat :=
  let c4_i32_4752 : BitVec 32 := 4#32
  let c0_i32_2 : BitVec 32 := 0#32
  let c1_i32_3 : BitVec 32 := 1#32
  let arg17 : BitVec 32 := Scf.iv c0_i32_2 c1_i32_3 k0_t2
  let c256_i32 : BitVec 32 := 256#32
  let v9003 : BitVec 32 := Scalar.muli arg17 c256_i32
  let v9004 : BitVec 32 := v9003
  let v9005 : BitVec 32 := Scalar.muli c4_i32_4752 v9004
  let c0_i32_4753 : BitVec 32 := 0#32
  let v9006 : BitVec 32 := Scalar.addi v9005 c0_i32_4753
  let v9007 : Index := Scalar.indexCast v9006
  let c0_4754 : Index := 0#32
  ![v9007.toNat, 0]
def k0_off4 (k0_t2 : Fin k0_t2_loop.trips) : Fin 2 → Nat :=
  let c0_i32_4755 : BitVec 32 := 0#32
  let c0_i32_2 : BitVec 32 := 0#32
  let c1_i32_3 : BitVec 32 := 1#32
  let arg17 : BitVec 32 := Scf.iv c0_i32_2 c1_i32_3 k0_t2
  let c256_i32 : BitVec 32 := 256#32
  let v9003 : BitVec 32 := Scalar.muli arg17 c256_i32
  let v9004 : BitVec 32 := v9003
  let v9009 : BitVec 32 := Scalar.addi c0_i32_4755 v9004
  let v9010 : Index := Scalar.indexCast v9009
  let c0_4756 : Index := 0#32
  ![v9010.toNat, 0]
def k0_off5 (k0_t2 : Fin k0_t2_loop.trips) : Fin 3 → Nat :=
  let c0_4758 : Index := 0#32
  let c0_i32_4757 : BitVec 32 := 0#32
  let c0_i32_2 : BitVec 32 := 0#32
  let c1_i32_3 : BitVec 32 := 1#32
  let arg17 : BitVec 32 := Scf.iv c0_i32_2 c1_i32_3 k0_t2
  let c256_i32 : BitVec 32 := 256#32
  let v9003 : BitVec 32 := Scalar.muli arg17 c256_i32
  let v9004 : BitVec 32 := v9003
  let v9015 : BitVec 32 := Scalar.addi c0_i32_4757 v9004
  let v9016 : Index := Scalar.indexCast v9015
  let c0_4759 : Index := 0#32
  ![0, v9016.toNat, 0]
@[reducible] def k0_t3_loop : Scf.Loop 32 :=
  let c0_i32_5 : BitVec 32 := 0#32
  let c4_i32_6 : BitVec 32 := 4#32
  let v14 : BitVec 32 := Scalar.addi c0_i32_5 c4_i32_6
  let c1_i32_7 : BitVec 32 := 1#32
  ⟨c0_i32_5, v14, c1_i32_7⟩
def k0_mult3 (k0_t3 : Fin k0_t3_loop.trips) : BitVec 32 :=
  let c0_i32_5 : BitVec 32 := 0#32
  let c1_i32_7 : BitVec 32 := 1#32
  let arg17 : BitVec 32 := Scf.iv c0_i32_5 c1_i32_7 k0_t3
  let c256_i32 : BitVec 32 := 256#32
  let v9003 : BitVec 32 := Scalar.muli arg17 c256_i32
  v9003
def k0_off6 (k0_t3 : Fin k0_t3_loop.trips) : Fin 2 → Nat :=
  let c4_i32_4752 : BitVec 32 := 4#32
  let c0_i32_5 : BitVec 32 := 0#32
  let c1_i32_7 : BitVec 32 := 1#32
  let arg17 : BitVec 32 := Scf.iv c0_i32_5 c1_i32_7 k0_t3
  let c256_i32 : BitVec 32 := 256#32
  let v9003 : BitVec 32 := Scalar.muli arg17 c256_i32
  let v9004 : BitVec 32 := v9003
  let v9005 : BitVec 32 := Scalar.muli c4_i32_4752 v9004
  let c1_i32_4753 : BitVec 32 := 1#32
  let v9006 : BitVec 32 := Scalar.addi v9005 c1_i32_4753
  let v9007 : Index := Scalar.indexCast v9006
  let c0_4754 : Index := 0#32
  ![v9007.toNat, 0]
def k0_off7 (k0_t3 : Fin k0_t3_loop.trips) : Fin 2 → Nat :=
  let c1024_i32 : BitVec 32 := 1024#32
  let c0_i32_5 : BitVec 32 := 0#32
  let c1_i32_7 : BitVec 32 := 1#32
  let arg17 : BitVec 32 := Scf.iv c0_i32_5 c1_i32_7 k0_t3
  let c256_i32 : BitVec 32 := 256#32
  let v9003 : BitVec 32 := Scalar.muli arg17 c256_i32
  let v9004 : BitVec 32 := v9003
  let v9009 : BitVec 32 := Scalar.addi c1024_i32 v9004
  let v9010 : Index := Scalar.indexCast v9009
  let c0_4755 : Index := 0#32
  ![v9010.toNat, 0]
def k0_off8 (k0_t3 : Fin k0_t3_loop.trips) : Fin 3 → Nat :=
  let c0_4757 : Index := 0#32
  let c1024_i32_4756 : BitVec 32 := 1024#32
  let c0_i32_5 : BitVec 32 := 0#32
  let c1_i32_7 : BitVec 32 := 1#32
  let arg17 : BitVec 32 := Scf.iv c0_i32_5 c1_i32_7 k0_t3
  let c256_i32 : BitVec 32 := 256#32
  let v9003 : BitVec 32 := Scalar.muli arg17 c256_i32
  let v9004 : BitVec 32 := v9003
  let v9015 : BitVec 32 := Scalar.addi c1024_i32_4756 v9004
  let v9016 : Index := Scalar.indexCast v9015
  let c0_4758 : Index := 0#32
  ![0, v9016.toNat, 0]
@[reducible] def k0_t4_loop : Scf.Loop 32 :=
  let c0_i32_9 : BitVec 32 := 0#32
  let c4_i32_10 : BitVec 32 := 4#32
  let v15 : BitVec 32 := Scalar.addi c0_i32_9 c4_i32_10
  let c1_i32_11 : BitVec 32 := 1#32
  ⟨c0_i32_9, v15, c1_i32_11⟩
def k0_mult4 (k0_t4 : Fin k0_t4_loop.trips) : BitVec 32 :=
  let c0_i32_9 : BitVec 32 := 0#32
  let c1_i32_11 : BitVec 32 := 1#32
  let arg17 : BitVec 32 := Scf.iv c0_i32_9 c1_i32_11 k0_t4
  let c256_i32 : BitVec 32 := 256#32
  let v9003 : BitVec 32 := Scalar.muli arg17 c256_i32
  v9003
def k0_off9 (k0_t4 : Fin k0_t4_loop.trips) : Fin 2 → Nat :=
  let c4_i32_4752 : BitVec 32 := 4#32
  let c0_i32_9 : BitVec 32 := 0#32
  let c1_i32_11 : BitVec 32 := 1#32
  let arg17 : BitVec 32 := Scf.iv c0_i32_9 c1_i32_11 k0_t4
  let c256_i32 : BitVec 32 := 256#32
  let v9003 : BitVec 32 := Scalar.muli arg17 c256_i32
  let v9004 : BitVec 32 := v9003
  let v9005 : BitVec 32 := Scalar.muli c4_i32_4752 v9004
  let c2_i32_4753 : BitVec 32 := 2#32
  let v9006 : BitVec 32 := Scalar.addi v9005 c2_i32_4753
  let v9007 : Index := Scalar.indexCast v9006
  let c0_4754 : Index := 0#32
  ![v9007.toNat, 0]
def k0_off10 (k0_t4 : Fin k0_t4_loop.trips) : Fin 2 → Nat :=
  let c2048_i32_4755 : BitVec 32 := 2048#32
  let c0_i32_9 : BitVec 32 := 0#32
  let c1_i32_11 : BitVec 32 := 1#32
  let arg17 : BitVec 32 := Scf.iv c0_i32_9 c1_i32_11 k0_t4
  let c256_i32 : BitVec 32 := 256#32
  let v9003 : BitVec 32 := Scalar.muli arg17 c256_i32
  let v9004 : BitVec 32 := v9003
  let v9009 : BitVec 32 := Scalar.addi c2048_i32_4755 v9004
  let v9010 : Index := Scalar.indexCast v9009
  let c0_4756 : Index := 0#32
  ![v9010.toNat, 0]
def k0_off11 (k0_t4 : Fin k0_t4_loop.trips) : Fin 3 → Nat :=
  let c0_4758 : Index := 0#32
  let c2048_i32_4757 : BitVec 32 := 2048#32
  let c0_i32_9 : BitVec 32 := 0#32
  let c1_i32_11 : BitVec 32 := 1#32
  let arg17 : BitVec 32 := Scf.iv c0_i32_9 c1_i32_11 k0_t4
  let c256_i32 : BitVec 32 := 256#32
  let v9003 : BitVec 32 := Scalar.muli arg17 c256_i32
  let v9004 : BitVec 32 := v9003
  let v9015 : BitVec 32 := Scalar.addi c2048_i32_4757 v9004
  let v9016 : Index := Scalar.indexCast v9015
  let c0_4759 : Index := 0#32
  ![0, v9016.toNat, 0]
@[reducible] def k0_t5_loop : Scf.Loop 32 :=
  let c0_i32_13 : BitVec 32 := 0#32
  let c4_i32_14 : BitVec 32 := 4#32
  let v16 : BitVec 32 := Scalar.addi c0_i32_13 c4_i32_14
  let c1_i32_15 : BitVec 32 := 1#32
  ⟨c0_i32_13, v16, c1_i32_15⟩
def k0_mult5 (k0_t5 : Fin k0_t5_loop.trips) : BitVec 32 :=
  let c0_i32_13 : BitVec 32 := 0#32
  let c1_i32_15 : BitVec 32 := 1#32
  let arg17 : BitVec 32 := Scf.iv c0_i32_13 c1_i32_15 k0_t5
  let c256_i32 : BitVec 32 := 256#32
  let v9003 : BitVec 32 := Scalar.muli arg17 c256_i32
  v9003
def k0_off12 (k0_t5 : Fin k0_t5_loop.trips) : Fin 2 → Nat :=
  let c4_i32_4752 : BitVec 32 := 4#32
  let c0_i32_13 : BitVec 32 := 0#32
  let c1_i32_15 : BitVec 32 := 1#32
  let arg17 : BitVec 32 := Scf.iv c0_i32_13 c1_i32_15 k0_t5
  let c256_i32 : BitVec 32 := 256#32
  let v9003 : BitVec 32 := Scalar.muli arg17 c256_i32
  let v9004 : BitVec 32 := v9003
  let v9005 : BitVec 32 := Scalar.muli c4_i32_4752 v9004
  let c3_i32_4753 : BitVec 32 := 3#32
  let v9006 : BitVec 32 := Scalar.addi v9005 c3_i32_4753
  let v9007 : Index := Scalar.indexCast v9006
  let c0_4754 : Index := 0#32
  ![v9007.toNat, 0]
def k0_off13 (k0_t5 : Fin k0_t5_loop.trips) : Fin 2 → Nat :=
  let c3072_i32 : BitVec 32 := 3072#32
  let c0_i32_13 : BitVec 32 := 0#32
  let c1_i32_15 : BitVec 32 := 1#32
  let arg17 : BitVec 32 := Scf.iv c0_i32_13 c1_i32_15 k0_t5
  let c256_i32 : BitVec 32 := 256#32
  let v9003 : BitVec 32 := Scalar.muli arg17 c256_i32
  let v9004 : BitVec 32 := v9003
  let v9009 : BitVec 32 := Scalar.addi c3072_i32 v9004
  let v9010 : Index := Scalar.indexCast v9009
  let c0_4755 : Index := 0#32
  ![v9010.toNat, 0]
def k0_off14 (k0_t5 : Fin k0_t5_loop.trips) : Fin 3 → Nat :=
  let c0_4757 : Index := 0#32
  let c3072_i32_4756 : BitVec 32 := 3072#32
  let c0_i32_13 : BitVec 32 := 0#32
  let c1_i32_15 : BitVec 32 := 1#32
  let arg17 : BitVec 32 := Scf.iv c0_i32_13 c1_i32_15 k0_t5
  let c256_i32 : BitVec 32 := 256#32
  let v9003 : BitVec 32 := Scalar.muli arg17 c256_i32
  let v9004 : BitVec 32 := v9003
  let v9015 : BitVec 32 := Scalar.addi c3072_i32_4756 v9004
  let v9016 : Index := Scalar.indexCast v9015
  let c0_4758 : Index := 0#32
  ![0, v9016.toNat, 0]
@[reducible] def k0_t6_loop : Scf.Loop 32 :=
  let c0_i32_69 : BitVec 32 := 0#32
  let c16_i32_70 : BitVec 32 := 16#32
  let v97 : BitVec 32 := Scalar.addi c0_i32_69 c16_i32_70
  let c1_i32_71 : BitVec 32 := 1#32
  ⟨c0_i32_69, v97, c1_i32_71⟩
def k0_mult6 (k0_t6 : Fin k0_t6_loop.trips) : BitVec 32 :=
  let c0_i32_69 : BitVec 32 := 0#32
  let c1_i32_71 : BitVec 32 := 1#32
  let arg17 : BitVec 32 := Scf.iv c0_i32_69 c1_i32_71 k0_t6
  let c256_i32 : BitVec 32 := 256#32
  let v9003 : BitVec 32 := Scalar.muli arg17 c256_i32
  v9003
def k0_off15 (k0_t6 : Fin k0_t6_loop.trips) : Fin 4 → Nat :=
  let c0_4752 : Index := 0#32
  let c0_4753 : Index := 0#32
  let c0_i32_69 : BitVec 32 := 0#32
  let c1_i32_71 : BitVec 32 := 1#32
  let arg17 : BitVec 32 := Scf.iv c0_i32_69 c1_i32_71 k0_t6
  let c256_i32 : BitVec 32 := 256#32
  let v9003 : BitVec 32 := Scalar.muli arg17 c256_i32
  let v9004 : BitVec 32 := v9003
  let v9005 : Index := Scalar.indexCast v9004
  let c0_4754 : Index := 0#32
  ![0, 0, v9005.toNat, 0]
def k0_off16 (k0_t6 : Fin k0_t6_loop.trips) : Fin 2 → Nat :=
  let c0_i32_69 : BitVec 32 := 0#32
  let c1_i32_71 : BitVec 32 := 1#32
  let arg17 : BitVec 32 := Scf.iv c0_i32_69 c1_i32_71 k0_t6
  let c256_i32 : BitVec 32 := 256#32
  let v9003 : BitVec 32 := Scalar.muli arg17 c256_i32
  let v9004 : BitVec 32 := v9003
  let v9009 : Index := Scalar.indexCast v9004
  let c0_4755 : Index := 0#32
  ![v9009.toNat, 0]
@[reducible] def k0_t7_loop : Scf.Loop 32 :=
  let c0_i32_73 : BitVec 32 := 0#32
  let c4_i32_74 : BitVec 32 := 4#32
  let v98 : BitVec 32 := Scalar.addi c0_i32_73 c4_i32_74
  let c1_i32_75 : BitVec 32 := 1#32
  ⟨c0_i32_73, v98, c1_i32_75⟩
def k0_mult7 (k0_t7 : Fin k0_t7_loop.trips) : BitVec 32 :=
  let c0_i32_73 : BitVec 32 := 0#32
  let c1_i32_75 : BitVec 32 := 1#32
  let arg17 : BitVec 32 := Scf.iv c0_i32_73 c1_i32_75 k0_t7
  let c256_i32 : BitVec 32 := 256#32
  let v9003 : BitVec 32 := Scalar.muli arg17 c256_i32
  v9003
def k0_off17 (k0_t7 : Fin k0_t7_loop.trips) : Fin 2 → Nat :=
  let c4_i32_4752 : BitVec 32 := 4#32
  let c0_i32_73 : BitVec 32 := 0#32
  let c1_i32_75 : BitVec 32 := 1#32
  let arg17 : BitVec 32 := Scf.iv c0_i32_73 c1_i32_75 k0_t7
  let c256_i32 : BitVec 32 := 256#32
  let v9003 : BitVec 32 := Scalar.muli arg17 c256_i32
  let v9004 : BitVec 32 := v9003
  let v9005 : BitVec 32 := Scalar.muli c4_i32_4752 v9004
  let c0_i32_4753 : BitVec 32 := 0#32
  let v9006 : BitVec 32 := Scalar.addi v9005 c0_i32_4753
  let v9007 : Index := Scalar.indexCast v9006
  let c0_4754 : Index := 0#32
  ![v9007.toNat, 0]
def k0_off18 (k0_t7 : Fin k0_t7_loop.trips) : Fin 2 → Nat :=
  let c0_i32_4755 : BitVec 32 := 0#32
  let c0_i32_73 : BitVec 32 := 0#32
  let c1_i32_75 : BitVec 32 := 1#32
  let arg17 : BitVec 32 := Scf.iv c0_i32_73 c1_i32_75 k0_t7
  let c256_i32 : BitVec 32 := 256#32
  let v9003 : BitVec 32 := Scalar.muli arg17 c256_i32
  let v9004 : BitVec 32 := v9003
  let v9009 : BitVec 32 := Scalar.addi c0_i32_4755 v9004
  let v9010 : Index := Scalar.indexCast v9009
  let c0_4756 : Index := 0#32
  ![v9010.toNat, 0]
def k0_off19 (k0_t7 : Fin k0_t7_loop.trips) : Fin 3 → Nat :=
  let c1_4758 : Index := 1#32
  let c0_i32_4757 : BitVec 32 := 0#32
  let c0_i32_73 : BitVec 32 := 0#32
  let c1_i32_75 : BitVec 32 := 1#32
  let arg17 : BitVec 32 := Scf.iv c0_i32_73 c1_i32_75 k0_t7
  let c256_i32 : BitVec 32 := 256#32
  let v9003 : BitVec 32 := Scalar.muli arg17 c256_i32
  let v9004 : BitVec 32 := v9003
  let v9015 : BitVec 32 := Scalar.addi c0_i32_4757 v9004
  let v9016 : Index := Scalar.indexCast v9015
  let c0_4759 : Index := 0#32
  ![1, v9016.toNat, 0]
@[reducible] def k0_t8_loop : Scf.Loop 32 :=
  let c0_i32_77 : BitVec 32 := 0#32
  let c4_i32_78 : BitVec 32 := 4#32
  let v99 : BitVec 32 := Scalar.addi c0_i32_77 c4_i32_78
  let c1_i32_79 : BitVec 32 := 1#32
  ⟨c0_i32_77, v99, c1_i32_79⟩
def k0_mult8 (k0_t8 : Fin k0_t8_loop.trips) : BitVec 32 :=
  let c0_i32_77 : BitVec 32 := 0#32
  let c1_i32_79 : BitVec 32 := 1#32
  let arg17 : BitVec 32 := Scf.iv c0_i32_77 c1_i32_79 k0_t8
  let c256_i32 : BitVec 32 := 256#32
  let v9003 : BitVec 32 := Scalar.muli arg17 c256_i32
  v9003
def k0_off20 (k0_t8 : Fin k0_t8_loop.trips) : Fin 2 → Nat :=
  let c4_i32_4752 : BitVec 32 := 4#32
  let c0_i32_77 : BitVec 32 := 0#32
  let c1_i32_79 : BitVec 32 := 1#32
  let arg17 : BitVec 32 := Scf.iv c0_i32_77 c1_i32_79 k0_t8
  let c256_i32 : BitVec 32 := 256#32
  let v9003 : BitVec 32 := Scalar.muli arg17 c256_i32
  let v9004 : BitVec 32 := v9003
  let v9005 : BitVec 32 := Scalar.muli c4_i32_4752 v9004
  let c1_i32_4753 : BitVec 32 := 1#32
  let v9006 : BitVec 32 := Scalar.addi v9005 c1_i32_4753
  let v9007 : Index := Scalar.indexCast v9006
  let c0_4754 : Index := 0#32
  ![v9007.toNat, 0]
def k0_off21 (k0_t8 : Fin k0_t8_loop.trips) : Fin 2 → Nat :=
  let c1024_i32 : BitVec 32 := 1024#32
  let c0_i32_77 : BitVec 32 := 0#32
  let c1_i32_79 : BitVec 32 := 1#32
  let arg17 : BitVec 32 := Scf.iv c0_i32_77 c1_i32_79 k0_t8
  let c256_i32 : BitVec 32 := 256#32
  let v9003 : BitVec 32 := Scalar.muli arg17 c256_i32
  let v9004 : BitVec 32 := v9003
  let v9009 : BitVec 32 := Scalar.addi c1024_i32 v9004
  let v9010 : Index := Scalar.indexCast v9009
  let c0_4755 : Index := 0#32
  ![v9010.toNat, 0]
def k0_off22 (k0_t8 : Fin k0_t8_loop.trips) : Fin 3 → Nat :=
  let c1_4757 : Index := 1#32
  let c1024_i32_4756 : BitVec 32 := 1024#32
  let c0_i32_77 : BitVec 32 := 0#32
  let c1_i32_79 : BitVec 32 := 1#32
  let arg17 : BitVec 32 := Scf.iv c0_i32_77 c1_i32_79 k0_t8
  let c256_i32 : BitVec 32 := 256#32
  let v9003 : BitVec 32 := Scalar.muli arg17 c256_i32
  let v9004 : BitVec 32 := v9003
  let v9015 : BitVec 32 := Scalar.addi c1024_i32_4756 v9004
  let v9016 : Index := Scalar.indexCast v9015
  let c0_4758 : Index := 0#32
  ![1, v9016.toNat, 0]
@[reducible] def k0_t9_loop : Scf.Loop 32 :=
  let c0_i32_81 : BitVec 32 := 0#32
  let c4_i32_82 : BitVec 32 := 4#32
  let v100 : BitVec 32 := Scalar.addi c0_i32_81 c4_i32_82
  let c1_i32_83 : BitVec 32 := 1#32
  ⟨c0_i32_81, v100, c1_i32_83⟩
def k0_mult9 (k0_t9 : Fin k0_t9_loop.trips) : BitVec 32 :=
  let c0_i32_81 : BitVec 32 := 0#32
  let c1_i32_83 : BitVec 32 := 1#32
  let arg17 : BitVec 32 := Scf.iv c0_i32_81 c1_i32_83 k0_t9
  let c256_i32 : BitVec 32 := 256#32
  let v9003 : BitVec 32 := Scalar.muli arg17 c256_i32
  v9003
def k0_off23 (k0_t9 : Fin k0_t9_loop.trips) : Fin 2 → Nat :=
  let c4_i32_4752 : BitVec 32 := 4#32
  let c0_i32_81 : BitVec 32 := 0#32
  let c1_i32_83 : BitVec 32 := 1#32
  let arg17 : BitVec 32 := Scf.iv c0_i32_81 c1_i32_83 k0_t9
  let c256_i32 : BitVec 32 := 256#32
  let v9003 : BitVec 32 := Scalar.muli arg17 c256_i32
  let v9004 : BitVec 32 := v9003
  let v9005 : BitVec 32 := Scalar.muli c4_i32_4752 v9004
  let c2_i32_4753 : BitVec 32 := 2#32
  let v9006 : BitVec 32 := Scalar.addi v9005 c2_i32_4753
  let v9007 : Index := Scalar.indexCast v9006
  let c0_4754 : Index := 0#32
  ![v9007.toNat, 0]
def k0_off24 (k0_t9 : Fin k0_t9_loop.trips) : Fin 2 → Nat :=
  let c2048_i32_4755 : BitVec 32 := 2048#32
  let c0_i32_81 : BitVec 32 := 0#32
  let c1_i32_83 : BitVec 32 := 1#32
  let arg17 : BitVec 32 := Scf.iv c0_i32_81 c1_i32_83 k0_t9
  let c256_i32 : BitVec 32 := 256#32
  let v9003 : BitVec 32 := Scalar.muli arg17 c256_i32
  let v9004 : BitVec 32 := v9003
  let v9009 : BitVec 32 := Scalar.addi c2048_i32_4755 v9004
  let v9010 : Index := Scalar.indexCast v9009
  let c0_4756 : Index := 0#32
  ![v9010.toNat, 0]
def k0_off25 (k0_t9 : Fin k0_t9_loop.trips) : Fin 3 → Nat :=
  let c1_4758 : Index := 1#32
  let c2048_i32_4757 : BitVec 32 := 2048#32
  let c0_i32_81 : BitVec 32 := 0#32
  let c1_i32_83 : BitVec 32 := 1#32
  let arg17 : BitVec 32 := Scf.iv c0_i32_81 c1_i32_83 k0_t9
  let c256_i32 : BitVec 32 := 256#32
  let v9003 : BitVec 32 := Scalar.muli arg17 c256_i32
  let v9004 : BitVec 32 := v9003
  let v9015 : BitVec 32 := Scalar.addi c2048_i32_4757 v9004
  let v9016 : Index := Scalar.indexCast v9015
  let c0_4759 : Index := 0#32
  ![1, v9016.toNat, 0]
@[reducible] def k0_t10_loop : Scf.Loop 32 :=
  let c0_i32_85 : BitVec 32 := 0#32
  let c4_i32_86 : BitVec 32 := 4#32
  let v101 : BitVec 32 := Scalar.addi c0_i32_85 c4_i32_86
  let c1_i32_87 : BitVec 32 := 1#32
  ⟨c0_i32_85, v101, c1_i32_87⟩
def k0_mult10 (k0_t10 : Fin k0_t10_loop.trips) : BitVec 32 :=
  let c0_i32_85 : BitVec 32 := 0#32
  let c1_i32_87 : BitVec 32 := 1#32
  let arg17 : BitVec 32 := Scf.iv c0_i32_85 c1_i32_87 k0_t10
  let c256_i32 : BitVec 32 := 256#32
  let v9003 : BitVec 32 := Scalar.muli arg17 c256_i32
  v9003
def k0_off26 (k0_t10 : Fin k0_t10_loop.trips) : Fin 2 → Nat :=
  let c4_i32_4752 : BitVec 32 := 4#32
  let c0_i32_85 : BitVec 32 := 0#32
  let c1_i32_87 : BitVec 32 := 1#32
  let arg17 : BitVec 32 := Scf.iv c0_i32_85 c1_i32_87 k0_t10
  let c256_i32 : BitVec 32 := 256#32
  let v9003 : BitVec 32 := Scalar.muli arg17 c256_i32
  let v9004 : BitVec 32 := v9003
  let v9005 : BitVec 32 := Scalar.muli c4_i32_4752 v9004
  let c3_i32_4753 : BitVec 32 := 3#32
  let v9006 : BitVec 32 := Scalar.addi v9005 c3_i32_4753
  let v9007 : Index := Scalar.indexCast v9006
  let c0_4754 : Index := 0#32
  ![v9007.toNat, 0]
def k0_off27 (k0_t10 : Fin k0_t10_loop.trips) : Fin 2 → Nat :=
  let c3072_i32 : BitVec 32 := 3072#32
  let c0_i32_85 : BitVec 32 := 0#32
  let c1_i32_87 : BitVec 32 := 1#32
  let arg17 : BitVec 32 := Scf.iv c0_i32_85 c1_i32_87 k0_t10
  let c256_i32 : BitVec 32 := 256#32
  let v9003 : BitVec 32 := Scalar.muli arg17 c256_i32
  let v9004 : BitVec 32 := v9003
  let v9009 : BitVec 32 := Scalar.addi c3072_i32 v9004
  let v9010 : Index := Scalar.indexCast v9009
  let c0_4755 : Index := 0#32
  ![v9010.toNat, 0]
def k0_off28 (k0_t10 : Fin k0_t10_loop.trips) : Fin 3 → Nat :=
  let c1_4757 : Index := 1#32
  let c3072_i32_4756 : BitVec 32 := 3072#32
  let c0_i32_85 : BitVec 32 := 0#32
  let c1_i32_87 : BitVec 32 := 1#32
  let arg17 : BitVec 32 := Scf.iv c0_i32_85 c1_i32_87 k0_t10
  let c256_i32 : BitVec 32 := 256#32
  let v9003 : BitVec 32 := Scalar.muli arg17 c256_i32
  let v9004 : BitVec 32 := v9003
  let v9015 : BitVec 32 := Scalar.addi c3072_i32_4756 v9004
  let v9016 : Index := Scalar.indexCast v9015
  let c0_4758 : Index := 0#32
  ![1, v9016.toNat, 0]
@[reducible] def k0_t11_loop : Scf.Loop 32 :=
  let c0_i32_169 : BitVec 32 := 0#32
  let c16_i32_170 : BitVec 32 := 16#32
  let v182 : BitVec 32 := Scalar.addi c0_i32_169 c16_i32_170
  let c1_i32_171 : BitVec 32 := 1#32
  ⟨c0_i32_169, v182, c1_i32_171⟩
def k0_mult11 (k0_t11 : Fin k0_t11_loop.trips) : BitVec 32 :=
  let c0_i32_169 : BitVec 32 := 0#32
  let c1_i32_171 : BitVec 32 := 1#32
  let arg17 : BitVec 32 := Scf.iv c0_i32_169 c1_i32_171 k0_t11
  let c256_i32 : BitVec 32 := 256#32
  let v9003 : BitVec 32 := Scalar.muli arg17 c256_i32
  v9003
def k0_off29 (k0_t11 : Fin k0_t11_loop.trips) : Fin 4 → Nat :=
  let c0_4752 : Index := 0#32
  let c0_4753 : Index := 0#32
  let c0_i32_169 : BitVec 32 := 0#32
  let c1_i32_171 : BitVec 32 := 1#32
  let arg17 : BitVec 32 := Scf.iv c0_i32_169 c1_i32_171 k0_t11
  let c256_i32 : BitVec 32 := 256#32
  let v9003 : BitVec 32 := Scalar.muli arg17 c256_i32
  let v9004 : BitVec 32 := v9003
  let v9005 : Index := Scalar.indexCast v9004
  let c0_4754 : Index := 0#32
  ![0, 0, v9005.toNat, 0]
def k0_off30 (k0_t11 : Fin k0_t11_loop.trips) : Fin 2 → Nat :=
  let c0_i32_169 : BitVec 32 := 0#32
  let c1_i32_171 : BitVec 32 := 1#32
  let arg17 : BitVec 32 := Scf.iv c0_i32_169 c1_i32_171 k0_t11
  let c256_i32 : BitVec 32 := 256#32
  let v9003 : BitVec 32 := Scalar.muli arg17 c256_i32
  let v9004 : BitVec 32 := v9003
  let v9009 : Index := Scalar.indexCast v9004
  let c0_4755 : Index := 0#32
  ![v9009.toNat, 0]
@[reducible] def k0_t12_loop : Scf.Loop 32 :=
  let c0_i32_173 : BitVec 32 := 0#32
  let c4_i32_174 : BitVec 32 := 4#32
  let v183 : BitVec 32 := Scalar.addi c0_i32_173 c4_i32_174
  let c1_i32_175 : BitVec 32 := 1#32
  ⟨c0_i32_173, v183, c1_i32_175⟩
def k0_mult12 (k0_t12 : Fin k0_t12_loop.trips) : BitVec 32 :=
  let c0_i32_173 : BitVec 32 := 0#32
  let c1_i32_175 : BitVec 32 := 1#32
  let arg17 : BitVec 32 := Scf.iv c0_i32_173 c1_i32_175 k0_t12
  let c256_i32 : BitVec 32 := 256#32
  let v9003 : BitVec 32 := Scalar.muli arg17 c256_i32
  v9003
def k0_off31 (k0_t12 : Fin k0_t12_loop.trips) : Fin 2 → Nat :=
  let c4_i32_4752 : BitVec 32 := 4#32
  let c0_i32_173 : BitVec 32 := 0#32
  let c1_i32_175 : BitVec 32 := 1#32
  let arg17 : BitVec 32 := Scf.iv c0_i32_173 c1_i32_175 k0_t12
  let c256_i32 : BitVec 32 := 256#32
  let v9003 : BitVec 32 := Scalar.muli arg17 c256_i32
  let v9004 : BitVec 32 := v9003
  let v9005 : BitVec 32 := Scalar.muli c4_i32_4752 v9004
  let c0_i32_4753 : BitVec 32 := 0#32
  let v9006 : BitVec 32 := Scalar.addi v9005 c0_i32_4753
  let v9007 : Index := Scalar.indexCast v9006
  let c0_4754 : Index := 0#32
  ![v9007.toNat, 0]
def k0_off32 (k0_t12 : Fin k0_t12_loop.trips) : Fin 2 → Nat :=
  let c0_i32_4755 : BitVec 32 := 0#32
  let c0_i32_173 : BitVec 32 := 0#32
  let c1_i32_175 : BitVec 32 := 1#32
  let arg17 : BitVec 32 := Scf.iv c0_i32_173 c1_i32_175 k0_t12
  let c256_i32 : BitVec 32 := 256#32
  let v9003 : BitVec 32 := Scalar.muli arg17 c256_i32
  let v9004 : BitVec 32 := v9003
  let v9009 : BitVec 32 := Scalar.addi c0_i32_4755 v9004
  let v9010 : Index := Scalar.indexCast v9009
  let c0_4756 : Index := 0#32
  ![v9010.toNat, 0]
def k0_off33 (k0_t12 : Fin k0_t12_loop.trips) : Fin 3 → Nat :=
  let c2_4758 : Index := 2#32
  let c0_i32_4757 : BitVec 32 := 0#32
  let c0_i32_173 : BitVec 32 := 0#32
  let c1_i32_175 : BitVec 32 := 1#32
  let arg17 : BitVec 32 := Scf.iv c0_i32_173 c1_i32_175 k0_t12
  let c256_i32 : BitVec 32 := 256#32
  let v9003 : BitVec 32 := Scalar.muli arg17 c256_i32
  let v9004 : BitVec 32 := v9003
  let v9015 : BitVec 32 := Scalar.addi c0_i32_4757 v9004
  let v9016 : Index := Scalar.indexCast v9015
  let c0_4759 : Index := 0#32
  ![2, v9016.toNat, 0]
@[reducible] def k0_t13_loop : Scf.Loop 32 :=
  let c0_i32_177 : BitVec 32 := 0#32
  let c4_i32_178 : BitVec 32 := 4#32
  let v184 : BitVec 32 := Scalar.addi c0_i32_177 c4_i32_178
  let c1_i32_179 : BitVec 32 := 1#32
  ⟨c0_i32_177, v184, c1_i32_179⟩
def k0_mult13 (k0_t13 : Fin k0_t13_loop.trips) : BitVec 32 :=
  let c0_i32_177 : BitVec 32 := 0#32
  let c1_i32_179 : BitVec 32 := 1#32
  let arg17 : BitVec 32 := Scf.iv c0_i32_177 c1_i32_179 k0_t13
  let c256_i32 : BitVec 32 := 256#32
  let v9003 : BitVec 32 := Scalar.muli arg17 c256_i32
  v9003
def k0_off34 (k0_t13 : Fin k0_t13_loop.trips) : Fin 2 → Nat :=
  let c4_i32_4752 : BitVec 32 := 4#32
  let c0_i32_177 : BitVec 32 := 0#32
  let c1_i32_179 : BitVec 32 := 1#32
  let arg17 : BitVec 32 := Scf.iv c0_i32_177 c1_i32_179 k0_t13
  let c256_i32 : BitVec 32 := 256#32
  let v9003 : BitVec 32 := Scalar.muli arg17 c256_i32
  let v9004 : BitVec 32 := v9003
  let v9005 : BitVec 32 := Scalar.muli c4_i32_4752 v9004
  let c1_i32_4753 : BitVec 32 := 1#32
  let v9006 : BitVec 32 := Scalar.addi v9005 c1_i32_4753
  let v9007 : Index := Scalar.indexCast v9006
  let c0_4754 : Index := 0#32
  ![v9007.toNat, 0]
def k0_off35 (k0_t13 : Fin k0_t13_loop.trips) : Fin 2 → Nat :=
  let c1024_i32 : BitVec 32 := 1024#32
  let c0_i32_177 : BitVec 32 := 0#32
  let c1_i32_179 : BitVec 32 := 1#32
  let arg17 : BitVec 32 := Scf.iv c0_i32_177 c1_i32_179 k0_t13
  let c256_i32 : BitVec 32 := 256#32
  let v9003 : BitVec 32 := Scalar.muli arg17 c256_i32
  let v9004 : BitVec 32 := v9003
  let v9009 : BitVec 32 := Scalar.addi c1024_i32 v9004
  let v9010 : Index := Scalar.indexCast v9009
  let c0_4755 : Index := 0#32
  ![v9010.toNat, 0]
def k0_off36 (k0_t13 : Fin k0_t13_loop.trips) : Fin 3 → Nat :=
  let c2_4757 : Index := 2#32
  let c1024_i32_4756 : BitVec 32 := 1024#32
  let c0_i32_177 : BitVec 32 := 0#32
  let c1_i32_179 : BitVec 32 := 1#32
  let arg17 : BitVec 32 := Scf.iv c0_i32_177 c1_i32_179 k0_t13
  let c256_i32 : BitVec 32 := 256#32
  let v9003 : BitVec 32 := Scalar.muli arg17 c256_i32
  let v9004 : BitVec 32 := v9003
  let v9015 : BitVec 32 := Scalar.addi c1024_i32_4756 v9004
  let v9016 : Index := Scalar.indexCast v9015
  let c0_4758 : Index := 0#32
  ![2, v9016.toNat, 0]
@[reducible] def k0_t14_loop : Scf.Loop 32 :=
  let c0_i32_181 : BitVec 32 := 0#32
  let c4_i32_182 : BitVec 32 := 4#32
  let v185 : BitVec 32 := Scalar.addi c0_i32_181 c4_i32_182
  let c1_i32_183 : BitVec 32 := 1#32
  ⟨c0_i32_181, v185, c1_i32_183⟩
def k0_mult14 (k0_t14 : Fin k0_t14_loop.trips) : BitVec 32 :=
  let c0_i32_181 : BitVec 32 := 0#32
  let c1_i32_183 : BitVec 32 := 1#32
  let arg17 : BitVec 32 := Scf.iv c0_i32_181 c1_i32_183 k0_t14
  let c256_i32 : BitVec 32 := 256#32
  let v9003 : BitVec 32 := Scalar.muli arg17 c256_i32
  v9003
def k0_off37 (k0_t14 : Fin k0_t14_loop.trips) : Fin 2 → Nat :=
  let c4_i32_4752 : BitVec 32 := 4#32
  let c0_i32_181 : BitVec 32 := 0#32
  let c1_i32_183 : BitVec 32 := 1#32
  let arg17 : BitVec 32 := Scf.iv c0_i32_181 c1_i32_183 k0_t14
  let c256_i32 : BitVec 32 := 256#32
  let v9003 : BitVec 32 := Scalar.muli arg17 c256_i32
  let v9004 : BitVec 32 := v9003
  let v9005 : BitVec 32 := Scalar.muli c4_i32_4752 v9004
  let c2_i32_4753 : BitVec 32 := 2#32
  let v9006 : BitVec 32 := Scalar.addi v9005 c2_i32_4753
  let v9007 : Index := Scalar.indexCast v9006
  let c0_4754 : Index := 0#32
  ![v9007.toNat, 0]
def k0_off38 (k0_t14 : Fin k0_t14_loop.trips) : Fin 2 → Nat :=
  let c2048_i32_4755 : BitVec 32 := 2048#32
  let c0_i32_181 : BitVec 32 := 0#32
  let c1_i32_183 : BitVec 32 := 1#32
  let arg17 : BitVec 32 := Scf.iv c0_i32_181 c1_i32_183 k0_t14
  let c256_i32 : BitVec 32 := 256#32
  let v9003 : BitVec 32 := Scalar.muli arg17 c256_i32
  let v9004 : BitVec 32 := v9003
  let v9009 : BitVec 32 := Scalar.addi c2048_i32_4755 v9004
  let v9010 : Index := Scalar.indexCast v9009
  let c0_4756 : Index := 0#32
  ![v9010.toNat, 0]
def k0_off39 (k0_t14 : Fin k0_t14_loop.trips) : Fin 3 → Nat :=
  let c2_4758 : Index := 2#32
  let c2048_i32_4757 : BitVec 32 := 2048#32
  let c0_i32_181 : BitVec 32 := 0#32
  let c1_i32_183 : BitVec 32 := 1#32
  let arg17 : BitVec 32 := Scf.iv c0_i32_181 c1_i32_183 k0_t14
  let c256_i32 : BitVec 32 := 256#32
  let v9003 : BitVec 32 := Scalar.muli arg17 c256_i32
  let v9004 : BitVec 32 := v9003
  let v9015 : BitVec 32 := Scalar.addi c2048_i32_4757 v9004
  let v9016 : Index := Scalar.indexCast v9015
  let c0_4759 : Index := 0#32
  ![2, v9016.toNat, 0]
@[reducible] def k0_t15_loop : Scf.Loop 32 :=
  let c0_i32_185 : BitVec 32 := 0#32
  let c4_i32_186 : BitVec 32 := 4#32
  let v186 : BitVec 32 := Scalar.addi c0_i32_185 c4_i32_186
  let c1_i32_187 : BitVec 32 := 1#32
  ⟨c0_i32_185, v186, c1_i32_187⟩
def k0_mult15 (k0_t15 : Fin k0_t15_loop.trips) : BitVec 32 :=
  let c0_i32_185 : BitVec 32 := 0#32
  let c1_i32_187 : BitVec 32 := 1#32
  let arg17 : BitVec 32 := Scf.iv c0_i32_185 c1_i32_187 k0_t15
  let c256_i32 : BitVec 32 := 256#32
  let v9003 : BitVec 32 := Scalar.muli arg17 c256_i32
  v9003
def k0_off40 (k0_t15 : Fin k0_t15_loop.trips) : Fin 2 → Nat :=
  let c4_i32_4752 : BitVec 32 := 4#32
  let c0_i32_185 : BitVec 32 := 0#32
  let c1_i32_187 : BitVec 32 := 1#32
  let arg17 : BitVec 32 := Scf.iv c0_i32_185 c1_i32_187 k0_t15
  let c256_i32 : BitVec 32 := 256#32
  let v9003 : BitVec 32 := Scalar.muli arg17 c256_i32
  let v9004 : BitVec 32 := v9003
  let v9005 : BitVec 32 := Scalar.muli c4_i32_4752 v9004
  let c3_i32_4753 : BitVec 32 := 3#32
  let v9006 : BitVec 32 := Scalar.addi v9005 c3_i32_4753
  let v9007 : Index := Scalar.indexCast v9006
  let c0_4754 : Index := 0#32
  ![v9007.toNat, 0]
def k0_off41 (k0_t15 : Fin k0_t15_loop.trips) : Fin 2 → Nat :=
  let c3072_i32 : BitVec 32 := 3072#32
  let c0_i32_185 : BitVec 32 := 0#32
  let c1_i32_187 : BitVec 32 := 1#32
  let arg17 : BitVec 32 := Scf.iv c0_i32_185 c1_i32_187 k0_t15
  let c256_i32 : BitVec 32 := 256#32
  let v9003 : BitVec 32 := Scalar.muli arg17 c256_i32
  let v9004 : BitVec 32 := v9003
  let v9009 : BitVec 32 := Scalar.addi c3072_i32 v9004
  let v9010 : Index := Scalar.indexCast v9009
  let c0_4755 : Index := 0#32
  ![v9010.toNat, 0]
def k0_off42 (k0_t15 : Fin k0_t15_loop.trips) : Fin 3 → Nat :=
  let c2_4757 : Index := 2#32
  let c3072_i32_4756 : BitVec 32 := 3072#32
  let c0_i32_185 : BitVec 32 := 0#32
  let c1_i32_187 : BitVec 32 := 1#32
  let arg17 : BitVec 32 := Scf.iv c0_i32_185 c1_i32_187 k0_t15
  let c256_i32 : BitVec 32 := 256#32
  let v9003 : BitVec 32 := Scalar.muli arg17 c256_i32
  let v9004 : BitVec 32 := v9003
  let v9015 : BitVec 32 := Scalar.addi c3072_i32_4756 v9004
  let v9016 : Index := Scalar.indexCast v9015
  let c0_4758 : Index := 0#32
  ![2, v9016.toNat, 0]
def k0_mult16 : BitVec 32 :=
  let c0_i32_269 : BitVec 32 := 0#32
  let c128_i32 : BitVec 32 := 128#32
  let v267 : BitVec 32 := Scalar.muli c0_i32_269 c128_i32
  v267
def k0_mult17 : BitVec 32 :=
  let c0_i32_269 : BitVec 32 := 0#32
  let c1_i32_270 : BitVec 32 := 1#32
  let v269 : BitVec 32 := Scalar.subi c0_i32_269 c1_i32_270
  let c0_i32_271 : BitVec 32 := 0#32
  let v270 : BitVec 32 := Scalar.maxsi v269 c0_i32_271
  let c128_i32_272 : BitVec 32 := 128#32
  let v271 : BitVec 32 := Scalar.muli v270 c128_i32_272
  v271
def k0_off43 (c0_i32_269 : BitVec 32) : Fin 2 → Nat :=
  let c128_i32 : BitVec 32 := 128#32
  let v267 : BitVec 32 := Scalar.muli c0_i32_269 c128_i32
  let v268 : BitVec 32 := v267
  let v275 : Index := Scalar.indexCast v268
  let c0_276 : Index := 0#32
  ![v275.toNat, 0]
def k0_off44 (c0_i32_269 : BitVec 32) : Fin 2 → Nat :=
  let c1_i32_270 : BitVec 32 := 1#32
  let v269 : BitVec 32 := Scalar.subi c0_i32_269 c1_i32_270
  let c0_i32_271 : BitVec 32 := 0#32
  let v270 : BitVec 32 := Scalar.maxsi v269 c0_i32_271
  let c128_i32_272 : BitVec 32 := 128#32
  let v271 : BitVec 32 := Scalar.muli v270 c128_i32_272
  let v272 : BitVec 32 := v271
  let v279 : Index := Scalar.indexCast v272
  let c0_280 : Index := 0#32
  ![v279.toNat, 0]
def k0_off45 (c0_i32_269 : BitVec 32) : Fin 5 → Nat :=
  let c2_295 : Index := 2#32
  let c0_296 : Index := 0#32
  let c1_i32_293 : BitVec 32 := 1#32
  let v299 : BitVec 32 := Scalar.andi c0_i32_269 c1_i32_293
  let c1_i32_294 : BitVec 32 := 1#32
  let v300 : BitVec 32 := Scalar.minsi v299 c1_i32_294
  let v301 : Index := Scalar.indexCast v300
  let c0_297 : Index := 0#32
  let c0_298 : Index := 0#32
  ![2, 0, v301.toNat, 0, 0]
def k0_off46 (c0_i32_269 : BitVec 32) : Fin 2 → Nat :=
  let c0_i32_302 : BitVec 32 := 0#32
  let v325 : BitVec 1 := Scalar.cmpi .sgt c0_i32_269 c0_i32_302
  let v326 : BitVec 32 := Scalar.extui v325
  let c0_i32_303 : BitVec 32 := 0#32
  let v327 : BitVec 1 := Scalar.cmpi .slt c0_i32_269 c0_i32_303
  let v328 : BitVec 32 := Scalar.extui v327
  let v329 : BitVec 32 := Scalar.subi v326 v328
  let c2_i32_301 : BitVec 32 := 2#32
  let c0_i32_304 : BitVec 32 := 0#32
  let v330 : BitVec 1 := Scalar.cmpi .sgt c2_i32_301 c0_i32_304
  let v331 : BitVec 32 := Scalar.extui v330
  let c0_i32_305 : BitVec 32 := 0#32
  let v332 : BitVec 1 := Scalar.cmpi .slt c2_i32_301 c0_i32_305
  let v333 : BitVec 32 := Scalar.extui v332
  let v334 : BitVec 32 := Scalar.subi v331 v333
  let v335 : BitVec 1 := Scalar.cmpi .ne v329 v334
  let v336 : BitVec 32 := Scalar.remsi c0_i32_269 c2_i32_301
  let c0_i32_306 : BitVec 32 := 0#32
  let v337 : BitVec 1 := Scalar.cmpi .ne v336 c0_i32_306
  let v338 : BitVec 1 := Scalar.andi v335 v337
  let v324 : BitVec 32 := Scalar.divsi c0_i32_269 c2_i32_301
  let c1_i32_307 : BitVec 32 := 1#32
  let v339 : BitVec 32 := Scalar.subi v324 c1_i32_307
  let v340 : BitVec 32 := Scalar.select v338 v339 v324
  let c1_i32_308 : BitVec 32 := 1#32
  let v341 : BitVec 32 := Scalar.andi c0_i32_269 c1_i32_308
  let c2048_i32 : BitVec 32 := 2048#32
  let v342 : BitVec 32 := Scalar.muli v341 c2048_i32
  let v343 : BitVec 32 := Scalar.addi v340 v342
  let v344 : Index := Scalar.indexCast v343
  let c0_309 : Index := 0#32
  ![v344.toNat, 0]
def k0_mult18 : BitVec 32 :=
  let c1_i32_312 : BitVec 32 := 1#32
  let c128_i32_313 : BitVec 32 := 128#32
  let v356 : BitVec 32 := Scalar.muli c1_i32_312 c128_i32_313
  v356
def k0_mult19 : BitVec 32 :=
  let c1_i32_312 : BitVec 32 := 1#32
  let c1_i32_314 : BitVec 32 := 1#32
  let v358 : BitVec 32 := Scalar.subi c1_i32_312 c1_i32_314
  let c0_i32_315 : BitVec 32 := 0#32
  let v359 : BitVec 32 := Scalar.maxsi v358 c0_i32_315
  let c128_i32_316 : BitVec 32 := 128#32
  let v360 : BitVec 32 := Scalar.muli v359 c128_i32_316
  v360
def k0_mult20 : BitVec 32 :=
  let c2_i32_358 : BitVec 32 := 2#32
  let c128_i32_359 : BitVec 32 := 128#32
  let v445 : BitVec 32 := Scalar.muli c2_i32_358 c128_i32_359
  v445
def k0_mult21 : BitVec 32 :=
  let c2_i32_358 : BitVec 32 := 2#32
  let c1_i32_360 : BitVec 32 := 1#32
  let v447 : BitVec 32 := Scalar.subi c2_i32_358 c1_i32_360
  let c0_i32_361 : BitVec 32 := 0#32
  let v448 : BitVec 32 := Scalar.maxsi v447 c0_i32_361
  let c128_i32_362 : BitVec 32 := 128#32
  let v449 : BitVec 32 := Scalar.muli v448 c128_i32_362
  v449
def k0_mult22 : BitVec 32 :=
  let c3_i32 : BitVec 32 := 3#32
  let c128_i32_404 : BitVec 32 := 128#32
  let v534 : BitVec 32 := Scalar.muli c3_i32 c128_i32_404
  v534
def k0_mult23 : BitVec 32 :=
  let c3_i32 : BitVec 32 := 3#32
  let c1_i32_405 : BitVec 32 := 1#32
  let v536 : BitVec 32 := Scalar.subi c3_i32 c1_i32_405
  let c0_i32_406 : BitVec 32 := 0#32
  let v537 : BitVec 32 := Scalar.maxsi v536 c0_i32_406
  let c128_i32_407 : BitVec 32 := 128#32
  let v538 : BitVec 32 := Scalar.muli v537 c128_i32_407
  v538
def k0_mult24 : BitVec 32 :=
  let c4_i32_449 : BitVec 32 := 4#32
  let c128_i32_450 : BitVec 32 := 128#32
  let v623 : BitVec 32 := Scalar.muli c4_i32_449 c128_i32_450
  v623
def k0_mult25 : BitVec 32 :=
  let c4_i32_449 : BitVec 32 := 4#32
  let c1_i32_451 : BitVec 32 := 1#32
  let v625 : BitVec 32 := Scalar.subi c4_i32_449 c1_i32_451
  let c0_i32_452 : BitVec 32 := 0#32
  let v626 : BitVec 32 := Scalar.maxsi v625 c0_i32_452
  let c128_i32_453 : BitVec 32 := 128#32
  let v627 : BitVec 32 := Scalar.muli v626 c128_i32_453
  v627
def k0_mult26 : BitVec 32 :=
  let c5_i32 : BitVec 32 := 5#32
  let c128_i32_495 : BitVec 32 := 128#32
  let v712 : BitVec 32 := Scalar.muli c5_i32 c128_i32_495
  v712
def k0_mult27 : BitVec 32 :=
  let c5_i32 : BitVec 32 := 5#32
  let c1_i32_496 : BitVec 32 := 1#32
  let v714 : BitVec 32 := Scalar.subi c5_i32 c1_i32_496
  let c0_i32_497 : BitVec 32 := 0#32
  let v715 : BitVec 32 := Scalar.maxsi v714 c0_i32_497
  let c128_i32_498 : BitVec 32 := 128#32
  let v716 : BitVec 32 := Scalar.muli v715 c128_i32_498
  v716
def k0_mult28 : BitVec 32 :=
  let c6_i32 : BitVec 32 := 6#32
  let c128_i32_540 : BitVec 32 := 128#32
  let v801 : BitVec 32 := Scalar.muli c6_i32 c128_i32_540
  v801
def k0_mult29 : BitVec 32 :=
  let c6_i32 : BitVec 32 := 6#32
  let c1_i32_541 : BitVec 32 := 1#32
  let v803 : BitVec 32 := Scalar.subi c6_i32 c1_i32_541
  let c0_i32_542 : BitVec 32 := 0#32
  let v804 : BitVec 32 := Scalar.maxsi v803 c0_i32_542
  let c128_i32_543 : BitVec 32 := 128#32
  let v805 : BitVec 32 := Scalar.muli v804 c128_i32_543
  v805
def k0_mult30 : BitVec 32 :=
  let c7_i32 : BitVec 32 := 7#32
  let c128_i32_585 : BitVec 32 := 128#32
  let v890 : BitVec 32 := Scalar.muli c7_i32 c128_i32_585
  v890
def k0_mult31 : BitVec 32 :=
  let c7_i32 : BitVec 32 := 7#32
  let c1_i32_586 : BitVec 32 := 1#32
  let v892 : BitVec 32 := Scalar.subi c7_i32 c1_i32_586
  let c0_i32_587 : BitVec 32 := 0#32
  let v893 : BitVec 32 := Scalar.maxsi v892 c0_i32_587
  let c128_i32_588 : BitVec 32 := 128#32
  let v894 : BitVec 32 := Scalar.muli v893 c128_i32_588
  v894
def k0_mult32 : BitVec 32 :=
  let c8_i32 : BitVec 32 := 8#32
  let c128_i32_630 : BitVec 32 := 128#32
  let v979 : BitVec 32 := Scalar.muli c8_i32 c128_i32_630
  v979
def k0_mult33 : BitVec 32 :=
  let c8_i32 : BitVec 32 := 8#32
  let c1_i32_631 : BitVec 32 := 1#32
  let v981 : BitVec 32 := Scalar.subi c8_i32 c1_i32_631
  let c0_i32_632 : BitVec 32 := 0#32
  let v982 : BitVec 32 := Scalar.maxsi v981 c0_i32_632
  let c128_i32_633 : BitVec 32 := 128#32
  let v983 : BitVec 32 := Scalar.muli v982 c128_i32_633
  v983
def k0_mult34 : BitVec 32 :=
  let c9_i32 : BitVec 32 := 9#32
  let c128_i32_675 : BitVec 32 := 128#32
  let v1068 : BitVec 32 := Scalar.muli c9_i32 c128_i32_675
  v1068
def k0_mult35 : BitVec 32 :=
  let c9_i32 : BitVec 32 := 9#32
  let c1_i32_676 : BitVec 32 := 1#32
  let v1070 : BitVec 32 := Scalar.subi c9_i32 c1_i32_676
  let c0_i32_677 : BitVec 32 := 0#32
  let v1071 : BitVec 32 := Scalar.maxsi v1070 c0_i32_677
  let c128_i32_678 : BitVec 32 := 128#32
  let v1072 : BitVec 32 := Scalar.muli v1071 c128_i32_678
  v1072
def k0_mult36 : BitVec 32 :=
  let c10_i32 : BitVec 32 := 10#32
  let c128_i32_720 : BitVec 32 := 128#32
  let v1157 : BitVec 32 := Scalar.muli c10_i32 c128_i32_720
  v1157
def k0_mult37 : BitVec 32 :=
  let c10_i32 : BitVec 32 := 10#32
  let c1_i32_721 : BitVec 32 := 1#32
  let v1159 : BitVec 32 := Scalar.subi c10_i32 c1_i32_721
  let c0_i32_722 : BitVec 32 := 0#32
  let v1160 : BitVec 32 := Scalar.maxsi v1159 c0_i32_722
  let c128_i32_723 : BitVec 32 := 128#32
  let v1161 : BitVec 32 := Scalar.muli v1160 c128_i32_723
  v1161
def k0_mult38 : BitVec 32 :=
  let c11_i32 : BitVec 32 := 11#32
  let c128_i32_765 : BitVec 32 := 128#32
  let v1246 : BitVec 32 := Scalar.muli c11_i32 c128_i32_765
  v1246
def k0_mult39 : BitVec 32 :=
  let c11_i32 : BitVec 32 := 11#32
  let c1_i32_766 : BitVec 32 := 1#32
  let v1248 : BitVec 32 := Scalar.subi c11_i32 c1_i32_766
  let c0_i32_767 : BitVec 32 := 0#32
  let v1249 : BitVec 32 := Scalar.maxsi v1248 c0_i32_767
  let c128_i32_768 : BitVec 32 := 128#32
  let v1250 : BitVec 32 := Scalar.muli v1249 c128_i32_768
  v1250
def k0_mult40 : BitVec 32 :=
  let c12_i32 : BitVec 32 := 12#32
  let c128_i32_810 : BitVec 32 := 128#32
  let v1335 : BitVec 32 := Scalar.muli c12_i32 c128_i32_810
  v1335
def k0_mult41 : BitVec 32 :=
  let c12_i32 : BitVec 32 := 12#32
  let c1_i32_811 : BitVec 32 := 1#32
  let v1337 : BitVec 32 := Scalar.subi c12_i32 c1_i32_811
  let c0_i32_812 : BitVec 32 := 0#32
  let v1338 : BitVec 32 := Scalar.maxsi v1337 c0_i32_812
  let c128_i32_813 : BitVec 32 := 128#32
  let v1339 : BitVec 32 := Scalar.muli v1338 c128_i32_813
  v1339
def k0_mult42 : BitVec 32 :=
  let c13_i32 : BitVec 32 := 13#32
  let c128_i32_855 : BitVec 32 := 128#32
  let v1424 : BitVec 32 := Scalar.muli c13_i32 c128_i32_855
  v1424
def k0_mult43 : BitVec 32 :=
  let c13_i32 : BitVec 32 := 13#32
  let c1_i32_856 : BitVec 32 := 1#32
  let v1426 : BitVec 32 := Scalar.subi c13_i32 c1_i32_856
  let c0_i32_857 : BitVec 32 := 0#32
  let v1427 : BitVec 32 := Scalar.maxsi v1426 c0_i32_857
  let c128_i32_858 : BitVec 32 := 128#32
  let v1428 : BitVec 32 := Scalar.muli v1427 c128_i32_858
  v1428
def k0_mult44 : BitVec 32 :=
  let c14_i32 : BitVec 32 := 14#32
  let c128_i32_900 : BitVec 32 := 128#32
  let v1513 : BitVec 32 := Scalar.muli c14_i32 c128_i32_900
  v1513
def k0_mult45 : BitVec 32 :=
  let c14_i32 : BitVec 32 := 14#32
  let c1_i32_901 : BitVec 32 := 1#32
  let v1515 : BitVec 32 := Scalar.subi c14_i32 c1_i32_901
  let c0_i32_902 : BitVec 32 := 0#32
  let v1516 : BitVec 32 := Scalar.maxsi v1515 c0_i32_902
  let c128_i32_903 : BitVec 32 := 128#32
  let v1517 : BitVec 32 := Scalar.muli v1516 c128_i32_903
  v1517
def k0_mult46 : BitVec 32 :=
  let c15_i32 : BitVec 32 := 15#32
  let c128_i32_945 : BitVec 32 := 128#32
  let v1602 : BitVec 32 := Scalar.muli c15_i32 c128_i32_945
  v1602
def k0_mult47 : BitVec 32 :=
  let c15_i32 : BitVec 32 := 15#32
  let c1_i32_946 : BitVec 32 := 1#32
  let v1604 : BitVec 32 := Scalar.subi c15_i32 c1_i32_946
  let c0_i32_947 : BitVec 32 := 0#32
  let v1605 : BitVec 32 := Scalar.maxsi v1604 c0_i32_947
  let c128_i32_948 : BitVec 32 := 128#32
  let v1606 : BitVec 32 := Scalar.muli v1605 c128_i32_948
  v1606
def k0_mult48 : BitVec 32 :=
  let c16_i32_990 : BitVec 32 := 16#32
  let c128_i32_991 : BitVec 32 := 128#32
  let v1691 : BitVec 32 := Scalar.muli c16_i32_990 c128_i32_991
  v1691
def k0_mult49 : BitVec 32 :=
  let c16_i32_990 : BitVec 32 := 16#32
  let c1_i32_992 : BitVec 32 := 1#32
  let v1693 : BitVec 32 := Scalar.subi c16_i32_990 c1_i32_992
  let c0_i32_993 : BitVec 32 := 0#32
  let v1694 : BitVec 32 := Scalar.maxsi v1693 c0_i32_993
  let c128_i32_994 : BitVec 32 := 128#32
  let v1695 : BitVec 32 := Scalar.muli v1694 c128_i32_994
  v1695
def k0_mult50 : BitVec 32 :=
  let c17_i32 : BitVec 32 := 17#32
  let c128_i32_1036 : BitVec 32 := 128#32
  let v1780 : BitVec 32 := Scalar.muli c17_i32 c128_i32_1036
  v1780
def k0_mult51 : BitVec 32 :=
  let c17_i32 : BitVec 32 := 17#32
  let c1_i32_1037 : BitVec 32 := 1#32
  let v1782 : BitVec 32 := Scalar.subi c17_i32 c1_i32_1037
  let c0_i32_1038 : BitVec 32 := 0#32
  let v1783 : BitVec 32 := Scalar.maxsi v1782 c0_i32_1038
  let c128_i32_1039 : BitVec 32 := 128#32
  let v1784 : BitVec 32 := Scalar.muli v1783 c128_i32_1039
  v1784
def k0_mult52 : BitVec 32 :=
  let c18_i32 : BitVec 32 := 18#32
  let c128_i32_1081 : BitVec 32 := 128#32
  let v1869 : BitVec 32 := Scalar.muli c18_i32 c128_i32_1081
  v1869
def k0_mult53 : BitVec 32 :=
  let c18_i32 : BitVec 32 := 18#32
  let c1_i32_1082 : BitVec 32 := 1#32
  let v1871 : BitVec 32 := Scalar.subi c18_i32 c1_i32_1082
  let c0_i32_1083 : BitVec 32 := 0#32
  let v1872 : BitVec 32 := Scalar.maxsi v1871 c0_i32_1083
  let c128_i32_1084 : BitVec 32 := 128#32
  let v1873 : BitVec 32 := Scalar.muli v1872 c128_i32_1084
  v1873
def k0_mult54 : BitVec 32 :=
  let c19_i32 : BitVec 32 := 19#32
  let c128_i32_1126 : BitVec 32 := 128#32
  let v1958 : BitVec 32 := Scalar.muli c19_i32 c128_i32_1126
  v1958
def k0_mult55 : BitVec 32 :=
  let c19_i32 : BitVec 32 := 19#32
  let c1_i32_1127 : BitVec 32 := 1#32
  let v1960 : BitVec 32 := Scalar.subi c19_i32 c1_i32_1127
  let c0_i32_1128 : BitVec 32 := 0#32
  let v1961 : BitVec 32 := Scalar.maxsi v1960 c0_i32_1128
  let c128_i32_1129 : BitVec 32 := 128#32
  let v1962 : BitVec 32 := Scalar.muli v1961 c128_i32_1129
  v1962
def k0_mult56 : BitVec 32 :=
  let c20_i32 : BitVec 32 := 20#32
  let c128_i32_1171 : BitVec 32 := 128#32
  let v2047 : BitVec 32 := Scalar.muli c20_i32 c128_i32_1171
  v2047
def k0_mult57 : BitVec 32 :=
  let c20_i32 : BitVec 32 := 20#32
  let c1_i32_1172 : BitVec 32 := 1#32
  let v2049 : BitVec 32 := Scalar.subi c20_i32 c1_i32_1172
  let c0_i32_1173 : BitVec 32 := 0#32
  let v2050 : BitVec 32 := Scalar.maxsi v2049 c0_i32_1173
  let c128_i32_1174 : BitVec 32 := 128#32
  let v2051 : BitVec 32 := Scalar.muli v2050 c128_i32_1174
  v2051
def k0_mult58 : BitVec 32 :=
  let c21_i32 : BitVec 32 := 21#32
  let c128_i32_1216 : BitVec 32 := 128#32
  let v2136 : BitVec 32 := Scalar.muli c21_i32 c128_i32_1216
  v2136
def k0_mult59 : BitVec 32 :=
  let c21_i32 : BitVec 32 := 21#32
  let c1_i32_1217 : BitVec 32 := 1#32
  let v2138 : BitVec 32 := Scalar.subi c21_i32 c1_i32_1217
  let c0_i32_1218 : BitVec 32 := 0#32
  let v2139 : BitVec 32 := Scalar.maxsi v2138 c0_i32_1218
  let c128_i32_1219 : BitVec 32 := 128#32
  let v2140 : BitVec 32 := Scalar.muli v2139 c128_i32_1219
  v2140
def k0_mult60 : BitVec 32 :=
  let c22_i32 : BitVec 32 := 22#32
  let c128_i32_1261 : BitVec 32 := 128#32
  let v2225 : BitVec 32 := Scalar.muli c22_i32 c128_i32_1261
  v2225
def k0_mult61 : BitVec 32 :=
  let c22_i32 : BitVec 32 := 22#32
  let c1_i32_1262 : BitVec 32 := 1#32
  let v2227 : BitVec 32 := Scalar.subi c22_i32 c1_i32_1262
  let c0_i32_1263 : BitVec 32 := 0#32
  let v2228 : BitVec 32 := Scalar.maxsi v2227 c0_i32_1263
  let c128_i32_1264 : BitVec 32 := 128#32
  let v2229 : BitVec 32 := Scalar.muli v2228 c128_i32_1264
  v2229
def k0_mult62 : BitVec 32 :=
  let c23_i32 : BitVec 32 := 23#32
  let c128_i32_1306 : BitVec 32 := 128#32
  let v2314 : BitVec 32 := Scalar.muli c23_i32 c128_i32_1306
  v2314
def k0_mult63 : BitVec 32 :=
  let c23_i32 : BitVec 32 := 23#32
  let c1_i32_1307 : BitVec 32 := 1#32
  let v2316 : BitVec 32 := Scalar.subi c23_i32 c1_i32_1307
  let c0_i32_1308 : BitVec 32 := 0#32
  let v2317 : BitVec 32 := Scalar.maxsi v2316 c0_i32_1308
  let c128_i32_1309 : BitVec 32 := 128#32
  let v2318 : BitVec 32 := Scalar.muli v2317 c128_i32_1309
  v2318
def k0_mult64 : BitVec 32 :=
  let c24_i32 : BitVec 32 := 24#32
  let c128_i32_1351 : BitVec 32 := 128#32
  let v2403 : BitVec 32 := Scalar.muli c24_i32 c128_i32_1351
  v2403
def k0_mult65 : BitVec 32 :=
  let c24_i32 : BitVec 32 := 24#32
  let c1_i32_1352 : BitVec 32 := 1#32
  let v2405 : BitVec 32 := Scalar.subi c24_i32 c1_i32_1352
  let c0_i32_1353 : BitVec 32 := 0#32
  let v2406 : BitVec 32 := Scalar.maxsi v2405 c0_i32_1353
  let c128_i32_1354 : BitVec 32 := 128#32
  let v2407 : BitVec 32 := Scalar.muli v2406 c128_i32_1354
  v2407
def k0_mult66 : BitVec 32 :=
  let c25_i32 : BitVec 32 := 25#32
  let c128_i32_1396 : BitVec 32 := 128#32
  let v2492 : BitVec 32 := Scalar.muli c25_i32 c128_i32_1396
  v2492
def k0_mult67 : BitVec 32 :=
  let c25_i32 : BitVec 32 := 25#32
  let c1_i32_1397 : BitVec 32 := 1#32
  let v2494 : BitVec 32 := Scalar.subi c25_i32 c1_i32_1397
  let c0_i32_1398 : BitVec 32 := 0#32
  let v2495 : BitVec 32 := Scalar.maxsi v2494 c0_i32_1398
  let c128_i32_1399 : BitVec 32 := 128#32
  let v2496 : BitVec 32 := Scalar.muli v2495 c128_i32_1399
  v2496
def k0_mult68 : BitVec 32 :=
  let c26_i32 : BitVec 32 := 26#32
  let c128_i32_1441 : BitVec 32 := 128#32
  let v2581 : BitVec 32 := Scalar.muli c26_i32 c128_i32_1441
  v2581
def k0_mult69 : BitVec 32 :=
  let c26_i32 : BitVec 32 := 26#32
  let c1_i32_1442 : BitVec 32 := 1#32
  let v2583 : BitVec 32 := Scalar.subi c26_i32 c1_i32_1442
  let c0_i32_1443 : BitVec 32 := 0#32
  let v2584 : BitVec 32 := Scalar.maxsi v2583 c0_i32_1443
  let c128_i32_1444 : BitVec 32 := 128#32
  let v2585 : BitVec 32 := Scalar.muli v2584 c128_i32_1444
  v2585
def k0_mult70 : BitVec 32 :=
  let c27_i32 : BitVec 32 := 27#32
  let c128_i32_1486 : BitVec 32 := 128#32
  let v2670 : BitVec 32 := Scalar.muli c27_i32 c128_i32_1486
  v2670
def k0_mult71 : BitVec 32 :=
  let c27_i32 : BitVec 32 := 27#32
  let c1_i32_1487 : BitVec 32 := 1#32
  let v2672 : BitVec 32 := Scalar.subi c27_i32 c1_i32_1487
  let c0_i32_1488 : BitVec 32 := 0#32
  let v2673 : BitVec 32 := Scalar.maxsi v2672 c0_i32_1488
  let c128_i32_1489 : BitVec 32 := 128#32
  let v2674 : BitVec 32 := Scalar.muli v2673 c128_i32_1489
  v2674
def k0_mult72 : BitVec 32 :=
  let c28_i32 : BitVec 32 := 28#32
  let c128_i32_1531 : BitVec 32 := 128#32
  let v2759 : BitVec 32 := Scalar.muli c28_i32 c128_i32_1531
  v2759
def k0_mult73 : BitVec 32 :=
  let c28_i32 : BitVec 32 := 28#32
  let c1_i32_1532 : BitVec 32 := 1#32
  let v2761 : BitVec 32 := Scalar.subi c28_i32 c1_i32_1532
  let c0_i32_1533 : BitVec 32 := 0#32
  let v2762 : BitVec 32 := Scalar.maxsi v2761 c0_i32_1533
  let c128_i32_1534 : BitVec 32 := 128#32
  let v2763 : BitVec 32 := Scalar.muli v2762 c128_i32_1534
  v2763
def k0_mult74 : BitVec 32 :=
  let c29_i32 : BitVec 32 := 29#32
  let c128_i32_1576 : BitVec 32 := 128#32
  let v2848 : BitVec 32 := Scalar.muli c29_i32 c128_i32_1576
  v2848
def k0_mult75 : BitVec 32 :=
  let c29_i32 : BitVec 32 := 29#32
  let c1_i32_1577 : BitVec 32 := 1#32
  let v2850 : BitVec 32 := Scalar.subi c29_i32 c1_i32_1577
  let c0_i32_1578 : BitVec 32 := 0#32
  let v2851 : BitVec 32 := Scalar.maxsi v2850 c0_i32_1578
  let c128_i32_1579 : BitVec 32 := 128#32
  let v2852 : BitVec 32 := Scalar.muli v2851 c128_i32_1579
  v2852
def k0_mult76 : BitVec 32 :=
  let c30_i32 : BitVec 32 := 30#32
  let c128_i32_1621 : BitVec 32 := 128#32
  let v2937 : BitVec 32 := Scalar.muli c30_i32 c128_i32_1621
  v2937
def k0_mult77 : BitVec 32 :=
  let c30_i32 : BitVec 32 := 30#32
  let c1_i32_1622 : BitVec 32 := 1#32
  let v2939 : BitVec 32 := Scalar.subi c30_i32 c1_i32_1622
  let c0_i32_1623 : BitVec 32 := 0#32
  let v2940 : BitVec 32 := Scalar.maxsi v2939 c0_i32_1623
  let c128_i32_1624 : BitVec 32 := 128#32
  let v2941 : BitVec 32 := Scalar.muli v2940 c128_i32_1624
  v2941
def k0_mult78 : BitVec 32 :=
  let c31_i32 : BitVec 32 := 31#32
  let c128_i32_1666 : BitVec 32 := 128#32
  let v3026 : BitVec 32 := Scalar.muli c31_i32 c128_i32_1666
  v3026
def k0_mult79 : BitVec 32 :=
  let c31_i32 : BitVec 32 := 31#32
  let c1_i32_1667 : BitVec 32 := 1#32
  let v3028 : BitVec 32 := Scalar.subi c31_i32 c1_i32_1667
  let c0_i32_1668 : BitVec 32 := 0#32
  let v3029 : BitVec 32 := Scalar.maxsi v3028 c0_i32_1668
  let c128_i32_1669 : BitVec 32 := 128#32
  let v3030 : BitVec 32 := Scalar.muli v3029 c128_i32_1669
  v3030
def k0_mult80 : BitVec 32 :=
  let c0_i32_1711 : BitVec 32 := 0#32
  let c128_i32_1712 : BitVec 32 := 128#32
  let v3115 : BitVec 32 := Scalar.muli c0_i32_1711 c128_i32_1712
  v3115
def k0_mult81 : BitVec 32 :=
  let c0_i32_1711 : BitVec 32 := 0#32
  let c1_i32_1713 : BitVec 32 := 1#32
  let v3117 : BitVec 32 := Scalar.subi c0_i32_1711 c1_i32_1713
  let c0_i32_1714 : BitVec 32 := 0#32
  let v3118 : BitVec 32 := Scalar.maxsi v3117 c0_i32_1714
  let c128_i32_1715 : BitVec 32 := 128#32
  let v3119 : BitVec 32 := Scalar.muli v3118 c128_i32_1715
  v3119
def k0_off47 (c0_i32_1711 : BitVec 32) : Fin 5 → Nat :=
  let c1_1739 : Index := 1#32
  let c0_1740 : Index := 0#32
  let c7_i32_1737 : BitVec 32 := 7#32
  let v3147 : BitVec 32 := Scalar.andi c0_i32_1711 c7_i32_1737
  let c1_i32_1738 : BitVec 32 := 1#32
  let v3148 : BitVec 32 := Scalar.minsi v3147 c1_i32_1738
  let v3149 : Index := Scalar.indexCast v3148
  let c0_1741 : Index := 0#32
  let c0_1742 : Index := 0#32
  ![1, 0, v3149.toNat, 0, 0]
def k0_off48 (c0_i32_1711 : BitVec 32) : Fin 2 → Nat :=
  let c0_i32_1746 : BitVec 32 := 0#32
  let v3173 : BitVec 1 := Scalar.cmpi .sgt c0_i32_1711 c0_i32_1746
  let v3174 : BitVec 32 := Scalar.extui v3173
  let c0_i32_1747 : BitVec 32 := 0#32
  let v3175 : BitVec 1 := Scalar.cmpi .slt c0_i32_1711 c0_i32_1747
  let v3176 : BitVec 32 := Scalar.extui v3175
  let v3177 : BitVec 32 := Scalar.subi v3174 v3176
  let c8_i32_1745 : BitVec 32 := 8#32
  let c0_i32_1748 : BitVec 32 := 0#32
  let v3178 : BitVec 1 := Scalar.cmpi .sgt c8_i32_1745 c0_i32_1748
  let v3179 : BitVec 32 := Scalar.extui v3178
  let c0_i32_1749 : BitVec 32 := 0#32
  let v3180 : BitVec 1 := Scalar.cmpi .slt c8_i32_1745 c0_i32_1749
  let v3181 : BitVec 32 := Scalar.extui v3180
  let v3182 : BitVec 32 := Scalar.subi v3179 v3181
  let v3183 : BitVec 1 := Scalar.cmpi .ne v3177 v3182
  let v3184 : BitVec 32 := Scalar.remsi c0_i32_1711 c8_i32_1745
  let c0_i32_1750 : BitVec 32 := 0#32
  let v3185 : BitVec 1 := Scalar.cmpi .ne v3184 c0_i32_1750
  let v3186 : BitVec 1 := Scalar.andi v3183 v3185
  let v3172 : BitVec 32 := Scalar.divsi c0_i32_1711 c8_i32_1745
  let c1_i32_1751 : BitVec 32 := 1#32
  let v3187 : BitVec 32 := Scalar.subi v3172 c1_i32_1751
  let v3188 : BitVec 32 := Scalar.select v3186 v3187 v3172
  let c7_i32_1752 : BitVec 32 := 7#32
  let v3189 : BitVec 32 := Scalar.andi c0_i32_1711 c7_i32_1752
  let c512_i32 : BitVec 32 := 512#32
  let v3190 : BitVec 32 := Scalar.muli v3189 c512_i32
  let v3191 : BitVec 32 := Scalar.addi v3188 v3190
  let v3192 : Index := Scalar.indexCast v3191
  let c0_1753 : Index := 0#32
  ![v3192.toNat, 0]
def k0_mult82 : BitVec 32 :=
  let c1_i32_1756 : BitVec 32 := 1#32
  let c128_i32_1757 : BitVec 32 := 128#32
  let v3204 : BitVec 32 := Scalar.muli c1_i32_1756 c128_i32_1757
  v3204
def k0_mult83 : BitVec 32 :=
  let c1_i32_1756 : BitVec 32 := 1#32
  let c1_i32_1758 : BitVec 32 := 1#32
  let v3206 : BitVec 32 := Scalar.subi c1_i32_1756 c1_i32_1758
  let c0_i32_1759 : BitVec 32 := 0#32
  let v3207 : BitVec 32 := Scalar.maxsi v3206 c0_i32_1759
  let c128_i32_1760 : BitVec 32 := 128#32
  let v3208 : BitVec 32 := Scalar.muli v3207 c128_i32_1760
  v3208
def k0_mult84 : BitVec 32 :=
  let c2_i32_1802 : BitVec 32 := 2#32
  let c128_i32_1803 : BitVec 32 := 128#32
  let v3293 : BitVec 32 := Scalar.muli c2_i32_1802 c128_i32_1803
  v3293
def k0_mult85 : BitVec 32 :=
  let c2_i32_1802 : BitVec 32 := 2#32
  let c1_i32_1804 : BitVec 32 := 1#32
  let v3295 : BitVec 32 := Scalar.subi c2_i32_1802 c1_i32_1804
  let c0_i32_1805 : BitVec 32 := 0#32
  let v3296 : BitVec 32 := Scalar.maxsi v3295 c0_i32_1805
  let c128_i32_1806 : BitVec 32 := 128#32
  let v3297 : BitVec 32 := Scalar.muli v3296 c128_i32_1806
  v3297
def k0_mult86 : BitVec 32 :=
  let c3_i32_1848 : BitVec 32 := 3#32
  let c128_i32_1849 : BitVec 32 := 128#32
  let v3382 : BitVec 32 := Scalar.muli c3_i32_1848 c128_i32_1849
  v3382
def k0_mult87 : BitVec 32 :=
  let c3_i32_1848 : BitVec 32 := 3#32
  let c1_i32_1850 : BitVec 32 := 1#32
  let v3384 : BitVec 32 := Scalar.subi c3_i32_1848 c1_i32_1850
  let c0_i32_1851 : BitVec 32 := 0#32
  let v3385 : BitVec 32 := Scalar.maxsi v3384 c0_i32_1851
  let c128_i32_1852 : BitVec 32 := 128#32
  let v3386 : BitVec 32 := Scalar.muli v3385 c128_i32_1852
  v3386
def k0_mult88 : BitVec 32 :=
  let c4_i32_1894 : BitVec 32 := 4#32
  let c128_i32_1895 : BitVec 32 := 128#32
  let v3471 : BitVec 32 := Scalar.muli c4_i32_1894 c128_i32_1895
  v3471
def k0_mult89 : BitVec 32 :=
  let c4_i32_1894 : BitVec 32 := 4#32
  let c1_i32_1896 : BitVec 32 := 1#32
  let v3473 : BitVec 32 := Scalar.subi c4_i32_1894 c1_i32_1896
  let c0_i32_1897 : BitVec 32 := 0#32
  let v3474 : BitVec 32 := Scalar.maxsi v3473 c0_i32_1897
  let c128_i32_1898 : BitVec 32 := 128#32
  let v3475 : BitVec 32 := Scalar.muli v3474 c128_i32_1898
  v3475
def k0_mult90 : BitVec 32 :=
  let c5_i32_1940 : BitVec 32 := 5#32
  let c128_i32_1941 : BitVec 32 := 128#32
  let v3560 : BitVec 32 := Scalar.muli c5_i32_1940 c128_i32_1941
  v3560
def k0_mult91 : BitVec 32 :=
  let c5_i32_1940 : BitVec 32 := 5#32
  let c1_i32_1942 : BitVec 32 := 1#32
  let v3562 : BitVec 32 := Scalar.subi c5_i32_1940 c1_i32_1942
  let c0_i32_1943 : BitVec 32 := 0#32
  let v3563 : BitVec 32 := Scalar.maxsi v3562 c0_i32_1943
  let c128_i32_1944 : BitVec 32 := 128#32
  let v3564 : BitVec 32 := Scalar.muli v3563 c128_i32_1944
  v3564
def k0_mult92 : BitVec 32 :=
  let c6_i32_1986 : BitVec 32 := 6#32
  let c128_i32_1987 : BitVec 32 := 128#32
  let v3649 : BitVec 32 := Scalar.muli c6_i32_1986 c128_i32_1987
  v3649
def k0_mult93 : BitVec 32 :=
  let c6_i32_1986 : BitVec 32 := 6#32
  let c1_i32_1988 : BitVec 32 := 1#32
  let v3651 : BitVec 32 := Scalar.subi c6_i32_1986 c1_i32_1988
  let c0_i32_1989 : BitVec 32 := 0#32
  let v3652 : BitVec 32 := Scalar.maxsi v3651 c0_i32_1989
  let c128_i32_1990 : BitVec 32 := 128#32
  let v3653 : BitVec 32 := Scalar.muli v3652 c128_i32_1990
  v3653
def k0_mult94 : BitVec 32 :=
  let c7_i32_2032 : BitVec 32 := 7#32
  let c128_i32_2033 : BitVec 32 := 128#32
  let v3738 : BitVec 32 := Scalar.muli c7_i32_2032 c128_i32_2033
  v3738
def k0_mult95 : BitVec 32 :=
  let c7_i32_2032 : BitVec 32 := 7#32
  let c1_i32_2034 : BitVec 32 := 1#32
  let v3740 : BitVec 32 := Scalar.subi c7_i32_2032 c1_i32_2034
  let c0_i32_2035 : BitVec 32 := 0#32
  let v3741 : BitVec 32 := Scalar.maxsi v3740 c0_i32_2035
  let c128_i32_2036 : BitVec 32 := 128#32
  let v3742 : BitVec 32 := Scalar.muli v3741 c128_i32_2036
  v3742
def k0_mult96 : BitVec 32 :=
  let c8_i32_2078 : BitVec 32 := 8#32
  let c128_i32_2079 : BitVec 32 := 128#32
  let v3827 : BitVec 32 := Scalar.muli c8_i32_2078 c128_i32_2079
  v3827
def k0_mult97 : BitVec 32 :=
  let c8_i32_2078 : BitVec 32 := 8#32
  let c1_i32_2080 : BitVec 32 := 1#32
  let v3829 : BitVec 32 := Scalar.subi c8_i32_2078 c1_i32_2080
  let c0_i32_2081 : BitVec 32 := 0#32
  let v3830 : BitVec 32 := Scalar.maxsi v3829 c0_i32_2081
  let c128_i32_2082 : BitVec 32 := 128#32
  let v3831 : BitVec 32 := Scalar.muli v3830 c128_i32_2082
  v3831
def k0_mult98 : BitVec 32 :=
  let c9_i32_2124 : BitVec 32 := 9#32
  let c128_i32_2125 : BitVec 32 := 128#32
  let v3916 : BitVec 32 := Scalar.muli c9_i32_2124 c128_i32_2125
  v3916
def k0_mult99 : BitVec 32 :=
  let c9_i32_2124 : BitVec 32 := 9#32
  let c1_i32_2126 : BitVec 32 := 1#32
  let v3918 : BitVec 32 := Scalar.subi c9_i32_2124 c1_i32_2126
  let c0_i32_2127 : BitVec 32 := 0#32
  let v3919 : BitVec 32 := Scalar.maxsi v3918 c0_i32_2127
  let c128_i32_2128 : BitVec 32 := 128#32
  let v3920 : BitVec 32 := Scalar.muli v3919 c128_i32_2128
  v3920
def k0_mult100 : BitVec 32 :=
  let c10_i32_2170 : BitVec 32 := 10#32
  let c128_i32_2171 : BitVec 32 := 128#32
  let v4005 : BitVec 32 := Scalar.muli c10_i32_2170 c128_i32_2171
  v4005
def k0_mult101 : BitVec 32 :=
  let c10_i32_2170 : BitVec 32 := 10#32
  let c1_i32_2172 : BitVec 32 := 1#32
  let v4007 : BitVec 32 := Scalar.subi c10_i32_2170 c1_i32_2172
  let c0_i32_2173 : BitVec 32 := 0#32
  let v4008 : BitVec 32 := Scalar.maxsi v4007 c0_i32_2173
  let c128_i32_2174 : BitVec 32 := 128#32
  let v4009 : BitVec 32 := Scalar.muli v4008 c128_i32_2174
  v4009
def k0_mult102 : BitVec 32 :=
  let c11_i32_2216 : BitVec 32 := 11#32
  let c128_i32_2217 : BitVec 32 := 128#32
  let v4094 : BitVec 32 := Scalar.muli c11_i32_2216 c128_i32_2217
  v4094
def k0_mult103 : BitVec 32 :=
  let c11_i32_2216 : BitVec 32 := 11#32
  let c1_i32_2218 : BitVec 32 := 1#32
  let v4096 : BitVec 32 := Scalar.subi c11_i32_2216 c1_i32_2218
  let c0_i32_2219 : BitVec 32 := 0#32
  let v4097 : BitVec 32 := Scalar.maxsi v4096 c0_i32_2219
  let c128_i32_2220 : BitVec 32 := 128#32
  let v4098 : BitVec 32 := Scalar.muli v4097 c128_i32_2220
  v4098
def k0_mult104 : BitVec 32 :=
  let c12_i32_2262 : BitVec 32 := 12#32
  let c128_i32_2263 : BitVec 32 := 128#32
  let v4183 : BitVec 32 := Scalar.muli c12_i32_2262 c128_i32_2263
  v4183
def k0_mult105 : BitVec 32 :=
  let c12_i32_2262 : BitVec 32 := 12#32
  let c1_i32_2264 : BitVec 32 := 1#32
  let v4185 : BitVec 32 := Scalar.subi c12_i32_2262 c1_i32_2264
  let c0_i32_2265 : BitVec 32 := 0#32
  let v4186 : BitVec 32 := Scalar.maxsi v4185 c0_i32_2265
  let c128_i32_2266 : BitVec 32 := 128#32
  let v4187 : BitVec 32 := Scalar.muli v4186 c128_i32_2266
  v4187
def k0_mult106 : BitVec 32 :=
  let c13_i32_2308 : BitVec 32 := 13#32
  let c128_i32_2309 : BitVec 32 := 128#32
  let v4272 : BitVec 32 := Scalar.muli c13_i32_2308 c128_i32_2309
  v4272
def k0_mult107 : BitVec 32 :=
  let c13_i32_2308 : BitVec 32 := 13#32
  let c1_i32_2310 : BitVec 32 := 1#32
  let v4274 : BitVec 32 := Scalar.subi c13_i32_2308 c1_i32_2310
  let c0_i32_2311 : BitVec 32 := 0#32
  let v4275 : BitVec 32 := Scalar.maxsi v4274 c0_i32_2311
  let c128_i32_2312 : BitVec 32 := 128#32
  let v4276 : BitVec 32 := Scalar.muli v4275 c128_i32_2312
  v4276
def k0_mult108 : BitVec 32 :=
  let c14_i32_2354 : BitVec 32 := 14#32
  let c128_i32_2355 : BitVec 32 := 128#32
  let v4361 : BitVec 32 := Scalar.muli c14_i32_2354 c128_i32_2355
  v4361
def k0_mult109 : BitVec 32 :=
  let c14_i32_2354 : BitVec 32 := 14#32
  let c1_i32_2356 : BitVec 32 := 1#32
  let v4363 : BitVec 32 := Scalar.subi c14_i32_2354 c1_i32_2356
  let c0_i32_2357 : BitVec 32 := 0#32
  let v4364 : BitVec 32 := Scalar.maxsi v4363 c0_i32_2357
  let c128_i32_2358 : BitVec 32 := 128#32
  let v4365 : BitVec 32 := Scalar.muli v4364 c128_i32_2358
  v4365
def k0_mult110 : BitVec 32 :=
  let c15_i32_2400 : BitVec 32 := 15#32
  let c128_i32_2401 : BitVec 32 := 128#32
  let v4450 : BitVec 32 := Scalar.muli c15_i32_2400 c128_i32_2401
  v4450
def k0_mult111 : BitVec 32 :=
  let c15_i32_2400 : BitVec 32 := 15#32
  let c1_i32_2402 : BitVec 32 := 1#32
  let v4452 : BitVec 32 := Scalar.subi c15_i32_2400 c1_i32_2402
  let c0_i32_2403 : BitVec 32 := 0#32
  let v4453 : BitVec 32 := Scalar.maxsi v4452 c0_i32_2403
  let c128_i32_2404 : BitVec 32 := 128#32
  let v4454 : BitVec 32 := Scalar.muli v4453 c128_i32_2404
  v4454
def k0_mult112 : BitVec 32 :=
  let c16_i32_2446 : BitVec 32 := 16#32
  let c128_i32_2447 : BitVec 32 := 128#32
  let v4539 : BitVec 32 := Scalar.muli c16_i32_2446 c128_i32_2447
  v4539
def k0_mult113 : BitVec 32 :=
  let c16_i32_2446 : BitVec 32 := 16#32
  let c1_i32_2448 : BitVec 32 := 1#32
  let v4541 : BitVec 32 := Scalar.subi c16_i32_2446 c1_i32_2448
  let c0_i32_2449 : BitVec 32 := 0#32
  let v4542 : BitVec 32 := Scalar.maxsi v4541 c0_i32_2449
  let c128_i32_2450 : BitVec 32 := 128#32
  let v4543 : BitVec 32 := Scalar.muli v4542 c128_i32_2450
  v4543
def k0_mult114 : BitVec 32 :=
  let c17_i32_2492 : BitVec 32 := 17#32
  let c128_i32_2493 : BitVec 32 := 128#32
  let v4628 : BitVec 32 := Scalar.muli c17_i32_2492 c128_i32_2493
  v4628
def k0_mult115 : BitVec 32 :=
  let c17_i32_2492 : BitVec 32 := 17#32
  let c1_i32_2494 : BitVec 32 := 1#32
  let v4630 : BitVec 32 := Scalar.subi c17_i32_2492 c1_i32_2494
  let c0_i32_2495 : BitVec 32 := 0#32
  let v4631 : BitVec 32 := Scalar.maxsi v4630 c0_i32_2495
  let c128_i32_2496 : BitVec 32 := 128#32
  let v4632 : BitVec 32 := Scalar.muli v4631 c128_i32_2496
  v4632
def k0_mult116 : BitVec 32 :=
  let c18_i32_2538 : BitVec 32 := 18#32
  let c128_i32_2539 : BitVec 32 := 128#32
  let v4717 : BitVec 32 := Scalar.muli c18_i32_2538 c128_i32_2539
  v4717
def k0_mult117 : BitVec 32 :=
  let c18_i32_2538 : BitVec 32 := 18#32
  let c1_i32_2540 : BitVec 32 := 1#32
  let v4719 : BitVec 32 := Scalar.subi c18_i32_2538 c1_i32_2540
  let c0_i32_2541 : BitVec 32 := 0#32
  let v4720 : BitVec 32 := Scalar.maxsi v4719 c0_i32_2541
  let c128_i32_2542 : BitVec 32 := 128#32
  let v4721 : BitVec 32 := Scalar.muli v4720 c128_i32_2542
  v4721
def k0_mult118 : BitVec 32 :=
  let c19_i32_2584 : BitVec 32 := 19#32
  let c128_i32_2585 : BitVec 32 := 128#32
  let v4806 : BitVec 32 := Scalar.muli c19_i32_2584 c128_i32_2585
  v4806
def k0_mult119 : BitVec 32 :=
  let c19_i32_2584 : BitVec 32 := 19#32
  let c1_i32_2586 : BitVec 32 := 1#32
  let v4808 : BitVec 32 := Scalar.subi c19_i32_2584 c1_i32_2586
  let c0_i32_2587 : BitVec 32 := 0#32
  let v4809 : BitVec 32 := Scalar.maxsi v4808 c0_i32_2587
  let c128_i32_2588 : BitVec 32 := 128#32
  let v4810 : BitVec 32 := Scalar.muli v4809 c128_i32_2588
  v4810
def k0_mult120 : BitVec 32 :=
  let c20_i32_2630 : BitVec 32 := 20#32
  let c128_i32_2631 : BitVec 32 := 128#32
  let v4895 : BitVec 32 := Scalar.muli c20_i32_2630 c128_i32_2631
  v4895
def k0_mult121 : BitVec 32 :=
  let c20_i32_2630 : BitVec 32 := 20#32
  let c1_i32_2632 : BitVec 32 := 1#32
  let v4897 : BitVec 32 := Scalar.subi c20_i32_2630 c1_i32_2632
  let c0_i32_2633 : BitVec 32 := 0#32
  let v4898 : BitVec 32 := Scalar.maxsi v4897 c0_i32_2633
  let c128_i32_2634 : BitVec 32 := 128#32
  let v4899 : BitVec 32 := Scalar.muli v4898 c128_i32_2634
  v4899
def k0_mult122 : BitVec 32 :=
  let c21_i32_2676 : BitVec 32 := 21#32
  let c128_i32_2677 : BitVec 32 := 128#32
  let v4984 : BitVec 32 := Scalar.muli c21_i32_2676 c128_i32_2677
  v4984
def k0_mult123 : BitVec 32 :=
  let c21_i32_2676 : BitVec 32 := 21#32
  let c1_i32_2678 : BitVec 32 := 1#32
  let v4986 : BitVec 32 := Scalar.subi c21_i32_2676 c1_i32_2678
  let c0_i32_2679 : BitVec 32 := 0#32
  let v4987 : BitVec 32 := Scalar.maxsi v4986 c0_i32_2679
  let c128_i32_2680 : BitVec 32 := 128#32
  let v4988 : BitVec 32 := Scalar.muli v4987 c128_i32_2680
  v4988
def k0_mult124 : BitVec 32 :=
  let c22_i32_2722 : BitVec 32 := 22#32
  let c128_i32_2723 : BitVec 32 := 128#32
  let v5073 : BitVec 32 := Scalar.muli c22_i32_2722 c128_i32_2723
  v5073
def k0_mult125 : BitVec 32 :=
  let c22_i32_2722 : BitVec 32 := 22#32
  let c1_i32_2724 : BitVec 32 := 1#32
  let v5075 : BitVec 32 := Scalar.subi c22_i32_2722 c1_i32_2724
  let c0_i32_2725 : BitVec 32 := 0#32
  let v5076 : BitVec 32 := Scalar.maxsi v5075 c0_i32_2725
  let c128_i32_2726 : BitVec 32 := 128#32
  let v5077 : BitVec 32 := Scalar.muli v5076 c128_i32_2726
  v5077
def k0_mult126 : BitVec 32 :=
  let c23_i32_2768 : BitVec 32 := 23#32
  let c128_i32_2769 : BitVec 32 := 128#32
  let v5162 : BitVec 32 := Scalar.muli c23_i32_2768 c128_i32_2769
  v5162
def k0_mult127 : BitVec 32 :=
  let c23_i32_2768 : BitVec 32 := 23#32
  let c1_i32_2770 : BitVec 32 := 1#32
  let v5164 : BitVec 32 := Scalar.subi c23_i32_2768 c1_i32_2770
  let c0_i32_2771 : BitVec 32 := 0#32
  let v5165 : BitVec 32 := Scalar.maxsi v5164 c0_i32_2771
  let c128_i32_2772 : BitVec 32 := 128#32
  let v5166 : BitVec 32 := Scalar.muli v5165 c128_i32_2772
  v5166
def k0_mult128 : BitVec 32 :=
  let c24_i32_2814 : BitVec 32 := 24#32
  let c128_i32_2815 : BitVec 32 := 128#32
  let v5251 : BitVec 32 := Scalar.muli c24_i32_2814 c128_i32_2815
  v5251
def k0_mult129 : BitVec 32 :=
  let c24_i32_2814 : BitVec 32 := 24#32
  let c1_i32_2816 : BitVec 32 := 1#32
  let v5253 : BitVec 32 := Scalar.subi c24_i32_2814 c1_i32_2816
  let c0_i32_2817 : BitVec 32 := 0#32
  let v5254 : BitVec 32 := Scalar.maxsi v5253 c0_i32_2817
  let c128_i32_2818 : BitVec 32 := 128#32
  let v5255 : BitVec 32 := Scalar.muli v5254 c128_i32_2818
  v5255
def k0_mult130 : BitVec 32 :=
  let c25_i32_2860 : BitVec 32 := 25#32
  let c128_i32_2861 : BitVec 32 := 128#32
  let v5340 : BitVec 32 := Scalar.muli c25_i32_2860 c128_i32_2861
  v5340
def k0_mult131 : BitVec 32 :=
  let c25_i32_2860 : BitVec 32 := 25#32
  let c1_i32_2862 : BitVec 32 := 1#32
  let v5342 : BitVec 32 := Scalar.subi c25_i32_2860 c1_i32_2862
  let c0_i32_2863 : BitVec 32 := 0#32
  let v5343 : BitVec 32 := Scalar.maxsi v5342 c0_i32_2863
  let c128_i32_2864 : BitVec 32 := 128#32
  let v5344 : BitVec 32 := Scalar.muli v5343 c128_i32_2864
  v5344
def k0_mult132 : BitVec 32 :=
  let c26_i32_2906 : BitVec 32 := 26#32
  let c128_i32_2907 : BitVec 32 := 128#32
  let v5429 : BitVec 32 := Scalar.muli c26_i32_2906 c128_i32_2907
  v5429
def k0_mult133 : BitVec 32 :=
  let c26_i32_2906 : BitVec 32 := 26#32
  let c1_i32_2908 : BitVec 32 := 1#32
  let v5431 : BitVec 32 := Scalar.subi c26_i32_2906 c1_i32_2908
  let c0_i32_2909 : BitVec 32 := 0#32
  let v5432 : BitVec 32 := Scalar.maxsi v5431 c0_i32_2909
  let c128_i32_2910 : BitVec 32 := 128#32
  let v5433 : BitVec 32 := Scalar.muli v5432 c128_i32_2910
  v5433
def k0_mult134 : BitVec 32 :=
  let c27_i32_2952 : BitVec 32 := 27#32
  let c128_i32_2953 : BitVec 32 := 128#32
  let v5518 : BitVec 32 := Scalar.muli c27_i32_2952 c128_i32_2953
  v5518
def k0_mult135 : BitVec 32 :=
  let c27_i32_2952 : BitVec 32 := 27#32
  let c1_i32_2954 : BitVec 32 := 1#32
  let v5520 : BitVec 32 := Scalar.subi c27_i32_2952 c1_i32_2954
  let c0_i32_2955 : BitVec 32 := 0#32
  let v5521 : BitVec 32 := Scalar.maxsi v5520 c0_i32_2955
  let c128_i32_2956 : BitVec 32 := 128#32
  let v5522 : BitVec 32 := Scalar.muli v5521 c128_i32_2956
  v5522
def k0_mult136 : BitVec 32 :=
  let c28_i32_2998 : BitVec 32 := 28#32
  let c128_i32_2999 : BitVec 32 := 128#32
  let v5607 : BitVec 32 := Scalar.muli c28_i32_2998 c128_i32_2999
  v5607
def k0_mult137 : BitVec 32 :=
  let c28_i32_2998 : BitVec 32 := 28#32
  let c1_i32_3000 : BitVec 32 := 1#32
  let v5609 : BitVec 32 := Scalar.subi c28_i32_2998 c1_i32_3000
  let c0_i32_3001 : BitVec 32 := 0#32
  let v5610 : BitVec 32 := Scalar.maxsi v5609 c0_i32_3001
  let c128_i32_3002 : BitVec 32 := 128#32
  let v5611 : BitVec 32 := Scalar.muli v5610 c128_i32_3002
  v5611
def k0_mult138 : BitVec 32 :=
  let c29_i32_3044 : BitVec 32 := 29#32
  let c128_i32_3045 : BitVec 32 := 128#32
  let v5696 : BitVec 32 := Scalar.muli c29_i32_3044 c128_i32_3045
  v5696
def k0_mult139 : BitVec 32 :=
  let c29_i32_3044 : BitVec 32 := 29#32
  let c1_i32_3046 : BitVec 32 := 1#32
  let v5698 : BitVec 32 := Scalar.subi c29_i32_3044 c1_i32_3046
  let c0_i32_3047 : BitVec 32 := 0#32
  let v5699 : BitVec 32 := Scalar.maxsi v5698 c0_i32_3047
  let c128_i32_3048 : BitVec 32 := 128#32
  let v5700 : BitVec 32 := Scalar.muli v5699 c128_i32_3048
  v5700
def k0_mult140 : BitVec 32 :=
  let c30_i32_3090 : BitVec 32 := 30#32
  let c128_i32_3091 : BitVec 32 := 128#32
  let v5785 : BitVec 32 := Scalar.muli c30_i32_3090 c128_i32_3091
  v5785
def k0_mult141 : BitVec 32 :=
  let c30_i32_3090 : BitVec 32 := 30#32
  let c1_i32_3092 : BitVec 32 := 1#32
  let v5787 : BitVec 32 := Scalar.subi c30_i32_3090 c1_i32_3092
  let c0_i32_3093 : BitVec 32 := 0#32
  let v5788 : BitVec 32 := Scalar.maxsi v5787 c0_i32_3093
  let c128_i32_3094 : BitVec 32 := 128#32
  let v5789 : BitVec 32 := Scalar.muli v5788 c128_i32_3094
  v5789
def k0_mult142 : BitVec 32 :=
  let c31_i32_3136 : BitVec 32 := 31#32
  let c128_i32_3137 : BitVec 32 := 128#32
  let v5874 : BitVec 32 := Scalar.muli c31_i32_3136 c128_i32_3137
  v5874
def k0_mult143 : BitVec 32 :=
  let c31_i32_3136 : BitVec 32 := 31#32
  let c1_i32_3138 : BitVec 32 := 1#32
  let v5876 : BitVec 32 := Scalar.subi c31_i32_3136 c1_i32_3138
  let c0_i32_3139 : BitVec 32 := 0#32
  let v5877 : BitVec 32 := Scalar.maxsi v5876 c0_i32_3139
  let c128_i32_3140 : BitVec 32 := 128#32
  let v5878 : BitVec 32 := Scalar.muli v5877 c128_i32_3140
  v5878
def k0_mult144 : BitVec 32 :=
  let c0_i32_3183 : BitVec 32 := 0#32
  let c128_i32_3184 : BitVec 32 := 128#32
  let v5963 : BitVec 32 := Scalar.muli c0_i32_3183 c128_i32_3184
  v5963
def k0_mult145 : BitVec 32 :=
  let c0_i32_3183 : BitVec 32 := 0#32
  let c1_i32_3185 : BitVec 32 := 1#32
  let v5965 : BitVec 32 := Scalar.subi c0_i32_3183 c1_i32_3185
  let c0_i32_3186 : BitVec 32 := 0#32
  let v5966 : BitVec 32 := Scalar.maxsi v5965 c0_i32_3186
  let c128_i32_3187 : BitVec 32 := 128#32
  let v5967 : BitVec 32 := Scalar.muli v5966 c128_i32_3187
  v5967
def k0_off49 (c0_i32_3183 : BitVec 32) : Fin 5 → Nat :=
  let c0_3216 : Index := 0#32
  let c0_3217 : Index := 0#32
  let c31_i32_3214 : BitVec 32 := 31#32
  let v5995 : BitVec 32 := Scalar.andi c0_i32_3183 c31_i32_3214
  let c1_i32_3215 : BitVec 32 := 1#32
  let v5996 : BitVec 32 := Scalar.minsi v5995 c1_i32_3215
  let v5997 : Index := Scalar.indexCast v5996
  let c0_3218 : Index := 0#32
  let c0_3219 : Index := 0#32
  ![0, 0, v5997.toNat, 0, 0]
def k0_mult146 : BitVec 32 :=
  let c0_i32_3183 : BitVec 32 := 0#32
  let c128_i32_3222 : BitVec 32 := 128#32
  let v6020 : BitVec 32 := Scalar.muli c0_i32_3183 c128_i32_3222
  v6020
def k0_off50 (c0_i32_3183 : BitVec 32) : Fin 4 → Nat :=
  let c0_3229 : Index := 0#32
  let c0_3230 : Index := 0#32
  let c128_i32_3222 : BitVec 32 := 128#32
  let v6020 : BitVec 32 := Scalar.muli c0_i32_3183 c128_i32_3222
  let v6021 : BitVec 32 := v6020
  let v6054 : Index := Scalar.indexCast v6021
  let c0_3231 : Index := 0#32
  ![0, 0, v6054.toNat, 0]
def k0_mult147 : BitVec 32 :=
  let c1_i32_3232 : BitVec 32 := 1#32
  let c128_i32_3233 : BitVec 32 := 128#32
  let v6058 : BitVec 32 := Scalar.muli c1_i32_3232 c128_i32_3233
  v6058
def k0_mult148 : BitVec 32 :=
  let c1_i32_3232 : BitVec 32 := 1#32
  let c1_i32_3234 : BitVec 32 := 1#32
  let v6060 : BitVec 32 := Scalar.subi c1_i32_3232 c1_i32_3234
  let c0_i32_3235 : BitVec 32 := 0#32
  let v6061 : BitVec 32 := Scalar.maxsi v6060 c0_i32_3235
  let c128_i32_3236 : BitVec 32 := 128#32
  let v6062 : BitVec 32 := Scalar.muli v6061 c128_i32_3236
  v6062
def k0_mult149 : BitVec 32 :=
  let c1_i32_3232 : BitVec 32 := 1#32
  let c128_i32_3271 : BitVec 32 := 128#32
  let v6115 : BitVec 32 := Scalar.muli c1_i32_3232 c128_i32_3271
  v6115
def k0_mult150 : BitVec 32 :=
  let c2_i32_3281 : BitVec 32 := 2#32
  let c128_i32_3282 : BitVec 32 := 128#32
  let v6153 : BitVec 32 := Scalar.muli c2_i32_3281 c128_i32_3282
  v6153
def k0_mult151 : BitVec 32 :=
  let c2_i32_3281 : BitVec 32 := 2#32
  let c1_i32_3283 : BitVec 32 := 1#32
  let v6155 : BitVec 32 := Scalar.subi c2_i32_3281 c1_i32_3283
  let c0_i32_3284 : BitVec 32 := 0#32
  let v6156 : BitVec 32 := Scalar.maxsi v6155 c0_i32_3284
  let c128_i32_3285 : BitVec 32 := 128#32
  let v6157 : BitVec 32 := Scalar.muli v6156 c128_i32_3285
  v6157
def k0_mult152 : BitVec 32 :=
  let c2_i32_3281 : BitVec 32 := 2#32
  let c128_i32_3320 : BitVec 32 := 128#32
  let v6210 : BitVec 32 := Scalar.muli c2_i32_3281 c128_i32_3320
  v6210
def k0_mult153 : BitVec 32 :=
  let c3_i32_3330 : BitVec 32 := 3#32
  let c128_i32_3331 : BitVec 32 := 128#32
  let v6248 : BitVec 32 := Scalar.muli c3_i32_3330 c128_i32_3331
  v6248
def k0_mult154 : BitVec 32 :=
  let c3_i32_3330 : BitVec 32 := 3#32
  let c1_i32_3332 : BitVec 32 := 1#32
  let v6250 : BitVec 32 := Scalar.subi c3_i32_3330 c1_i32_3332
  let c0_i32_3333 : BitVec 32 := 0#32
  let v6251 : BitVec 32 := Scalar.maxsi v6250 c0_i32_3333
  let c128_i32_3334 : BitVec 32 := 128#32
  let v6252 : BitVec 32 := Scalar.muli v6251 c128_i32_3334
  v6252
def k0_mult155 : BitVec 32 :=
  let c3_i32_3330 : BitVec 32 := 3#32
  let c128_i32_3369 : BitVec 32 := 128#32
  let v6305 : BitVec 32 := Scalar.muli c3_i32_3330 c128_i32_3369
  v6305
def k0_mult156 : BitVec 32 :=
  let c4_i32_3379 : BitVec 32 := 4#32
  let c128_i32_3380 : BitVec 32 := 128#32
  let v6343 : BitVec 32 := Scalar.muli c4_i32_3379 c128_i32_3380
  v6343
def k0_mult157 : BitVec 32 :=
  let c4_i32_3379 : BitVec 32 := 4#32
  let c1_i32_3381 : BitVec 32 := 1#32
  let v6345 : BitVec 32 := Scalar.subi c4_i32_3379 c1_i32_3381
  let c0_i32_3382 : BitVec 32 := 0#32
  let v6346 : BitVec 32 := Scalar.maxsi v6345 c0_i32_3382
  let c128_i32_3383 : BitVec 32 := 128#32
  let v6347 : BitVec 32 := Scalar.muli v6346 c128_i32_3383
  v6347
def k0_mult158 : BitVec 32 :=
  let c4_i32_3379 : BitVec 32 := 4#32
  let c128_i32_3418 : BitVec 32 := 128#32
  let v6400 : BitVec 32 := Scalar.muli c4_i32_3379 c128_i32_3418
  v6400
def k0_mult159 : BitVec 32 :=
  let c5_i32_3428 : BitVec 32 := 5#32
  let c128_i32_3429 : BitVec 32 := 128#32
  let v6438 : BitVec 32 := Scalar.muli c5_i32_3428 c128_i32_3429
  v6438
def k0_mult160 : BitVec 32 :=
  let c5_i32_3428 : BitVec 32 := 5#32
  let c1_i32_3430 : BitVec 32 := 1#32
  let v6440 : BitVec 32 := Scalar.subi c5_i32_3428 c1_i32_3430
  let c0_i32_3431 : BitVec 32 := 0#32
  let v6441 : BitVec 32 := Scalar.maxsi v6440 c0_i32_3431
  let c128_i32_3432 : BitVec 32 := 128#32
  let v6442 : BitVec 32 := Scalar.muli v6441 c128_i32_3432
  v6442
def k0_mult161 : BitVec 32 :=
  let c5_i32_3428 : BitVec 32 := 5#32
  let c128_i32_3467 : BitVec 32 := 128#32
  let v6495 : BitVec 32 := Scalar.muli c5_i32_3428 c128_i32_3467
  v6495
def k0_mult162 : BitVec 32 :=
  let c6_i32_3477 : BitVec 32 := 6#32
  let c128_i32_3478 : BitVec 32 := 128#32
  let v6533 : BitVec 32 := Scalar.muli c6_i32_3477 c128_i32_3478
  v6533
def k0_mult163 : BitVec 32 :=
  let c6_i32_3477 : BitVec 32 := 6#32
  let c1_i32_3479 : BitVec 32 := 1#32
  let v6535 : BitVec 32 := Scalar.subi c6_i32_3477 c1_i32_3479
  let c0_i32_3480 : BitVec 32 := 0#32
  let v6536 : BitVec 32 := Scalar.maxsi v6535 c0_i32_3480
  let c128_i32_3481 : BitVec 32 := 128#32
  let v6537 : BitVec 32 := Scalar.muli v6536 c128_i32_3481
  v6537
def k0_mult164 : BitVec 32 :=
  let c6_i32_3477 : BitVec 32 := 6#32
  let c128_i32_3516 : BitVec 32 := 128#32
  let v6590 : BitVec 32 := Scalar.muli c6_i32_3477 c128_i32_3516
  v6590
def k0_mult165 : BitVec 32 :=
  let c7_i32_3526 : BitVec 32 := 7#32
  let c128_i32_3527 : BitVec 32 := 128#32
  let v6628 : BitVec 32 := Scalar.muli c7_i32_3526 c128_i32_3527
  v6628
def k0_mult166 : BitVec 32 :=
  let c7_i32_3526 : BitVec 32 := 7#32
  let c1_i32_3528 : BitVec 32 := 1#32
  let v6630 : BitVec 32 := Scalar.subi c7_i32_3526 c1_i32_3528
  let c0_i32_3529 : BitVec 32 := 0#32
  let v6631 : BitVec 32 := Scalar.maxsi v6630 c0_i32_3529
  let c128_i32_3530 : BitVec 32 := 128#32
  let v6632 : BitVec 32 := Scalar.muli v6631 c128_i32_3530
  v6632
def k0_mult167 : BitVec 32 :=
  let c7_i32_3526 : BitVec 32 := 7#32
  let c128_i32_3565 : BitVec 32 := 128#32
  let v6685 : BitVec 32 := Scalar.muli c7_i32_3526 c128_i32_3565
  v6685
def k0_mult168 : BitVec 32 :=
  let c8_i32_3575 : BitVec 32 := 8#32
  let c128_i32_3576 : BitVec 32 := 128#32
  let v6723 : BitVec 32 := Scalar.muli c8_i32_3575 c128_i32_3576
  v6723
def k0_mult169 : BitVec 32 :=
  let c8_i32_3575 : BitVec 32 := 8#32
  let c1_i32_3577 : BitVec 32 := 1#32
  let v6725 : BitVec 32 := Scalar.subi c8_i32_3575 c1_i32_3577
  let c0_i32_3578 : BitVec 32 := 0#32
  let v6726 : BitVec 32 := Scalar.maxsi v6725 c0_i32_3578
  let c128_i32_3579 : BitVec 32 := 128#32
  let v6727 : BitVec 32 := Scalar.muli v6726 c128_i32_3579
  v6727
def k0_mult170 : BitVec 32 :=
  let c8_i32_3575 : BitVec 32 := 8#32
  let c128_i32_3614 : BitVec 32 := 128#32
  let v6780 : BitVec 32 := Scalar.muli c8_i32_3575 c128_i32_3614
  v6780
def k0_mult171 : BitVec 32 :=
  let c9_i32_3624 : BitVec 32 := 9#32
  let c128_i32_3625 : BitVec 32 := 128#32
  let v6818 : BitVec 32 := Scalar.muli c9_i32_3624 c128_i32_3625
  v6818
def k0_mult172 : BitVec 32 :=
  let c9_i32_3624 : BitVec 32 := 9#32
  let c1_i32_3626 : BitVec 32 := 1#32
  let v6820 : BitVec 32 := Scalar.subi c9_i32_3624 c1_i32_3626
  let c0_i32_3627 : BitVec 32 := 0#32
  let v6821 : BitVec 32 := Scalar.maxsi v6820 c0_i32_3627
  let c128_i32_3628 : BitVec 32 := 128#32
  let v6822 : BitVec 32 := Scalar.muli v6821 c128_i32_3628
  v6822
def k0_mult173 : BitVec 32 :=
  let c9_i32_3624 : BitVec 32 := 9#32
  let c128_i32_3663 : BitVec 32 := 128#32
  let v6875 : BitVec 32 := Scalar.muli c9_i32_3624 c128_i32_3663
  v6875
def k0_mult174 : BitVec 32 :=
  let c10_i32_3673 : BitVec 32 := 10#32
  let c128_i32_3674 : BitVec 32 := 128#32
  let v6913 : BitVec 32 := Scalar.muli c10_i32_3673 c128_i32_3674
  v6913
def k0_mult175 : BitVec 32 :=
  let c10_i32_3673 : BitVec 32 := 10#32
  let c1_i32_3675 : BitVec 32 := 1#32
  let v6915 : BitVec 32 := Scalar.subi c10_i32_3673 c1_i32_3675
  let c0_i32_3676 : BitVec 32 := 0#32
  let v6916 : BitVec 32 := Scalar.maxsi v6915 c0_i32_3676
  let c128_i32_3677 : BitVec 32 := 128#32
  let v6917 : BitVec 32 := Scalar.muli v6916 c128_i32_3677
  v6917
def k0_mult176 : BitVec 32 :=
  let c10_i32_3673 : BitVec 32 := 10#32
  let c128_i32_3712 : BitVec 32 := 128#32
  let v6970 : BitVec 32 := Scalar.muli c10_i32_3673 c128_i32_3712
  v6970
def k0_mult177 : BitVec 32 :=
  let c11_i32_3722 : BitVec 32 := 11#32
  let c128_i32_3723 : BitVec 32 := 128#32
  let v7008 : BitVec 32 := Scalar.muli c11_i32_3722 c128_i32_3723
  v7008
def k0_mult178 : BitVec 32 :=
  let c11_i32_3722 : BitVec 32 := 11#32
  let c1_i32_3724 : BitVec 32 := 1#32
  let v7010 : BitVec 32 := Scalar.subi c11_i32_3722 c1_i32_3724
  let c0_i32_3725 : BitVec 32 := 0#32
  let v7011 : BitVec 32 := Scalar.maxsi v7010 c0_i32_3725
  let c128_i32_3726 : BitVec 32 := 128#32
  let v7012 : BitVec 32 := Scalar.muli v7011 c128_i32_3726
  v7012
def k0_mult179 : BitVec 32 :=
  let c11_i32_3722 : BitVec 32 := 11#32
  let c128_i32_3761 : BitVec 32 := 128#32
  let v7065 : BitVec 32 := Scalar.muli c11_i32_3722 c128_i32_3761
  v7065
def k0_mult180 : BitVec 32 :=
  let c12_i32_3771 : BitVec 32 := 12#32
  let c128_i32_3772 : BitVec 32 := 128#32
  let v7103 : BitVec 32 := Scalar.muli c12_i32_3771 c128_i32_3772
  v7103
def k0_mult181 : BitVec 32 :=
  let c12_i32_3771 : BitVec 32 := 12#32
  let c1_i32_3773 : BitVec 32 := 1#32
  let v7105 : BitVec 32 := Scalar.subi c12_i32_3771 c1_i32_3773
  let c0_i32_3774 : BitVec 32 := 0#32
  let v7106 : BitVec 32 := Scalar.maxsi v7105 c0_i32_3774
  let c128_i32_3775 : BitVec 32 := 128#32
  let v7107 : BitVec 32 := Scalar.muli v7106 c128_i32_3775
  v7107
def k0_mult182 : BitVec 32 :=
  let c12_i32_3771 : BitVec 32 := 12#32
  let c128_i32_3810 : BitVec 32 := 128#32
  let v7160 : BitVec 32 := Scalar.muli c12_i32_3771 c128_i32_3810
  v7160
def k0_mult183 : BitVec 32 :=
  let c13_i32_3820 : BitVec 32 := 13#32
  let c128_i32_3821 : BitVec 32 := 128#32
  let v7198 : BitVec 32 := Scalar.muli c13_i32_3820 c128_i32_3821
  v7198
def k0_mult184 : BitVec 32 :=
  let c13_i32_3820 : BitVec 32 := 13#32
  let c1_i32_3822 : BitVec 32 := 1#32
  let v7200 : BitVec 32 := Scalar.subi c13_i32_3820 c1_i32_3822
  let c0_i32_3823 : BitVec 32 := 0#32
  let v7201 : BitVec 32 := Scalar.maxsi v7200 c0_i32_3823
  let c128_i32_3824 : BitVec 32 := 128#32
  let v7202 : BitVec 32 := Scalar.muli v7201 c128_i32_3824
  v7202
def k0_mult185 : BitVec 32 :=
  let c13_i32_3820 : BitVec 32 := 13#32
  let c128_i32_3859 : BitVec 32 := 128#32
  let v7255 : BitVec 32 := Scalar.muli c13_i32_3820 c128_i32_3859
  v7255
def k0_mult186 : BitVec 32 :=
  let c14_i32_3869 : BitVec 32 := 14#32
  let c128_i32_3870 : BitVec 32 := 128#32
  let v7293 : BitVec 32 := Scalar.muli c14_i32_3869 c128_i32_3870
  v7293
def k0_mult187 : BitVec 32 :=
  let c14_i32_3869 : BitVec 32 := 14#32
  let c1_i32_3871 : BitVec 32 := 1#32
  let v7295 : BitVec 32 := Scalar.subi c14_i32_3869 c1_i32_3871
  let c0_i32_3872 : BitVec 32 := 0#32
  let v7296 : BitVec 32 := Scalar.maxsi v7295 c0_i32_3872
  let c128_i32_3873 : BitVec 32 := 128#32
  let v7297 : BitVec 32 := Scalar.muli v7296 c128_i32_3873
  v7297
def k0_mult188 : BitVec 32 :=
  let c14_i32_3869 : BitVec 32 := 14#32
  let c128_i32_3908 : BitVec 32 := 128#32
  let v7350 : BitVec 32 := Scalar.muli c14_i32_3869 c128_i32_3908
  v7350
def k0_mult189 : BitVec 32 :=
  let c15_i32_3918 : BitVec 32 := 15#32
  let c128_i32_3919 : BitVec 32 := 128#32
  let v7388 : BitVec 32 := Scalar.muli c15_i32_3918 c128_i32_3919
  v7388
def k0_mult190 : BitVec 32 :=
  let c15_i32_3918 : BitVec 32 := 15#32
  let c1_i32_3920 : BitVec 32 := 1#32
  let v7390 : BitVec 32 := Scalar.subi c15_i32_3918 c1_i32_3920
  let c0_i32_3921 : BitVec 32 := 0#32
  let v7391 : BitVec 32 := Scalar.maxsi v7390 c0_i32_3921
  let c128_i32_3922 : BitVec 32 := 128#32
  let v7392 : BitVec 32 := Scalar.muli v7391 c128_i32_3922
  v7392
def k0_mult191 : BitVec 32 :=
  let c15_i32_3918 : BitVec 32 := 15#32
  let c128_i32_3957 : BitVec 32 := 128#32
  let v7445 : BitVec 32 := Scalar.muli c15_i32_3918 c128_i32_3957
  v7445
def k0_mult192 : BitVec 32 :=
  let c16_i32_3967 : BitVec 32 := 16#32
  let c128_i32_3968 : BitVec 32 := 128#32
  let v7483 : BitVec 32 := Scalar.muli c16_i32_3967 c128_i32_3968
  v7483
def k0_mult193 : BitVec 32 :=
  let c16_i32_3967 : BitVec 32 := 16#32
  let c1_i32_3969 : BitVec 32 := 1#32
  let v7485 : BitVec 32 := Scalar.subi c16_i32_3967 c1_i32_3969
  let c0_i32_3970 : BitVec 32 := 0#32
  let v7486 : BitVec 32 := Scalar.maxsi v7485 c0_i32_3970
  let c128_i32_3971 : BitVec 32 := 128#32
  let v7487 : BitVec 32 := Scalar.muli v7486 c128_i32_3971
  v7487
def k0_mult194 : BitVec 32 :=
  let c16_i32_3967 : BitVec 32 := 16#32
  let c128_i32_4006 : BitVec 32 := 128#32
  let v7540 : BitVec 32 := Scalar.muli c16_i32_3967 c128_i32_4006
  v7540
def k0_mult195 : BitVec 32 :=
  let c17_i32_4016 : BitVec 32 := 17#32
  let c128_i32_4017 : BitVec 32 := 128#32
  let v7578 : BitVec 32 := Scalar.muli c17_i32_4016 c128_i32_4017
  v7578
def k0_mult196 : BitVec 32 :=
  let c17_i32_4016 : BitVec 32 := 17#32
  let c1_i32_4018 : BitVec 32 := 1#32
  let v7580 : BitVec 32 := Scalar.subi c17_i32_4016 c1_i32_4018
  let c0_i32_4019 : BitVec 32 := 0#32
  let v7581 : BitVec 32 := Scalar.maxsi v7580 c0_i32_4019
  let c128_i32_4020 : BitVec 32 := 128#32
  let v7582 : BitVec 32 := Scalar.muli v7581 c128_i32_4020
  v7582
def k0_mult197 : BitVec 32 :=
  let c17_i32_4016 : BitVec 32 := 17#32
  let c128_i32_4055 : BitVec 32 := 128#32
  let v7635 : BitVec 32 := Scalar.muli c17_i32_4016 c128_i32_4055
  v7635
def k0_mult198 : BitVec 32 :=
  let c18_i32_4065 : BitVec 32 := 18#32
  let c128_i32_4066 : BitVec 32 := 128#32
  let v7673 : BitVec 32 := Scalar.muli c18_i32_4065 c128_i32_4066
  v7673
def k0_mult199 : BitVec 32 :=
  let c18_i32_4065 : BitVec 32 := 18#32
  let c1_i32_4067 : BitVec 32 := 1#32
  let v7675 : BitVec 32 := Scalar.subi c18_i32_4065 c1_i32_4067
  let c0_i32_4068 : BitVec 32 := 0#32
  let v7676 : BitVec 32 := Scalar.maxsi v7675 c0_i32_4068
  let c128_i32_4069 : BitVec 32 := 128#32
  let v7677 : BitVec 32 := Scalar.muli v7676 c128_i32_4069
  v7677
def k0_mult200 : BitVec 32 :=
  let c18_i32_4065 : BitVec 32 := 18#32
  let c128_i32_4104 : BitVec 32 := 128#32
  let v7730 : BitVec 32 := Scalar.muli c18_i32_4065 c128_i32_4104
  v7730
def k0_mult201 : BitVec 32 :=
  let c19_i32_4114 : BitVec 32 := 19#32
  let c128_i32_4115 : BitVec 32 := 128#32
  let v7768 : BitVec 32 := Scalar.muli c19_i32_4114 c128_i32_4115
  v7768
def k0_mult202 : BitVec 32 :=
  let c19_i32_4114 : BitVec 32 := 19#32
  let c1_i32_4116 : BitVec 32 := 1#32
  let v7770 : BitVec 32 := Scalar.subi c19_i32_4114 c1_i32_4116
  let c0_i32_4117 : BitVec 32 := 0#32
  let v7771 : BitVec 32 := Scalar.maxsi v7770 c0_i32_4117
  let c128_i32_4118 : BitVec 32 := 128#32
  let v7772 : BitVec 32 := Scalar.muli v7771 c128_i32_4118
  v7772
def k0_mult203 : BitVec 32 :=
  let c19_i32_4114 : BitVec 32 := 19#32
  let c128_i32_4153 : BitVec 32 := 128#32
  let v7825 : BitVec 32 := Scalar.muli c19_i32_4114 c128_i32_4153
  v7825
def k0_mult204 : BitVec 32 :=
  let c20_i32_4163 : BitVec 32 := 20#32
  let c128_i32_4164 : BitVec 32 := 128#32
  let v7863 : BitVec 32 := Scalar.muli c20_i32_4163 c128_i32_4164
  v7863
def k0_mult205 : BitVec 32 :=
  let c20_i32_4163 : BitVec 32 := 20#32
  let c1_i32_4165 : BitVec 32 := 1#32
  let v7865 : BitVec 32 := Scalar.subi c20_i32_4163 c1_i32_4165
  let c0_i32_4166 : BitVec 32 := 0#32
  let v7866 : BitVec 32 := Scalar.maxsi v7865 c0_i32_4166
  let c128_i32_4167 : BitVec 32 := 128#32
  let v7867 : BitVec 32 := Scalar.muli v7866 c128_i32_4167
  v7867
def k0_mult206 : BitVec 32 :=
  let c20_i32_4163 : BitVec 32 := 20#32
  let c128_i32_4202 : BitVec 32 := 128#32
  let v7920 : BitVec 32 := Scalar.muli c20_i32_4163 c128_i32_4202
  v7920
def k0_mult207 : BitVec 32 :=
  let c21_i32_4212 : BitVec 32 := 21#32
  let c128_i32_4213 : BitVec 32 := 128#32
  let v7958 : BitVec 32 := Scalar.muli c21_i32_4212 c128_i32_4213
  v7958
def k0_mult208 : BitVec 32 :=
  let c21_i32_4212 : BitVec 32 := 21#32
  let c1_i32_4214 : BitVec 32 := 1#32
  let v7960 : BitVec 32 := Scalar.subi c21_i32_4212 c1_i32_4214
  let c0_i32_4215 : BitVec 32 := 0#32
  let v7961 : BitVec 32 := Scalar.maxsi v7960 c0_i32_4215
  let c128_i32_4216 : BitVec 32 := 128#32
  let v7962 : BitVec 32 := Scalar.muli v7961 c128_i32_4216
  v7962
def k0_mult209 : BitVec 32 :=
  let c21_i32_4212 : BitVec 32 := 21#32
  let c128_i32_4251 : BitVec 32 := 128#32
  let v8015 : BitVec 32 := Scalar.muli c21_i32_4212 c128_i32_4251
  v8015
def k0_mult210 : BitVec 32 :=
  let c22_i32_4261 : BitVec 32 := 22#32
  let c128_i32_4262 : BitVec 32 := 128#32
  let v8053 : BitVec 32 := Scalar.muli c22_i32_4261 c128_i32_4262
  v8053
def k0_mult211 : BitVec 32 :=
  let c22_i32_4261 : BitVec 32 := 22#32
  let c1_i32_4263 : BitVec 32 := 1#32
  let v8055 : BitVec 32 := Scalar.subi c22_i32_4261 c1_i32_4263
  let c0_i32_4264 : BitVec 32 := 0#32
  let v8056 : BitVec 32 := Scalar.maxsi v8055 c0_i32_4264
  let c128_i32_4265 : BitVec 32 := 128#32
  let v8057 : BitVec 32 := Scalar.muli v8056 c128_i32_4265
  v8057
def k0_mult212 : BitVec 32 :=
  let c22_i32_4261 : BitVec 32 := 22#32
  let c128_i32_4300 : BitVec 32 := 128#32
  let v8110 : BitVec 32 := Scalar.muli c22_i32_4261 c128_i32_4300
  v8110
def k0_mult213 : BitVec 32 :=
  let c23_i32_4310 : BitVec 32 := 23#32
  let c128_i32_4311 : BitVec 32 := 128#32
  let v8148 : BitVec 32 := Scalar.muli c23_i32_4310 c128_i32_4311
  v8148
def k0_mult214 : BitVec 32 :=
  let c23_i32_4310 : BitVec 32 := 23#32
  let c1_i32_4312 : BitVec 32 := 1#32
  let v8150 : BitVec 32 := Scalar.subi c23_i32_4310 c1_i32_4312
  let c0_i32_4313 : BitVec 32 := 0#32
  let v8151 : BitVec 32 := Scalar.maxsi v8150 c0_i32_4313
  let c128_i32_4314 : BitVec 32 := 128#32
  let v8152 : BitVec 32 := Scalar.muli v8151 c128_i32_4314
  v8152
def k0_mult215 : BitVec 32 :=
  let c23_i32_4310 : BitVec 32 := 23#32
  let c128_i32_4349 : BitVec 32 := 128#32
  let v8205 : BitVec 32 := Scalar.muli c23_i32_4310 c128_i32_4349
  v8205
def k0_mult216 : BitVec 32 :=
  let c24_i32_4359 : BitVec 32 := 24#32
  let c128_i32_4360 : BitVec 32 := 128#32
  let v8243 : BitVec 32 := Scalar.muli c24_i32_4359 c128_i32_4360
  v8243
def k0_mult217 : BitVec 32 :=
  let c24_i32_4359 : BitVec 32 := 24#32
  let c1_i32_4361 : BitVec 32 := 1#32
  let v8245 : BitVec 32 := Scalar.subi c24_i32_4359 c1_i32_4361
  let c0_i32_4362 : BitVec 32 := 0#32
  let v8246 : BitVec 32 := Scalar.maxsi v8245 c0_i32_4362
  let c128_i32_4363 : BitVec 32 := 128#32
  let v8247 : BitVec 32 := Scalar.muli v8246 c128_i32_4363
  v8247
def k0_mult218 : BitVec 32 :=
  let c24_i32_4359 : BitVec 32 := 24#32
  let c128_i32_4398 : BitVec 32 := 128#32
  let v8300 : BitVec 32 := Scalar.muli c24_i32_4359 c128_i32_4398
  v8300
def k0_mult219 : BitVec 32 :=
  let c25_i32_4408 : BitVec 32 := 25#32
  let c128_i32_4409 : BitVec 32 := 128#32
  let v8338 : BitVec 32 := Scalar.muli c25_i32_4408 c128_i32_4409
  v8338
def k0_mult220 : BitVec 32 :=
  let c25_i32_4408 : BitVec 32 := 25#32
  let c1_i32_4410 : BitVec 32 := 1#32
  let v8340 : BitVec 32 := Scalar.subi c25_i32_4408 c1_i32_4410
  let c0_i32_4411 : BitVec 32 := 0#32
  let v8341 : BitVec 32 := Scalar.maxsi v8340 c0_i32_4411
  let c128_i32_4412 : BitVec 32 := 128#32
  let v8342 : BitVec 32 := Scalar.muli v8341 c128_i32_4412
  v8342
def k0_mult221 : BitVec 32 :=
  let c25_i32_4408 : BitVec 32 := 25#32
  let c128_i32_4447 : BitVec 32 := 128#32
  let v8395 : BitVec 32 := Scalar.muli c25_i32_4408 c128_i32_4447
  v8395
def k0_mult222 : BitVec 32 :=
  let c26_i32_4457 : BitVec 32 := 26#32
  let c128_i32_4458 : BitVec 32 := 128#32
  let v8433 : BitVec 32 := Scalar.muli c26_i32_4457 c128_i32_4458
  v8433
def k0_mult223 : BitVec 32 :=
  let c26_i32_4457 : BitVec 32 := 26#32
  let c1_i32_4459 : BitVec 32 := 1#32
  let v8435 : BitVec 32 := Scalar.subi c26_i32_4457 c1_i32_4459
  let c0_i32_4460 : BitVec 32 := 0#32
  let v8436 : BitVec 32 := Scalar.maxsi v8435 c0_i32_4460
  let c128_i32_4461 : BitVec 32 := 128#32
  let v8437 : BitVec 32 := Scalar.muli v8436 c128_i32_4461
  v8437
def k0_mult224 : BitVec 32 :=
  let c26_i32_4457 : BitVec 32 := 26#32
  let c128_i32_4496 : BitVec 32 := 128#32
  let v8490 : BitVec 32 := Scalar.muli c26_i32_4457 c128_i32_4496
  v8490
def k0_mult225 : BitVec 32 :=
  let c27_i32_4506 : BitVec 32 := 27#32
  let c128_i32_4507 : BitVec 32 := 128#32
  let v8528 : BitVec 32 := Scalar.muli c27_i32_4506 c128_i32_4507
  v8528
def k0_mult226 : BitVec 32 :=
  let c27_i32_4506 : BitVec 32 := 27#32
  let c1_i32_4508 : BitVec 32 := 1#32
  let v8530 : BitVec 32 := Scalar.subi c27_i32_4506 c1_i32_4508
  let c0_i32_4509 : BitVec 32 := 0#32
  let v8531 : BitVec 32 := Scalar.maxsi v8530 c0_i32_4509
  let c128_i32_4510 : BitVec 32 := 128#32
  let v8532 : BitVec 32 := Scalar.muli v8531 c128_i32_4510
  v8532
def k0_mult227 : BitVec 32 :=
  let c27_i32_4506 : BitVec 32 := 27#32
  let c128_i32_4545 : BitVec 32 := 128#32
  let v8585 : BitVec 32 := Scalar.muli c27_i32_4506 c128_i32_4545
  v8585
def k0_mult228 : BitVec 32 :=
  let c28_i32_4555 : BitVec 32 := 28#32
  let c128_i32_4556 : BitVec 32 := 128#32
  let v8623 : BitVec 32 := Scalar.muli c28_i32_4555 c128_i32_4556
  v8623
def k0_mult229 : BitVec 32 :=
  let c28_i32_4555 : BitVec 32 := 28#32
  let c1_i32_4557 : BitVec 32 := 1#32
  let v8625 : BitVec 32 := Scalar.subi c28_i32_4555 c1_i32_4557
  let c0_i32_4558 : BitVec 32 := 0#32
  let v8626 : BitVec 32 := Scalar.maxsi v8625 c0_i32_4558
  let c128_i32_4559 : BitVec 32 := 128#32
  let v8627 : BitVec 32 := Scalar.muli v8626 c128_i32_4559
  v8627
def k0_mult230 : BitVec 32 :=
  let c28_i32_4555 : BitVec 32 := 28#32
  let c128_i32_4594 : BitVec 32 := 128#32
  let v8680 : BitVec 32 := Scalar.muli c28_i32_4555 c128_i32_4594
  v8680
def k0_mult231 : BitVec 32 :=
  let c29_i32_4604 : BitVec 32 := 29#32
  let c128_i32_4605 : BitVec 32 := 128#32
  let v8718 : BitVec 32 := Scalar.muli c29_i32_4604 c128_i32_4605
  v8718
def k0_mult232 : BitVec 32 :=
  let c29_i32_4604 : BitVec 32 := 29#32
  let c1_i32_4606 : BitVec 32 := 1#32
  let v8720 : BitVec 32 := Scalar.subi c29_i32_4604 c1_i32_4606
  let c0_i32_4607 : BitVec 32 := 0#32
  let v8721 : BitVec 32 := Scalar.maxsi v8720 c0_i32_4607
  let c128_i32_4608 : BitVec 32 := 128#32
  let v8722 : BitVec 32 := Scalar.muli v8721 c128_i32_4608
  v8722
def k0_mult233 : BitVec 32 :=
  let c29_i32_4604 : BitVec 32 := 29#32
  let c128_i32_4643 : BitVec 32 := 128#32
  let v8775 : BitVec 32 := Scalar.muli c29_i32_4604 c128_i32_4643
  v8775
def k0_mult234 : BitVec 32 :=
  let c30_i32_4653 : BitVec 32 := 30#32
  let c128_i32_4654 : BitVec 32 := 128#32
  let v8813 : BitVec 32 := Scalar.muli c30_i32_4653 c128_i32_4654
  v8813
def k0_mult235 : BitVec 32 :=
  let c30_i32_4653 : BitVec 32 := 30#32
  let c1_i32_4655 : BitVec 32 := 1#32
  let v8815 : BitVec 32 := Scalar.subi c30_i32_4653 c1_i32_4655
  let c0_i32_4656 : BitVec 32 := 0#32
  let v8816 : BitVec 32 := Scalar.maxsi v8815 c0_i32_4656
  let c128_i32_4657 : BitVec 32 := 128#32
  let v8817 : BitVec 32 := Scalar.muli v8816 c128_i32_4657
  v8817
def k0_mult236 : BitVec 32 :=
  let c30_i32_4653 : BitVec 32 := 30#32
  let c128_i32_4692 : BitVec 32 := 128#32
  let v8870 : BitVec 32 := Scalar.muli c30_i32_4653 c128_i32_4692
  v8870
def k0_mult237 : BitVec 32 :=
  let c31_i32_4702 : BitVec 32 := 31#32
  let c128_i32_4703 : BitVec 32 := 128#32
  let v8908 : BitVec 32 := Scalar.muli c31_i32_4702 c128_i32_4703
  v8908
def k0_mult238 : BitVec 32 :=
  let c31_i32_4702 : BitVec 32 := 31#32
  let c1_i32_4704 : BitVec 32 := 1#32
  let v8910 : BitVec 32 := Scalar.subi c31_i32_4702 c1_i32_4704
  let c0_i32_4705 : BitVec 32 := 0#32
  let v8911 : BitVec 32 := Scalar.maxsi v8910 c0_i32_4705
  let c128_i32_4706 : BitVec 32 := 128#32
  let v8912 : BitVec 32 := Scalar.muli v8911 c128_i32_4706
  v8912
def k0_mult239 : BitVec 32 :=
  let c31_i32_4702 : BitVec 32 := 31#32
  let c128_i32_4741 : BitVec 32 := 128#32
  let v8965 : BitVec 32 := Scalar.muli c31_i32_4702 c128_i32_4741
  v8965
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2.lean ====
abbrev S4x4096x1024 : Shape := ⟨3, ![4, 4096, 1024]⟩
abbrev S128x4x1024 : Shape := ⟨3, ![128, 4, 1024]⟩
abbrev S1x1024 : Shape := ⟨2, ![1, 1024]⟩
abbrev S1x1024x9472 : Shape := ⟨3, ![1, 1024, 9472]⟩
abbrev S1024x9472 : Shape := ⟨2, ![1024, 9472]⟩
abbrev S1024 : Shape := ⟨1, ![1024]⟩
abbrev S512x1024 : Shape := ⟨2, ![512, 1024]⟩
abbrev S4x18x4096x128 : Shape := ⟨4, ![4, 18, 4096, 128]⟩
abbrev S4x2048x768 : Shape := ⟨3, ![4, 2048, 768]⟩
abbrev S4x4096x768 : Shape := ⟨3, ![4, 4096, 768]⟩
abbrev S4x4096x512 : Shape := ⟨3, ![4, 4096, 512]⟩
abbrev S4x4096x3072 : Shape := ⟨3, ![4, 4096, 3072]⟩
abbrev S4x32x768 : Shape := ⟨3, ![4, 32, 768]⟩
abbrev S512x768 : Shape := ⟨2, ![512, 768]⟩
abbrev S512x512 : Shape := ⟨2, ![512, 512]⟩
abbrev S512x3072 : Shape := ⟨2, ![512, 3072]⟩
abbrev S1x256x1024 : Shape := ⟨3, ![1, 256, 1024]⟩
abbrev S256x1024 : Shape := ⟨2, ![256, 1024]⟩
abbrev S1x18x256x128 : Shape := ⟨4, ![1, 18, 256, 128]⟩
abbrev S1x256x768 : Shape := ⟨3, ![1, 256, 768]⟩
abbrev S1x256x512 : Shape := ⟨3, ![1, 256, 512]⟩
abbrev S1x256x3072 : Shape := ⟨3, ![1, 256, 3072]⟩
abbrev S1x32x768 : Shape := ⟨3, ![1, 32, 768]⟩
abbrev S256x768 : Shape := ⟨2, ![256, 768]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S1024x768 : Shape := ⟨2, ![1024, 768]⟩
abbrev S256x128 : Shape := ⟨2, ![256, 128]⟩
abbrev S1x1x256x128 : Shape := ⟨4, ![1, 1, 256, 128]⟩
abbrev S32x768 : Shape := ⟨2, ![32, 768]⟩
abbrev S1024x512 : Shape := ⟨2, ![1024, 512]⟩
abbrev S1024x1024 : Shape := ⟨2, ![1024, 1024]⟩

abbrev nBuf : Space → Nat
  | .hbm => 28
  | .vmem => 44
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S1x1024, .f32⟩
  | .hbm, ⟨3, _⟩ => ⟨S1x1024x9472, .f32⟩
  | .hbm, ⟨4, _⟩ => ⟨S1024x9472, .f32⟩
  | .hbm, ⟨5, _⟩ => ⟨S1024x9472, .bf16⟩
  | .hbm, ⟨6, _⟩ => ⟨S1024, .f32⟩
  | .hbm, ⟨7, _⟩ => ⟨S1x1024, .f32⟩
  | .hbm, ⟨8, _⟩ => ⟨S512x1024, .f32⟩
  | .hbm, ⟨9, _⟩ => ⟨S4x18x4096x128, .bf16⟩
  | .hbm, ⟨10, _⟩ => ⟨S4x2048x768, .f32⟩
  | .hbm, ⟨11, _⟩ => ⟨S4x2048x768, .f32⟩
  | .hbm, ⟨12, _⟩ => ⟨S4x4096x768, .bf16⟩
  | .hbm, ⟨13, _⟩ => ⟨S4x4096x768, .bf16⟩
  | .hbm, ⟨14, _⟩ => ⟨S4x4096x768, .bf16⟩
  | .hbm, ⟨15, _⟩ => ⟨S4x4096x512, .bf16⟩
  | .hbm, ⟨16, _⟩ => ⟨S4x4096x512, .bf16⟩
  | .hbm, ⟨17, _⟩ => ⟨S4x4096x3072, .bf16⟩
  | .hbm, ⟨18, _⟩ => ⟨S4x32x768, .f32⟩
  | .hbm, ⟨19, _⟩ => ⟨S512x768, .f32⟩
  | .hbm, ⟨20, _⟩ => ⟨S512x768, .f32⟩
  | .hbm, ⟨21, _⟩ => ⟨S512x768, .f32⟩
  | .hbm, ⟨22, _⟩ => ⟨S512x768, .bf16⟩
  | .hbm, ⟨23, _⟩ => ⟨S512x768, .f32⟩
  | .hbm, ⟨24, _⟩ => ⟨S512x768, .bf16⟩
  | .hbm, ⟨25, _⟩ => ⟨S512x512, .f32⟩
  | .hbm, ⟨26, _⟩ => ⟨S512x512, .bf16⟩
  | .hbm, ⟨27, _⟩ => ⟨S512x3072, .bf16⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x9472, .bf16⟩
  | .local _ .vmem, ⟨6, _⟩ => ⟨S1x18x256x128, .bf16⟩
  | .local _ .vmem, ⟨7, _⟩ => ⟨S1x18x256x128, .bf16⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .bf16⟩
  | .local _ .vmem, ⟨13, _⟩ => ⟨S1x256x768, .bf16⟩
  | .local _ .vmem, ⟨14, _⟩ => ⟨S1x256x768, .bf16⟩
  | .local _ .vmem, ⟨15, _⟩ => ⟨S1x256x768, .bf16⟩
  | .local _ .vmem, ⟨16, _⟩ => ⟨S1x256x768, .bf16⟩
  | .local _ .vmem, ⟨17, _⟩ => ⟨S1x256x768, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x3072, .bf16⟩
  | .local _ .vmem, ⟨23, _⟩ => ⟨S1x256x3072, .bf16⟩
  | .local _ .vmem, ⟨24, _⟩ => ⟨S1x32x768, .f32⟩
  | .local _ .vmem, ⟨25, _⟩ => ⟨S1x32x768, .f32⟩
  | .local _ .vmem, ⟨26, _⟩ => ⟨S256x768, .f32⟩
  | .local _ .vmem, ⟨27, _⟩ => ⟨S256x768, .f32⟩
  | .local _ .vmem, ⟨28, _⟩ => ⟨S256x768, .f32⟩
  | .local _ .vmem, ⟨29, _⟩ => ⟨S256x768, .f32⟩
  | .local _ .vmem, ⟨30, _⟩ => ⟨S256x768, .f32⟩
  | .local _ .vmem, ⟨31, _⟩ => ⟨S256x768, .f32⟩
  | .local _ .vmem, ⟨32, _⟩ => ⟨S256x768, .bf16⟩
  | .local _ .vmem, ⟨33, _⟩ => ⟨S256x768, .bf16⟩
  | .local _ .vmem, ⟨34, _⟩ => ⟨S256x768, .f32⟩
  | .local _ .vmem, ⟨35, _⟩ => ⟨S256x768, .f32⟩
  | .local _ .vmem, ⟨36, _⟩ => ⟨S256x768, .bf16⟩
  | .local _ .vmem, ⟨37, _⟩ => ⟨S256x768, .bf16⟩
  | .local _ .vmem, ⟨38, _⟩ => ⟨S256x512, .f32⟩
  | .local _ .vmem, ⟨39, _⟩ => ⟨S256x512, .f32⟩
  | .local _ .vmem, ⟨40, _⟩ => ⟨S256x512, .bf16⟩
  | .local _ .vmem, ⟨41, _⟩ => ⟨S256x512, .bf16⟩
  | .local _ .vmem, ⟨42, _⟩ => ⟨S256x3072, .bf16⟩
  | .local _ .vmem, ⟨43, _⟩ => ⟨S256x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v5_6 : Ref sig .tc := ⟨.hbm, 15, rfl⟩
abbrev main_v5_7 : Ref sig .tc := ⟨.hbm, 16, rfl⟩
abbrev main_v5_8 : Ref sig .tc := ⟨.hbm, 17, rfl⟩
abbrev main_v5_9 : Ref sig .tc := ⟨.hbm, 18, rfl⟩
abbrev main_v5_10 : Ref sig .tc := ⟨.hbm, 19, rfl⟩
abbrev main_v5_11 : Ref sig .tc := ⟨.hbm, 20, rfl⟩
abbrev main_v5_12 : Ref sig .tc := ⟨.hbm, 21, rfl⟩
abbrev main_v5_13 : Ref sig .tc := ⟨.hbm, 22, rfl⟩
abbrev main_v5_14 : Ref sig .tc := ⟨.hbm, 23, rfl⟩
abbrev main_v5_15 : Ref sig .tc := ⟨.hbm, 24, rfl⟩
abbrev main_v5_16 : Ref sig .tc := ⟨.hbm, 25, rfl⟩
abbrev main_v5_17 : Ref sig .tc := ⟨.hbm, 26, rfl⟩
abbrev main_v5_18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43

abbrev nD : Nat := 1
abbrev τ : Topo := Topo.v7x

variable {F : FTy → Type} [FloatOps F]

abbrev grid0 : Pipeline.Grid := ⟨1, ![66], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c64_i32_2 : BitVec 32 := 64#32
  let v6 : BitVec 1 := Scalar.cmpi .sge arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.subi v28 c8_i32
  let c0_i32_11 : BitVec 32 := 0#32
  let v30 : BitVec 32 := Scalar.maxsi v29 c0_i32_11
  let c0_i32_12 : BitVec 32 := 0#32
  let c0_i32_13 : BitVec 32 := 0#32
  ![v17.toNat, v30.toNat, c0_i32_12.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.subi v28 c8_i32
  let c0_i32_11 : BitVec 32 := 0#32
  let v30 : BitVec 32 := Scalar.maxsi v29 c0_i32_11
  let c0_i32_12 : BitVec 32 := 0#32
  let c0_i32_13 : BitVec 32 := 0#32
  ![v17.toNat, v30.toNat, c0_i32_12.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_8 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_9 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_11 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_12 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_14 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x9472 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x18x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x768 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x3072 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Kernel2Ideal.lean ====
variable {F : FTy → Type} [FloatOps F] [Named F]
def κ : String → Option EReal := fun
  | "scale_a" => some (((1 / 8) * (Real.log 2)⁻¹ : ℝ) : EReal)
  | "scale_c" => some (((Real.sqrt 128)⁻¹ * (Real.log 2)⁻¹ : ℝ) : EReal)
  | _ => none
-- ==== Reference2Ideal.lean ====
abbrev S4x4096x1024 : Shape := ⟨3, ![4, 4096, 1024]⟩
abbrev S128x4x1024 : Shape := ⟨3, ![128, 4, 1024]⟩
abbrev S1x1024 : Shape := ⟨2, ![1, 1024]⟩
abbrev S1x1024x9472 : Shape := ⟨3, ![1, 1024, 9472]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x9472 : Shape := ⟨2, ![1024, 9472]⟩
abbrev S4x4096x9472 : Shape := ⟨3, ![4, 4096, 9472]⟩
abbrev S4x4096x768 : Shape := ⟨3, ![4, 4096, 768]⟩
abbrev S4x4096x1536 : Shape := ⟨3, ![4, 4096, 1536]⟩
abbrev S4x4096x512 : Shape := ⟨3, ![4, 4096, 512]⟩
abbrev S4x4096x3072 : Shape := ⟨3, ![4, 4096, 3072]⟩
abbrev S128x4 : Shape := ⟨2, ![128, 4]⟩
abbrev S128x4x1 : Shape := ⟨3, ![128, 4, 1]⟩
abbrev S128x4x9472 : Shape := ⟨3, ![128, 4, 9472]⟩
abbrev S128x4x768 : Shape := ⟨3, ![128, 4, 768]⟩
abbrev S128x4x1536 : Shape := ⟨3, ![128, 4, 1536]⟩
abbrev S128x4x512 : Shape := ⟨3, ![128, 4, 512]⟩
abbrev S128x4x3072 : Shape := ⟨3, ![128, 4, 3072]⟩
abbrev S4x4096x6x128 : Shape := ⟨4, ![4, 4096, 6, 128]⟩
abbrev S4x6x4096x128 : Shape := ⟨4, ![4, 6, 4096, 128]⟩
abbrev S4x18x4096x128 : Shape := ⟨4, ![4, 18, 4096, 128]⟩
abbrev S4x2048x768 : Shape := ⟨3, ![4, 2048, 768]⟩
abbrev S4x32x768 : Shape := ⟨3, ![4, 32, 768]⟩
abbrev S512x768 : Shape := ⟨2, ![512, 768]⟩
abbrev S512x512 : Shape := ⟨2, ![512, 512]⟩
abbrev S512x3072 : Shape := ⟨2, ![512, 3072]⟩

abbrev nBuf : Space → Nat
  | .hbm => 218
  | .vmem => 0
  | .smem => 0
  | _ => 0

abbrev hbmTy0_0 (i : Nat) : BufTy := match i % 128 with
  | 0 => ⟨S4x4096x1024, .f32⟩
  | 1 => ⟨S128x4x1024, .f32⟩
  | 2 => ⟨S1x1024, .f32⟩
  | 3 => ⟨S1x1024x9472, .f32⟩
  | 4 => ⟨S1024, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S1024x9472, .f32⟩
  | 22 => ⟨S4x4096x9472, .f32⟩
  | 23 => ⟨S4x4096x768, .f32⟩
  | 24 => ⟨S4x4096x768, .f32⟩
  | 25 => ⟨S4x4096x768, .f32⟩
  | 26 => ⟨S4x4096x768, .f32⟩
  | 27 => ⟨S4x4096x1536, .f32⟩
  | 28 => ⟨S4x4096x768, .f32⟩
  | 29 => ⟨S4x4096x512, .f32⟩
  | 30 => ⟨S4x4096x512, .f32⟩
  | 31 => ⟨S4x4096x3072, .f32⟩
  | 32 => ⟨S4x4096x768, .f32⟩
  | 33 => ⟨S4x4096x768, .f32⟩
  | 34 => ⟨S4x4096x768, .f32⟩
  | 35 => ⟨S4x4096x768, .f32⟩
  | 36 => ⟨S_, .f32⟩
  | 37 => ⟨S4x4096x768, .f32⟩
  | 38 => ⟨S4x4096x768, .f32⟩
  | 39 => ⟨S_, .f32⟩
  | 40 => ⟨S4x4096x768, .f32⟩
  | 41 => ⟨S4x4096x768, .f32⟩
  | 42 => ⟨S4x4096x768, .f32⟩
  | 43 => ⟨S_, .f32⟩
  | 44 => ⟨S4x4096x768, .f32⟩
  | 45 => ⟨S4x4096x768, .f32⟩
  | 46 => ⟨S_, .f32⟩
  | 47 => ⟨S_, .f32⟩
  | 48 => ⟨S_, .f32⟩
  | 49 => ⟨S4x4096x768, .f32⟩
  | 50 => ⟨S4x4096x768, .f32⟩
  | 51 => ⟨S4x4096x768, .f32⟩
  | 52 => ⟨S4x4096x768, .f32⟩
  | 53 => ⟨S_, .f32⟩
  | 54 => ⟨S4x4096x768, .f32⟩
  | 55 => ⟨S4x4096x768, .f32⟩
  | 56 => ⟨S_, .f32⟩
  | 57 => ⟨S4x4096x768, .f32⟩
  | 58 => ⟨S4x4096x768, .f32⟩
  | 59 => ⟨S4x4096x768, .f32⟩
  | 60 => ⟨S4x4096x768, .f32⟩
  | 61 => ⟨S4x4096x768, .f32⟩
  | 62 => ⟨S_, .f32⟩
  | 63 => ⟨S4x4096x768, .f32⟩
  | 64 => ⟨S4x4096x768, .f32⟩
  | 65 => ⟨S_, .f32⟩
  | 66 => ⟨S4x4096x768, .f32⟩
  | 67 => ⟨S4x4096x768, .f32⟩
  | 68 => ⟨S4x4096x768, .f32⟩
  | 69 => ⟨S_, .f32⟩
  | 70 => ⟨S_, .f32⟩
  | 71 => ⟨S_, .f32⟩
  | 72 => ⟨S4x4096x512, .f32⟩
  | 73 => ⟨S4x4096x512, .f32⟩
  | 74 => ⟨S_, .f32⟩
  | 75 => ⟨S_, .f32⟩
  | 76 => ⟨S_, .f32⟩
  | 77 => ⟨S4x4096x512, .f32⟩
  | 78 => ⟨S4x4096x512, .f32⟩
  | 79 => ⟨S4x4096x512, .f32⟩
  | 80 => ⟨S4x4096x512, .f32⟩
  | 81 => ⟨S_, .f32⟩
  | 82 => ⟨S4x4096x512, .f32⟩
  | 83 => ⟨S4x4096x512, .f32⟩
  | 84 => ⟨S_, .f32⟩
  | 85 => ⟨S4x4096x512, .f32⟩
  | 86 => ⟨S4x4096x512, .f32⟩
  | 87 => ⟨S4x4096x512, .f32⟩
  | 88 => ⟨S4x4096x3072, .f32⟩
  | 89 => ⟨S4x4096x3072, .f32⟩
  | 90 => ⟨S_, .f32⟩
  | 91 => ⟨S4x4096x3072, .f32⟩
  | 92 => ⟨S4x4096x3072, .f32⟩
  | 93 => ⟨S_, .f32⟩
  | 94 => ⟨S4x4096x3072, .f32⟩
  | 95 => ⟨S4x4096x3072, .f32⟩
  | 96 => ⟨S1024, .f32⟩
  | 97 => ⟨S128x4x1024, .f32⟩
  | 98 => ⟨S_, .f32⟩
  | 99 => ⟨S128x4, .f32⟩
  | 100 => ⟨S128x4x1, .f32⟩
  | 101 => ⟨S_, .f32⟩
  | 102 => ⟨S128x4x1, .f32⟩
  | 103 => ⟨S128x4x1, .f32⟩
  | 104 => ⟨S_, .f32⟩
  | 105 => ⟨S128x4x1, .f32⟩
  | 106 => ⟨S128x4x1, .f32⟩
  | 107 => ⟨S128x4x1, .f32⟩
  | 108 => ⟨S128x4x1024, .f32⟩
  | 109 => ⟨S128x4x1024, .f32⟩
  | 110 => ⟨S1x1x1024, .f32⟩
  | 111 => ⟨S128x4x1024, .f32⟩
  | 112 => ⟨S128x4x1024, .f32⟩
  | 113 => ⟨S1024x9472, .f32⟩
  | 114 => ⟨S128x4x9472, .f32⟩
  | 115 => ⟨S128x4x768, .f32⟩
  | 116 => ⟨S128x4x768, .f32⟩
  | 117 => ⟨S128x4x768, .f32⟩
  | 118 => ⟨S128x4x768, .f32⟩
  | 119 => ⟨S128x4x1536, .f32⟩
  | 120 => ⟨S128x4x768, .f32⟩
  | 121 => ⟨S128x4x512, .f32⟩
  | 122 => ⟨S128x4x512, .f32⟩
  | 123 => ⟨S128x4x3072, .f32⟩
  | 124 => ⟨S128x4x768, .f32⟩
  | 125 => ⟨S128x4x768, .f32⟩
  | 126 => ⟨S128x4x768, .f32⟩
  | 127 => ⟨S128x4x768, .f32⟩
  | _ => ⟨S4x4096x1024, .f32⟩

abbrev hbmTy0_1 (i : Nat) : BufTy := match i % 128 with
  | 0 => ⟨S_, .f32⟩
  | 1 => ⟨S128x4x768, .f32⟩
  | 2 => ⟨S128x4x768, .f32⟩
  | 3 => ⟨S_, .f32⟩
  | 4 => ⟨S128x4x768, .f32⟩
  | 5 => ⟨S128x4x768, .f32⟩
  | 6 => ⟨S128x4x768, .f32⟩
  | 7 => ⟨S_, .f32⟩
  | 8 => ⟨S128x4x768, .f32⟩
  | 9 => ⟨S128x4x768, .f32⟩
  | 10 => ⟨S_, .f32⟩
  | 11 => ⟨S_, .f32⟩
  | 12 => ⟨S_, .f32⟩
  | 13 => ⟨S128x4x768, .f32⟩
  | 14 => ⟨S128x4x768, .f32⟩
  | 15 => ⟨S128x4x768, .f32⟩
  | 16 => ⟨S128x4x768, .f32⟩
  | 17 => ⟨S_, .f32⟩
  | 18 => ⟨S128x4x768, .f32⟩
  | 19 => ⟨S128x4x768, .f32⟩
  | 20 => ⟨S_, .f32⟩
  | 21 => ⟨S128x4x768, .f32⟩
  | 22 => ⟨S128x4x768, .f32⟩
  | 23 => ⟨S128x4x768, .f32⟩
  | 24 => ⟨S128x4x768, .f32⟩
  | 25 => ⟨S128x4x768, .f32⟩
  | 26 => ⟨S_, .f32⟩
  | 27 => ⟨S128x4x768, .f32⟩
  | 28 => ⟨S128x4x768, .f32⟩
  | 29 => ⟨S_, .f32⟩
  | 30 => ⟨S128x4x768, .f32⟩
  | 31 => ⟨S128x4x768, .f32⟩
  | 32 => ⟨S128x4x768, .f32⟩
  | 33 => ⟨S_, .f32⟩
  | 34 => ⟨S_, .f32⟩
  | 35 => ⟨S_, .f32⟩
  | 36 => ⟨S128x4x512, .f32⟩
  | 37 => ⟨S128x4x512, .f32⟩
  | 38 => ⟨S_, .f32⟩
  | 39 => ⟨S_, .f32⟩
  | 40 => ⟨S_, .f32⟩
  | 41 => ⟨S128x4x512, .f32⟩
  | 42 => ⟨S128x4x512, .f32⟩
  | 43 => ⟨S128x4x512, .f32⟩
  | 44 => ⟨S128x4x512, .f32⟩
  | 45 => ⟨S_, .f32⟩
  | 46 => ⟨S128x4x512, .f32⟩
  | 47 => ⟨S128x4x512, .f32⟩
  | 48 => ⟨S_, .f32⟩
  | 49 => ⟨S128x4x512, .f32⟩
  | 50 => ⟨S128x4x512, .f32⟩
  | 51 => ⟨S128x4x512, .f32⟩
  | 52 => ⟨S128x4x3072, .f32⟩
  | 53 => ⟨S128x4x3072, .f32⟩
  | 54 => ⟨S_, .f32⟩
  | 55 => ⟨S128x4x3072, .f32⟩
  | 56 => ⟨S128x4x3072, .f32⟩
  | 57 => ⟨S_, .f32⟩
  | 58 => ⟨S128x4x3072, .f32⟩
  | 59 => ⟨S128x4x3072, .f32⟩
  | 60 => ⟨S4x4096x6x128, .f32⟩
  | 61 => ⟨S4x6x4096x128, .f32⟩
  | 62 => ⟨S4x4096x6x128, .f32⟩
  | 63 => ⟨S4x6x4096x128, .f32⟩
  | 64 => ⟨S4x4096x6x128, .f32⟩
  | 65 => ⟨S4x6x4096x128, .f32⟩
  | 66 => ⟨S4x18x4096x128, .f32⟩
  | 67 => ⟨S4x18x4096x128, .bf16⟩
  | 68 => ⟨S4x2048x768, .f32⟩
  | 69 => ⟨S4x2048x768, .f32⟩
  | 70 => ⟨S4x4096x768, .bf16⟩
  | 71 => ⟨S4x4096x768, .bf16⟩
  | 72 => ⟨S4x4096x768, .bf16⟩
  | 73 => ⟨S4x4096x512, .bf16⟩
  | 74 => ⟨S4x4096x512, .bf16⟩
  | 75 => ⟨S4x4096x3072, .bf16⟩
  | 76 => ⟨S4x32x768, .f32⟩
  | 77 => ⟨S512x768, .f32⟩
  | 78 => ⟨S512x768, .f32⟩
  | 79 => ⟨S512x768, .f32⟩
  | 80 => ⟨S512x768, .f32⟩
  | 81 => ⟨S512x768, .bf16⟩
  | 82 => ⟨S512x768, .f32⟩
  | 83 => ⟨S512x768, .f32⟩
  | 84 => ⟨S512x768, .bf16⟩
  | 85 => ⟨S512x512, .f32⟩
  | 86 => ⟨S512x512, .f32⟩
  | 87 => ⟨S512x512, .bf16⟩
  | 88 => ⟨S512x3072, .f32⟩
  | 89 => ⟨S512x3072, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_8 : Ref sig .tc := ⟨.hbm, 90, rfl⟩
abbrev main_v53 : Ref sig .tc := ⟨.hbm, 91, rfl⟩
abbrev main_v54 : Ref sig .tc := ⟨.hbm, 92, rfl⟩
abbrev main_cst_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_10 : Ref sig .tc := ⟨.hbm, 98, rfl⟩
abbrev main_v59 : Ref sig .tc := ⟨.hbm, 99, rfl⟩
abbrev main_v60 : Ref sig .tc := ⟨.hbm, 100, rfl⟩
abbrev main_cst_11 : Ref sig .tc := ⟨.hbm, 101, rfl⟩
abbrev main_v61 : Ref sig .tc := ⟨.hbm, 102, rfl⟩
abbrev main_v62 : Ref sig .tc := ⟨.hbm, 103, rfl⟩
abbrev main_cst_12 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_13 : Ref sig .tc := ⟨.hbm, 128, rfl⟩
abbrev main_v86 : Ref sig .tc := ⟨.hbm, 129, rfl⟩
abbrev main_v87 : Ref sig .tc := ⟨.hbm, 130, rfl⟩
abbrev main_cst_14 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_15 : Ref sig .tc := ⟨.hbm, 135, rfl⟩
abbrev main_v91 : Ref sig .tc := ⟨.hbm, 136, rfl⟩
abbrev main_v92 : Ref sig .tc := ⟨.hbm, 137, rfl⟩
abbrev main_cst_16 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_call3_v0 : Ref sig .tc := ⟨.hbm, 143, rfl⟩
abbrev main_call3_v1 : Ref sig .tc := ⟨.hbm, 144, rfl⟩
abbrev main_call3_cst : Ref sig .tc := ⟨.hbm, 145, rfl⟩
abbrev main_call3_v2 : Ref sig .tc := ⟨.hbm, 146, rfl⟩
abbrev main_call3_v3 : Ref sig .tc := ⟨.hbm, 147, rfl⟩
abbrev main_call3_cst_0 : Ref sig .tc := ⟨.hbm, 148, rfl⟩
abbrev main_call3_v4 : Ref sig .tc := ⟨.hbm, 149, rfl⟩
abbrev main_call3_v5 : Ref sig .tc := ⟨.hbm, 150, rfl⟩
abbrev main_v97 : Ref sig .tc := ⟨.hbm, 151, rfl⟩
abbrev main_call4_v0 : Ref sig .tc := ⟨.hbm, 152, rfl⟩
abbrev main_call4_v1 : Ref sig .tc := ⟨.hbm, 153, rfl⟩
abbrev main_call4_cst : Ref sig .tc := ⟨.hbm, 154, rfl⟩
abbrev main_call4_v2 : Ref sig .tc := ⟨.hbm, 155, rfl⟩
abbrev main_call4_v3 : Ref sig .tc := ⟨.hbm, 156, rfl⟩
abbrev main_call4_cst_0 : Ref sig .tc := ⟨.hbm, 157, rfl⟩
abbrev main_call4_v4 : Ref sig .tc := ⟨.hbm, 158, rfl⟩
abbrev main_call4_v5 : Ref sig .tc := ⟨.hbm, 159, rfl⟩
abbrev main_v98 : Ref sig .tc := ⟨.hbm, 160, rfl⟩
abbrev main_cst_17 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_18 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call5_v0 : Ref sig .tc := ⟨.hbm, 171, rfl⟩
abbrev main_call5_v1 : Ref sig .tc := ⟨.hbm, 172, rfl⟩
abbrev main_call5_cst : Ref sig .tc := ⟨.hbm, 173, rfl⟩
abbrev main_call5_v2 : Ref sig .tc := ⟨.hbm, 174, rfl⟩
abbrev main_call5_v3 : Ref sig .tc := ⟨.hbm, 175, rfl⟩
abbrev main_call5_cst_0 : Ref sig .tc := ⟨.hbm, 176, rfl⟩
abbrev main_call5_v4 : Ref sig .tc := ⟨.hbm, 177, rfl⟩
abbrev main_call5_v5 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_19 : Ref sig .tc := ⟨.hbm, 182, rfl⟩
abbrev main_v110 : Ref sig .tc := ⟨.hbm, 183, rfl⟩
abbrev main_v111 : Ref sig .tc := ⟨.hbm, 184, rfl⟩
abbrev main_cst_20 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩

abbrev nD : Nat := 1
abbrev τ : Topo := Topo.v7x

variable {F : FTy → Type} [FloatOps F]
-- ==== Kernel3.lean ====
abbrev S4x256x1024 : Shape := ⟨3, ![4, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x512, .f32⟩
  | .hbm, ⟨9, _⟩ => ⟨S1024x512, .f32⟩
  | .hbm, ⟨10, _⟩ => ⟨S1024x512, .bf16⟩
  | .hbm, ⟨11, _⟩ => ⟨S1024x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x256x1024 : Shape := ⟨3, ![4, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1024 : Shape := ⟨2, ![1024, 1024]⟩
abbrev S4x256x512 : Shape := ⟨3, ![4, 256, 512]⟩
abbrev S1024x512 : Shape := ⟨2, ![1024, 512]⟩

abbrev nBuf : Space → Nat
  | .hbm => 28
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x1024, .f32⟩
  | .hbm, ⟨21, _⟩ => ⟨S4x256x1024, .f32⟩
  | .hbm, ⟨22, _⟩ => ⟨S4x256x512, .f32⟩
  | .hbm, ⟨23, _⟩ => ⟨S4x256x512, .f32⟩
  | .hbm, ⟨24, _⟩ => ⟨S1024x512, .f32⟩
  | .hbm, ⟨25, _⟩ => ⟨S1024x512, .f32⟩
  | .hbm, ⟨26, _⟩ => ⟨S1024x512, .bf16⟩
  | .hbm, ⟨27, _⟩ => ⟨S1024x512, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S128x4x768 : Shape := ⟨3, ![128, 4, 768]⟩
abbrev S512x768 : Shape := ⟨2, ![512, 768]⟩
abbrev S4x128x768 : Shape := ⟨3, ![4, 128, 768]⟩
abbrev S128x4x512 : Shape := ⟨3, ![128, 4, 512]⟩
abbrev S512x512 : Shape := ⟨2, ![512, 512]⟩
abbrev S512x3072 : Shape := ⟨2, ![512, 3072]⟩
abbrev S128x4x1024 : Shape := ⟨3, ![128, 4, 1024]⟩
abbrev S1x768x1024 : Shape := ⟨3, ![1, 768, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S768x1024 : Shape := ⟨2, ![768, 1024]⟩
abbrev S512x1024 : Shape := ⟨2, ![512, 1024]⟩
abbrev S1024x1024 : Shape := ⟨2, ![1024, 1024]⟩
abbrev S1024 : Shape := ⟨1, ![1024]⟩
abbrev S512 : Shape := ⟨1, ![512]⟩
abbrev S512x1 : Shape := ⟨2, ![512, 1]⟩

abbrev nBuf : Space → Nat
  | .hbm => 29
  | .vmem => 14
  | .smem => 0
  | _ => 0

abbrev bufTy : (tb : Table) → Fin (tcTables nBuf tb) → BufTy
  | .hbm, ⟨0, _⟩ => ⟨S128x4x768, .f32⟩
  | .hbm, ⟨1, _⟩ => ⟨S512x768, .bf16⟩
  | .hbm, ⟨2, _⟩ => ⟨S4x128x768, .f32⟩
  | .hbm, ⟨3, _⟩ => ⟨S512x768, .bf16⟩
  | .hbm, ⟨4, _⟩ => ⟨S128x4x512, .f32⟩
  | .hbm, ⟨5, _⟩ => ⟨S512x512, .bf16⟩
  | .hbm, ⟨6, _⟩ => ⟨S512x3072, .bf16⟩
  | .hbm, ⟨7, _⟩ => ⟨S128x4x1024, .f32⟩
  | .hbm, ⟨8, _⟩ => ⟨S1x768x1024, .f32⟩
  | .hbm, ⟨9, _⟩ => ⟨S1x768x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S768x1024, .f32⟩
  | .hbm, ⟨14, _⟩ => ⟨S768x1024, .bf16⟩
  | .hbm, ⟨15, _⟩ => ⟨S768x1024, .f32⟩
  | .hbm, ⟨16, _⟩ => ⟨S768x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S128x4x768, .f32⟩
  | .hbm, ⟨22, _⟩ => ⟨S512x768, .f32⟩
  | .hbm, ⟨23, _⟩ => ⟨S512x768, .f32⟩
  | .hbm, ⟨24, _⟩ => ⟨S512x512, .f32⟩
  | .hbm, ⟨25, _⟩ => ⟨S512x1024, .f32⟩
  | .hbm, ⟨26, _⟩ => ⟨S1024, .f32⟩
  | .hbm, ⟨27, _⟩ => ⟨S1x1024, .f32⟩
  | .hbm, ⟨28, _⟩ => ⟨S512x1024, .f32⟩
  | .local _ .vmem, ⟨0, _⟩ => ⟨S512x768, .f32⟩
  | .local _ .vmem, ⟨1, _⟩ => ⟨S512x768, .bf16⟩
  | .local _ .vmem, ⟨2, _⟩ => ⟨S512x768, .f32⟩
  | .local _ .vmem, ⟨3, _⟩ => ⟨S512x768, .bf16⟩
  | .local _ .vmem, ⟨4, _⟩ => ⟨S512x512, .f32⟩
  | .local _ .vmem, ⟨5, _⟩ => ⟨S512x512, .bf16⟩
  | .local _ .vmem, ⟨6, _⟩ => ⟨S512x3072, .bf16⟩
  | .local _ .vmem, ⟨7, _⟩ => ⟨S512x1024, .f32⟩
  | .local _ .vmem, ⟨8, _⟩ => ⟨S768x1024, .bf16⟩
  | .local _ .vmem, ⟨9, _⟩ => ⟨S768x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | _, _ => ⟨S128x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S768x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference4Ideal.lean ====
abbrev S128x4x768 : Shape := ⟨3, ![128, 4, 768]⟩
abbrev S512x768 : Shape := ⟨2, ![512, 768]⟩
abbrev S4x128x768 : Shape := ⟨3, ![4, 128, 768]⟩
abbrev S128x4x512 : Shape := ⟨3, ![128, 4, 512]⟩
abbrev S512x512 : Shape := ⟨2, ![512, 512]⟩
abbrev S512x3072 : Shape := ⟨2, ![512, 3072]⟩
abbrev S128x4x1024 : Shape := ⟨3, ![128, 4, 1024]⟩
abbrev S1x768x1024 : Shape := ⟨3, ![1, 768, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S128x4x3x1024 : Shape := ⟨4, ![128, 4, 3, 1024]⟩
abbrev S128x4x1x1024 : Shape := ⟨4, ![128, 4, 1, 1024]⟩
abbrev S768x1024 : Shape := ⟨2, ![768, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S128x4x768, .f32⟩
  | .hbm, ⟨1, _⟩ => ⟨S512x768, .bf16⟩
  | .hbm, ⟨2, _⟩ => ⟨S4x128x768, .f32⟩
  | .hbm, ⟨3, _⟩ => ⟨S512x768, .bf16⟩
  | .hbm, ⟨4, _⟩ => ⟨S128x4x512, .f32⟩
  | .hbm, ⟨5, _⟩ => ⟨S512x512, .bf16⟩
  | .hbm, ⟨6, _⟩ => ⟨S512x3072, .bf16⟩
  | .hbm, ⟨7, _⟩ => ⟨S128x4x1024, .f32⟩
  | .hbm, ⟨8, _⟩ => ⟨S1x768x1024, .f32⟩
  | .hbm, ⟨9, _⟩ => ⟨S1x768x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S128x4x768, .f32⟩
  | .hbm, ⟨14, _⟩ => ⟨S512x768, .f32⟩
  | .hbm, ⟨15, _⟩ => ⟨S512x768, .f32⟩
  | .hbm, ⟨16, _⟩ => ⟨S512x512, .f32⟩
  | .hbm, ⟨17, _⟩ => ⟨S512x3072, .f32⟩
  | .hbm, ⟨18, _⟩ => ⟨S128x4x3x1024, .f32⟩
  | .hbm, ⟨19, _⟩ => ⟨S128x4x1x1024, .f32⟩
  | .hbm, ⟨20, _⟩ => ⟨S128x4x1024, .f32⟩
  | .hbm, ⟨21, _⟩ => ⟨S128x4x768, .f32⟩
  | .hbm, ⟨22, _⟩ => ⟨S128x4x768, .f32⟩
  | .hbm, ⟨23, _⟩ => ⟨S768x1024, .f32⟩
  | .hbm, ⟨24, _⟩ => ⟨S128x4x1024, .f32⟩
  | .hbm, ⟨25, _⟩ => ⟨S128x4x1024, .f32⟩
  | .hbm, ⟨26, _⟩ => ⟨S128x4x1x1024, .f32⟩
  | .hbm, ⟨27, _⟩ => ⟨S128x4x1024, .f32⟩
  | .hbm, ⟨28, _⟩ => ⟨S128x4x768, .f32⟩
  | .hbm, ⟨29, _⟩ => ⟨S128x4x768, .f32⟩
  | .hbm, ⟨30, _⟩ => ⟨S768x1024, .f32⟩
  | .hbm, ⟨31, _⟩ => ⟨S128x4x1024, .f32⟩
  | .hbm, ⟨32, _⟩ => ⟨S128x4x1024, .f32⟩
  | .hbm, ⟨33, _⟩ => ⟨S128x4x1024, .f32⟩
  | .hbm, ⟨34, _⟩ => ⟨S128x4x1x1024, .f32⟩
  | .hbm, ⟨35, _⟩ => ⟨S128x4x1024, .f32⟩
  | .hbm, ⟨36, _⟩ => ⟨S128x4x512, .f32⟩
  | .hbm, ⟨37, _⟩ => ⟨S128x4x512, .f32⟩
  | .hbm, ⟨38, _⟩ => ⟨S512x1024, .f32⟩
  | .hbm, ⟨39, _⟩ => ⟨S128x4x1024, .f32⟩
  | .hbm, ⟨40, _⟩ => ⟨S128x4x1024, .f32⟩
  | .hbm, ⟨41, _⟩ => ⟨S128x4x1024, .f32⟩
  | .hbm, ⟨42, _⟩ => ⟨S1024x1024, .f32⟩
  | .hbm, ⟨43, _⟩ => ⟨S128x4x1024, .f32⟩
  | .hbm, ⟨44, _⟩ => ⟨S1024, .f32⟩
  | .hbm, ⟨45, _⟩ => ⟨S128x4x1024, .f32⟩
  | .hbm, ⟨46, _⟩ => ⟨S_, .f32⟩
  | .hbm, ⟨47, _⟩ => ⟨S128x4, .f32⟩
  | .hbm, ⟨48, _⟩ => ⟨S128x4x1, .f32⟩
  | .hbm, ⟨49, _⟩ => ⟨S_, .f32⟩
  | .hbm, ⟨50, _⟩ => ⟨S128x4x1, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S128x4x1, .f32⟩
  | .hbm, ⟨56, _⟩ => ⟨S128x4x1024, .f32⟩
  | .hbm, ⟨57, _⟩ => ⟨S128x4x1024, .f32⟩
  | .hbm, ⟨58, _⟩ => ⟨S1x1x1024, .f32⟩
  | .hbm, ⟨59, _⟩ => ⟨S128x4x1024, .f32⟩
  | .hbm, ⟨60, _⟩ => ⟨S128x4x1024, .f32⟩
  | .hbm, ⟨61, _⟩ => ⟨S128x4x1024, .f32⟩
  | .hbm, ⟨62, _⟩ => ⟨S512x1024, .f32⟩
  | _, _ => ⟨S128x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Body.lean ====
/-
  The body of `cc0_band_attn` over named units: what it computes for one block of 128 queries is one function, read
  from one program, run for the thirty-two blocks of each of the three dilations.
-/
module

public import proofs.«01_k».proof.Proof.Gen.KernelIdeal.Skeleton

@[expose] public section

set_option maxRecDepth 65536

noncomputable section

namespace Cert.KernelIdeal.Band

open Idealize.ShloMosaic Idealize.SL.Sem Cert.KernelIdeal Cert.KernelIdeal.Gen

variable {F : FTy → Type} [FloatOps F]

/-- Which of the 128 columns belong to the first of the pair of heads (of 64 columns each). -/
def first : IVec S128x128 1 :=
  cmpi .slt (iota .tc S128x128 32 [1] iota_S128x128_d1_w32) (broadcast S128x128 64#32)

/-- One in the first head's columns, zero in the second's. -/
def firstF : FVec F S128x128 .bf16 :=
  truncf .bf16 (sitofp .f32 (extui 32 first natLt_1_32)) bitsLt_bf16_f32

/-- One in the second head's columns, zero in the first's. -/
def secondF : FVec F S128x128 .bf16 :=
  truncf .bf16 (subf (broadcast S128x128 (Scalar.ofBits .f32 0x3F800000#32))
    (sitofp .f32 (extui 32 first natLt_1_32))) bitsLt_bf16_f32

/-- Columns of ones. -/
def onesC : FVec F S256x128 .bf16 := broadcast S256x128 (Scalar.ofBits .bf16 0x3F80#16)

/-- The scores of a block: rows 0–127 the first head's queries, rows 128–255 the second's, against the 256 keys of
    the block before and the block itself, plus the table. -/
def score (v2 : IVec S128x128 1) (v5 v10 : FVec F S128x128 .bf16) (q kp kc : FVec F S128x128 .bf16) (t : FVec F S1x1x1x256x256 .f32) : FVec F S256x256 .f32 :=
  addf (matmul dot_S256x128_S256x128_S256x256_1_1_0_0_n_n none
      (concatenate S256x128 0 [⟨S128x128, mulf q v5⟩, ⟨S128x128, mulf q v10⟩] concatenates_S128x128_S128x128_S256x128_d0)
      (concatenate S256x128 0 [⟨S128x128, kp⟩, ⟨S128x128, kc⟩] concatenates_S128x128_S128x128_S256x128_d0)
      (constant S256x256 .f32 0x00000000#32))
    (shapeCast S256x256 t shapeCasts_S1x1x1x256x256_S256x256)

/-- The row maxima, as a column. -/
def rowMax (s : FVec F S256x256 .f32) : FVec F S256x1 .f32 :=
  shapeCast S256x1 (multiReduction .maximumf [1] S256 s 0xFF800000#32 reduces_S256x256_S256 (.inl rfl) rfl) shapeCasts_S256_S256x1

/-- The weights times the values, and (columns 128–255) times ones. -/
def pv (v11 : FVec F S256x128 .bf16) (s : FVec F S256x256 .f32) (vp vc : FVec F S128x128 .bf16) : FVec F S256x256 .f32 :=
  matmul dot_S256x256_S256x256_S256x256_1_0_0_1_n_n none
    (truncf .bf16 (exp2 (subf s (broadcastTo S256x256 (rowMax s) broadcasts_S256x1_S256x256))) bitsLt_bf16_f32)
    (concatenate S256x256 1 [⟨S256x128, concatenate S256x128 0 [⟨S128x128, vp⟩, ⟨S128x128, vc⟩] concatenates_S128x128_S128x128_S256x128_d0⟩, ⟨S256x128, v11⟩] concatenates_S256x128_S256x128_S256x256_d1)
    (constant S256x256 .f32 0x00000000#32)

/-- A block's weighted values: each head's columns from its own rows. -/
def accOf (v2 : IVec S128x128 1) (o : FVec F S256x256 .f32) : FVec F S128x128 .f32 :=
  select v2 (extractStridedSlice S128x128 ![0, 0] o slices_S256x256_o0_0_S128x128) (extractStridedSlice S128x128 ![128, 0] o slices_S256x256_o128_0_S128x128)
/-- A block's sum of weights. -/
def denOf (v2 : IVec S128x128 1) (o : FVec F S256x256 .f32) : FVec F S128x128 .f32 :=
  select v2 (extractStridedSlice S128x128 ![0, 128] o slices_S256x256_o0_128_S128x128) (extractStridedSlice S128x128 ![128, 128] o slices_S256x256_o128_128_S128x128)
/-- A block's row maxima, spread over the head's columns. -/
def maxOf (v2 : IVec S128x128 1) (s : FVec F S256x256 .f32) : FVec F S128x128 .f32 :=
  select v2 (extractStridedSlice S128x128 ![0, 0] (broadcastTo S256x128 (shapeCast S256x1 (rowMax s) shapeCasts_S256x1_S256x1) broadcasts_S256x1_S256x128) slices_S256x128_o0_0_S128x128)
    (extractStridedSlice S128x128 ![128, 0] (broadcastTo S256x128 (shapeCast S256x1 (rowMax s) shapeCasts_S256x1_S256x1) broadcasts_S256x1_S256x128) slices_S256x128_o128_0_S128x128)

/-- The three dilations put together by their maxima: the quotient of the two weighted sums. -/
def blend (a1 l1 m1 m4 m16 a4 a16 l4 l16 : FVec F S128x128 .f32) : FVec F S128x128 .bf16 :=
  truncf .bf16 (divf
    (addf (addf (mulf a1 (exp2 (subf m1 (maximumf (maximumf m1 m4) m16)))) (mulf a4 (exp2 (subf m4 (maximumf (maximumf m1 m4) m16))))) (mulf a16 (exp2 (subf m16 (maximumf (maximumf m1 m4) m16)))))
    (addf (addf (mulf l1 (exp2 (subf m1 (maximumf (maximumf m1 m4) m16)))) (mulf l4 (exp2 (subf m4 (maximumf (maximumf m1 m4) m16))))) (mulf l16 (exp2 (subf m16 (maximumf (maximumf m1 m4) m16)))))) bitsLt_bf16_f32

/-- One block of the dilation 16: rows `128 j …` of the rearranged queries against their 256 keys, stored at stride 16. -/
def unit16 (v2 : IVec S128x128 1) (v5 v10 : FVec F S128x128 .bf16) (v11 : FVec F S256x128 .bf16)
    (T : Memref sig .tc .vmem S3x1x2x256x256 .f32) (P : Memref sig .tc .vmem S3x4096x128 .bf16)
    (A L M : Memref sig .tc .vmem S4096x128 .f32) (j : Fin 32) : Prog (TpuEff nD τ sig (Elt F) Λ₀ .tc) PUnit := do
  let q : Vec F S128x128 .bf16 ← Prog.lift (.load (((P).slice (Rect.unit (s := S3x4096x128) ![0, 0, 0] S1x4096x128.size inb_S3x4096x128_S1x4096x128_0_0_0) (fun _ => rfl)).squeeze S4096x128 squeezes_S1x4096x128_S4096x128) (Rect.unit (s := S4096x128) (k0_off43 (BitVec.ofNat 32 j.val)) S128x128.size (k0_off43_inb j)).toLoadRect (View.loadsAt_vmem h_S128x128))
  let kp : Vec F S128x128 .bf16 ← Prog.lift (.load (((P).slice (Rect.unit (s := S3x4096x128) ![1, 0, 0] S1x4096x128.size inb_S3x4096x128_S1x4096x128_1_0_0) (fun _ => rfl)).squeeze S4096x128 squeezes_S1x4096x128_S4096x128) (Rect.unit (s := S4096x128) (k0_off44 (BitVec.ofNat 32 j.val)) S128x128.size (k0_off44_inb j)).toLoadRect (View.loadsAt_vmem h_S128x128))
  let kc : Vec F S128x128 .bf16 ← Prog.lift (.load (((P).slice (Rect.unit (s := S3x4096x128) ![1, 0, 0] S1x4096x128.size inb_S3x4096x128_S1x4096x128_1_0_0) (fun _ => rfl)).squeeze S4096x128 squeezes_S1x4096x128_S4096x128) (Rect.unit (s := S4096x128) (k0_off43 (BitVec.ofNat 32 j.val)) S128x128.size (k0_off43_inb j)).toLoadRect (View.loadsAt_vmem h_S128x128))
  let vp : Vec F S128x128 .bf16 ← Prog.lift (.load (((P).slice (Rect.unit (s := S3x4096x128) ![2, 0, 0] S1x4096x128.size inb_S3x4096x128_S1x4096x128_2_0_0) (fun _ => rfl)).squeeze S4096x128 squeezes_S1x4096x128_S4096x128) (Rect.unit (s := S4096x128) (k0_off44 (BitVec.ofNat 32 j.val)) S128x128.size (k0_off44_inb j)).toLoadRect (View.loadsAt_vmem h_S128x128))
  let vc : Vec F S128x128 .bf16 ← Prog.lift (.load (((P).slice (Rect.unit (s := S3x4096x128) ![2, 0, 0] S1x4096x128.size inb_S3x4096x128_S1x4096x128_2_0_0) (fun _ => rfl)).squeeze S4096x128 squeezes_S1x4096x128_S4096x128) (Rect.unit (s := S4096x128) (k0_off43 (BitVec.ofNat 32 j.val)) S128x128.size (k0_off43_inb j)).toLoadRect (View.loadsAt_vmem h_S128x128))
  let t : Vec F S1x1x1x256x256 .f32 ← Prog.lift (.load T (Rect.unit (s := S3x1x2x256x256) (k0_off45 (BitVec.ofNat 32 j.val)) S1x1x1x256x256.size (k0_off45_inb j)).toLoadRect (View.loadsAt_vmem h_S1x1x1x256x256))
  let _ : Vec F S128x128 .f32 ← Prog.lift (.load A (⟨k0_off46 (BitVec.ofNat 32 j.val), S128x128.size, ![16, 1], (k0_off46_inb j)⟩ : LoadRect S4096x128) (View.loadsAt_vmem h_S128x128))
  Prog.lift (.store A ⟨(⟨k0_off46 (BitVec.ofNat 32 j.val), S128x128.size, ![16, 1], (k0_off46_inb j)⟩ : LoadRect S4096x128), spos_16_1⟩ (shapeCast S128x128 (accOf v2 (pv v11 (score v2 v5 v10 q kp kc t) vp vc)) shapeCasts_S128x128_S128x128) Finset.univ (View.stores_vmem_bits_univ h_S128x128 rfl) (.inl rfl))
  let _ : Vec F S128x128 .f32 ← Prog.lift (.load L (⟨k0_off46 (BitVec.ofNat 32 j.val), S128x128.size, ![16, 1], (k0_off46_inb j)⟩ : LoadRect S4096x128) (View.loadsAt_vmem h_S128x128))
  Prog.lift (.store L ⟨(⟨k0_off46 (BitVec.ofNat 32 j.val), S128x128.size, ![16, 1], (k0_off46_inb j)⟩ : LoadRect S4096x128), spos_16_1⟩ (shapeCast S128x128 (denOf v2 (pv v11 (score v2 v5 v10 q kp kc t) vp vc)) shapeCasts_S128x128_S128x128) Finset.univ (View.stores_vmem_bits_univ h_S128x128 rfl) (.inl rfl))
  let _ : Vec F S128x128 .f32 ← Prog.lift (.load M (⟨k0_off46 (BitVec.ofNat 32 j.val), S128x128.size, ![16, 1], (k0_off46_inb j)⟩ : LoadRect S4096x128) (View.loadsAt_vmem h_S128x128))
  Prog.lift (.store M ⟨(⟨k0_off46 (BitVec.ofNat 32 j.val), S128x128.size, ![16, 1], (k0_off46_inb j)⟩ : LoadRect S4096x128), spos_16_1⟩ (shapeCast S128x128 (maxOf v2 (score v2 v5 v10 q kp kc t)) shapeCasts_S128x128_S128x128) Finset.univ (View.stores_vmem_bits_univ h_S128x128 rfl) (.inl rfl))

/-- One block of the dilation 4, likewise, stored at stride 4. -/
def unit4 (v2 : IVec S128x128 1) (v5 v10 : FVec F S128x128 .bf16) (v11 : FVec F S256x128 .bf16)
    (T : Memref sig .tc .vmem S3x1x2x256x256 .f32) (P : Memref sig .tc .vmem S3x4096x128 .bf16)
    (A L M : Memref sig .tc .vmem S4096x128 .f32) (j : Fin 32) : Prog (TpuEff nD τ sig (Elt F) Λ₀ .tc) PUnit := do
  let q : Vec F S128x128 .bf16 ← Prog.lift (.load (((P).slice (Rect.unit (s := S3x4096x128) ![0, 0, 0] S1x4096x128.size inb_S3x4096x128_S1x4096x128_0_0_0) (fun _ => rfl)).squeeze S4096x128 squeezes_S1x4096x128_S4096x128) (Rect.unit (s := S4096x128) (k0_off43 (BitVec.ofNat 32 j.val)) S128x128.size (k0_off43_inb j)).toLoadRect (View.loadsAt_vmem h_S128x128))
  let kp : Vec F S128x128 .bf16 ← Prog.lift (.load (((P).slice (Rect.unit (s := S3x4096x128) ![1, 0, 0] S1x4096x128.size inb_S3x4096x128_S1x4096x128_1_0_0) (fun _ => rfl)).squeeze S4096x128 squeezes_S1x4096x128_S4096x128) (Rect.unit (s := S4096x128) (k0_off44 (BitVec.ofNat 32 j.val)) S128x128.size (k0_off44_inb j)).toLoadRect (View.loadsAt_vmem h_S128x128))
  let kc : Vec F S128x128 .bf16 ← Prog.lift (.load (((P).slice (Rect.unit (s := S3x4096x128) ![1, 0, 0] S1x4096x128.size inb_S3x4096x128_S1x4096x128_1_0_0) (fun _ => rfl)).squeeze S4096x128 squeezes_S1x4096x128_S4096x128) (Rect.unit (s := S4096x128) (k0_off43 (BitVec.ofNat 32 j.val)) S128x128.size (k0_off43_inb j)).toLoadRect (View.loadsAt_vmem h_S128x128))
  let vp : Vec F S128x128 .bf16 ← Prog.lift (.load (((P).slice (Rect.unit (s := S3x4096x128) ![2, 0, 0] S1x4096x128.size inb_S3x4096x128_S1x4096x128_2_0_0) (fun _ => rfl)).squeeze S4096x128 squeezes_S1x4096x128_S4096x128) (Rect.unit (s := S4096x128) (k0_off44 (BitVec.ofNat 32 j.val)) S128x128.size (k0_off44_inb j)).toLoadRect (View.loadsAt_vmem h_S128x128))
  let vc : Vec F S128x128 .bf16 ← Prog.lift (.load (((P).slice (Rect.unit (s := S3x4096x128) ![2, 0, 0] S1x4096x128.size inb_S3x4096x128_S1x4096x128_2_0_0) (fun _ => rfl)).squeeze S4096x128 squeezes_S1x4096x128_S4096x128) (Rect.unit (s := S4096x128) (k0_off43 (BitVec.ofNat 32 j.val)) S128x128.size (k0_off43_inb j)).toLoadRect (View.loadsAt_vmem h_S128x128))
  let t : Vec F S1x1x1x256x256 .f32 ← Prog.lift (.load T (Rect.unit (s := S3x1x2x256x256) (k0_off47 (BitVec.ofNat 32 j.val)) S1x1x1x256x256.size (k0_off47_inb j)).toLoadRect (View.loadsAt_vmem h_S1x1x1x256x256))
  let _ : Vec F S128x128 .f32 ← Prog.lift (.load A (⟨k0_off48 (BitVec.ofNat 32 j.val), S128x128.size, ![4, 1], (k0_off48_inb j)⟩ : LoadRect S4096x128) (View.loadsAt_vmem h_S128x128))
  Prog.lift (.store A ⟨(⟨k0_off48 (BitVec.ofNat 32 j.val), S128x128.size, ![4, 1], (k0_off48_inb j)⟩ : LoadRect S4096x128), spos_4_1⟩ (shapeCast S128x128 (accOf v2 (pv v11 (score v2 v5 v10 q kp kc t) vp vc)) shapeCasts_S128x128_S128x128) Finset.univ (View.stores_vmem_bits_univ h_S128x128 rfl) (.inl rfl))
  let _ : Vec F S128x128 .f32 ← Prog.lift (.load L (⟨k0_off48 (BitVec.ofNat 32 j.val), S128x128.size, ![4, 1], (k0_off48_inb j)⟩ : LoadRect S4096x128) (View.loadsAt_vmem h_S128x128))
  Prog.lift (.store L ⟨(⟨k0_off48 (BitVec.ofNat 32 j.val), S128x128.size, ![4, 1], (k0_off48_inb j)⟩ : LoadRect S4096x128), spos_4_1⟩ (shapeCast S128x128 (denOf v2 (pv v11 (score v2 v5 v10 q kp kc t) vp vc)) shapeCasts_S128x128_S128x128) Finset.univ (View.stores_vmem_bits_univ h_S128x128 rfl) (.inl rfl))
  let _ : Vec F S128x128 .f32 ← Prog.lift (.load M (⟨k0_off48 (BitVec.ofNat 32 j.val), S128x128.size, ![4, 1], (k0_off48_inb j)⟩ : LoadRect S4096x128) (View.loadsAt_vmem h_S128x128))
  Prog.lift (.store M ⟨(⟨k0_off48 (BitVec.ofNat 32 j.val), S128x128.size, ![4, 1], (k0_off48_inb j)⟩ : LoadRect S4096x128), spos_4_1⟩ (shapeCast S128x128 (maxOf v2 (score v2 v5 v10 q kp kc t)) shapeCasts_S128x128_S128x128) Finset.univ (View.stores_vmem_bits_univ h_S128x128 rfl) (.inl rfl))

/-- One block of the dilation 1, put together with the two other dilations at the same rows and stored to the result. -/
def unit1 (v2 : IVec S128x128 1) (v5 v10 : FVec F S128x128 .bf16) (v11 : FVec F S256x128 .bf16)
    (Q K V : Memref sig .tc .vmem S1x1x4096x128 .bf16)
    (T : Memref sig .tc .vmem S3x1x2x256x256 .f32) (O : Memref sig .tc .vmem S1x1x4096x128 .bf16) (hO : O.IsWhole)
    (A4 L4 M4 A16 L16 M16 : Memref sig .tc .vmem S4096x128 .f32) (j : Fin 32) : Prog (TpuEff nD τ sig (Elt F) Λ₀ .tc) PUnit := do
  let q : Vec F S128x128 .bf16 ← Prog.lift (.load (((Q).slice (Rect.unit (s := S1x1x4096x128) ![0, 0, 0, 0] S1x1x4096x128.size inb_S1x1x4096x128_S1x1x4096x128_0_0_0_0) (fun _ => rfl)).squeeze S4096x128 squeezes_S1x1x4096x128_S4096x128) (Rect.unit (s := S4096x128) (k0_off43 (BitVec.ofNat 32 j.val)) S128x128.size (k0_off43_inb j)).toLoadRect (View.loadsAt_vmem h_S128x128))
  let kp : Vec F S128x128 .bf16 ← Prog.lift (.load (((K).slice (Rect.unit (s := S1x1x4096x128) ![0, 0, 0, 0] S1x1x4096x128.size inb_S1x1x4096x128_S1x1x4096x128_0_0_0_0) (fun _ => rfl)).squeeze S4096x128 squeezes_S1x1x4096x128_S4096x128) (Rect.unit (s := S4096x128) (k0_off44 (BitVec.ofNat 32 j.val)) S128x128.size (k0_off44_inb j)).toLoadRect (View.loadsAt_vmem h_S128x128))
  let kc : Vec F S128x128 .bf16 ← Prog.lift (.load (((K).slice (Rect.unit (s := S1x1x4096x128) ![0, 0, 0, 0] S1x1x4096x128.size inb_S1x1x4096x128_S1x1x4096x128_0_0_0_0) (fun _ => rfl)).squeeze S4096x128 squeezes_S1x1x4096x128_S4096x128) (Rect.unit (s := S4096x128) (k0_off43 (BitVec.ofNat 32 j.val)) S128x128.size (k0_off43_inb j)).toLoadRect (View.loadsAt_vmem h_S128x128))
  let vp : Vec F S128x128 .bf16 ← Prog.lift (.load (((V).slice (Rect.unit (s := S1x1x4096x128) ![0, 0, 0, 0] S1x1x4096x128.size inb_S1x1x4096x128_S1x1x4096x128_0_0_0_0) (fun _ => rfl)).squeeze S4096x128 squeezes_S1x1x4096x128_S4096x128) (Rect.unit (s := S4096x128) (k0_off44 (BitVec.ofNat 32 j.val)) S128x128.size (k0_off44_inb j)).toLoadRect (View.loadsAt_vmem h_S128x128))
  let vc : Vec F S128x128 .bf16 ← Prog.lift (.load (((V).slice (Rect.unit (s := S1x1x4096x128) ![0, 0, 0, 0] S1x1x4096x128.size inb_S1x1x4096x128_S1x1x4096x128_0_0_0_0) (fun _ => rfl)).squeeze S4096x128 squeezes_S1x1x4096x128_S4096x128) (Rect.unit (s := S4096x128) (k0_off43 (BitVec.ofNat 32 j.val)) S128x128.size (k0_off43_inb j)).toLoadRect (View.loadsAt_vmem h_S128x128))
  let t : Vec F S1x1x1x256x256 .f32 ← Prog.lift (.load T (Rect.unit (s := S3x1x2x256x256) (k0_off49 (BitVec.ofNat 32 j.val)) S1x1x1x256x256.size (k0_off49_inb j)).toLoadRect (View.loadsAt_vmem h_S1x1x1x256x256))
  let m4 : Vec F S128x128 .f32 ← Prog.lift (.load M4 (Rect.unit (s := S4096x128) (k0_off43 (BitVec.ofNat 32 j.val)) S128x128.size (k0_off43_inb j)).toLoadRect (View.loadsAt_vmem h_S128x128))
  let m16 : Vec F S128x128 .f32 ← Prog.lift (.load M16 (Rect.unit (s := S4096x128) (k0_off43 (BitVec.ofNat 32 j.val)) S128x128.size (k0_off43_inb j)).toLoadRect (View.loadsAt_vmem h_S128x128))
  let a4 : Vec F S128x128 .f32 ← Prog.lift (.load A4 (Rect.unit (s := S4096x128) (k0_off43 (BitVec.ofNat 32 j.val)) S128x128.size (k0_off43_inb j)).toLoadRect (View.loadsAt_vmem h_S128x128))
  let a16 : Vec F S128x128 .f32 ← Prog.lift (.load A16 (Rect.unit (s := S4096x128) (k0_off43 (BitVec.ofNat 32 j.val)) S128x128.size (k0_off43_inb j)).toLoadRect (View.loadsAt_vmem h_S128x128))
  let l4 : Vec F S128x128 .f32 ← Prog.lift (.load L4 (Rect.unit (s := S4096x128) (k0_off43 (BitVec.ofNat 32 j.val)) S128x128.size (k0_off43_inb j)).toLoadRect (View.loadsAt_vmem h_S128x128))
  let l16 : Vec F S128x128 .f32 ← Prog.lift (.load L16 (Rect.unit (s := S4096x128) (k0_off43 (BitVec.ofNat 32 j.val)) S128x128.size (k0_off43_inb j)).toLoadRect (View.loadsAt_vmem h_S128x128))
  let _ : Vec F S1x1x128x128 .bf16 ← Prog.lift (.load O (Rect.unit (s := S1x1x4096x128) (k0_off50 (BitVec.ofNat 32 j.val)) S1x1x128x128.size (k0_off50_inb j)).toLoadRect (View.loadsAt_vmem h_S1x1x128x128))
  Prog.lift (.store O (Rect.unit (s := S1x1x4096x128) (k0_off50 (BitVec.ofNat 32 j.val)) S1x1x128x128.size (k0_off50_inb j))
    (shapeCast S1x1x128x128 (blend (accOf v2 (pv v11 (score v2 v5 v10 q kp kc t) vp vc)) (denOf v2 (pv v11 (score v2 v5 v10 q kp kc t) vp vc)) (maxOf v2 (score v2 v5 v10 q kp kc t)) m4 m16 a4 a16 l4 l16) shapeCasts_S128x128_S1x1x128x128)
    Finset.univ (View.stores_vmem h_S1x1x128x128 (hO.storeExact_slice rfl _ (k0_off50_packedbf16 j)) (fun _ => rfl)) (.inl rfl))

/-- `f` for the blocks `n, …, 31`, then `k`. -/
def units (f : Fin 32 → Prog (TpuEff nD τ sig (Elt F) Λ₀ .tc) PUnit) (k : Prog (TpuEff nD τ sig (Elt F) Λ₀ .tc) PUnit) : (n : ℕ) → n ≤ 32 → Prog (TpuEff nD τ sig (Elt F) Λ₀ .tc) PUnit
  | 0, _ => k
  | n + 1, h => f ⟨31 - n, by omega⟩ >>= fun _ => units f k n (by omega)

/-- One trip of the rearrangement by four: 256 rows taken at stride 4, kept in f32 and stored in bf16. -/
def by4 (X Y : Memref sig .tc .vmem S4096x128 .f32) (P : Memref sig .tc .vmem S3x4096x128 .bf16) (hP : P.IsWhole)
    (a b : Fin 2 → ℕ) (d : Fin 3 → ℕ) (ha : ∀ x, S256x128.size x = 0 ∨ a x + (![4, 1] : Fin 2 → Nat) x * (S256x128.size x - 1) < S4096x128.size x)
    (hb : ∀ x, b x + S256x128.size x ≤ S4096x128.size x) (hd : ∀ x, d x + S1x256x128.size x ≤ S3x4096x128.size x)
    (hp : (Rect.unit (s := S3x4096x128) d S1x256x128.size hd).PackedRows (EltTy.packing .bf16)) : Prog (TpuEff nD τ sig (Elt F) Λ₀ .tc) Unit := do
  let x : Vec F S256x128 .f32 ← Prog.lift (.load X (⟨a, S256x128.size, ![4, 1], ha⟩ : LoadRect S4096x128) (View.loadsAt_vmem h_S256x128))
  let _ : Vec F S256x128 .f32 ← Prog.lift (.load Y (Rect.unit (s := S4096x128) b S256x128.size hb).toLoadRect (View.loadsAt_vmem h_S256x128))
  Prog.lift (.store Y (Rect.unit (s := S4096x128) b S256x128.size hb) (shapeCast S256x128 x shapeCasts_S256x128_S256x128) Finset.univ (View.stores_vmem_bits_univ h_S256x128 rfl) (.inl rfl))
  let _ : Vec F S1x256x128 .bf16 ← Prog.lift (.load P (Rect.unit (s := S3x4096x128) d S1x256x128.size hd).toLoadRect (View.loadsAt_vmem h_S1x256x128))
  Prog.lift (.store P (Rect.unit (s := S3x4096x128) d S1x256x128.size hd) (shapeCast S1x256x128 (truncf .bf16 x bitsLt_bf16_f32) shapeCasts_S256x128_S1x256x128) Finset.univ (View.stores_vmem h_S1x256x128 (hP.storeExact_slice rfl _ hp) (fun _ => rfl)) (.inl rfl))
  pure ⟨⟩

/-- One trip of the widening: 256 rows of bf16 as f32. -/
def widen (X : Memref sig .tc .vmem S1x1x4096x128 .bf16) (Y : Memref sig .tc .vmem S4096x128 .f32)
    (a : Fin 4 → ℕ) (b : Fin 2 → ℕ) (ha : ∀ x, a x + S1x1x256x128.size x ≤ S1x1x4096x128.size x)
    (hb : ∀ x, b x + S256x128.size x ≤ S4096x128.size x) : Prog (TpuEff nD τ sig (Elt F) Λ₀ .tc) Unit := do
  let x : Vec F S1x1x256x128 .bf16 ← Prog.lift (.load X (Rect.unit (s := S1x1x4096x128) a S1x1x256x128.size ha).toLoadRect (View.loadsAt_vmem h_S1x1x256x128))
  let _ : Vec F S256x128 .f32 ← Prog.lift (.load Y (Rect.unit (s := S4096x128) b S256x128.size hb).toLoadRect (View.loadsAt_vmem h_S256x128))
  Prog.lift (.store Y (Rect.unit (s := S4096x128) b S256x128.size hb) (shapeCast S256x128 (extf .f32 (shapeCast S256x128 x shapeCasts_S1x1x256x128_S256x128) bitsLt_bf16_f32) shapeCasts_S256x128_S256x128) Finset.univ (View.stores_vmem_bits_univ h_S256x128 rfl) (.inl rfl))
  pure ⟨⟩

theorem move_src : ∀ n : Fin 16, ∀ x, S256x128.size x = 0 ∨ (![1024 * (n.val / 4) + n.val % 4, 0] : Fin 2 → ℕ) x + (![4, 1] : Fin 2 → Nat) x * (S256x128.size x - 1) < S4096x128.size x := by decide +kernel
theorem move_dst : ∀ T : Fin 3, ∀ n : Fin 16, ∀ x, (![T.val, 1024 * (n.val % 4) + 256 * (n.val / 4), 0] : Fin 3 → ℕ) x + S1x256x128.size x ≤ S3x4096x128.size x := by decide +kernel
theorem move_packed : ∀ T : Fin 3, ∀ n : Fin 16, (Rect.unit (s := S3x4096x128) ![T.val, 1024 * (n.val % 4) + 256 * (n.val / 4), 0] S1x256x128.size (move_dst T n)).PackedRows (EltTy.packing .bf16) := by decide +kernel

/-- One step of the second rearrangement: 256 rows at stride 4 of the rearranged array, stored in bf16. -/
def move (Y : Memref sig .tc .vmem S4096x128 .f32) (P : Memref sig .tc .vmem S3x4096x128 .bf16) (hP : P.IsWhole) (T : Fin 3) (n : Fin 16) : Prog (TpuEff nD τ sig (Elt F) Λ₀ .tc) PUnit := do
  let x : Vec F S256x128 .f32 ← Prog.lift (.load Y (⟨![1024 * (n.val / 4) + n.val % 4, 0], S256x128.size, ![4, 1], move_src n⟩ : LoadRect S4096x128) (View.loadsAt_vmem h_S256x128))
  let _ : Vec F S1x256x128 .bf16 ← Prog.lift (.load P (Rect.unit (s := S3x4096x128) ![T.val, 1024 * (n.val % 4) + 256 * (n.val / 4), 0] S1x256x128.size (move_dst T n)).toLoadRect (View.loadsAt_vmem h_S1x256x128))
  Prog.lift (.store P (Rect.unit (s := S3x4096x128) ![T.val, 1024 * (n.val % 4) + 256 * (n.val / 4), 0] S1x256x128.size (move_dst T n)) (shapeCast S1x256x128 (truncf .bf16 x bitsLt_bf16_f32) shapeCasts_S256x128_S1x256x128) Finset.univ (View.stores_vmem h_S1x256x128 (hP.storeExact_slice rfl _ (move_packed T n)) (fun _ => rfl)) (.inl rfl))

/-- `f` for the steps `n, …, 15`, then `k`. -/
def moves (f : Fin 16 → Prog (TpuEff nD τ sig (Elt F) Λ₀ .tc) PUnit) (k : Prog (TpuEff nD τ sig (Elt F) Λ₀ .tc) PUnit) : (n : ℕ) → n ≤ 16 → Prog (TpuEff nD τ sig (Elt F) Λ₀ .tc) PUnit
  | 0, _ => k
  | n + 1, h => f ⟨15 - n, by omega⟩ >>= fun _ => moves f k n (by omega)

/-- Operand 0 rearranged both ways, then `k`. -/
def rearrange0 (X : Memref sig .tc .vmem S1x1x4096x128 .bf16) (N Y : Memref sig .tc .vmem S4096x128 .f32)
    (P4 : Memref sig .tc .vmem S3x4096x128 .bf16) (h4 : P4.IsWhole) (P16 : Memref sig .tc .vmem S3x4096x128 .bf16) (h16 : P16.IsWhole) (k : Prog (TpuEff nD τ sig (Elt F) Λ₀ .tc) PUnit) : Prog (TpuEff nD τ sig (Elt F) Λ₀ .tc) PUnit := do
  Scf.Loop.for k0_t1_loop k0_t1_ok ⟨⟩ fun u _ => widen X N (k0_off1 u) (k0_off2 u) (k0_off1_inb u) (k0_off2_inb u)
  Scf.Loop.for k0_t2_loop k0_t2_ok ⟨⟩ fun u _ => by4 N Y P4 h4 (k0_off3 u) (k0_off4 u) (k0_off5 u) (k0_off3_inb u) (k0_off4_inb u) (k0_off5_inb u) (k0_off5_packedbf16 u)
  Scf.Loop.for k0_t3_loop k0_t3_ok ⟨⟩ fun u _ => by4 N Y P4 h4 (k0_off6 u) (k0_off7 u) (k0_off8 u) (k0_off6_inb u) (k0_off7_inb u) (k0_off8_inb u) (k0_off8_packedbf16 u)
  Scf.Loop.for k0_t4_loop k0_t4_ok ⟨⟩ fun u _ => by4 N Y P4 h4 (k0_off9 u) (k0_off10 u) (k0_off11 u) (k0_off9_inb u) (k0_off10_inb u) (k0_off11_inb u) (k0_off11_packedbf16 u)
  Scf.Loop.for k0_t5_loop k0_t5_ok ⟨⟩ fun u _ => by4 N Y P4 h4 (k0_off12 u) (k0_off13 u) (k0_off14 u) (k0_off12_inb u) (k0_off13_inb u) (k0_off14_inb u) (k0_off14_packedbf16 u)
  moves (move Y P16 h16 0) k 16 le_rfl

/-- Operand 1 rearranged both ways, then `k`. -/
def rearrange1 (X : Memref sig .tc .vmem S1x1x4096x128 .bf16) (N Y : Memref sig .tc .vmem S4096x128 .f32)
    (P4 : Memref sig .tc .vmem S3x4096x128 .bf16) (h4 : P4.IsWhole) (P16 : Memref sig .tc .vmem S3x4096x128 .bf16) (h16 : P16.IsWhole) (k : Prog (TpuEff nD τ sig (Elt F) Λ₀ .tc) PUnit) : Prog (TpuEff nD τ sig (Elt F) Λ₀ .tc) PUnit := do
  Scf.Loop.for k0_t6_loop k0_t6_ok ⟨⟩ fun u _ => widen X N (k0_off15 u) (k0_off16 u) (k0_off15_inb u) (k0_off16_inb u)
  Scf.Loop.for k0_t7_loop k0_t7_ok ⟨⟩ fun u _ => by4 N Y P4 h4 (k0_off17 u) (k0_off18 u) (k0_off19 u) (k0_off17_inb u) (k0_off18_inb u) (k0_off19_inb u) (k0_off19_packedbf16 u)
  Scf.Loop.for k0_t8_loop k0_t8_ok ⟨⟩ fun u _ => by4 N Y P4 h4 (k0_off20 u) (k0_off21 u) (k0_off22 u) (k0_off20_inb u) (k0_off21_inb u) (k0_off22_inb u) (k0_off22_packedbf16 u)
  Scf.Loop.for k0_t9_loop k0_t9_ok ⟨⟩ fun u _ => by4 N Y P4 h4 (k0_off23 u) (k0_off24 u) (k0_off25 u) (k0_off23_inb u) (k0_off24_inb u) (k0_off25_inb u) (k0_off25_packedbf16 u)
  Scf.Loop.for k0_t10_loop k0_t10_ok ⟨⟩ fun u _ => by4 N Y P4 h4 (k0_off26 u) (k0_off27 u) (k0_off28 u) (k0_off26_inb u) (k0_off27_inb u) (k0_off28_inb u) (k0_off28_packedbf16 u)
  moves (move Y P16 h16 1) k 16 le_rfl

/-- Operand 2 rearranged both ways, then `k`. -/
def rearrange2 (X : Memref sig .tc .vmem S1x1x4096x128 .bf16) (N Y : Memref sig .tc .vmem S4096x128 .f32)
    (P4 : Memref sig .tc .vmem S3x4096x128 .bf16) (h4 : P4.IsWhole) (P16 : Memref sig .tc .vmem S3x4096x128 .bf16) (h16 : P16.IsWhole) (k : Prog (TpuEff nD τ sig (Elt F) Λ₀ .tc) PUnit) : Prog (TpuEff nD τ sig (Elt F) Λ₀ .tc) PUnit := do
  Scf.Loop.for k0_t11_loop k0_t11_ok ⟨⟩ fun u _ => widen X N (k0_off29 u) (k0_off30 u) (k0_off29_inb u) (k0_off30_inb u)
  Scf.Loop.for k0_t12_loop k0_t12_ok ⟨⟩ fun u _ => by4 N Y P4 h4 (k0_off31 u) (k0_off32 u) (k0_off33 u) (k0_off31_inb u) (k0_off32_inb u) (k0_off33_inb u) (k0_off33_packedbf16 u)
  Scf.Loop.for k0_t13_loop k0_t13_ok ⟨⟩ fun u _ => by4 N Y P4 h4 (k0_off34 u) (k0_off35 u) (k0_off36 u) (k0_off34_inb u) (k0_off35_inb u) (k0_off36_inb u) (k0_off36_packedbf16 u)
  Scf.Loop.for k0_t14_loop k0_t14_ok ⟨⟩ fun u _ => by4 N Y P4 h4 (k0_off37 u) (k0_off38 u) (k0_off39 u) (k0_off37_inb u) (k0_off38_inb u) (k0_off39_inb u) (k0_off39_packedbf16 u)
  Scf.Loop.for k0_t15_loop k0_t15_ok ⟨⟩ fun u _ => by4 N Y P4 h4 (k0_off40 u) (k0_off41 u) (k0_off42 u) (k0_off40_inb u) (k0_off41_inb u) (k0_off42_inb u) (k0_off42_packedbf16 u)
  moves (move Y P16 h16 2) k 16 le_rfl

section
variable (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S3x1x2x256x256 .f32) (harg5 : arg5.IsWhole) (arg6 : Memref sig .tc .vmem S1x1x4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S3x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S4096x128 .f32) (harg16 : arg16.IsWhole)

/-- The units of the dilation 1, the last stage. -/
abbrev stage1 : Prog (TpuEff nD τ sig (Elt F) Λ₀ .tc) PUnit :=
  units (unit1 first firstF secondF onesC arg2 arg3 arg4 arg5 arg6 harg6 arg11 arg12 arg13 arg14 arg15 arg16) (pure ⟨⟩) 32 le_rfl
/-- The units of the dilation 4, and what follows. -/
abbrev stage4 : Prog (TpuEff nD τ sig (Elt F) Λ₀ .tc) PUnit :=
  units (unit4 first firstF secondF onesC arg5 arg9 arg11 arg12 arg13) (stage1 arg2 arg3 arg4 arg5 arg6 harg6 arg11 arg12 arg13 arg14 arg15 arg16) 32 le_rfl
/-- The units of the dilation 16, and what follows. -/
abbrev stage16 : Prog (TpuEff nD τ sig (Elt F) Λ₀ .tc) PUnit :=
  units (unit16 first firstF secondF onesC arg5 arg10 arg14 arg15 arg16) (stage4 arg2 arg3 arg4 arg5 arg6 harg6 arg9 arg11 arg12 arg13 arg14 arg15 arg16) 32 le_rfl

/-- The whole body. -/
def body : Prog (TpuEff nD τ sig (Elt F) Λ₀ .tc) PUnit :=
  rearrange0 arg2 arg7 arg8 arg9 harg9 arg10 harg10 (rearrange1 arg3 arg7 arg8 arg9 harg9 arg10 harg10 (rearrange2 arg4 arg7 arg8 arg9 harg9 arg10 harg10
    (stage16 arg2 arg3 arg4 arg5 arg6 harg6 arg9 arg10 arg11 arg12 arg13 arg14 arg15 arg16)))
end

end Cert.KernelIdeal.Band

end
-- ==== Proof.Fill.lean ====
/-
  An array filled piece by piece: after a store of values that agree with one array `W`, the places where the buffer
  reads `W` are those of before and those under the store.
-/
module

public import Idealize.ShloMosaic.Lib.Writes
public import Idealize.ShloMosaic.Lib.ValueLayout

@[expose] public section

noncomputable section

namespace Cert.Fill

open Idealize.ShloMosaic Idealize.ShloMosaic.ValueIdx

variable {sig : RefSig} {κ : Kind} {sp : Space} {s : Shape} {e : EltTy} {Val : EltTy → Type}

/-- One store of `W`'s own values enlarges the part that reads `W`. -/
theorem store (v : View sig κ sp s e) (f : v.ty.Contents Val) (r : Rect s) (w : r.shape.Idx → Val e) (W : s.Idx → Val e) (D D' : s.Idx → Prop)
    (h : ∀ x, D x → v.read Val f x = W x) (hw : ∀ y, w y = W (r.emb y)) (hD : ∀ x, D' x → D x ∨ x ∈ r.set) :
    ∀ x, D' x → v.read Val (v.writes Val f [⟨r, w⟩]) x = W x := by
  intro x hx
  by_cases hm : x ∈ r.set
  · obtain ⟨y, rfl⟩ := r.exists_idx_of_mem hm
    exact (View.read_writes_cons_emb v f r w [] y).trans (hw y)
  · rw [View.read_writes_cons_miss v f ⟨r, w⟩ [] x hm]
    exact h x ((hD x hx).resolve_right hm)

/-- A place is in a rectangle of rank two if its two coordinates are. -/
theorem mem2 {n0 n1 : ℕ} (r : LoadRect ⟨2, ![n0, n1]⟩) (x : (⟨2, ![n0, n1]⟩ : Shape).Idx) (a b : ℕ)
    (h0 : a < r.size 0 ∧ (x 0).val = r.off 0 + r.stride 0 * a) (h1 : b < r.size 1 ∧ (x 1).val = r.off 1 + r.stride 1 * b) : x ∈ r.set :=
  r.mem_set.mpr fun ax => match ax with | ⟨0, _⟩ => ⟨a, h0⟩ | ⟨1, _⟩ => ⟨b, h1⟩

/-- The same at rank three. -/
theorem mem3 {n0 n1 n2 : ℕ} (r : LoadRect ⟨3, ![n0, n1, n2]⟩) (x : (⟨3, ![n0, n1, n2]⟩ : Shape).Idx) (a b c : ℕ)
    (h0 : a < r.size 0 ∧ (x 0).val = r.off 0 + r.stride 0 * a) (h1 : b < r.size 1 ∧ (x 1).val = r.off 1 + r.stride 1 * b)
    (h2 : c < r.size 2 ∧ (x 2).val = r.off 2 + r.stride 2 * c) : x ∈ r.set :=
  r.mem_set.mpr fun ax => match ax with | ⟨0, _⟩ => ⟨a, h0⟩ | ⟨1, _⟩ => ⟨b, h1⟩ | ⟨2, _⟩ => ⟨c, h2⟩

/-- The same at rank four. -/
theorem mem4 {n0 n1 n2 n3 : ℕ} (r : LoadRect ⟨4, ![n0, n1, n2, n3]⟩) (x : (⟨4, ![n0, n1, n2, n3]⟩ : Shape).Idx) (a b c d : ℕ)
    (h0 : a < r.size 0 ∧ (x 0).val = r.off 0 + r.stride 0 * a) (h1 : b < r.size 1 ∧ (x 1).val = r.off 1 + r.stride 1 * b)
    (h2 : c < r.size 2 ∧ (x 2).val = r.off 2 + r.stride 2 * c) (h3 : d < r.size 3 ∧ (x 3).val = r.off 3 + r.stride 3 * d) : x ∈ r.set :=
  r.mem_set.mpr fun ax => match ax with | ⟨0, _⟩ => ⟨a, h0⟩ | ⟨1, _⟩ => ⟨b, h1⟩ | ⟨2, _⟩ => ⟨c, h2⟩ | ⟨3, _⟩ => ⟨d, h3⟩

end Cert.Fill

end
-- ==== Proof.Vals.lean ====
/-
  What the body computes, as functions of the arrays it reads: the rearranged operands, the per-block results of the
  three dilations, and the block of the result.
-/
module

public import proofs.«01_k».proof.Proof.Body
public import proofs.«01_k».proof.Proof.Fill

@[expose] public section

set_option maxRecDepth 16384

noncomputable section

namespace Cert.KernelIdeal.Band

open Idealize.ShloMosaic Idealize.ShloMosaic.ValueIdx Cert.KernelIdeal Cert.KernelIdeal.Gen

variable {F : FTy → Type} [FloatOps F]

/-- Plane `t` of the three rearranged operands. -/
def plane {α : Type} (X : S3x4096x128.Idx → α) (t : Fin 3) : S4096x128.Idx → α := fun x => X (ix3 t (x 0) (x 1))
/-- The rows of a staged block. -/
def rows {α : Type} (X : S1x1x4096x128.Idx → α) : S4096x128.Idx → α := fun x => X (ix4 0 0 (x 0) (x 1))
/-- Rows `128 j …` of an array. -/
def block {α : Type} (X : S4096x128.Idx → α) (j : Fin 32) : S128x128.Idx → α := fun y => X (ix2 ⟨128 * j.val + (y 0).val, by have := idx2_lt0 y; omega⟩ (y 1))
/-- The block before, the first block's being itself. -/
def prev (j : Fin 32) : Fin 32 := ⟨j.val - 1, by omega⟩
/-- Table `l` of dilation `p`. -/
def tab {α : Type} (X : S3x1x2x256x256.Idx → α) (p : Fin 3) (l : Fin 2) : S1x1x1x256x256.Idx → α := fun y => X (ix5 p 0 l (y 3) (y 4))
/-- Which table block `j` takes where a residue has `n` blocks: the first block's, or a later one's. -/
def later (n : ℕ) (j : Fin 32) : Fin 2 := ⟨min (j.val % n) 1, by omega⟩

/-- Block `j`'s scores. -/
def scoreAt (Q K : Vec F S4096x128 .bf16) (T : Vec F S3x1x2x256x256 .f32) (p : Fin 3) (n : ℕ) (j : Fin 32) : FVec F S256x256 .f32 :=
  score first firstF secondF (block Q j) (block K (prev j)) (block K j) (tab T p (later n j))
/-- Block `j`'s weighted values and sums of weights. -/
def pvAt (Q K V : Vec F S4096x128 .bf16) (T : Vec F S3x1x2x256x256 .f32) (p : Fin 3) (n : ℕ) (j : Fin 32) : FVec F S256x256 .f32 :=
  pv onesC (scoreAt Q K T p n j) (block V (prev j)) (block V j)

/-- Which block of dilation 16 holds a row. -/
def u16 (x : S4096x128.Idx) : Fin 32 := ⟨2 * ((x 0).val % 16) + (x 0).val / 2048, by have := idx2_lt0 x; omega⟩
/-- Where in it. -/
def y16 (x : S4096x128.Idx) : S128x128.Idx := ix2 ⟨(x 0).val / 16 % 128, by omega⟩ (x 1)
/-- Which block of dilation 4 holds a row. -/
def u4 (x : S4096x128.Idx) : Fin 32 := ⟨8 * ((x 0).val % 4) + (x 0).val / 512, by have := idx2_lt0 x; omega⟩
/-- Where in it. -/
def y4 (x : S4096x128.Idx) : S128x128.Idx := ix2 ⟨(x 0).val / 4 % 128, by omega⟩ (x 1)
/-- Which block of dilation 1 holds a row. -/
def u1 (x : S4096x128.Idx) : Fin 32 := ⟨(x 0).val / 128, by have := idx2_lt0 x; omega⟩
/-- Where in it. -/
def y1 (x : S4096x128.Idx) : S128x128.Idx := ix2 ⟨(x 0).val % 128, by omega⟩ (x 1)

/-- Dilation 16's weighted values, in the rows' own order. -/
def A16 (P : Vec F S3x4096x128 .bf16) (T : Vec F S3x1x2x256x256 .f32) : Vec F S4096x128 .f32 :=
  fun x => accOf first (pvAt (plane P 0) (plane P 1) (plane P 2) T 2 2 (u16 x)) (y16 x)
/-- Dilation 16's sums of weights. -/
def L16 (P : Vec F S3x4096x128 .bf16) (T : Vec F S3x1x2x256x256 .f32) : Vec F S4096x128 .f32 :=
  fun x => denOf first (pvAt (plane P 0) (plane P 1) (plane P 2) T 2 2 (u16 x)) (y16 x)
/-- Dilation 16's maxima. -/
def M16 (P : Vec F S3x4096x128 .bf16) (T : Vec F S3x1x2x256x256 .f32) : Vec F S4096x128 .f32 :=
  fun x => maxOf first (scoreAt (plane P 0) (plane P 1) T 2 2 (u16 x)) (y16 x)
/-- Dilation 4's weighted values, in the rows' own order. -/
def A4 (P : Vec F S3x4096x128 .bf16) (T : Vec F S3x1x2x256x256 .f32) : Vec F S4096x128 .f32 :=
  fun x => accOf first (pvAt (plane P 0) (plane P 1) (plane P 2) T 1 8 (u4 x)) (y4 x)
/-- Dilation 4's sums of weights. -/
def L4 (P : Vec F S3x4096x128 .bf16) (T : Vec F S3x1x2x256x256 .f32) : Vec F S4096x128 .f32 :=
  fun x => denOf first (pvAt (plane P 0) (plane P 1) (plane P 2) T 1 8 (u4 x)) (y4 x)
/-- Dilation 4's maxima. -/
def M4 (P : Vec F S3x4096x128 .bf16) (T : Vec F S3x1x2x256x256 .f32) : Vec F S4096x128 .f32 :=
  fun x => maxOf first (scoreAt (plane P 0) (plane P 1) T 1 8 (u4 x)) (y4 x)

/-- Block `j` of the result. -/
def blendAt (Q K V : Vec F S1x1x4096x128 .bf16) (T : Vec F S3x1x2x256x256 .f32) (A4 L4 M4 A16 L16 M16 : Vec F S4096x128 .f32) (j : Fin 32) : FVec F S128x128 .bf16 :=
  blend (accOf first (pvAt (rows Q) (rows K) (rows V) T 0 32 j)) (denOf first (pvAt (rows Q) (rows K) (rows V) T 0 32 j)) (maxOf first (scoreAt (rows Q) (rows K) T 0 32 j))
    (block M4 j) (block M16 j) (block A4 j) (block A16 j) (block L4 j) (block L16 j)

/-- The row and column of the result. -/
def rc (x : S1x1x4096x128.Idx) : S4096x128.Idx := ix2 (x 2) (x 3)

/-- The result's block of one grid point. -/
def outOf (Q K V : Vec F S1x1x4096x128 .bf16) (T : Vec F S3x1x2x256x256 .f32) (A4 L4 M4 A16 L16 M16 : Vec F S4096x128 .f32) : Vec F S1x1x4096x128 .bf16 :=
  fun x => blendAt Q K V T A4 L4 M4 A16 L16 M16 (u1 (rc x)) (y1 (rc x))

/-- The operand of a plane. -/
def pick (Q K V : Vec F S1x1x4096x128 .bf16) (t : Fin 3) : Vec F S1x1x4096x128 .bf16 := match t with | 0 => Q | 1 => K | 2 => V
/-- Widened. -/
def wide (X : Vec F S1x1x4096x128 .bf16) : Vec F S4096x128 .f32 := extf .f32 (rows X) bitsLt_bf16_f32
/-- The row which a rearrangement by four puts at a row. -/
def src4 (x : S4096x128.Idx) : S4096x128.Idx := ix2 ⟨4 * ((x 0).val % 1024) + (x 0).val / 1024, by have := idx2_lt0 x; omega⟩ (x 1)
/-- The row of the array rearranged by four which the rearrangement by sixteen puts at a row. -/
def src16 (x : S4096x128.Idx) : S4096x128.Idx := ix2 ⟨1024 * ((x 0).val / 256 % 4) + 4 * ((x 0).val % 256) + (x 0).val / 1024, by have := idx2_lt0 x; omega⟩ (x 1)
/-- Rearranged by four. -/
def wide4 (X : Vec F S1x1x4096x128 .bf16) : Vec F S4096x128 .f32 := fun x => wide X (src4 x)
/-- The operands rearranged by four. -/
def arr4 (Q K V : Vec F S1x1x4096x128 .bf16) : Vec F S3x4096x128 .bf16 :=
  fun x => truncf .bf16 (wide4 (pick Q K V (x 0))) bitsLt_bf16_f32 (ix2 (x 1) (x 2))
/-- The operands rearranged by sixteen. -/
def arr16 (Q K V : Vec F S1x1x4096x128 .bf16) : Vec F S3x4096x128 .bf16 :=
  fun x => truncf .bf16 (wide4 (pick Q K V (x 0))) bitsLt_bf16_f32 (src16 (ix2 (x 1) (x 2)))

/-- What the body leaves in the result's block, from the blocks it reads. -/
def outBlock (Q K V : Vec F S1x1x4096x128 .bf16) (T : Vec F S3x1x2x256x256 .f32) : Vec F S1x1x4096x128 .bf16 :=
  outOf Q K V T (A4 (arr4 Q K V) T) (L4 (arr4 Q K V) T) (M4 (arr4 Q K V) T) (A16 (arr16 Q K V) T) (L16 (arr16 Q K V) T) (M16 (arr16 Q K V) T)

end Cert.KernelIdeal.Band

end
-- ==== Proof.Steps.lean ====
/-
  One block's stores: each unit of the three dilations writes the rows its block owns of the arrays of Vals.lean.
-/
module

public import proofs.«01_k».proof.Proof.Vals
public import Idealize.ShloMosaic.Lib.Exec
public import Idealize.ShloMosaic.Lib.Tactic
public import Idealize.ShloMosaic.Lib.Pipeline.Kit

@[expose] public section

set_option maxRecDepth 16384

noncomputable section

namespace Cert.KernelIdeal.Band

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A buffer that reads `W` wherever `D` holds. -/
def part (c : Dev nD) {sp : Space} {S : Shape} {e : EltTy} (M : Memref sig .tc sp S e) (W : Vec F S e) (D : S.Idx → Prop) : sProp 𝕄 :=
  iprop(∃ f, ⌜∀ x, D x → M.view.read (Elt F) f x = W x⌝ ∗ (M.view.loc (c : Thread nD τ) ↦[M.view.set]{fullShare} f))

/-- A buffer that reads `W`. -/
abbrev full (c : Dev nD) {sp : Space} {S : Shape} {e : EltTy} (M : Memref sig .tc sp S e) (W : Vec F S e) : sProp 𝕄 := part c M W fun _ => True

/-! ## The offsets in closed form -/

theorem off43_eq : ∀ j : Fin 32, k0_off43 (BitVec.ofNat 32 j.val) = ![128 * j.val, 0] := by decide +kernel
theorem off44_eq : ∀ j : Fin 32, k0_off44 (BitVec.ofNat 32 j.val) = ![128 * (prev j).val, 0] := by decide +kernel
theorem off45_eq : ∀ j : Fin 32, k0_off45 (BitVec.ofNat 32 j.val) = ![2, 0, (later 2 j).val, 0, 0] := by decide +kernel
theorem off46_eq : ∀ j : Fin 32, k0_off46 (BitVec.ofNat 32 j.val) = ![j.val / 2 + j.val % 2 * 2048, 0] := by decide +kernel
theorem off47_eq : ∀ j : Fin 32, k0_off47 (BitVec.ofNat 32 j.val) = ![1, 0, (later 8 j).val, 0, 0] := by decide +kernel
theorem off48_eq : ∀ j : Fin 32, k0_off48 (BitVec.ofNat 32 j.val) = ![j.val / 8 + j.val % 8 * 512, 0] := by decide +kernel
theorem off49_eq : ∀ j : Fin 32, k0_off49 (BitVec.ofNat 32 j.val) = ![0, 0, (later 32 j).val, 0, 0] := by decide +kernel
theorem off50_eq : ∀ j : Fin 32, k0_off50 (BitVec.ofNat 32 j.val) = ![0, 0, 128 * j.val, 0] := by decide +kernel

/-! ## What the loads read -/

/-- Rows of one plane. -/
theorem read_plane (P : Memref sig .tc .vmem S3x4096x128 .bf16) (f : BufTy.Contents (Elt F) P.view.ty) (X : Vec F S3x4096x128 .bf16)
    (h : ∀ x, P.view.read (Elt F) f x = X x) (t : Fin 3) (inb : ∀ a, (![t.val, 0, 0] : Fin 3 → ℕ) a + S1x4096x128.size a ≤ S3x4096x128.size a)
    (o : Fin 2 → ℕ) (io) (j : Fin 32) (ho : o = ![128 * j.val, 0]) :
    View.readAt (Elt F) ((P.slice (Rect.unit (s := S3x4096x128) ![t.val, 0, 0] S1x4096x128.size inb) (fun _ => rfl)).squeeze S4096x128 squeezes_S1x4096x128_S4096x128).view
      (Rect.unit (s := S4096x128) o S128x128.size io).toLoadRect f = block (plane X t) j := by
  subst ho
  refine funext fun (y : S128x128.Idx) => ?_
  obtain ⟨a, b, rfl⟩ : ∃ (a b : Fin 128), y = ix2 a b := ⟨y 0, y 1, eq_ix2 y⟩
  refine Eq.trans (b := P.view.read (Elt F) f ((Rect.unit (s := S3x4096x128) ![t.val, 0, 0] S1x4096x128.size inb).emb (Shape.reshapeEquiv squeezes_S1x4096x128_S4096x128.numel_eq
    ((Rect.unit (s := S4096x128) ![128 * j.val, 0] S128x128.size io).toLoadRect.idx (ix2 a b))))) rfl ?_
  rw [h]
  refine congrArg X ?_
  have e : (Rect.unit (s := S4096x128) ![128 * j.val, 0] S128x128.size io).toLoadRect.idx (ix2 a b) = ix2 (n0 := 4096) (n1 := 128) ⟨128 * j.val + a.val, by omega⟩ b := by
    funext ax; match ax with
    | ⟨0, _⟩ => exact Fin.ext (by show 128 * j.val + 1 * a.val = _; rw [Nat.one_mul])
    | ⟨1, _⟩ => exact Fin.ext (by show 0 + 1 * b.val = _; rw [Nat.one_mul, Nat.zero_add])
  rw [e, reshapeEquiv_ix2_1ab]
  funext ax; match ax with
  | ⟨0, _⟩ => exact Fin.ext (by show t.val + 1 * 0 = _; rfl)
  | ⟨1, _⟩ => exact Fin.ext (by show 0 + 1 * (128 * j.val + a.val) = _; rw [Nat.one_mul, Nat.zero_add])
  | ⟨2, _⟩ => exact Fin.ext (by show 0 + 1 * b.val = _; rw [Nat.one_mul, Nat.zero_add])

/-- Rows of a staged operand. -/
theorem read_rows (P : Memref sig .tc .vmem S1x1x4096x128 .bf16) (f : BufTy.Contents (Elt F) P.view.ty) (X : Vec F S1x1x4096x128 .bf16)
    (h : ∀ x, P.view.read (Elt F) f x = X x) (inb) (o : Fin 2 → ℕ) (io) (j : Fin 32) (ho : o = ![128 * j.val, 0]) :
    View.readAt (Elt F) ((P.slice (Rect.unit (s := S1x1x4096x128) ![0, 0, 0, 0] S1x1x4096x128.size inb) (fun _ => rfl)).squeeze S4096x128 squeezes_S1x1x4096x128_S4096x128).view
      (Rect.unit (s := S4096x128) o S128x128.size io).toLoadRect f = block (rows X) j := by
  subst ho
  refine funext fun (y : S128x128.Idx) => ?_
  obtain ⟨a, b, rfl⟩ : ∃ (a b : Fin 128), y = ix2 a b := ⟨y 0, y 1, eq_ix2 y⟩
  refine Eq.trans (b := P.view.read (Elt F) f ((Rect.unit (s := S1x1x4096x128) ![0, 0, 0, 0] S1x1x4096x128.size inb).emb (Shape.reshapeEquiv squeezes_S1x1x4096x128_S4096x128.numel_eq
    ((Rect.unit (s := S4096x128) ![128 * j.val, 0] S128x128.size io).toLoadRect.idx (ix2 a b))))) rfl ?_
  rw [h]
  refine congrArg X ?_
  have e : (Rect.unit (s := S4096x128) ![128 * j.val, 0] S128x128.size io).toLoadRect.idx (ix2 a b) = ix2 (n0 := 4096) (n1 := 128) ⟨128 * j.val + a.val, by omega⟩ b := by
    funext ax; match ax with
    | ⟨0, _⟩ => exact Fin.ext (by show 128 * j.val + 1 * a.val = _; rw [Nat.one_mul])
    | ⟨1, _⟩ => exact Fin.ext (by show 0 + 1 * b.val = _; rw [Nat.one_mul, Nat.zero_add])
  rw [e, reshapeEquiv_ix2_11ab]
  funext ax; match ax with
  | ⟨0, _⟩ => rfl
  | ⟨1, _⟩ => rfl
  | ⟨2, _⟩ => exact Fin.ext (by show 0 + 1 * (128 * j.val + a.val) = _; rw [Nat.one_mul, Nat.zero_add])
  | ⟨3, _⟩ => exact Fin.ext (by show 0 + 1 * b.val = _; rw [Nat.one_mul, Nat.zero_add])

/-- A block of rows of an f32 array. -/
theorem read_block (P : Memref sig .tc .vmem S4096x128 .f32) (f : BufTy.Contents (Elt F) P.view.ty) (X : Vec F S4096x128 .f32)
    (h : ∀ x, P.view.read (Elt F) f x = X x) (o : Fin 2 → ℕ) (io) (j : Fin 32) (ho : o = ![128 * j.val, 0]) :
    View.readAt (Elt F) P.view (Rect.unit (s := S4096x128) o S128x128.size io).toLoadRect f = block X j := by
  subst ho
  refine funext fun (y : S128x128.Idx) => ?_
  rw [View.readAt_apply, h]
  refine congrArg X ?_
  funext a; match a with
    | ⟨0, _⟩ => exact Fin.ext (by show 128 * j.val + 1 * (y 0).val = _; rw [Nat.one_mul])
    | ⟨1, _⟩ => exact Fin.ext (by show 0 + 1 * (y 1).val = _; rw [Nat.one_mul, Nat.zero_add])

/-- One table. -/
theorem read_tab (T : Memref sig .tc .vmem S3x1x2x256x256 .f32) (f : BufTy.Contents (Elt F) T.view.ty) (X : Vec F S3x1x2x256x256 .f32)
    (h : ∀ x, T.view.read (Elt F) f x = X x) (o : Fin 5 → ℕ) (io) (p : Fin 3) (l : Fin 2) (ho : o = ![p.val, 0, l.val, 0, 0]) :
    View.readAt (Elt F) T.view (Rect.unit (s := S3x1x2x256x256) o S1x1x1x256x256.size io).toLoadRect f = tab X p l := by
  subst ho
  refine funext fun (y : S1x1x1x256x256.Idx) => ?_
  rw [View.readAt_apply, h]
  refine congrArg X ?_
  have h0 : (y 0).val = 0 := by have : (y 0).val < 1 := (y 0).isLt; omega
  have h1 : (y 1).val = 0 := by have : (y 1).val < 1 := (y 1).isLt; omega
  have h2 : (y 2).val = 0 := by have : (y 2).val < 1 := (y 2).isLt; omega
  funext a; match a with
  | ⟨0, _⟩ => exact Fin.ext (by show p.val + 1 * (y 0).val = p.val; omega)
  | ⟨1, _⟩ => exact Fin.ext (by show 0 + 1 * (y 1).val = 0; omega)
  | ⟨2, _⟩ => exact Fin.ext (by show l.val + 1 * (y 2).val = l.val; omega)
  | ⟨3, _⟩ => exact Fin.ext (by show 0 + 1 * (y 3).val = _; rw [Nat.one_mul, Nat.zero_add])
  | ⟨4, _⟩ => exact Fin.ext (by show 0 + 1 * (y 4).val = _; rw [Nat.one_mul, Nat.zero_add])

/-! ## Where the stores go -/

/-- A store at stride `d` of block `j`, the places of whose elements the maps `u`, `y` say. -/
theorem fill (M : Memref sig .tc .vmem S4096x128 .f32) (f : BufTy.Contents (Elt F) M.view.ty) (u : S4096x128.Idx → Fin 32)
    (y : S4096x128.Idx → S128x128.Idx) (v : Fin 32 → Vec F S128x128 .f32) (j : Fin 32)
    (o : Fin 2 → ℕ) (d s : ℕ) (ib) (sp) (w : Vec F S128x128 .f32) (hw : w = v j) (ho : o = ![s, 0])
    (hu : ∀ x : S4096x128.Idx, ∀ a : Fin 128, (x 0).val = s + d * a.val → u x = j ∧ y x = ix2 a (x 1))
    (hs : ∀ x : S4096x128.Idx, u x = j → (x 0).val = s + d * (y x 0).val)
    (h : ∀ x, (u x).val < j.val → M.view.read (Elt F) f x = v (u x) (y x)) :
    ∀ x, (u x).val < j.val + 1 → M.view.read (Elt F) (M.view.writes (Elt F) f [⟨(⟨⟨o, S128x128.size, ![d, 1], ib⟩, sp⟩ : Rect S4096x128), w⟩]) x = v (u x) (y x) := by
  subst ho
  subst hw
  refine Cert.Fill.store M.view f _ _ (fun x => v (u x) (y x)) _ _ h (fun (x : S128x128.Idx) => ?_) (fun x hx => ?_)
  · obtain ⟨e1, e2⟩ := hu ((⟨⟨![s, 0], S128x128.size, ![d, 1], ib⟩, sp⟩ : Rect S4096x128).emb x) (x 0) rfl
    show _ = v (u _) (y _)
    rw [e1, e2]
    refine congrArg (v j) ?_
    funext a; match a with
    | ⟨0, _⟩ => rfl
    | ⟨1, _⟩ => exact Fin.ext (by show _ = 0 + 1 * (x 1).val; rw [Nat.one_mul, Nat.zero_add]; rfl)
  · by_cases hj : u x = j
    · exact .inr (Cert.Fill.mem2 _ x (y x 0).val (x 1).val ⟨(y x 0).isLt, hs x hj⟩ ⟨(x 1).isLt, by show _ = 0 + 1 * (x 1).val; rw [Nat.one_mul, Nat.zero_add]⟩)
    · exact .inl (by have : (u x).val ≠ j.val := fun e => hj (Fin.ext e); omega)

theorem row16 (r j a : ℕ) (hj : j < 32) (ha : a < 128) (h : r = j / 2 + j % 2 * 2048 + 16 * a) : 2 * (r % 16) + r / 2048 = j ∧ r / 16 % 128 = a := by
  obtain ⟨b, hb⟩ : ∃ b, b = j / 2 := ⟨_, rfl⟩
  obtain ⟨e, he⟩ : ∃ e, e = j % 2 := ⟨_, rfl⟩
  have hj' : j = 2 * b + e := by omega
  rw [← hb, ← he] at h
  have hb' : b < 16 := by omega
  have h1 : r / 16 = 128 * e + a := by omega
  have h2 : r % 16 = b := by omega
  have h3 : r / 2048 = e := by rw [show 2048 = 16 * 128 from rfl, ← Nat.div_div_eq_div_mul, h1]; omega
  refine ⟨by rw [h2, h3, hj'], by rw [h1]; omega⟩
theorem row16' (r : ℕ) (hr : r < 4096) : r = (2 * (r % 16) + r / 2048) / 2 + (2 * (r % 16) + r / 2048) % 2 * 2048 + 16 * (r / 16 % 128) := by
  have h3 : r / 2048 = r / 16 / 128 := by rw [Nat.div_div_eq_div_mul]
  have h4 : r / 16 / 128 < 2 := by omega
  rw [h3]
  have h5 : (2 * (r % 16) + r / 16 / 128) / 2 = r % 16 := by omega
  have h6 : (2 * (r % 16) + r / 16 / 128) % 2 = r / 16 / 128 := by omega
  rw [h5, h6]; omega
theorem u16_of (j : Fin 32) (x : S4096x128.Idx) (a : Fin 128) (h : (x 0).val = j.val / 2 + j.val % 2 * 2048 + 16 * a.val) : u16 x = j ∧ y16 x = ix2 a (x 1) := by
  obtain ⟨h1, h2⟩ := row16 _ _ _ j.isLt a.isLt h
  exact ⟨Fin.ext h1, congrArg (fun b => ix2 b (x 1)) (Fin.ext h2)⟩
theorem of_u16 (j : Fin 32) (x : S4096x128.Idx) (h : u16 x = j) : (x 0).val = j.val / 2 + j.val % 2 * 2048 + 16 * (y16 x 0).val := by
  subst h
  exact row16' _ (idx2_lt0 x)

theorem row4 (r j a : ℕ) (hj : j < 32) (ha : a < 128) (h : r = j / 8 + j % 8 * 512 + 4 * a) : 8 * (r % 4) + r / 512 = j ∧ r / 4 % 128 = a := by
  obtain ⟨b, hb⟩ : ∃ b, b = j / 8 := ⟨_, rfl⟩
  obtain ⟨e, he⟩ : ∃ e, e = j % 8 := ⟨_, rfl⟩
  have hj' : j = 8 * b + e := by omega
  rw [← hb, ← he] at h
  have hb' : b < 4 := by omega
  have h1 : r / 4 = 128 * e + a := by omega
  have h2 : r % 4 = b := by omega
  have h3 : r / 512 = e := by rw [show 512 = 4 * 128 from rfl, ← Nat.div_div_eq_div_mul, h1]; omega
  refine ⟨by rw [h2, h3, hj'], by rw [h1]; omega⟩
theorem row4' (r : ℕ) (hr : r < 4096) : r = (8 * (r % 4) + r / 512) / 8 + (8 * (r % 4) + r / 512) % 8 * 512 + 4 * (r / 4 % 128) := by
  have h3 : r / 512 = r / 4 / 128 := by rw [Nat.div_div_eq_div_mul]
  have h4 : r / 4 / 128 < 8 := by omega
  rw [h3]
  have h5 : (8 * (r % 4) + r / 4 / 128) / 8 = r % 4 := by omega
  have h6 : (8 * (r % 4) + r / 4 / 128) % 8 = r / 4 / 128 := by omega
  rw [h5, h6]; omega
theorem u4_of (j : Fin 32) (x : S4096x128.Idx) (a : Fin 128) (h : (x 0).val = j.val / 8 + j.val % 8 * 512 + 4 * a.val) : u4 x = j ∧ y4 x = ix2 a (x 1) := by
  obtain ⟨h1, h2⟩ := row4 _ _ _ j.isLt a.isLt h
  exact ⟨Fin.ext h1, congrArg (fun b => ix2 b (x 1)) (Fin.ext h2)⟩
theorem of_u4 (j : Fin 32) (x : S4096x128.Idx) (h : u4 x = j) : (x 0).val = j.val / 8 + j.val % 8 * 512 + 4 * (y4 x 0).val := by
  subst h
  exact row4' _ (idx2_lt0 x)

/-! ## One block of a dilation -/

/-- A cast to the same shape is the identity. -/
theorem recast {s : Shape} {α : Type} (x : s.Idx → α) (h : s.ShapeCasts s) : shapeCast s x h = x :=
  funext fun j => congrArg x (Shape.reshapeEquiv_self h j)

theorem unit16_step (𝒱 : Variants) (c : Dev nD) (bd : Option 𝒱.V) (E : Set ℕ)
    (T : Memref sig .tc .vmem S3x1x2x256x256 .f32) (hT : T.IsWhole) (P : Memref sig .tc .vmem S3x4096x128 .bf16) (hP : P.IsWhole)
    (A L M : Memref sig .tc .vmem S4096x128 .f32) (hA : A.IsWhole) (hL : L.IsWhole) (hM : M.IsWhole) (j : Fin 32)
    (XT : Vec F S3x1x2x256x256 .f32) (XP : Vec F S3x4096x128 .bf16) (Q : PUnit → sProp 𝕄) :
    iprop(full c T XT ∗ full c P XP ∗ part c A (A16 XP XT) (fun x => (u16 x).val < j.val) ∗ part c L (L16 XP XT) (fun x => (u16 x).val < j.val) ∗ part c M (M16 XP XT) (fun x => (u16 x).val < j.val)
      ∗ (iprop(full c T XT ∗ full c P XP ∗ part c A (A16 XP XT) (fun x => (u16 x).val < j.val + 1) ∗ part c L (L16 XP XT) (fun x => (u16 x).val < j.val + 1) ∗ part c M (M16 XP XT) (fun x => (u16 x).val < j.val + 1)) -∗ Q ⟨⟩))
    ⊢ wp frame (wpE (defs₀ (F := F)) 𝒱 (c : Thread nD τ) bd) E (unit16 first firstF secondF onesC T P A L M j) Q := by
  unfold full part
  iintro ⟨⟨%fT, %hfT, HT⟩, ⟨%fP, %hfP, HP⟩, ⟨%fA, %hfA, HA⟩, ⟨%fL, %hfL, HL⟩, ⟨%fM, %hfM, HM⟩, Hk⟩
  have hfT' : ∀ x, T.view.read (Elt F) fT x = XT x := fun x => hfT x trivial
  have hfP' : ∀ x, P.view.read (Elt F) fP x = XP x := fun x => hfP x trivial
  have eq := read_plane P fP XP hfP' 0 inb_S3x4096x128_S1x4096x128_0_0_0 _ (k0_off43_inb j) j (off43_eq j)
  have ekp := read_plane P fP XP hfP' 1 inb_S3x4096x128_S1x4096x128_1_0_0 _ (k0_off44_inb j) (prev j) (off44_eq j)
  have ekc := read_plane P fP XP hfP' 1 inb_S3x4096x128_S1x4096x128_1_0_0 _ (k0_off43_inb j) j (off43_eq j)
  have evp := read_plane P fP XP hfP' 2 inb_S3x4096x128_S1x4096x128_2_0_0 _ (k0_off44_inb j) (prev j) (off44_eq j)
  have evc := read_plane P fP XP hfP' 2 inb_S3x4096x128_S1x4096x128_2_0_0 _ (k0_off43_inb j) j (off43_eq j)
  have et := read_tab T fT XT hfT' _ (k0_off45_inb j) 2 (later 2 j) (off45_eq j)
  unfold unit16
  sl_exec
  sl_step
  iapply Hk
  isplitl [HT]
  · iexists _; isplitr; swap
    · iexact HT
    · ipureintro; exact hfT
  isplitl [HP]
  · iexists _; isplitr; swap
    · iexact HP
    · ipureintro; exact hfP
  isplitl [HA]
  · iexists _; isplitr; swap
    · iexact HA
    · ipureintro
      refine fill A fA u16 y16 (fun j => accOf first (pvAt (plane XP 0) (plane XP 1) (plane XP 2) XT 2 2 j)) j _ 16 (j.val / 2 + j.val % 2 * 2048) _ _ _ ?_ (off46_eq j) (u16_of j) (of_u16 j) hfA
      unfold pvAt scoreAt
      rw [← eq, ← ekp, ← ekc, ← evp, ← evc, ← et]
      exact recast _ _
  isplitl [HL]
  · iexists _; isplitr; swap
    · iexact HL
    · ipureintro
      refine fill L fL u16 y16 (fun j => denOf first (pvAt (plane XP 0) (plane XP 1) (plane XP 2) XT 2 2 j)) j _ 16 (j.val / 2 + j.val % 2 * 2048) _ _ _ ?_ (off46_eq j) (u16_of j) (of_u16 j) hfL
      unfold pvAt scoreAt
      rw [← eq, ← ekp, ← ekc, ← evp, ← evc, ← et]
      exact recast _ _
  · iexists _; isplitr; swap
    · iexact HM
    · ipureintro
      refine fill M fM u16 y16 (fun j => maxOf first (scoreAt (plane XP 0) (plane XP 1) XT 2 2 j)) j _ 16 (j.val / 2 + j.val % 2 * 2048) _ _ _ ?_ (off46_eq j) (u16_of j) (of_u16 j) hfM
      unfold scoreAt
      rw [← eq, ← ekp, ← ekc, ← et]
      exact recast _ _

theorem unit4_step (𝒱 : Variants) (c : Dev nD) (bd : Option 𝒱.V) (E : Set ℕ)
    (T : Memref sig .tc .vmem S3x1x2x256x256 .f32) (hT : T.IsWhole) (P : Memref sig .tc .vmem S3x4096x128 .bf16) (hP : P.IsWhole)
    (A L M : Memref sig .tc .vmem S4096x128 .f32) (hA : A.IsWhole) (hL : L.IsWhole) (hM : M.IsWhole) (j : Fin 32)
    (XT : Vec F S3x1x2x256x256 .f32) (XP : Vec F S3x4096x128 .bf16) (Q : PUnit → sProp 𝕄) :
    iprop(full c T XT ∗ full c P XP ∗ part c A (A4 XP XT) (fun x => (u4 x).val < j.val) ∗ part c L (L4 XP XT) (fun x => (u4 x).val < j.val) ∗ part c M (M4 XP XT) (fun x => (u4 x).val < j.val)
      ∗ (iprop(full c T XT ∗ full c P XP ∗ part c A (A4 XP XT) (fun x => (u4 x).val < j.val + 1) ∗ part c L (L4 XP XT) (fun x => (u4 x).val < j.val + 1) ∗ part c M (M4 XP XT) (fun x => (u4 x).val < j.val + 1)) -∗ Q ⟨⟩))
    ⊢ wp frame (wpE (defs₀ (F := F)) 𝒱 (c : Thread nD τ) bd) E (unit4 first firstF secondF onesC T P A L M j) Q := by
  unfold full part
  iintro ⟨⟨%fT, %hfT, HT⟩, ⟨%fP, %hfP, HP⟩, ⟨%fA, %hfA, HA⟩, ⟨%fL, %hfL, HL⟩, ⟨%fM, %hfM, HM⟩, Hk⟩
  have hfT' : ∀ x, T.view.read (Elt F) fT x = XT x := fun x => hfT x trivial
  have hfP' : ∀ x, P.view.read (Elt F) fP x = XP x := fun x => hfP x trivial
  have eq := read_plane P fP XP hfP' 0 inb_S3x4096x128_S1x4096x128_0_0_0 _ (k0_off43_inb j) j (off43_eq j)
  have ekp := read_plane P fP XP hfP' 1 inb_S3x4096x128_S1x4096x128_1_0_0 _ (k0_off44_inb j) (prev j) (off44_eq j)
  have ekc := read_plane P fP XP hfP' 1 inb_S3x4096x128_S1x4096x128_1_0_0 _ (k0_off43_inb j) j (off43_eq j)
  have evp := read_plane P fP XP hfP' 2 inb_S3x4096x128_S1x4096x128_2_0_0 _ (k0_off44_inb j) (prev j) (off44_eq j)
  have evc := read_plane P fP XP hfP' 2 inb_S3x4096x128_S1x4096x128_2_0_0 _ (k0_off43_inb j) j (off43_eq j)
  have et := read_tab T fT XT hfT' _ (k0_off47_inb j) 1 (later 8 j) (off47_eq j)
  unfold unit4
  sl_exec
  sl_step
  iapply Hk
  isplitl [HT]
  · iexists _; isplitr; swap
    · iexact HT
    · ipureintro; exact hfT
  isplitl [HP]
  · iexists _; isplitr; swap
    · iexact HP
    · ipureintro; exact hfP
  isplitl [HA]
  · iexists _; isplitr; swap
    · iexact HA
    · ipureintro
      refine fill A fA u4 y4 (fun j => accOf first (pvAt (plane XP 0) (plane XP 1) (plane XP 2) XT 1 8 j)) j _ 4 (j.val / 8 + j.val % 8 * 512) _ _ _ ?_ (off48_eq j) (u4_of j) (of_u4 j) hfA
      unfold pvAt scoreAt
      rw [← eq, ← ekp, ← ekc, ← evp, ← evc, ← et]
      exact recast _ _
  isplitl [HL]
  · iexists _; isplitr; swap
    · iexact HL
    · ipureintro
      refine fill L fL u4 y4 (fun j => denOf first (pvAt (plane XP 0) (plane XP 1) (plane XP 2) XT 1 8 j)) j _ 4 (j.val / 8 + j.val % 8 * 512) _ _ _ ?_ (off48_eq j) (u4_of j) (of_u4 j) hfL
      unfold pvAt scoreAt
      rw [← eq, ← ekp, ← ekc, ← evp, ← evc, ← et]
      exact recast _ _
  · iexists _; isplitr; swap
    · iexact HM
    · ipureintro
      refine fill M fM u4 y4 (fun j => maxOf first (scoreAt (plane XP 0) (plane XP 1) XT 1 8 j)) j _ 4 (j.val / 8 + j.val % 8 * 512) _ _ _ ?_ (off48_eq j) (u4_of j) (of_u4 j) hfM
      unfold scoreAt
      rw [← eq, ← ekp, ← ekc, ← et]
      exact recast _ _

end Cert.KernelIdeal.Band

end
-- ==== Proof.Move.lean ====
/-
  The stores of the rearrangement of the operands: each trip widens, or takes at stride four, 256 rows.
-/
module

public import proofs.«01_k».proof.Proof.Steps
public import Idealize.ShloMosaic.Lib.Exec
public import Idealize.ShloMosaic.Lib.Tactic
public import Idealize.ShloMosaic.Lib.Pipeline.Kit

@[expose] public section

set_option maxRecDepth 16384

noncomputable section

namespace Cert.KernelIdeal.Band

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A rounding reads one entry. -/
theorem trunc_at {s s' : Shape} (x : FVec F s .f32) (y : FVec F s' .f32) (h h') (i : s.Idx) (j : s'.Idx) (e : x i = y j) :
    truncf .bf16 x h i = truncf .bf16 y h' j := congrArg (FloatOps.truncf .bf16 h) e
/-- A widening reads one entry. -/
theorem ext_at {s s' : Shape} (x : FVec F s .bf16) (y : FVec F s' .bf16) (h h') (i : s.Idx) (j : s'.Idx) (e : x i = y j) :
    extf .f32 x h i = extf .f32 y h' j := congrArg (FloatOps.extf .f32 h) e

/-- The step of the second rearrangement that fills a row. -/
def stepOf (x : S3x4096x128.Idx) : ℕ := 4 * ((x 1).val % 1024 / 256) + (x 1).val / 1024

/-- A store of 256 rows of one plane, its entries being `W`'s. -/
theorem plane_fill (P : Memref sig .tc .vmem S3x4096x128 .bf16) (f : BufTy.Contents (Elt F) P.view.ty) (W : Vec F S3x4096x128 .bf16) (D D' : S3x4096x128.Idx → Prop)
    (T : Fin 3) (o : ℕ) (ho : o + 256 ≤ 4096) (d : Fin 3 → ℕ) (hd) (ed : d = ![T.val, o, 0]) (w : FVec F S256x128 .bf16) (hc)
    (h : ∀ x, D x → P.view.read (Elt F) f x = W x)
    (hw : ∀ (a : Fin 256) (b : Fin 128), w (ix2 a b) = W (ix3 T ⟨o + a.val, by omega⟩ b))
    (hD : ∀ x, D' x → D x ∨ (x 0 = T ∧ o ≤ (x 1).val ∧ (x 1).val < o + 256)) :
    ∀ x, D' x → P.view.read (Elt F) (P.view.writes (Elt F) f [⟨Rect.unit (s := S3x4096x128) d S1x256x128.size hd, shapeCast S1x256x128 w hc⟩]) x = W x := by
  subst ed
  refine Cert.Fill.store P.view f _ _ W _ _ h (fun (x : S1x256x128.Idx) => ?_) (fun x hx => (hD x hx).imp_right ?_)
  · have h0 : (x 0).val < 1 := (x 0).isLt
    refine (shapeCast_apply (s := S256x128) _ _ x (ix2 (x 1) (x 2)) ?_).trans ((hw _ _).trans (congrArg W ?_))
    · rw [Shape.rowMajor_val_two, Shape.rowMajor_val_three]
      show (x 1).val * 128 + (x 2).val = ((x 0).val * 256 + (x 1).val) * 128 + (x 2).val
      omega
    · funext a; match a with
      | ⟨0, _⟩ => exact Fin.ext (show T.val = T.val + 1 * (x 0).val by omega)
      | ⟨1, _⟩ => exact Fin.ext (show o + (x 1).val = o + 1 * (x 1).val by omega)
      | ⟨2, _⟩ => exact Fin.ext (show (x 2).val = 0 + 1 * (x 2).val by omega)
  · rintro ⟨h0, h1, h2⟩
    have h0' : (x 0).val = T.val := congrArg Fin.val h0
    refine Cert.Fill.mem3 _ x 0 ((x 1).val - o) (x 2).val ⟨Nat.one_pos, ?_⟩ ⟨show (x 1).val - o < 256 by omega, ?_⟩ ⟨(x 2).isLt, ?_⟩
    · show (x 0).val = T.val + 1 * 0; omega
    · show (x 1).val = o + 1 * ((x 1).val - o); omega
    · show (x 2).val = 0 + 1 * (x 2).val; omega

/-- A store of 256 rows, its entries being `W`'s. -/
theorem rows_fill (Y : Memref sig .tc .vmem S4096x128 .f32) (f : BufTy.Contents (Elt F) Y.view.ty) (W : Vec F S4096x128 .f32) (D D' : S4096x128.Idx → Prop)
    (o : ℕ) (ho : o + 256 ≤ 4096) (b : Fin 2 → ℕ) (hb) (eb : b = ![o, 0]) (w : FVec F S256x128 .f32) (hc : S256x128.ShapeCasts S256x128)
    (h : ∀ x, D x → Y.view.read (Elt F) f x = W x)
    (hw : ∀ (a : Fin 256) (b : Fin 128), w (ix2 a b) = W (ix2 ⟨o + a.val, by omega⟩ b))
    (hD : ∀ x, D' x → D x ∨ (o ≤ (x 0).val ∧ (x 0).val < o + 256)) :
    ∀ x, D' x → Y.view.read (Elt F) (Y.view.writes (Elt F) f [⟨Rect.unit (s := S4096x128) b S256x128.size hb, shapeCast S256x128 w hc⟩]) x = W x := by
  subst eb
  rw [recast]
  refine Cert.Fill.store Y.view f _ _ W _ _ h (fun (x : S256x128.Idx) => ?_) (fun x hx => (hD x hx).imp_right ?_)
  · refine (congrArg w (eq_ix2 x)).trans ((hw _ _).trans (congrArg W ?_))
    funext a; match a with
    | ⟨0, _⟩ => exact Fin.ext (show o + (x 0).val = o + 1 * (x 0).val by omega)
    | ⟨1, _⟩ => exact Fin.ext (show (x 1).val = 0 + 1 * (x 1).val by omega)
  · rintro ⟨h1, h2⟩
    refine Cert.Fill.mem2 _ x ((x 0).val - o) (x 1).val ⟨show (x 0).val - o < 256 by omega, ?_⟩ ⟨(x 1).isLt, ?_⟩
    · show (x 0).val = o + 1 * ((x 0).val - o); omega
    · show (x 1).val = 0 + 1 * (x 1).val; omega

/-- 256 rows taken at stride four. -/
theorem read_strided (Y : Memref sig .tc .vmem S4096x128 .f32) (f : BufTy.Contents (Elt F) Y.view.ty) (W : Vec F S4096x128 .f32) (h : ∀ x, Y.view.read (Elt F) f x = W x)
    (o : ℕ) (ho : o + 1020 < 4096) (a : Fin 2 → ℕ) (ea : a = ![o, 0]) (io) (y : Fin 256) (z : Fin 128) :
    View.readAt (Elt F) Y.view (⟨a, S256x128.size, ![4, 1], io⟩ : LoadRect S4096x128) f (ix2 y z) = W (ix2 ⟨o + 4 * y.val, by omega⟩ z) := by
  subst ea
  refine (h _).trans (congrArg W ?_)
  funext a; match a with
  | ⟨0, _⟩ => rfl
  | ⟨1, _⟩ => exact Fin.ext (show 0 + 1 * z.val = z.val by omega)

variable (𝒱 : Variants) (c : Dev nD) (bd : Option 𝒱.V) (E : Set ℕ)

/-- One step of the second rearrangement. -/
theorem move_step (Y : Memref sig .tc .vmem S4096x128 .f32) (hY : Y.IsWhole) (P : Memref sig .tc .vmem S3x4096x128 .bf16) (hP : P.IsWhole) (T : Fin 3) (n : Fin 16)
    (XQ XK XV : Vec F S1x1x4096x128 .bf16) (R : PUnit → sProp 𝕄) :
    iprop(full c Y (wide4 (pick XQ XK XV T)) ∗ part c P (arr16 XQ XK XV) (fun x => (x 0).val < T.val ∨ (x 0 = T ∧ stepOf x < n.val))
      ∗ (iprop(full c Y (wide4 (pick XQ XK XV T)) ∗ part c P (arr16 XQ XK XV) (fun x => (x 0).val < T.val ∨ (x 0 = T ∧ stepOf x < n.val + 1))) -∗ R ⟨⟩))
    ⊢ wp frame (wpE (defs₀ (F := F)) 𝒱 (c : Thread nD τ) bd) E (move Y P hP T n) R := by
  unfold full part
  iintro ⟨⟨%fY, %gY, HY⟩, ⟨%fP, %gP, HP⟩, Hk⟩
  unfold move
  sl_exec
  sl_step
  iapply Hk
  isplitl [HY]
  · iexists _; isplitr; swap
    · iexact HY
    · ipureintro; exact gY
  · iexists _; isplitr; swap
    · iexact HP
    · ipureintro
      have hn := n.isLt
      refine plane_fill P fP (arr16 XQ XK XV) _ _ T (1024 * (n.val % 4) + 256 * (n.val / 4)) (by omega) _ _ rfl _ _ gP (fun a b => ?_) (fun x hx => ?_)
      · refine trunc_at _ _ _ _ _ _ ((read_strided Y fY _ (fun x => gY x trivial) (1024 * (n.val / 4) + n.val % 4) (by omega) _ rfl _ a b).trans (congrArg (wide4 (pick XQ XK XV T)) ?_))
        have ha := a.isLt
        obtain ⟨p, hp⟩ : ∃ p, p = n.val / 4 := ⟨_, rfl⟩
        obtain ⟨q, hq⟩ : ∃ q, q = n.val % 4 := ⟨_, rfl⟩
        refine congrArg (fun z => ix2 z b) (Fin.ext ?_)
        show 1024 * (n.val / 4) + n.val % 4 + 4 * a.val = 1024 * ((1024 * (n.val % 4) + 256 * (n.val / 4) + a.val) / 256 % 4) + 4 * ((1024 * (n.val % 4) + 256 * (n.val / 4) + a.val) % 256) + (1024 * (n.val % 4) + 256 * (n.val / 4) + a.val) / 1024
        rw [← hp, ← hq]
        have hp4 : p < 4 := by omega
        have hq4 : q < 4 := by omega
        have e1 : (1024 * q + 256 * p + a.val) / 256 = 4 * q + p := by omega
        have e2 : (1024 * q + 256 * p + a.val) % 256 = a.val := by omega
        have e3 : (1024 * q + 256 * p + a.val) / 1024 = q := by omega
        rw [e1, e2, e3]; omega
      · have hx1 : (x 1).val < 4096 := (x 1).isLt
        rcases hx with hx | ⟨h0, hx⟩
        · exact .inl (.inl hx)
        · have hs : stepOf x = 4 * ((x 1).val % 1024 / 256) + (x 1).val / 1024 := rfl
          by_cases hj : stepOf x = n.val
          · refine .inr ⟨h0, ?_⟩
            obtain ⟨p, hp⟩ : ∃ p, p = (x 1).val % 1024 / 256 := ⟨_, rfl⟩
            obtain ⟨q, hq⟩ : ∃ q, q = (x 1).val / 1024 := ⟨_, rfl⟩
            rw [hs, ← hp, ← hq] at hj
            have hp4 : p < 4 := by omega
            have hq4 : q < 4 := by omega
            have e1 : n.val % 4 = q := by omega
            have e2 : n.val / 4 = p := by omega
            rw [e1, e2]; omega
          · exact .inl (.inr ⟨h0, by omega⟩)

/-- One trip of the rearrangement by four: residue `r`, part `u`. -/
theorem by4_step (N Y : Memref sig .tc .vmem S4096x128 .f32) (hN : N.IsWhole) (hY : Y.IsWhole) (P : Memref sig .tc .vmem S3x4096x128 .bf16) (hP : P.IsWhole) (T : Fin 3) (r u : ℕ) (hr : r < 4) (hu : u < 4)
    (a b : Fin 2 → ℕ) (d : Fin 3 → ℕ) (ha hb hd hp) (ea : a = ![r + 1024 * u, 0]) (eb : b = ![1024 * r + 256 * u, 0]) (ed : d = ![T.val, 1024 * r + 256 * u, 0])
    (XQ XK XV : Vec F S1x1x4096x128 .bf16) (R : PUnit → sProp 𝕄) :
    iprop(full c N (wide (pick XQ XK XV T)) ∗ part c Y (wide4 (pick XQ XK XV T)) (fun x => (x 0).val < 1024 * r + 256 * u) ∗ part c P (arr4 XQ XK XV) (fun x => (x 0).val < T.val ∨ (x 0 = T ∧ (x 1).val < 1024 * r + 256 * u))
      ∗ (iprop(full c N (wide (pick XQ XK XV T)) ∗ part c Y (wide4 (pick XQ XK XV T)) (fun x => (x 0).val < 1024 * r + 256 * (u + 1)) ∗ part c P (arr4 XQ XK XV) (fun x => (x 0).val < T.val ∨ (x 0 = T ∧ (x 1).val < 1024 * r + 256 * (u + 1)))) -∗ R ⟨⟩))
    ⊢ wp frame (wpE (defs₀ (F := F)) 𝒱 (c : Thread nD τ) bd) E (by4 N Y P hP a b d ha hb hd hp) R := by
  unfold full part
  iintro ⟨⟨%fN, %gN, HN⟩, ⟨%fY, %gY, HY⟩, ⟨%fP, %gP, HP⟩, Hk⟩
  unfold by4
  sl_exec
  sl_step
  iapply Hk
  have hs : ∀ (y : Fin 256) (z : Fin 128), View.readAt (Elt F) N.view (⟨a, S256x128.size, ![4, 1], ha⟩ : LoadRect S4096x128) fN (ix2 y z) = wide4 (pick XQ XK XV T) (ix2 ⟨1024 * r + 256 * u + y.val, by omega⟩ z) := by
    intro y z
    refine (read_strided N fN _ (fun x => gN x trivial) (r + 1024 * u) (by omega) a ea ha y z).trans (congrArg (wide (pick XQ XK XV T)) (congrArg (fun w => ix2 w z) (Fin.ext ?_)))
    have hy := y.isLt
    show r + 1024 * u + 4 * y.val = 4 * ((1024 * r + 256 * u + y.val) % 1024) + (1024 * r + 256 * u + y.val) / 1024
    have e1 : (1024 * r + 256 * u + y.val) / 1024 = r := by omega
    have e2 : (1024 * r + 256 * u + y.val) % 1024 = 256 * u + y.val := by omega
    rw [e1, e2]; omega
  isplitl [HN]
  · iexists _; isplitr; swap
    · iexact HN
    · ipureintro; exact gN
  isplitl [HY]
  · iexists _; isplitr; swap
    · iexact HY
    · ipureintro
      exact rows_fill Y fY _ _ _ (1024 * r + 256 * u) (by omega) b hb eb _ _ gY hs (fun x hx => by
        by_cases h : (x 0).val < 1024 * r + 256 * u
        · exact .inl h
        · have hx' : (x 0).val < 1024 * r + 256 * (u + 1) := hx
          exact .inr ⟨by omega, by omega⟩)
  · iexists _; isplitr; swap
    · iexact HP
    · ipureintro
      refine plane_fill P fP _ _ _ T (1024 * r + 256 * u) (by omega) d hd ed _ _ gP (fun y z => trunc_at _ _ _ _ _ _ (hs y z)) (fun x hx => ?_)
      rcases hx with hx | ⟨h0, hx⟩
      · exact .inl (.inl hx)
      · by_cases h : (x 1).val < 1024 * r + 256 * u
        · exact .inl (.inr ⟨h0, h⟩)
        · exact .inr ⟨h0, by omega, by omega⟩

/-- One trip of the widening. -/
theorem widen_step (X : Memref sig .tc .vmem S1x1x4096x128 .bf16) (hX : X.IsWhole) (N : Memref sig .tc .vmem S4096x128 .f32) (hN : N.IsWhole) (u : ℕ) (hu : u < 16)
    (a : Fin 4 → ℕ) (b : Fin 2 → ℕ) (ha hb) (ea : a = ![0, 0, 256 * u, 0]) (eb : b = ![256 * u, 0]) (W : Vec F S1x1x4096x128 .bf16) (R : PUnit → sProp 𝕄) :
    iprop(full c X W ∗ part c N (wide W) (fun x => (x 0).val < 256 * u)
      ∗ (iprop(full c X W ∗ part c N (wide W) (fun x => (x 0).val < 256 * (u + 1))) -∗ R ⟨⟩))
    ⊢ wp frame (wpE (defs₀ (F := F)) 𝒱 (c : Thread nD τ) bd) E (widen X N a b ha hb) R := by
  unfold full part
  iintro ⟨⟨%fX, %gX, HX⟩, ⟨%fN, %gN, HN⟩, Hk⟩
  unfold widen
  sl_exec
  sl_step
  iapply Hk
  isplitl [HX]
  · iexists _; isplitr; swap
    · iexact HX
    · ipureintro; exact gX
  · iexists _; isplitr; swap
    · iexact HN
    · ipureintro
      refine rows_fill N fN _ _ _ (256 * u) (by omega) b hb eb _ _ gN (fun y z => ext_at _ _ _ _ _ _ ?_) (fun x hx => ?_)
      · refine (shapeCast_apply (s := S1x1x256x128) _ _ (ix2 y z) (ix4 0 0 y z) ?_).trans ((gX _ trivial).trans ?_)
        · rw [Shape.rowMajor_val_four, Shape.rowMajor_val_two]
          show ((0 * 1 + 0) * 256 + y.val) * 128 + z.val = y.val * 128 + z.val
          omega
        · subst ea
          refine congrArg W ?_
          funext i; match i with
          | ⟨0, _⟩ => rfl
          | ⟨1, _⟩ => rfl
          | ⟨2, _⟩ => exact Fin.ext (show 256 * u + 1 * y.val = 256 * u + y.val by omega)
          | ⟨3, _⟩ => exact Fin.ext (show 0 + 1 * z.val = z.val by omega)
      · by_cases h : (x 0).val < 256 * u
        · exact .inl h
        · have hx' : (x 0).val < 256 * (u + 1) := hx
          exact .inr ⟨by omega, by omega⟩

end Cert.KernelIdeal.Band

end
-- ==== Proof.Last.lean ====
/-
  The stores of the last dilation, which also puts the three together, and of the rearrangement of the operands.
-/
module

public import proofs.«01_k».proof.Proof.Steps
public import Idealize.ShloMosaic.Lib.Exec
public import Idealize.ShloMosaic.Lib.Tactic
public import Idealize.ShloMosaic.Lib.Pipeline.Kit

@[expose] public section

set_option maxRecDepth 16384

noncomputable section

namespace Cert.KernelIdeal.Band

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

theorem unit1_step (𝒱 : Variants) (c : Dev nD) (bd : Option 𝒱.V) (E : Set ℕ)
    (Q K V : Memref sig .tc .vmem S1x1x4096x128 .bf16) (hQ : Q.IsWhole) (hK : K.IsWhole) (hV : V.IsWhole)
    (T : Memref sig .tc .vmem S3x1x2x256x256 .f32) (hT : T.IsWhole) (O : Memref sig .tc .vmem S1x1x4096x128 .bf16) (hO : O.IsWhole)
    (mA4 mL4 mM4 mA16 mL16 mM16 : Memref sig .tc .vmem S4096x128 .f32) (h1 : mA4.IsWhole) (h2 : mL4.IsWhole) (h3 : mM4.IsWhole) (h4 : mA16.IsWhole) (h5 : mL16.IsWhole) (h6 : mM16.IsWhole) (j : Fin 32)
    (XQ XK XV : Vec F S1x1x4096x128 .bf16) (XT : Vec F S3x1x2x256x256 .f32) (a4 l4 m4 a16 l16 m16 : Vec F S4096x128 .f32) (R : PUnit → sProp 𝕄) :
    iprop(full c Q XQ ∗ full c K XK ∗ full c V XV ∗ full c T XT ∗ full c mA4 a4 ∗ full c mL4 l4 ∗ full c mM4 m4 ∗ full c mA16 a16 ∗ full c mL16 l16 ∗ full c mM16 m16
        ∗ part c O (outOf XQ XK XV XT a4 l4 m4 a16 l16 m16) (fun x => (u1 (rc x)).val < j.val)
      ∗ (iprop(full c Q XQ ∗ full c K XK ∗ full c V XV ∗ full c T XT ∗ full c mA4 a4 ∗ full c mL4 l4 ∗ full c mM4 m4 ∗ full c mA16 a16 ∗ full c mL16 l16 ∗ full c mM16 m16
        ∗ part c O (outOf XQ XK XV XT a4 l4 m4 a16 l16 m16) (fun x => (u1 (rc x)).val < j.val + 1)) -∗ R ⟨⟩))
    ⊢ wp frame (wpE (defs₀ (F := F)) 𝒱 (c : Thread nD τ) bd) E (unit1 first firstF secondF onesC Q K V T O hO mA4 mL4 mM4 mA16 mL16 mM16 j) R := by
  unfold full part
  iintro ⟨⟨%fQ, %gQ, HQ⟩, ⟨%fK, %gK, HK⟩, ⟨%fV, %gV, HV⟩, ⟨%fT, %gT, HT⟩, ⟨%f1, %g1, H1⟩, ⟨%f2, %g2, H2⟩, ⟨%f3, %g3, H3⟩, ⟨%f4, %g4, H4⟩, ⟨%f5, %g5, H5⟩, ⟨%f6, %g6, H6⟩, ⟨%fO, %gO, HO⟩, Hk⟩
  have eq := read_rows Q fQ XQ (fun x => gQ x trivial) inb_S1x1x4096x128_S1x1x4096x128_0_0_0_0 _ (k0_off43_inb j) j (off43_eq j)
  have ekp := read_rows K fK XK (fun x => gK x trivial) inb_S1x1x4096x128_S1x1x4096x128_0_0_0_0 _ (k0_off44_inb j) (prev j) (off44_eq j)
  have ekc := read_rows K fK XK (fun x => gK x trivial) inb_S1x1x4096x128_S1x1x4096x128_0_0_0_0 _ (k0_off43_inb j) j (off43_eq j)
  have evp := read_rows V fV XV (fun x => gV x trivial) inb_S1x1x4096x128_S1x1x4096x128_0_0_0_0 _ (k0_off44_inb j) (prev j) (off44_eq j)
  have evc := read_rows V fV XV (fun x => gV x trivial) inb_S1x1x4096x128_S1x1x4096x128_0_0_0_0 _ (k0_off43_inb j) j (off43_eq j)
  have et := read_tab T fT XT (fun x => gT x trivial) _ (k0_off49_inb j) 0 (later 32 j) (off49_eq j)
  have e1 := read_block mA4 f1 a4 (fun x => g1 x trivial) _ (k0_off43_inb j) j (off43_eq j)
  have e2 := read_block mL4 f2 l4 (fun x => g2 x trivial) _ (k0_off43_inb j) j (off43_eq j)
  have e3 := read_block mM4 f3 m4 (fun x => g3 x trivial) _ (k0_off43_inb j) j (off43_eq j)
  have e4 := read_block mA16 f4 a16 (fun x => g4 x trivial) _ (k0_off43_inb j) j (off43_eq j)
  have e5 := read_block mL16 f5 l16 (fun x => g5 x trivial) _ (k0_off43_inb j) j (off43_eq j)
  have e6 := read_block mM16 f6 m16 (fun x => g6 x trivial) _ (k0_off43_inb j) j (off43_eq j)
  unfold unit1
  sl_exec
  sl_step
  iapply Hk
  isplitl [HQ]
  · iexists _; isplitr; swap
    · iexact HQ
    · ipureintro; exact gQ
  isplitl [HK]
  · iexists _; isplitr; swap
    · iexact HK
    · ipureintro; exact gK
  isplitl [HV]
  · iexists _; isplitr; swap
    · iexact HV
    · ipureintro; exact gV
  isplitl [HT]
  · iexists _; isplitr; swap
    · iexact HT
    · ipureintro; exact gT
  isplitl [H1]
  · iexists _; isplitr; swap
    · iexact H1
    · ipureintro; exact g1
  isplitl [H2]
  · iexists _; isplitr; swap
    · iexact H2
    · ipureintro; exact g2
  isplitl [H3]
  · iexists _; isplitr; swap
    · iexact H3
    · ipureintro; exact g3
  isplitl [H4]
  · iexists _; isplitr; swap
    · iexact H4
    · ipureintro; exact g4
  isplitl [H5]
  · iexists _; isplitr; swap
    · iexact H5
    · ipureintro; exact g5
  isplitl [H6]
  · iexists _; isplitr; swap
    · iexact H6
    · ipureintro; exact g6
  · iexists _; isplitr; swap
    · iexact HO
    · ipureintro
      refine Cert.Fill.store O.view fO _ _ (outOf XQ XK XV XT a4 l4 m4 a16 l16 m16) _ _ gO (fun (x : S1x1x128x128.Idx) => ?_) (fun x hx => ?_)
      · refine (shapeCast_apply (s := S128x128) _ _ x (ix2 (x 2) (x 3)) ?_).trans ?_
        · rw [Shape.rowMajor_val_four, Shape.rowMajor_val_two]
          have h0 : (x 0).val < 1 := (x 0).isLt
          have h1 : (x 1).val < 1 := (x 1).isLt
          show _ = (((x 0).val * 1 + (x 1).val) * 128 + (x 2).val) * 128 + (x 3).val
          show (x 2).val * 128 + (x 3).val = _
          omega
        · have hx2 : (x 2).val < 128 := (x 2).isLt
          have ho := off50_eq j
          have e : ∀ (o : Fin 4 → ℕ) (io) (ho : o = ![0, 0, 128 * j.val, 0]), u1 (rc ((Rect.unit (s := S1x1x4096x128) o S1x1x128x128.size io).emb x)) = j
              ∧ y1 (rc ((Rect.unit (s := S1x1x4096x128) o S1x1x128x128.size io).emb x)) = ix2 (x 2) (x 3) := by
            intro o io ho; subst ho
            refine ⟨Fin.ext (show (128 * j.val + 1 * (x 2).val) / 128 = j.val by omega), ?_⟩
            funext a; match a with
            | ⟨0, _⟩ => exact Fin.ext (show (128 * j.val + 1 * (x 2).val) % 128 = (x 2).val by omega)
            | ⟨1, _⟩ => exact Fin.ext (show 0 + 1 * (x 3).val = (x 3).val by omega)
          obtain ⟨ea, eb⟩ := e _ (k0_off50_inb j) ho
          show _ = blendAt XQ XK XV XT a4 l4 m4 a16 l16 m16 _ _
          rw [ea, eb]
          unfold blendAt pvAt scoreAt
          rw [← eq, ← ekp, ← ekc, ← evp, ← evc, ← et, ← e1, ← e2, ← e3, ← e4, ← e5, ← e6]
          rfl
      · by_cases hj : u1 (rc x) = j
        · right
          have hj' : (x 2).val / 128 = j.val := congrArg Fin.val hj
          have hm : ∀ (o : Fin 4 → ℕ) (io) (ho : o = ![0, 0, 128 * j.val, 0]), x ∈ (Rect.unit (s := S1x1x4096x128) o S1x1x128x128.size io).set := by
            intro o io ho; subst ho
            have h0 : (x 0).val < 1 := (x 0).isLt
            have h1 : (x 1).val < 1 := (x 1).isLt
            refine Cert.Fill.mem4 _ x 0 0 ((x 2).val % 128) (x 3).val ⟨Nat.one_pos, ?_⟩ ⟨Nat.one_pos, ?_⟩ ⟨show (x 2).val % 128 < 128 by omega, ?_⟩ ⟨(x 3).isLt, ?_⟩
            · show (x 0).val = 0 + 1 * 0; omega
            · show (x 1).val = 0 + 1 * 0; omega
            · show (x 2).val = 128 * j.val + 1 * ((x 2).val % 128); omega
            · show (x 3).val = 0 + 1 * (x 3).val; omega
          exact hm _ _ (off50_eq j)
        · left
          have hx' : (u1 (rc x)).val < j.val + 1 := hx
          have : (u1 (rc x)).val ≠ j.val := fun e => hj (Fin.ext e)
          show (u1 (rc x)).val < j.val
          omega

end Cert.KernelIdeal.Band

end
-- ==== Proof.Trips.lean ====
/-
  The loops of the body and its chains of blocks, each by one invariant.
-/
module

public import proofs.«01_k».proof.Proof.Move
public import proofs.«01_k».proof.Proof.Last
public import Idealize.ShloMosaic.Lib.Exec
public import Idealize.ShloMosaic.Lib.Tactic
public import Idealize.ShloMosaic.Lib.Pipeline.Kit

@[expose] public section

set_option maxRecDepth 16384

noncomputable section

namespace Cert.KernelIdeal.Band

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A buffer of any contents. -/
def any (c : Dev nD) {sp : Space} {S : Shape} {e : EltTy} (M : Memref sig .tc sp S e) : sProp 𝕄 :=
  iprop(∃ f : BufTy.Contents (Elt F) M.view.ty, (M.view.loc (c : Thread nD τ) ↦[M.view.set]{fullShare} f))

theorem part_any (c : Dev nD) {sp : Space} {S : Shape} {e : EltTy} (M : Memref sig .tc sp S e) (W : Vec F S e) (D : S.Idx → Prop) : part c M W D ⊢ any (F := F) c M := by
  unfold part any
  iintro ⟨%f, %g, H⟩
  iexists f
  iexact H

theorem any_part (c : Dev nD) {sp : Space} {S : Shape} {e : EltTy} (M : Memref sig .tc sp S e) (W : Vec F S e) (D : S.Idx → Prop) (h : ∀ x, ¬ D x) : any (F := F) c M ⊢ part c M W D := by
  unfold part any
  iintro ⟨%f, H⟩
  iexists f
  isplitr
  · ipureintro; exact fun x hx => absurd hx (h x)
  · iexact H

theorem part_mono (c : Dev nD) {sp : Space} {S : Shape} {e : EltTy} (M : Memref sig .tc sp S e) (W : Vec F S e) (D D' : S.Idx → Prop) (h : ∀ x, D' x → D x) : part c M W D ⊢ part c M W D' := by
  unfold part
  iintro ⟨%f, %g, H⟩
  iexists f
  isplitr
  · ipureintro; exact fun x hx => g x (h x hx)
  · iexact H

variable (𝒱 : Variants) (c : Dev nD) (bd : Option 𝒱.V) (E : Set ℕ)

/-- A chain of thirty-two blocks keeps an invariant that one block advances. -/
theorem units_fold (f : Fin 32 → Prog (TpuEff nD τ sig (Elt F) Λ₀ .tc) PUnit) (k : Prog (TpuEff nD τ sig (Elt F) Λ₀ .tc) PUnit) (I : ℕ → sProp 𝕄) (R : PUnit → sProp 𝕄)
    (step : ∀ (j : Fin 32) (R' : PUnit → sProp 𝕄), iprop(I j.val ∗ (I (j.val + 1) -∗ R' ⟨⟩)) ⊢ wp frame (wpE (defs₀ (F := F)) 𝒱 (c : Thread nD τ) bd) E (f j) R') :
    ∀ (n : ℕ) (h : n ≤ 32), iprop(I (32 - n) ∗ (I 32 -∗ wp frame (wpE (defs₀ (F := F)) 𝒱 (c : Thread nD τ) bd) E k R)) ⊢ wp frame (wpE (defs₀ (F := F)) 𝒱 (c : Thread nD τ) bd) E (units f k n h) R := by
  intro n
  induction n with
  | zero =>
    intro h
    unfold units
    iintro ⟨H, Hk⟩
    iapply Hk
    iexact H
  | succ n ih =>
    intro h
    unfold units
    rw [wp_bind]
    have e : 32 - (n + 1) = 31 - n := by omega
    have e' : 31 - n + 1 = 32 - n := by omega
    rw [e]
    have hm : 31 - n < 32 := by omega
    have hn : n ≤ 32 := by omega
    iintro ⟨H, Hk⟩
    iapply (step ⟨31 - n, hm⟩ _)
    isplitl [H]
    · iexact H
    · iintro H
      rw [show (⟨31 - n, hm⟩ : Fin 32).val + 1 = 32 - n from e']
      iapply (ih hn)
      isplitl [H]
      · iexact H
      · iexact Hk

/-- The same for sixteen steps. -/
theorem moves_fold (f : Fin 16 → Prog (TpuEff nD τ sig (Elt F) Λ₀ .tc) PUnit) (k : Prog (TpuEff nD τ sig (Elt F) Λ₀ .tc) PUnit) (I : ℕ → sProp 𝕄) (R : PUnit → sProp 𝕄)
    (step : ∀ (j : Fin 16) (R' : PUnit → sProp 𝕄), iprop(I j.val ∗ (I (j.val + 1) -∗ R' ⟨⟩)) ⊢ wp frame (wpE (defs₀ (F := F)) 𝒱 (c : Thread nD τ) bd) E (f j) R') :
    ∀ (n : ℕ) (h : n ≤ 16), iprop(I (16 - n) ∗ (I 16 -∗ wp frame (wpE (defs₀ (F := F)) 𝒱 (c : Thread nD τ) bd) E k R)) ⊢ wp frame (wpE (defs₀ (F := F)) 𝒱 (c : Thread nD τ) bd) E (moves f k n h) R := by
  intro n
  induction n with
  | zero =>
    intro h
    unfold moves
    iintro ⟨H, Hk⟩
    iapply Hk
    iexact H
  | succ n ih =>
    intro h
    unfold moves
    rw [wp_bind]
    have e : 16 - (n + 1) = 15 - n := by omega
    have e' : 15 - n + 1 = 16 - n := by omega
    rw [e]
    have hm : 15 - n < 16 := by omega
    have hn : n ≤ 16 := by omega
    iintro ⟨H, Hk⟩
    iapply (step ⟨15 - n, hm⟩ _)
    isplitl [H]
    · iexact H
    · iintro H
      rw [show (⟨15 - n, hm⟩ : Fin 16).val + 1 = 16 - n from e']
      iapply (ih hn)
      isplitl [H]
      · iexact H
      · iexact Hk

/-- The widening loop. -/
theorem widen_loop (X : Memref sig .tc .vmem S1x1x4096x128 .bf16) (hX : X.IsWhole) (N : Memref sig .tc .vmem S4096x128 .f32) (hN : N.IsWhole) (W : Vec F S1x1x4096x128 .bf16)
    (l : Scf.Loop 32) (hok : l.OK) (ht : l.trips = 16) (a : Fin l.trips → Fin 4 → ℕ) (b : Fin l.trips → Fin 2 → ℕ) (ha : ∀ u x, a u x + S1x1x256x128.size x ≤ S1x1x4096x128.size x) (hb : ∀ u x, b u x + S256x128.size x ≤ S4096x128.size x)
    (ea : ∀ u, a u = ![0, 0, 256 * u.val, 0]) (eb : ∀ u, b u = ![256 * u.val, 0]) (kk : PUnit → Prog (TpuEff nD τ sig (Elt F) Λ₀ .tc) PUnit) (R : PUnit → sProp 𝕄) :
    iprop(full c X W ∗ any (F := F) c N ∗ (iprop(full c X W ∗ full c N (wide W)) -∗ wp frame (wpE (defs₀ (F := F)) 𝒱 (c : Thread nD τ) bd) E (kk ⟨⟩) R))
    ⊢ wp frame (wpE (defs₀ (F := F)) 𝒱 (c : Thread nD τ) bd) E (Scf.Loop.for l hok (⟨⟩ : PUnit) (fun u _ => widen X N (a u) (b u) (ha u) (hb u)) >>= kk) R := by
  iintro ⟨HX, HN, Hk⟩
  iapply (Scf.wp_for_bind frame (wpE (defs₀ (F := F)) 𝒱 (c : Thread nD τ) bd) E l.lb l.ub l.st hok ⟨⟩ (fun u _ => widen X N (a u) (b u) (ha u) (hb u))
    (fun n _ => iprop(full c X W ∗ part c N (wide W) (fun x => (x 0).val < 256 * n))) (fun k acc => ?_)) $$ [HX HN]
  · iintro ⟨HX, HN⟩
    iapply (widen_step 𝒱 c bd E X hX N hN k.val (ht ▸ k.isLt) _ _ _ _ (ea k) (eb k) W)
    isplitl [HX]
    · iexact HX
    isplitl [HN]
    · iexact HN
    · iintro H; iexact H
  · isplitl [HX]
    · iexact HX
    · iapply (any_part c N (wide W) _ (fun x hx => Nat.not_lt_zero _ hx))
      iexact HN
  · iintro %acc ⟨HX, HN⟩
    iapply Hk
    isplitl [HX]
    · iexact HX
    · iapply (part_mono c N (wide W) _ _ (fun x _ => ?_))
      · show (x 0).val < 256 * l.trips
        have := idx2_lt0 x
        omega
      · iexact HN

/-- One residue's loop of the rearrangement by four. -/
theorem by4_loop (N Y : Memref sig .tc .vmem S4096x128 .f32) (hN : N.IsWhole) (hY : Y.IsWhole) (P : Memref sig .tc .vmem S3x4096x128 .bf16) (hP : P.IsWhole) (T : Fin 3) (r : ℕ) (hr : r < 4) (XQ XK XV : Vec F S1x1x4096x128 .bf16)
    (l : Scf.Loop 32) (hok : l.OK) (ht : l.trips = 4) (a b : Fin l.trips → Fin 2 → ℕ) (d : Fin l.trips → Fin 3 → ℕ)
    (ha : ∀ u x, S256x128.size x = 0 ∨ a u x + (![4, 1] : Fin 2 → Nat) x * (S256x128.size x - 1) < S4096x128.size x) (hb : ∀ u x, b u x + S256x128.size x ≤ S4096x128.size x) (hd : ∀ u x, d u x + S1x256x128.size x ≤ S3x4096x128.size x) (hp : ∀ u, (Rect.unit (s := S3x4096x128) (d u) S1x256x128.size (hd u)).PackedRows (EltTy.packing .bf16))
    (ea : ∀ u, a u = ![r + 1024 * u.val, 0]) (eb : ∀ u, b u = ![1024 * r + 256 * u.val, 0]) (ed : ∀ u, d u = ![T.val, 1024 * r + 256 * u.val, 0]) (kk : PUnit → Prog (TpuEff nD τ sig (Elt F) Λ₀ .tc) PUnit) (R : PUnit → sProp 𝕄) :
    iprop(full c N (wide (pick XQ XK XV T)) ∗ part c Y (wide4 (pick XQ XK XV T)) (fun x => (x 0).val < 1024 * r) ∗ part c P (arr4 XQ XK XV) (fun x => (x 0).val < T.val ∨ (x 0 = T ∧ (x 1).val < 1024 * r))
      ∗ (iprop(full c N (wide (pick XQ XK XV T)) ∗ part c Y (wide4 (pick XQ XK XV T)) (fun x => (x 0).val < 1024 * (r + 1)) ∗ part c P (arr4 XQ XK XV) (fun x => (x 0).val < T.val ∨ (x 0 = T ∧ (x 1).val < 1024 * (r + 1)))) -∗ wp frame (wpE (defs₀ (F := F)) 𝒱 (c : Thread nD τ) bd) E (kk ⟨⟩) R))
    ⊢ wp frame (wpE (defs₀ (F := F)) 𝒱 (c : Thread nD τ) bd) E (Scf.Loop.for l hok (⟨⟩ : PUnit) (fun u _ => by4 N Y P hP (a u) (b u) (d u) (ha u) (hb u) (hd u) (hp u)) >>= kk) R := by
  iintro ⟨HN, HY, HP, Hk⟩
  iapply (Scf.wp_for_bind frame (wpE (defs₀ (F := F)) 𝒱 (c : Thread nD τ) bd) E l.lb l.ub l.st hok ⟨⟩ (fun u _ => by4 N Y P hP (a u) (b u) (d u) (ha u) (hb u) (hd u) (hp u))
    (fun n _ => iprop(full c N (wide (pick XQ XK XV T)) ∗ part c Y (wide4 (pick XQ XK XV T)) (fun x => (x 0).val < 1024 * r + 256 * n) ∗ part c P (arr4 XQ XK XV) (fun x => (x 0).val < T.val ∨ (x 0 = T ∧ (x 1).val < 1024 * r + 256 * n)))) (fun k acc => ?_)) $$ [HN HY HP]
  · iintro ⟨HN, HY, HP⟩
    iapply (by4_step 𝒱 c bd E N Y hN hY P hP T r k.val hr (ht ▸ k.isLt) _ _ _ _ _ _ _ (ea k) (eb k) (ed k) XQ XK XV)
    isplitl [HN]
    · iexact HN
    isplitl [HY]
    · iexact HY
    isplitl [HP]
    · iexact HP
    · iintro H; iexact H
  · isplitl [HN]
    · iexact HN
    isplitl [HY]
    · iexact HY
    · iexact HP
  · have e : 1024 * (r + 1) = 1024 * r + 256 * Scf.trips l.lb l.ub l.st := by
      have : Scf.trips l.lb l.ub l.st = 4 := ht
      omega
    rw [e]
    iintro %acc H
    iapply Hk
    iexact H

/-- The rearrangement of one operand, both ways. -/
theorem rearrange_spec (X : Memref sig .tc .vmem S1x1x4096x128 .bf16) (hX : X.IsWhole) (N Y : Memref sig .tc .vmem S4096x128 .f32) (hN : N.IsWhole) (hY : Y.IsWhole) (P4 : Memref sig .tc .vmem S3x4096x128 .bf16) (h4 : P4.IsWhole)
    (P16 : Memref sig .tc .vmem S3x4096x128 .bf16) (h16 : P16.IsWhole) (T : Fin 3) (XQ XK XV : Vec F S1x1x4096x128 .bf16)
    (l0 : Scf.Loop 32) (ok0 : l0.OK) (t0 : l0.trips = 16) (a0 : Fin l0.trips → Fin 4 → ℕ) (b0 : Fin l0.trips → Fin 2 → ℕ) (ha0 : ∀ u x, a0 u x + S1x1x256x128.size x ≤ S1x1x4096x128.size x) (hb0 : ∀ u x, b0 u x + S256x128.size x ≤ S4096x128.size x) (ea0 : ∀ u, a0 u = ![0, 0, 256 * u.val, 0]) (eb0 : ∀ u, b0 u = ![256 * u.val, 0])
    (l1 : Scf.Loop 32) (ok1 : l1.OK) (t1 : l1.trips = 4) (a1 b1 : Fin l1.trips → Fin 2 → ℕ) (d1 : Fin l1.trips → Fin 3 → ℕ) (ha1 : ∀ u x, S256x128.size x = 0 ∨ a1 u x + (![4, 1] : Fin 2 → Nat) x * (S256x128.size x - 1) < S4096x128.size x) (hb1 : ∀ u x, b1 u x + S256x128.size x ≤ S4096x128.size x) (hd1 : ∀ u x, d1 u x + S1x256x128.size x ≤ S3x4096x128.size x) (hp1 : ∀ u, (Rect.unit (s := S3x4096x128) (d1 u) S1x256x128.size (hd1 u)).PackedRows (EltTy.packing .bf16))
    (ea1 : ∀ u, a1 u = ![0 + 1024 * u.val, 0]) (eb1 : ∀ u, b1 u = ![1024 * 0 + 256 * u.val, 0]) (ed1 : ∀ u, d1 u = ![T.val, 1024 * 0 + 256 * u.val, 0])
    (l2 : Scf.Loop 32) (ok2 : l2.OK) (t2 : l2.trips = 4) (a2 b2 : Fin l2.trips → Fin 2 → ℕ) (d2 : Fin l2.trips → Fin 3 → ℕ) (ha2 : ∀ u x, S256x128.size x = 0 ∨ a2 u x + (![4, 1] : Fin 2 → Nat) x * (S256x128.size x - 1) < S4096x128.size x) (hb2 : ∀ u x, b2 u x + S256x128.size x ≤ S4096x128.size x) (hd2 : ∀ u x, d2 u x + S1x256x128.size x ≤ S3x4096x128.size x) (hp2 : ∀ u, (Rect.unit (s := S3x4096x128) (d2 u) S1x256x128.size (hd2 u)).PackedRows (EltTy.packing .bf16))
    (ea2 : ∀ u, a2 u = ![1 + 1024 * u.val, 0]) (eb2 : ∀ u, b2 u = ![1024 * 1 + 256 * u.val, 0]) (ed2 : ∀ u, d2 u = ![T.val, 1024 * 1 + 256 * u.val, 0])
    (l3 : Scf.Loop 32) (ok3 : l3.OK) (t3 : l3.trips = 4) (a3 b3 : Fin l3.trips → Fin 2 → ℕ) (d3 : Fin l3.trips → Fin 3 → ℕ) (ha3 : ∀ u x, S256x128.size x = 0 ∨ a3 u x + (![4, 1] : Fin 2 → Nat) x * (S256x128.size x - 1) < S4096x128.size x) (hb3 : ∀ u x, b3 u x + S256x128.size x ≤ S4096x128.size x) (hd3 : ∀ u x, d3 u x + S1x256x128.size x ≤ S3x4096x128.size x) (hp3 : ∀ u, (Rect.unit (s := S3x4096x128) (d3 u) S1x256x128.size (hd3 u)).PackedRows (EltTy.packing .bf16))
    (ea3 : ∀ u, a3 u = ![2 + 1024 * u.val, 0]) (eb3 : ∀ u, b3 u = ![1024 * 2 + 256 * u.val, 0]) (ed3 : ∀ u, d3 u = ![T.val, 1024 * 2 + 256 * u.val, 0])
    (l4 : Scf.Loop 32) (ok4 : l4.OK) (t4 : l4.trips = 4) (a4 b4 : Fin l4.trips → Fin 2 → ℕ) (d4 : Fin l4.trips → Fin 3 → ℕ) (ha4 : ∀ u x, S256x128.size x = 0 ∨ a4 u x + (![4, 1] : Fin 2 → Nat) x * (S256x128.size x - 1) < S4096x128.size x) (hb4 : ∀ u x, b4 u x + S256x128.size x ≤ S4096x128.size x) (hd4 : ∀ u x, d4 u x + S1x256x128.size x ≤ S3x4096x128.size x) (hp4 : ∀ u, (Rect.unit (s := S3x4096x128) (d4 u) S1x256x128.size (hd4 u)).PackedRows (EltTy.packing .bf16))
    (ea4 : ∀ u, a4 u = ![3 + 1024 * u.val, 0]) (eb4 : ∀ u, b4 u = ![1024 * 3 + 256 * u.val, 0]) (ed4 : ∀ u, d4 u = ![T.val, 1024 * 3 + 256 * u.val, 0])
    (k : Prog (TpuEff nD τ sig (Elt F) Λ₀ .tc) PUnit) (R : PUnit → sProp 𝕄) :
    iprop(full c X (pick XQ XK XV T) ∗ any (F := F) c N ∗ any (F := F) c Y ∗ part c P4 (arr4 XQ XK XV) (fun x => (x 0).val < T.val) ∗ part c P16 (arr16 XQ XK XV) (fun x => (x 0).val < T.val)
      ∗ (iprop(full c X (pick XQ XK XV T) ∗ any (F := F) c N ∗ any (F := F) c Y ∗ part c P4 (arr4 XQ XK XV) (fun x => (x 0).val < T.val + 1) ∗ part c P16 (arr16 XQ XK XV) (fun x => (x 0).val < T.val + 1)) -∗ wp frame (wpE (defs₀ (F := F)) 𝒱 (c : Thread nD τ) bd) E k R))
    ⊢ wp frame (wpE (defs₀ (F := F)) 𝒱 (c : Thread nD τ) bd) E (Scf.Loop.for l0 ok0 (⟨⟩ : PUnit) (fun u _ => widen X N (a0 u) (b0 u) (ha0 u) (hb0 u)) >>= fun _ =>
      Scf.Loop.for l1 ok1 (⟨⟩ : PUnit) (fun u _ => by4 N Y P4 h4 (a1 u) (b1 u) (d1 u) (ha1 u) (hb1 u) (hd1 u) (hp1 u)) >>= fun _ =>
      Scf.Loop.for l2 ok2 (⟨⟩ : PUnit) (fun u _ => by4 N Y P4 h4 (a2 u) (b2 u) (d2 u) (ha2 u) (hb2 u) (hd2 u) (hp2 u)) >>= fun _ =>
      Scf.Loop.for l3 ok3 (⟨⟩ : PUnit) (fun u _ => by4 N Y P4 h4 (a3 u) (b3 u) (d3 u) (ha3 u) (hb3 u) (hd3 u) (hp3 u)) >>= fun _ =>
      Scf.Loop.for l4 ok4 (⟨⟩ : PUnit) (fun u _ => by4 N Y P4 h4 (a4 u) (b4 u) (d4 u) (ha4 u) (hb4 u) (hd4 u) (hp4 u)) >>= fun _ =>
      moves (move Y P16 h16 T) k 16 le_rfl) R := by
  iintro ⟨HX, HN, HY, HP4, HP16, Hk⟩
  iapply (widen_loop 𝒱 c bd E X hX N hN (pick XQ XK XV T) l0 ok0 t0 a0 b0 ha0 hb0 ea0 eb0)
  isplitl [HX]
  · iexact HX
  isplitl [HN]
  · iexact HN
  iintro ⟨HX, HN⟩
  iapply (by4_loop 𝒱 c bd E N Y hN hY P4 h4 T 0 (by omega) XQ XK XV l1 ok1 t1 a1 b1 d1 ha1 hb1 hd1 hp1 ea1 eb1 ed1)
  isplitl [HN]
  · iexact HN
  isplitl [HY]
  · iapply (any_part c Y _ _ (fun x hx => Nat.not_lt_zero _ hx))
    iexact HY
  isplitl [HP4]
  · iapply (part_mono c P4 _ _ _ (fun x hx => hx.resolve_right (fun h => Nat.not_lt_zero _ h.2)))
    iexact HP4
  iintro ⟨HN, HY, HP4⟩
  iapply (by4_loop 𝒱 c bd E N Y hN hY P4 h4 T 1 (by omega) XQ XK XV l2 ok2 t2 a2 b2 d2 ha2 hb2 hd2 hp2 ea2 eb2 ed2)
  isplitl [HN]
  · iexact HN
  isplitl [HY]
  · iexact HY
  isplitl [HP4]
  · iexact HP4
  iintro ⟨HN, HY, HP4⟩
  iapply (by4_loop 𝒱 c bd E N Y hN hY P4 h4 T 2 (by omega) XQ XK XV l3 ok3 t3 a3 b3 d3 ha3 hb3 hd3 hp3 ea3 eb3 ed3)
  isplitl [HN]
  · iexact HN
  isplitl [HY]
  · iexact HY
  isplitl [HP4]
  · iexact HP4
  iintro ⟨HN, HY, HP4⟩
  iapply (by4_loop 𝒱 c bd E N Y hN hY P4 h4 T 3 (by omega) XQ XK XV l4 ok4 t4 a4 b4 d4 ha4 hb4 hd4 hp4 ea4 eb4 ed4)
  isplitl [HN]
  · iexact HN
  isplitl [HY]
  · iexact HY
  isplitl [HP4]
  · iexact HP4
  iintro ⟨HN, HY, HP4⟩
  iapply (moves_fold 𝒱 c bd E (move Y P16 h16 T) k (fun n => iprop(full c Y (wide4 (pick XQ XK XV T)) ∗ part c P16 (arr16 XQ XK XV) (fun x => (x 0).val < T.val ∨ (x 0 = T ∧ stepOf x < n)))) R (fun j R' => ?_) 16 le_rfl)
  · iintro ⟨⟨HY, HP⟩, Hk⟩
    iapply (move_step 𝒱 c bd E Y hY P16 h16 T j XQ XK XV)
    isplitl [HY]
    · iexact HY
    isplitl [HP]
    · iexact HP
    · iexact Hk
  isplitl [HY HP16]
  · isplitl [HY]
    · iapply (part_mono c Y _ _ _ (fun x _ => show (x 0).val < 1024 * (3 + 1) from idx2_lt0 x))
      iexact HY
    · iapply (part_mono c P16 _ _ _ (fun x hx => hx.resolve_right (fun h => Nat.not_lt_zero _ h.2)))
      iexact HP16
  iintro ⟨HY, HP16⟩
  iapply Hk
  isplitl [HX]
  · iexact HX
  isplitl [HN]
  · iapply (part_any c N _ _)
    iexact HN
  isplitl [HY]
  · iapply (part_any c Y _ _)
    iexact HY
  isplitl [HP4]
  · iapply (part_mono c P4 _ (fun x => (x 0).val < T.val ∨ (x 0 = T ∧ (x 1).val < 1024 * (3 + 1))) _ (fun x hx => ?_))
    · have h1 : (x 1).val < 4096 := (x 1).isLt
      by_cases h : (x 0).val < T.val
      · exact .inl h
      · exact .inr ⟨Fin.ext (by omega), by omega⟩
    · iexact HP4
  · iapply (part_mono c P16 _ (fun x => (x 0).val < T.val ∨ (x 0 = T ∧ stepOf x < 16)) _ (fun x hx => ?_))
    · have h1 : (x 1).val < 4096 := (x 1).isLt
      by_cases h : (x 0).val < T.val
      · exact .inl h
      · refine .inr ⟨Fin.ext (by omega), ?_⟩
        show 4 * ((x 1).val % 1024 / 256) + (x 1).val / 1024 < 16
        omega
    · iexact HP16

end Cert.KernelIdeal.Band

end
-- ==== Proof.Whole.lean ====
/-
  The body as a whole: it leaves `outBlock` of the blocks it reads.
-/
module

public import proofs.«01_k».proof.Proof.Trips
public import Idealize.ShloMosaic.Lib.Exec
public import Idealize.ShloMosaic.Lib.Tactic
public import Idealize.ShloMosaic.Lib.Pipeline.Kit

@[expose] public section

set_option maxRecDepth 16384

noncomputable section

namespace Cert.KernelIdeal.Band

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (𝒱 : Variants) (c : Dev nD) (bd : Option 𝒱.V) (E : Set ℕ)
variable (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S3x1x2x256x256 .f32) (harg5 : arg5.IsWhole) (arg6 : Memref sig .tc .vmem S1x1x4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S3x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S4096x128 .f32) (harg16 : arg16.IsWhole)
variable (XQ XK XV : Vec F S1x1x4096x128 .bf16) (XT : Vec F S3x1x2x256x256 .f32)

include harg5 harg10 harg14 harg15 harg16 in
/-- The blocks of dilation 16. -/
theorem stage16_spec (k : Prog (TpuEff nD τ sig (Elt F) Λ₀ .tc) PUnit) (R : PUnit → sProp 𝕄) :
    iprop(full c arg5 XT ∗ full c arg10 (arr16 XQ XK XV) ∗ any (F := F) c arg14 ∗ any (F := F) c arg15 ∗ any (F := F) c arg16
      ∗ (iprop(full c arg5 XT ∗ full c arg10 (arr16 XQ XK XV) ∗ full c arg14 (A16 (arr16 XQ XK XV) XT) ∗ full c arg15 (L16 (arr16 XQ XK XV) XT) ∗ full c arg16 (M16 (arr16 XQ XK XV) XT)) -∗ wp frame (wpE (defs₀ (F := F)) 𝒱 (c : Thread nD τ) bd) E k R))
    ⊢ wp frame (wpE (defs₀ (F := F)) 𝒱 (c : Thread nD τ) bd) E (units (unit16 first firstF secondF onesC arg5 arg10 arg14 arg15 arg16) k 32 le_rfl) R := by
  iintro ⟨HT, HP, HA, HL, HM, Hk⟩
  iapply (units_fold 𝒱 c bd E (unit16 first firstF secondF onesC arg5 arg10 arg14 arg15 arg16) k (fun n => iprop(full c arg5 XT ∗ full c arg10 (arr16 XQ XK XV) ∗ part c arg14 (A16 (arr16 XQ XK XV) XT) (fun x => (u16 x).val < n) ∗ part c arg15 (L16 (arr16 XQ XK XV) XT) (fun x => (u16 x).val < n) ∗ part c arg16 (M16 (arr16 XQ XK XV) XT) (fun x => (u16 x).val < n))) R (fun j R' => ?_) 32 le_rfl)
  · iintro ⟨⟨HT, HP, HA, HL, HM⟩, Hk⟩
    iapply (unit16_step 𝒱 c bd E arg5 harg5 arg10 harg10 arg14 arg15 arg16 harg14 harg15 harg16 j XT (arr16 XQ XK XV) R')
    isplitl [HT]
    · iexact HT
    isplitl [HP]
    · iexact HP
    isplitl [HA]
    · iexact HA
    isplitl [HL]
    · iexact HL
    isplitl [HM]
    · iexact HM
    · iexact Hk
  isplitl [HT HP HA HL HM]
  · isplitl [HT]
    · iexact HT
    isplitl [HP]
    · iexact HP
    isplitl [HA]
    · iapply (any_part c arg14 _ _ (fun x hx => Nat.not_lt_zero _ hx))
      iexact HA
    isplitl [HL]
    · iapply (any_part c arg15 _ _ (fun x hx => Nat.not_lt_zero _ hx))
      iexact HL
    · iapply (any_part c arg16 _ _ (fun x hx => Nat.not_lt_zero _ hx))
      iexact HM
  iintro ⟨HT, HP, HA, HL, HM⟩
  iapply Hk
  isplitl [HT]
  · iexact HT
  isplitl [HP]
  · iexact HP
  isplitl [HA]
  · iapply (part_mono c arg14 _ _ _ (fun x _ => (u16 x).isLt))
    iexact HA
  isplitl [HL]
  · iapply (part_mono c arg15 _ _ _ (fun x _ => (u16 x).isLt))
    iexact HL
  · iapply (part_mono c arg16 _ _ _ (fun x _ => (u16 x).isLt))
    iexact HM

include harg5 harg9 harg11 harg12 harg13 in
/-- The blocks of dilation 4. -/
theorem stage4_spec (k : Prog (TpuEff nD τ sig (Elt F) Λ₀ .tc) PUnit) (R : PUnit → sProp 𝕄) :
    iprop(full c arg5 XT ∗ full c arg9 (arr4 XQ XK XV) ∗ any (F := F) c arg11 ∗ any (F := F) c arg12 ∗ any (F := F) c arg13
      ∗ (iprop(full c arg5 XT ∗ full c arg9 (arr4 XQ XK XV) ∗ full c arg11 (A4 (arr4 XQ XK XV) XT) ∗ full c arg12 (L4 (arr4 XQ XK XV) XT) ∗ full c arg13 (M4 (arr4 XQ XK XV) XT)) -∗ wp frame (wpE (defs₀ (F := F)) 𝒱 (c : Thread nD τ) bd) E k R))
    ⊢ wp frame (wpE (defs₀ (F := F)) 𝒱 (c : Thread nD τ) bd) E (units (unit4 first firstF secondF onesC arg5 arg9 arg11 arg12 arg13) k 32 le_rfl) R := by
  iintro ⟨HT, HP, HA, HL, HM, Hk⟩
  iapply (units_fold 𝒱 c bd E (unit4 first firstF secondF onesC arg5 arg9 arg11 arg12 arg13) k (fun n => iprop(full c arg5 XT ∗ full c arg9 (arr4 XQ XK XV) ∗ part c arg11 (A4 (arr4 XQ XK XV) XT) (fun x => (u4 x).val < n) ∗ part c arg12 (L4 (arr4 XQ XK XV) XT) (fun x => (u4 x).val < n) ∗ part c arg13 (M4 (arr4 XQ XK XV) XT) (fun x => (u4 x).val < n))) R (fun j R' => ?_) 32 le_rfl)
  · iintro ⟨⟨HT, HP, HA, HL, HM⟩, Hk⟩
    iapply (unit4_step 𝒱 c bd E arg5 harg5 arg9 harg9 arg11 arg12 arg13 harg11 harg12 harg13 j XT (arr4 XQ XK XV) R')
    isplitl [HT]
    · iexact HT
    isplitl [HP]
    · iexact HP
    isplitl [HA]
    · iexact HA
    isplitl [HL]
    · iexact HL
    isplitl [HM]
    · iexact HM
    · iexact Hk
  isplitl [HT HP HA HL HM]
  · isplitl [HT]
    · iexact HT
    isplitl [HP]
    · iexact HP
    isplitl [HA]
    · iapply (any_part c arg11 _ _ (fun x hx => Nat.not_lt_zero _ hx))
      iexact HA
    isplitl [HL]
    · iapply (any_part c arg12 _ _ (fun x hx => Nat.not_lt_zero _ hx))
      iexact HL
    · iapply (any_part c arg13 _ _ (fun x hx => Nat.not_lt_zero _ hx))
      iexact HM
  iintro ⟨HT, HP, HA, HL, HM⟩
  iapply Hk
  isplitl [HT]
  · iexact HT
  isplitl [HP]
  · iexact HP
  isplitl [HA]
  · iapply (part_mono c arg11 _ _ _ (fun x _ => (u4 x).isLt))
    iexact HA
  isplitl [HL]
  · iapply (part_mono c arg12 _ _ _ (fun x _ => (u4 x).isLt))
    iexact HL
  · iapply (part_mono c arg13 _ _ _ (fun x _ => (u4 x).isLt))
    iexact HM

include harg2 harg3 harg4 harg5 harg6 harg11 harg12 harg13 harg14 harg15 harg16 in
/-- The last stage. -/
theorem stage1_spec (a4 l4 m4 a16 l16 m16 : Vec F S4096x128 .f32) (R : PUnit → sProp 𝕄) :
    iprop(full c arg2 XQ ∗ full c arg3 XK ∗ full c arg4 XV ∗ full c arg5 XT ∗ full c arg11 a4 ∗ full c arg12 l4 ∗ full c arg13 m4 ∗ full c arg14 a16 ∗ full c arg15 l16 ∗ full c arg16 m16 ∗ any (F := F) c arg6
      ∗ (iprop(full c arg2 XQ ∗ full c arg3 XK ∗ full c arg4 XV ∗ full c arg5 XT ∗ full c arg11 a4 ∗ full c arg12 l4 ∗ full c arg13 m4 ∗ full c arg14 a16 ∗ full c arg15 l16 ∗ full c arg16 m16 ∗ full c arg6 (outOf XQ XK XV XT a4 l4 m4 a16 l16 m16)) -∗ R ⟨⟩))
    ⊢ wp frame (wpE (defs₀ (F := F)) 𝒱 (c : Thread nD τ) bd) E (stage1 arg2 arg3 arg4 arg5 arg6 harg6 arg11 arg12 arg13 arg14 arg15 arg16) R := by
  iintro ⟨HQ, HK, HV, HT, H1, H2, H3, H4, H5, H6, HO, Hk⟩
  iapply (units_fold 𝒱 c bd E (unit1 first firstF secondF onesC arg2 arg3 arg4 arg5 arg6 harg6 arg11 arg12 arg13 arg14 arg15 arg16) (pure ⟨⟩)
    (fun n => iprop(full c arg2 XQ ∗ full c arg3 XK ∗ full c arg4 XV ∗ full c arg5 XT ∗ full c arg11 a4 ∗ full c arg12 l4 ∗ full c arg13 m4 ∗ full c arg14 a16 ∗ full c arg15 l16 ∗ full c arg16 m16 ∗ part c arg6 (outOf XQ XK XV XT a4 l4 m4 a16 l16 m16) (fun x => (u1 (rc x)).val < n))) R (fun j R' => ?_) 32 le_rfl)
  · iintro ⟨⟨HQ, HK, HV, HT, H1, H2, H3, H4, H5, H6, HO⟩, Hk⟩
    iapply (unit1_step 𝒱 c bd E arg2 arg3 arg4 harg2 harg3 harg4 arg5 harg5 arg6 harg6 arg11 arg12 arg13 arg14 arg15 arg16 harg11 harg12 harg13 harg14 harg15 harg16 j XQ XK XV XT a4 l4 m4 a16 l16 m16 R')
    isplitl [HQ]
    · iexact HQ
    isplitl [HK]
    · iexact HK
    isplitl [HV]
    · iexact HV
    isplitl [HT]
    · iexact HT
    isplitl [H1]
    · iexact H1
    isplitl [H2]
    · iexact H2
    isplitl [H3]
    · iexact H3
    isplitl [H4]
    · iexact H4
    isplitl [H5]
    · iexact H5
    isplitl [H6]
    · iexact H6
    isplitl [HO]
    · iexact HO
    iintro ⟨HQ, HK, HV, HT, H1, H2, H3, H4, H5, H6, HO⟩
    iapply Hk
    isplitl [HQ]
    · iexact HQ
    isplitl [HK]
    · iexact HK
    isplitl [HV]
    · iexact HV
    isplitl [HT]
    · iexact HT
    isplitl [H1]
    · iexact H1
    isplitl [H2]
    · iexact H2
    isplitl [H3]
    · iexact H3
    isplitl [H4]
    · iexact H4
    isplitl [H5]
    · iexact H5
    isplitl [H6]
    · iexact H6
    iexact HO
  isplitl [HQ HK HV HT H1 H2 H3 H4 H5 H6 HO]
  · isplitl [HQ]
    · iexact HQ
    isplitl [HK]
    · iexact HK
    isplitl [HV]
    · iexact HV
    isplitl [HT]
    · iexact HT
    isplitl [H1]
    · iexact H1
    isplitl [H2]
    · iexact H2
    isplitl [H3]
    · iexact H3
    isplitl [H4]
    · iexact H4
    isplitl [H5]
    · iexact H5
    isplitl [H6]
    · iexact H6
    iapply (any_part c arg6 _ _ (fun x hx => Nat.not_lt_zero _ hx))
    iexact HO
  iintro ⟨HQ, HK, HV, HT, H1, H2, H3, H4, H5, H6, HO⟩
  rw [show (pure ⟨⟩ : Prog (TpuEff nD τ sig (Elt F) Λ₀ .tc) PUnit) = Prog.ret ⟨⟩ from rfl, wp_ret]
  imodintro
  iapply Hk
  isplitl [HQ]
  · iexact HQ
  isplitl [HK]
  · iexact HK
  isplitl [HV]
  · iexact HV
  isplitl [HT]
  · iexact HT
  isplitl [H1]
  · iexact H1
  isplitl [H2]
  · iexact H2
  isplitl [H3]
  · iexact H3
  isplitl [H4]
  · iexact H4
  isplitl [H5]
  · iexact H5
  isplitl [H6]
  · iexact H6
  iapply (part_mono c arg6 _ _ _ (fun x _ => (u1 (rc x)).isLt))
  iexact HO

/-- Operand 0's rearrangement. -/
theorem rearrange0_spec (X : Memref sig .tc .vmem S1x1x4096x128 .bf16) (hX : X.IsWhole) (N Y : Memref sig .tc .vmem S4096x128 .f32) (hN : N.IsWhole) (hY : Y.IsWhole) (P4 : Memref sig .tc .vmem S3x4096x128 .bf16) (h4 : P4.IsWhole)
    (P16 : Memref sig .tc .vmem S3x4096x128 .bf16) (h16 : P16.IsWhole) (k : Prog (TpuEff nD τ sig (Elt F) Λ₀ .tc) PUnit) (R : PUnit → sProp 𝕄) :
    iprop(full c X (pick XQ XK XV 0) ∗ any (F := F) c N ∗ any (F := F) c Y ∗ part c P4 (arr4 XQ XK XV) (fun x => (x 0).val < 0) ∗ part c P16 (arr16 XQ XK XV) (fun x => (x 0).val < 0)
      ∗ (iprop(full c X (pick XQ XK XV 0) ∗ any (F := F) c N ∗ any (F := F) c Y ∗ part c P4 (arr4 XQ XK XV) (fun x => (x 0).val < 1) ∗ part c P16 (arr16 XQ XK XV) (fun x => (x 0).val < 1)) -∗ wp frame (wpE (defs₀ (F := F)) 𝒱 (c : Thread nD τ) bd) E k R))
    ⊢ wp frame (wpE (defs₀ (F := F)) 𝒱 (c : Thread nD τ) bd) E (rearrange0 X N Y P4 h4 P16 h16 k) R :=
  rearrange_spec 𝒱 c bd E X hX N Y hN hY P4 h4 P16 h16 0 XQ XK XV
    k0_t1_loop k0_t1_ok (by decide +kernel) k0_off1 k0_off2 k0_off1_inb k0_off2_inb (by decide +kernel) (by decide +kernel)
    k0_t2_loop k0_t2_ok (by decide +kernel) k0_off3 k0_off4 k0_off5 k0_off3_inb k0_off4_inb k0_off5_inb k0_off5_packedbf16 (by decide +kernel) (by decide +kernel) (by decide +kernel)
    k0_t3_loop k0_t3_ok (by decide +kernel) k0_off6 k0_off7 k0_off8 k0_off6_inb k0_off7_inb k0_off8_inb k0_off8_packedbf16 (by decide +kernel) (by decide +kernel) (by decide +kernel)
    k0_t4_loop k0_t4_ok (by decide +kernel) k0_off9 k0_off10 k0_off11 k0_off9_inb k0_off10_inb k0_off11_inb k0_off11_packedbf16 (by decide +kernel) (by decide +kernel) (by decide +kernel)
    k0_t5_loop k0_t5_ok (by decide +kernel) k0_off12 k0_off13 k0_off14 k0_off12_inb k0_off13_inb k0_off14_inb k0_off14_packedbf16 (by decide +kernel) (by decide +kernel) (by decide +kernel) k R

/-- Operand 1's rearrangement. -/
theorem rearrange1_spec (X : Memref sig .tc .vmem S1x1x4096x128 .bf16) (hX : X.IsWhole) (N Y : Memref sig .tc .vmem S4096x128 .f32) (hN : N.IsWhole) (hY : Y.IsWhole) (P4 : Memref sig .tc .vmem S3x4096x128 .bf16) (h4 : P4.IsWhole)
    (P16 : Memref sig .tc .vmem S3x4096x128 .bf16) (h16 : P16.IsWhole) (k : Prog (TpuEff nD τ sig (Elt F) Λ₀ .tc) PUnit) (R : PUnit → sProp 𝕄) :
    iprop(full c X (pick XQ XK XV 1) ∗ any (F := F) c N ∗ any (F := F) c Y ∗ part c P4 (arr4 XQ XK XV) (fun x => (x 0).val < 1) ∗ part c P16 (arr16 XQ XK XV) (fun x => (x 0).val < 1)
      ∗ (iprop(full c X (pick XQ XK XV 1) ∗ any (F := F) c N ∗ any (F := F) c Y ∗ part c P4 (arr4 XQ XK XV) (fun x => (x 0).val < 2) ∗ part c P16 (arr16 XQ XK XV) (fun x => (x 0).val < 2)) -∗ wp frame (wpE (defs₀ (F := F)) 𝒱 (c : Thread nD τ) bd) E k R))
    ⊢ wp frame (wpE (defs₀ (F := F)) 𝒱 (c : Thread nD τ) bd) E (rearrange1 X N Y P4 h4 P16 h16 k) R :=
  rearrange_spec 𝒱 c bd E X hX N Y hN hY P4 h4 P16 h16 1 XQ XK XV
    k0_t6_loop k0_t6_ok (by decide +kernel) k0_off15 k0_off16 k0_off15_inb k0_off16_inb (by decide +kernel) (by decide +kernel)
    k0_t7_loop k0_t7_ok (by decide +kernel) k0_off17 k0_off18 k0_off19 k0_off17_inb k0_off18_inb k0_off19_inb k0_off19_packedbf16 (by decide +kernel) (by decide +kernel) (by decide +kernel)
    k0_t8_loop k0_t8_ok (by decide +kernel) k0_off20 k0_off21 k0_off22 k0_off20_inb k0_off21_inb k0_off22_inb k0_off22_packedbf16 (by decide +kernel) (by decide +kernel) (by decide +kernel)
    k0_t9_loop k0_t9_ok (by decide +kernel) k0_off23 k0_off24 k0_off25 k0_off23_inb k0_off24_inb k0_off25_inb k0_off25_packedbf16 (by decide +kernel) (by decide +kernel) (by decide +kernel)
    k0_t10_loop k0_t10_ok (by decide +kernel) k0_off26 k0_off27 k0_off28 k0_off26_inb k0_off27_inb k0_off28_inb k0_off28_packedbf16 (by decide +kernel) (by decide +kernel) (by decide +kernel) k R

/-- Operand 2's rearrangement. -/
theorem rearrange2_spec (X : Memref sig .tc .vmem S1x1x4096x128 .bf16) (hX : X.IsWhole) (N Y : Memref sig .tc .vmem S4096x128 .f32) (hN : N.IsWhole) (hY : Y.IsWhole) (P4 : Memref sig .tc .vmem S3x4096x128 .bf16) (h4 : P4.IsWhole)
    (P16 : Memref sig .tc .vmem S3x4096x128 .bf16) (h16 : P16.IsWhole) (k : Prog (TpuEff nD τ sig (Elt F) Λ₀ .tc) PUnit) (R : PUnit → sProp 𝕄) :
    iprop(full c X (pick XQ XK XV 2) ∗ any (F := F) c N ∗ any (F := F) c Y ∗ part c P4 (arr4 XQ XK XV) (fun x => (x 0).val < 2) ∗ part c P16 (arr16 XQ XK XV) (fun x => (x 0).val < 2)
      ∗ (iprop(full c X (pick XQ XK XV 2) ∗ any (F := F) c N ∗ any (F := F) c Y ∗ part c P4 (arr4 XQ XK XV) (fun x => (x 0).val < 3) ∗ part c P16 (arr16 XQ XK XV) (fun x => (x 0).val < 3)) -∗ wp frame (wpE (defs₀ (F := F)) 𝒱 (c : Thread nD τ) bd) E k R))
    ⊢ wp frame (wpE (defs₀ (F := F)) 𝒱 (c : Thread nD τ) bd) E (rearrange2 X N Y P4 h4 P16 h16 k) R :=
  rearrange_spec 𝒱 c bd E X hX N Y hN hY P4 h4 P16 h16 2 XQ XK XV
    k0_t11_loop k0_t11_ok (by decide +kernel) k0_off29 k0_off30 k0_off29_inb k0_off30_inb (by decide +kernel) (by decide +kernel)
    k0_t12_loop k0_t12_ok (by decide +kernel) k0_off31 k0_off32 k0_off33 k0_off31_inb k0_off32_inb k0_off33_inb k0_off33_packedbf16 (by decide +kernel) (by decide +kernel) (by decide +kernel)
    k0_t13_loop k0_t13_ok (by decide +kernel) k0_off34 k0_off35 k0_off36 k0_off34_inb k0_off35_inb k0_off36_inb k0_off36_packedbf16 (by decide +kernel) (by decide +kernel) (by decide +kernel)
    k0_t14_loop k0_t14_ok (by decide +kernel) k0_off37 k0_off38 k0_off39 k0_off37_inb k0_off38_inb k0_off39_inb k0_off39_packedbf16 (by decide +kernel) (by decide +kernel) (by decide +kernel)
    k0_t15_loop k0_t15_ok (by decide +kernel) k0_off40 k0_off41 k0_off42 k0_off40_inb k0_off41_inb k0_off42_inb k0_off42_packedbf16 (by decide +kernel) (by decide +kernel) (by decide +kernel) k R

include harg2 harg3 harg4 harg5 harg6 harg7 harg8 harg9 harg10 harg11 harg12 harg13 harg14 harg15 harg16 in
/-- The whole body. -/
theorem body_spec (R : PUnit → sProp 𝕄) :
    iprop(full c arg2 XQ ∗ full c arg3 XK ∗ full c arg4 XV ∗ full c arg5 XT ∗ any (F := F) c arg6 ∗ any (F := F) c arg7 ∗ any (F := F) c arg8 ∗ any (F := F) c arg9 ∗ any (F := F) c arg10 ∗ any (F := F) c arg11 ∗ any (F := F) c arg12 ∗ any (F := F) c arg13 ∗ any (F := F) c arg14 ∗ any (F := F) c arg15 ∗ any (F := F) c arg16
      ∗ (iprop(full c arg2 XQ ∗ full c arg3 XK ∗ full c arg4 XV ∗ full c arg5 XT ∗ full c arg6 (outBlock XQ XK XV XT) ∗ any (F := F) c arg7 ∗ any (F := F) c arg8 ∗ any (F := F) c arg9 ∗ any (F := F) c arg10 ∗ any (F := F) c arg11 ∗ any (F := F) c arg12 ∗ any (F := F) c arg13 ∗ any (F := F) c arg14 ∗ any (F := F) c arg15 ∗ any (F := F) c arg16) -∗ R ⟨⟩))
    ⊢ wp frame (wpE (defs₀ (F := F)) 𝒱 (c : Thread nD τ) bd) E (body arg2 arg3 arg4 arg5 arg6 harg6 arg7 arg8 arg9 harg9 arg10 harg10 arg11 arg12 arg13 arg14 arg15 arg16) R := by
  iintro ⟨HQ, HK, HV, HT, HO, S7, S8, S9, S10, S11, S12, S13, S14, S15, S16, Hk⟩
  unfold body
  iapply (rearrange0_spec 𝒱 c bd E XQ XK XV arg2 harg2 arg7 arg8 harg7 harg8 arg9 harg9 arg10 harg10)
  isplitl [HQ]
  · iexact HQ
  isplitl [S7]
  · iexact S7
  isplitl [S8]
  · iexact S8
  isplitl [S9]
  · iapply (any_part c arg9 _ _ (fun x hx => Nat.not_lt_zero _ hx)); iexact S9
  isplitl [S10]
  · iapply (any_part c arg10 _ _ (fun x hx => Nat.not_lt_zero _ hx)); iexact S10
  iintro ⟨HQ, S7, S8, S9, S10⟩
  iapply (rearrange1_spec 𝒱 c bd E XQ XK XV arg3 harg3 arg7 arg8 harg7 harg8 arg9 harg9 arg10 harg10)
  isplitl [HK]
  · iexact HK
  isplitl [S7]
  · iexact S7
  isplitl [S8]
  · iexact S8
  isplitl [S9]
  · iexact S9
  isplitl [S10]
  · iexact S10
  iintro ⟨HK, S7, S8, S9, S10⟩
  iapply (rearrange2_spec 𝒱 c bd E XQ XK XV arg4 harg4 arg7 arg8 harg7 harg8 arg9 harg9 arg10 harg10)
  isplitl [HV]
  · iexact HV
  isplitl [S7]
  · iexact S7
  isplitl [S8]
  · iexact S8
  isplitl [S9]
  · iexact S9
  isplitl [S10]
  · iexact S10
  iintro ⟨HV, S7, S8, S9, S10⟩
  iapply (stage16_spec 𝒱 c bd E arg5 harg5 arg10 harg10 arg14 harg14 arg15 harg15 arg16 harg16 XQ XK XV XT)
  isplitl [HT]
  · iexact HT
  isplitl [S10]
  · iapply (part_mono c arg10 _ _ _ (fun x _ => (x 0).isLt)); iexact S10
  isplitl [S14]
  · iexact S14
  isplitl [S15]
  · iexact S15
  isplitl [S16]
  · iexact S16
  iintro ⟨HT, S10, S14, S15, S16⟩
  iapply (stage4_spec 𝒱 c bd E arg5 harg5 arg9 harg9 arg11 harg11 arg12 harg12 arg13 harg13 XQ XK XV XT)
  isplitl [HT]
  · iexact HT
  isplitl [S9]
  · iapply (part_mono c arg9 _ _ _ (fun x _ => (x 0).isLt)); iexact S9
  isplitl [S11]
  · iexact S11
  isplitl [S12]
  · iexact S12
  isplitl [S13]
  · iexact S13
  iintro ⟨HT, S9, S11, S12, S13⟩
  iapply (stage1_spec 𝒱 c bd E arg2 harg2 arg3 harg3 arg4 harg4 arg5 harg5 arg6 harg6 arg11 harg11 arg12 harg12 arg13 harg13 arg14 harg14 arg15 harg15 arg16 harg16 XQ XK XV XT)
  isplitl [HQ]
  · iexact HQ
  isplitl [HK]
  · iexact HK
  isplitl [HV]
  · iexact HV
  isplitl [HT]
  · iexact HT
  isplitl [S11]
  · iexact S11
  isplitl [S12]
  · iexact S12
  isplitl [S13]
  · iexact S13
  isplitl [S14]
  · iexact S14
  isplitl [S15]
  · iexact S15
  isplitl [S16]
  · iexact S16
  isplitl [HO]
  · iexact HO
  iintro ⟨HQ, HK, HV, HT, S11, S12, S13, S14, S15, S16, HO⟩
  iapply Hk
  isplitl [HQ]
  · iexact HQ
  isplitl [HK]
  · iexact HK
  isplitl [HV]
  · iexact HV
  isplitl [HT]
  · iexact HT
  isplitl [HO]
  · iexact HO
  isplitl [S7]
  · iexact S7
  isplitl [S8]
  · iexact S8
  isplitl [S9]
  · iapply (part_any c arg9 _ _); iexact S9
  isplitl [S10]
  · iapply (part_any c arg10 _ _); iexact S10
  isplitl [S11]
  · iapply (part_any c arg11 _ _); iexact S11
  isplitl [S12]
  · iapply (part_any c arg12 _ _); iexact S12
  isplitl [S13]
  · iapply (part_any c arg13 _ _); iexact S13
  isplitl [S14]
  · iapply (part_any c arg14 _ _); iexact S14
  isplitl [S15]
  · iapply (part_any c arg15 _ _); iexact S15
  iapply (part_any c arg16 _ _); iexact S16

end Cert.KernelIdeal.Band

end
-- ==== Proof.Bridge.lean ====
/-
  The printed body is `body`: the printed stages are chains of the same blocks.
-/
module
public import proofs.«01_k».proof.Proof.Body
@[expose] public section
set_option maxRecDepth 1000000
noncomputable section
namespace Cert.KernelIdeal.Band
open Idealize.ShloMosaic Idealize.SL.Sem Cert.KernelIdeal Cert.KernelIdeal.Gen
variable {F : FTy → Type} [FloatOps F]
variable (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S3x1x2x256x256 .f32) (harg5 : arg5.IsWhole) (arg6 : Memref sig .tc .vmem S1x1x4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S3x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S4096x128 .f32) (harg16 : arg16.IsWhole)

set_option maxHeartbeats 0 in
/-- The printed body. -/
theorem body_eq : cc0_band_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = body (F := F) arg2 arg3 arg4 arg5 arg6 harg6 arg7 arg8 arg9 harg9 arg10 harg10 arg11 arg12 arg13 arg14 arg15 arg16 := by
  unfold cc0_band_attn k0_part236 k0_part1 k0_part4 k0_part5 k0_part8 body rearrange0 rearrange1 rearrange2
  simp only [bind_assoc, pure_bind]
  rfl
end Cert.KernelIdeal.Band
end
-- ==== Proof.Data.lean ====
/-
  The pipeline's data: what each staging buffer holds after the body at each grid point, the body's obligation, the run and the frame.
-/
module

public import proofs.«01_k».proof.Proof.Whole
public import proofs.«01_k».proof.Proof.Bridge
public import proofs.«01_k».proof.Proof.Gen.KernelIdeal.Frame

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at a grid point. -/
def outAt (c : Dev nD) (t : Fin cfg0.N) : Vec F S1x1x4096x128 .bf16 := outBlock (iblk m c 0 t) (iblk m c 1 t) (iblk m c 2 t) (iblk m c 3 t)

/-- The proof data: the inputs' buffers keep their blocks, the result's holds `outAt`; nothing is carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q := Pipeline.shareOf spec0
  owed _ := 0

abbrev 𝒱₀ : Variants := Variants.none

theorem full_owns (c : Dev nD) {sp : Space} {S : Shape} {e : EltTy} (M : Memref sig .tc sp S e) (W : Vec F S e) : full c M W ⊢ (owns (c : Thread nD τ) M fullShare W : sProp 𝕄) := by
  unfold full part owns
  iintro ⟨%f, %g, H⟩
  iexists f
  isplitr
  · ipureintro; exact funext fun x => g x trivial
  · iexact H

theorem owns_full (c : Dev nD) {sp : Space} {S : Shape} {e : EltTy} (M : Memref sig .tc sp S e) (W W' : Vec F S e) (h : W = W') : (owns (c : Thread nD τ) M fullShare W : sProp 𝕄) ⊢ full c M W' := by
  subst h
  unfold full part owns
  iintro ⟨%f, %g, H⟩
  iexists f
  isplitr
  · ipureintro; exact fun x _ => congrFun g x
  · iexact H

theorem owns_any (c : Dev nD) {sp : Space} {S : Shape} {e : EltTy} (M : Memref sig .tc sp S e) (W : Vec F S e) : (owns (c : Thread nD τ) M fullShare W : sProp 𝕄) ⊢ any (F := F) c M :=
  (owns_full c M W W rfl).trans (part_any c M W _)

theorem any_whole (c : Dev nD) (b : Ref sig .tc) : any (F := F) c (Memref.whole b) = (iprop(∃ f : Buf (Elt F) ((c : Thread nD τ).loc b), ((c : Thread nD τ).loc b) ↦{fullShare} f) : sProp 𝕄) := by
  unfold any
  rw [show (Memref.whole b).view.set = Finset.univ from View.set_whole b]

set_option maxHeartbeats 2000000 in
/-- The body's obligation. -/
theorem body_obligation (c : Dev nD) : BodyObligation (dats m 0 c) (defs₀ (F := F)) 𝒱₀ () Set.univ := fun t => by
  show _ ⊢ wp frame (wpE (defs₀ (F := F)) 𝒱₀ (c : Thread nD τ) none) Set.univ (bodyAt0 t) _
  unfold bodyAt0
  rw [body_eq]
  rw [bigSep_W0, bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA; rw [scopedRest0_eq]
  simp only [← any_whole]
  iintro ⟨⟨⟨S7, S8, S9, S10, S11, S12, S13, S14, S15, S16⟩, Hg⟩, Howes, ⟨%d0, H0⟩, ⟨%d1, H1⟩, ⟨%d2, H2⟩, ⟨%d3, H3⟩, ⟨%d4, H4⟩⟩
  have e0 := before0_0_of m (dats m 0 c) rfl (fun _ => rfl) t d0
  have e1 := before0_1_of m (dats m 0 c) rfl (fun _ => rfl) t d1
  have e2 := before0_2_of m (dats m 0 c) rfl (fun _ => rfl) t d2
  have e3 := before0_3_of m (dats m 0 c) rfl (fun _ => rfl) t d3
  iapply (body_spec 𝒱₀ c none Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
    (iblk m c 0 t) (iblk m c 1 t) (iblk m c 2 t) (iblk m c 3 t))
  isplitl [H0]
  · iapply (owns_full c _ _ _ e0); iexact H0
  isplitl [H1]
  · iapply (owns_full c _ _ _ e1); iexact H1
  isplitl [H2]
  · iapply (owns_full c _ _ _ e2); iexact H2
  isplitl [H3]
  · iapply (owns_full c _ _ _ e3); iexact H3
  isplitl [H4]
  · iapply (owns_any c _ _); iexact H4
  isplitl [S7]
  · iexact S7
  isplitl [S8]
  · iexact S8
  isplitl [S9]
  · iexact S9
  isplitl [S10]
  · iexact S10
  isplitl [S11]
  · iexact S11
  isplitl [S12]
  · iexact S12
  isplitl [S13]
  · iexact S13
  isplitl [S14]
  · iexact S14
  isplitl [S15]
  · iexact S15
  isplitl [S16]
  · iexact S16
  iintro ⟨H0, H1, H2, H3, H4, S7, S8, S9, S10, S11, S12, S13, S14, S15, S16⟩
  isplitl [Hg S7 S8 S9 S10 S11 S12 S13 S14 S15 S16]
  · isplitr [Hg]
    · isplitl [S7]
      · iexact S7
      isplitl [S8]
      · iexact S8
      isplitl [S9]
      · iexact S9
      isplitl [S10]
      · iexact S10
      isplitl [S11]
      · iexact S11
      isplitl [S12]
      · iexact S12
      isplitl [S13]
      · iexact S13
      isplitl [S14]
      · iexact S14
      isplitl [S15]
      · iexact S15
      iexact S16
    · iexact Hg
  isplitl [Howes]
  · iexact Howes
  isplitl [H0]
  · iapply (full_owns c _ _); iexact H0
  isplitl [H1]
  · iapply (full_owns c _ _); iexact H1
  isplitl [H2]
  · iapply (full_owns c _ _); iexact H2
  isplitl [H3]
  · iapply (full_owns c _ _); iexact H3
  iapply (full_owns c _ _); iexact H4

set_option backward.isDefEq.respectTransparency.types false in
/-- The run: every array ends at what the pipeline writes back, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ 𝒱₀ m ρ main (fun c => (body_obligation m c).loose)
    (fun _ _ _ => rfl) (fun _ _ => rfl) (V m) (hmain m 𝒱₀) (fun _ _ => rfl) (fun _ _ => rfl) _ (fun _ h => h)

/-- The arguments end as they began. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).1 2).trans (((dats m 0 c).arrAt_in 2 rfl _).trans (V_main_arg0 m c)),
    ((h c).2 main_arg1 (Pipeline.mem_restRefs_of main_arg1 (by decide) (by decide))).trans (V_main_arg1 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => args_kept m h.1 c, h.2⟩) (run_main m ρ)

end Cert.KernelIdeal.Band

end
-- ==== Proof.Plain.Bridge.lean ====
/-
  The printed body is `body`: the printed stages are chains of the same blocks.
-/
module
public import proofs.«01_k».proof.Proof.Plain.Body
@[expose] public section
set_option maxRecDepth 1000000
noncomputable section
namespace Cert.Kernel.Band
open Idealize.ShloMosaic Idealize.SL.Sem Cert.Kernel Cert.Kernel.Gen
variable {F : FTy → Type} [FloatOps F]
variable (i : grid0.Coords) (arg2 : Memref sig .tc .vmem S1x1x4096x128 .bf16) (harg2 : arg2.IsWhole) (arg3 : Memref sig .tc .vmem S1x1x4096x128 .bf16) (harg3 : arg3.IsWhole) (arg4 : Memref sig .tc .vmem S1x1x4096x128 .bf16) (harg4 : arg4.IsWhole) (arg5 : Memref sig .tc .vmem S3x1x2x256x256 .f32) (harg5 : arg5.IsWhole) (arg6 : Memref sig .tc .vmem S1x1x4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S3x4096x128 .bf16) (harg9 : arg9.IsWhole) (arg10 : Memref sig .tc .vmem S3x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S4096x128 .f32) (harg16 : arg16.IsWhole)

set_option maxHeartbeats 0 in
/-- The printed body. -/
theorem body_eq : cc0_band_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = body (F := F) arg2 arg3 arg4 arg5 arg6 harg6 arg7 arg8 arg9 harg9 arg10 harg10 arg11 arg12 arg13 arg14 arg15 arg16 := by
  unfold cc0_band_attn k0_part236 k0_part1 k0_part4 k0_part5 k0_part8 body rearrange0 rearrange1 rearrange2
  simp only [bind_assoc, pure_bind]
  rfl
end Cert.Kernel.Band
end
-- ==== Proof.Spec.lean ====
module

public import Idealize.ShloMosaic.Lib.Pointwise

@[expose] public section

noncomputable section

namespace Cert.Spec

open Idealize.ShloMosaic

/-- Entry `k` of a row divided by its root mean square, scaled by `g k`. The mean divides by the width 1024; `1e-6` is
    added under the root. -/
def normed (x g : Fin 1024 → EReal) (k : Fin 1024) : EReal :=
  x k * Ideal.rsqrt (Ideal.div (∑ k', x k' * x k') (Ideal.ofBits .f32 0x44800000#32) + Ideal.ofBits .f32 0x358637BD#32) * g k

/-- The normalised row times one column of weights. -/
def dotted (x g w : Fin 1024 → EReal) : EReal := ∑ k, normed x g k * w k

end Cert.Spec
-- ==== Proof.MemoryRef.lean ====
module

public import proofs.«01_k».proof.Proof.Gen.Reference3Ideal.Run
public import proofs.«01_k».proof.Proof.Spec

/-!
The reference of the memory projection, read entry by entry: the keys and the values of the 4 × 256 memory rows are the
normalised rows times the two halves of the weights' columns.
-/

@[expose] public section

noncomputable section

namespace Cert.MemoryRef

open Idealize.ShloMosaic Idealize.ShloMosaic.TcCoe Idealize.SL.Sem
open Cert.Reference3Ideal Cert.Reference3Ideal.Gen Cert.Spec

/-- Column `off + l` of the projection of memory row `r`, the rows of the four batches counted through. -/
def entry (off : Nat) (hoff : off ≤ 512) (x : FVec Ideal S4x256x1024 .f32) (g : FVec Ideal S1x1024 .f32) (w : FVec Ideal S1x1024x1024 .f32)
    (r : Fin 1024) (l : Fin 512) : EReal :=
  dotted (fun k => x (ix3 (⟨r.val / 256, by omega⟩ : Fin 4) (⟨r.val % 256, by omega⟩ : Fin 256) k)) (fun k => g (ix2 0 k))
    (fun k => w (ix3 0 k (⟨off + l.val, by omega⟩ : Fin 1024)))

/-- The keys (columns 0–511), as an array. -/
def keys (x : FVec Ideal S4x256x1024 .f32) (g : FVec Ideal S1x1024 .f32) (w : FVec Ideal S1x1024x1024 .f32) : S1024x512.Idx → EReal :=
  fun i => entry 0 (by omega) x g w (i 0) (i 1)

/-- The values (columns 512–1023), as an array. -/
def vals (x : FVec Ideal S4x256x1024 .f32) (g : FVec Ideal S1x1024 .f32) (w : FVec Ideal S1x1024x1024 .f32) : S1024x512.Idx → EReal :=
  fun i => entry 512 (by omega) x g w (i 0) (i 1)

/-- The reference's product of the normalised rows with all the columns of the weights. -/
def product (x : FVec Ideal S4x256x1024 .f32) (g : FVec Ideal S1x1024 .f32) (w : FVec Ideal S1x1024x1024 .f32) : FVec Ideal S4x256x1024 .f32 :=
  Host.dotGeneral dot_S4x256x1024_S1024x1024_S4x256x1024_2_0_01_1_n_n none (mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ g shapeCasts_S1x1024_S1024)))) (shapeCast _ w shapeCasts_S1x1024x1024_S1024x1024)

set_option maxRecDepth 16384 in
/-- Its first 512 columns are the keys. -/
theorem keys_eq (x : FVec Ideal S4x256x1024 .f32) (g : FVec Ideal S1x1024 .f32) (w : FVec Ideal S1x1024x1024 .f32) :
    (shapeCast _ (extractStridedSlice S4x256x512 ![0, 0, 0] (product x g w) slices_S4x256x1024_S4x256x512_0_0_0) shapeCasts_S4x256x512_S1024x512 : FVec Ideal S1024x512 .f32)
      = keys x g w := by
  funext j
  obtain ⟨r, l, rfl⟩ : ∃ (r : Fin 1024) (l : Fin 512), j = ix2 r l := ⟨j 0, j 1, by idx_ext⟩
  show _ = entry 0 (by omega) x g w r l
  pointwise [product, entry, dotted, normed]

set_option maxRecDepth 16384 in
/-- Its last 512 columns are the values. -/
theorem vals_eq (x : FVec Ideal S4x256x1024 .f32) (g : FVec Ideal S1x1024 .f32) (w : FVec Ideal S1x1024x1024 .f32) :
    (shapeCast _ (extractStridedSlice S4x256x512 ![0, 0, 512] (product x g w) slices_S4x256x1024_S4x256x512_0_0_512) shapeCasts_S4x256x512_S1024x512 : FVec Ideal S1024x512 .f32)
      = vals x g w := by
  funext j
  obtain ⟨r, l, rfl⟩ : ∃ (r : Fin 1024) (l : Fin 512), j = ix2 r l := ⟨j 0, j 1, by idx_ext⟩
  show _ = entry 512 (by omega) x g w r l
  pointwise [product, entry, dotted, normed]

/-- The reference leaves the keys and the values, each twice, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = keys (m ((c.tc : Thread nD τ).loc main_arg0)) (m ((c.tc : Thread nD τ).loc main_arg1)) (m ((c.tc : Thread nD τ).loc main_arg2))
      ∧ r.2.mem ((c.tc : Thread nD τ).loc main_v19) = vals (m ((c.tc : Thread nD τ).loc main_arg0)) (m ((c.tc : Thread nD τ).loc main_arg1)) (m ((c.tc : Thread nD τ).loc main_arg2))
      ∧ r.2.mem ((c.tc : Thread nD τ).loc main_v20) = keys (m ((c.tc : Thread nD τ).loc main_arg0)) (m ((c.tc : Thread nD τ).loc main_arg1)) (m ((c.tc : Thread nD τ).loc main_arg2))
      ∧ r.2.mem ((c.tc : Thread nD τ).loc main_v21) = vals (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, ha⟩ := h c
    exact ⟨h0.trans (keys_eq _ _ _), h1.trans (vals_eq _ _ _), h2.trans (keys_eq _ _ _), h3.trans (vals_eq _ _ _), ha⟩) (Value.run m ρ)

end Cert.MemoryRef
-- ==== Proof.Memory.lean ====
module

public import proofs.«01_k».proof.Proof.Gen.Kernel3Ideal.Value
public import proofs.«01_k».proof.Defs
public import proofs.«01_k».proof.Proof.MemoryRef
public import Idealize.ShloMosaic.Lib.Pipeline.ValueKit

/-!
The memory projection's call: each of the two grid points writes the keys and the values of 512 memory rows, so the four
result arrays end at the arrays of `Cert.MemoryRef`.
-/

@[expose] public section

set_option maxRecDepth 16384

noncomputable section

namespace Cert.Memory

open Idealize.ShloMosaic Idealize.ShloMosaic.TcCoe Idealize.SL.Sem
open Cert.Kernel3Ideal Cert.Kernel3Ideal.Gen Cert.Spec

variable (m : (ℓ : Loc nD τ sig) → Buf (Elt Ideal) ℓ) (ρ : Dev nD → PrngReg)

/-- A point's product is, entry by entry, the normalised rows times the columns it loaded. -/
theorem pay2_at (x : FVec Ideal S512x1024 .f32) (g : FVec Ideal S1x1024 .f32) (w : FVec Ideal S1024x512 .bf16) (r : Fin 512) (l : Fin 512) :
    k0_pay2 (F := Ideal) x g w (ix2 r l) = dotted (fun k => x (ix2 r k)) (fun k => g (ix2 0 k)) (fun k => w (ix2 k l)) := by
  pointwise [k0_pay2, k0_pay1, dotted, normed]

/-- The second product is the same function. -/
theorem pay3_eq (x : FVec Ideal S512x1024 .f32) (g : FVec Ideal S1x1024 .f32) (w : FVec Ideal S1024x512 .bf16) :
    k0_pay3 (F := Ideal) x g w = k0_pay2 x g w := rfl

/-- Where each window stands at point `t`. -/
theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] := by
  decide +kernel

/-- The rows' array at region entry: the argument's four batches counted through. -/
theorem V_rows (c : Dev nD) : V m c main_v0 = shapeCast S1024x1024 (m ((c : Thread nD τ).loc main_arg0)) shapeCasts_S4x256x1024_S1024x1024 := by
  unfold V; after_results; rfl

/-- The scales' array at region entry. -/
theorem V_scales (c : Dev nD) : V m c main_v2
    = broadcastInDim S1x1024 ![1] bcast_S1024_S1x1024_1 (shapeCast S1024 (m ((c : Thread nD τ).loc main_arg1)) shapeCasts_S1x1024_S1024) := by
  unfold V; after_results; rfl

/-- The weights' array at region entry. -/
theorem V_weights (c : Dev nD) : V m c main_v4
    = truncf (F := Ideal) (φ := .f32) .bf16 (shapeCast S1024x1024 (m ((c : Thread nD τ).loc main_arg2)) shapeCasts_S1x1024x1024_S1024x1024) bitsLt_bf16_f32 := by
  unfold V; after_results; rfl

/-- The batches counted through, at an entry. -/
theorem cast_rows_at (x : FVec Ideal S4x256x1024 .f32) (r k : Fin 1024) :
    shapeCast S1024x1024 x shapeCasts_S4x256x1024_S1024x1024 (ix2 r k)
      = x (ix3 (⟨r.val / 256, by omega⟩ : Fin 4) (⟨r.val % 256, by omega⟩ : Fin 256) k) := by
  pointwise []

/-- The weights without their leading axis, at an entry. -/
theorem cast_weights_at (w : FVec Ideal S1x1024x1024 .f32) (k l : Fin 1024) :
    truncf (F := Ideal) (φ := .f32) .bf16 (shapeCast S1024x1024 w shapeCasts_S1x1024x1024_S1024x1024) bitsLt_bf16_f32 (ix2 k l)
      = w (ix3 0 k l) := by
  pointwise []

/-- The scales' reshape and broadcast, at an entry. -/
theorem cast_scales_at (g : FVec Ideal S1x1024 .f32) (k : Fin 1024) :
    broadcastInDim S1x1024 ![1] bcast_S1024_S1x1024_1 (shapeCast S1024 g shapeCasts_S1x1024_S1024) (ix2 0 k) = g (ix2 0 k) := by
  pointwise []

/-- Row `r` of the block of point `t` is memory row `512 t + r`. -/
theorem rows_at (c : Dev nD) (t : Fin cfg0.N) (ht : t.val < 2) (r : Fin 512) (k : Fin 1024) :
    (iblk m c 0 t : S512x1024.Idx → EReal) (ix2 r k)
      = m ((c : Thread nD τ).loc main_arg0) (ix3 (⟨(t.val * 512 + r.val) / 256, by omega⟩ : Fin 4) (⟨(t.val * 512 + r.val) % 256, by omega⟩ : Fin 256) k) := by
  show V m c main_v0 ((win0_0.blk t).view.emb (ix2 r k)) = _
  have e : (win0_0.blk t).view.emb (ix2 r k) = ix2 (⟨t.val * 512 + r.val, by omega⟩ : Fin 1024) k := by blk_ext [idx t]
  rw [e, V_rows]
  exact cast_rows_at _ _ k

/-- Every point holds all the scales. -/
theorem scales_at (c : Dev nD) (t : Fin cfg0.N) (k : Fin 1024) :
    (iblk m c 1 t : S1x1024.Idx → EReal) (ix2 0 k) = m ((c : Thread nD τ).loc main_arg1) (ix2 0 k) := by
  show V m c main_v2 ((win0_1.blk t).view.emb (ix2 0 k)) = _
  have e : (win0_1.blk t).view.emb (ix2 0 k) = ix2 0 k := by blk_ext [idx t]
  rw [e, V_scales]
  exact cast_scales_at _ k

/-- Every point holds all the weights. -/
theorem weights_at (c : Dev nD) (t : Fin cfg0.N) (k l : Fin 1024) :
    (iblk m c 2 t : S1024x1024.Idx → EReal) (ix2 k l) = m ((c : Thread nD τ).loc main_arg2) (ix3 0 k l) := by
  show V m c main_v4 ((win0_2.blk t).view.emb (ix2 k l)) = _
  have e : (win0_2.blk t).view.emb (ix2 k l) = ix2 k l := by blk_ext [idx t]
  rw [e, V_weights]
  exact cast_weights_at _ k l

/-- What point `t` computes from the columns from `off` on, at its row `r`, is memory row `512 t + r` of the result. -/
theorem point_at (c : Dev nD) (t : Fin cfg0.N) (ht : t.val < 2) (off : Nat) (hoff : off ≤ 512) (w : FVec Ideal S1024x512 .bf16)
    (hw : ∀ (k : Fin 1024) (l : Fin 512), w (ix2 k l) = (iblk m c 2 t : S1024x1024.Idx → EReal) (ix2 k (⟨off + l.val, by omega⟩ : Fin 1024)))
    (r l : Fin 512) : k0_pay2 (F := Ideal) (iblk m c 0 t) (iblk m c 1 t) w (ix2 r l)
      = MemoryRef.entry off hoff (m ((c : Thread nD τ).loc main_arg0)) (m ((c : Thread nD τ).loc main_arg1)) (m ((c : Thread nD τ).loc main_arg2))
          ⟨t.val * 512 + r.val, by omega⟩ l := by
  rw [pay2_at]
  unfold MemoryRef.entry
  congr 1
  · funext k; exact rows_at m c t ht r k
  · funext k; exact scales_at m c t k
  · funext k; exact (hw k l).trans (weights_at m c t k _)

/-- The first result array ends at the keys. -/
theorem final3 (c : Dev nD) : (dats m 0 c).arrAt 3 cfg0.N
    = MemoryRef.keys (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, l, rfl⟩ : ∃ (r : Fin 512) (l : Fin 512), y = ix2 r l := ⟨y 0, y 1, by idx_ext⟩
  have ht : t.val < 2 := t.isLt.trans_eq N_0
  have e : ((View.whole main_v5_0).slice (win0_3.rect t)).emb (ix2 r l) = ix2 (⟨t.val * 512 + r.val, by omega⟩ : Fin 1024) l := by blk_ext [idx t]
  rw [e]
  exact point_at m c t ht 0 (by omega) _ (fun k l => by pointwise []) r l

/-- The second result array ends at the values. -/
theorem final4 (c : Dev nD) : (dats m 0 c).arrAt 4 cfg0.N
    = MemoryRef.vals (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨r, l, rfl⟩ : ∃ (r : Fin 512) (l : Fin 512), y = ix2 r l := ⟨y 0, y 1, by idx_ext⟩
  have ht : t.val < 2 := t.isLt.trans_eq N_0
  have e : ((View.whole main_v5_1).slice (win0_4.rect t)).emb (ix2 r l) = ix2 (⟨t.val * 512 + r.val, by omega⟩ : Fin 1024) l := by blk_ext [idx t]
  rw [e, pay3_eq]
  exact point_at m c t ht 512 (by omega) _ (fun k l => by pointwise []) r l

/-- The third result array ends at the keys, their cast being exact here. -/
theorem final5 (c : Dev nD) : (dats m 0 c).arrAt 5 cfg0.N
    = MemoryRef.keys (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  obtain ⟨r, l, rfl⟩ : ∃ (r : Fin 512) (l : Fin 512), y = ix2 r l := ⟨y 0, y 1, by idx_ext⟩
  have ht : t.val < 2 := t.isLt.trans_eq N_0
  have e : ((View.whole main_v5_2).slice (win0_5.rect t)).emb (ix2 r l) = ix2 (⟨t.val * 512 + r.val, by omega⟩ : Fin 1024) l := by blk_ext [idx t]
  rw [e]
  exact point_at m c t ht 0 (by omega) _ (fun k l => by pointwise []) r l

/-- The fourth result array ends at the values. -/
theorem final6 (c : Dev nD) : (dats m 0 c).arrAt 6 cfg0.N
    = MemoryRef.vals (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  obtain ⟨r, l, rfl⟩ : ∃ (r : Fin 512) (l : Fin 512), y = ix2 r l := ⟨y 0, y 1, by idx_ext⟩
  have ht : t.val < 2 := t.isLt.trans_eq N_0
  have e : ((View.whole main_v5_3).slice (win0_6.rect t)).emb (ix2 r l) = ix2 (⟨t.val * 512 + r.val, by omega⟩ : Fin 1024) l := by blk_ext [idx t]
  rw [e]
  exact point_at m c t ht 512 (by omega) _ (fun k l => by pointwise []) r l

/-- The call and the reference leave the same four arrays. -/
theorem algebraic : Cert.algebraic_Kernel3Ideal_Reference3Ideal := by
  intro m g m' g' _ hagree
  refine ⟨fun c => MemoryRef.keys (m ((c : Thread nD τ).loc main_arg0)) (m ((c : Thread nD τ).loc main_arg1)) (m ((c : Thread nD τ).loc main_arg2)),
    fun c => MemoryRef.vals (m ((c : Thread nD τ).loc main_arg0)) (m ((c : Thread nD τ).loc main_arg1)) (m ((c : Thread nD τ).loc main_arg2)),
    fun c => MemoryRef.keys (m ((c : Thread nD τ).loc main_arg0)) (m ((c : Thread nD τ).loc main_arg1)) (m ((c : Thread nD τ).loc main_arg2)),
    fun c => MemoryRef.vals (m ((c : Thread nD τ).loc main_arg0)) (m ((c : Thread nD τ).loc main_arg1)) (m ((c : Thread nD τ).loc main_arg2)),
    (θ_run _ _ _).mono (fun r h c => ?_) (Value.run_blocks m g), (θ_run _ _ _).mono (fun r h c => ?_) (MemoryRef.run m' g')⟩
  · obtain ⟨h0, h1, h2, h3, ha⟩ := h c
    exact ⟨h0.trans (final3 m c), h1.trans (final4 m c), h2.trans (final5 m c), h3.trans (final6 m c), ha⟩
  · obtain ⟨h0, h1, h2, h3, ha⟩ := h c
    obtain ⟨e0, e1, e2⟩ := hagree c
    refine ⟨h0.trans ?_, h1.trans ?_, h2.trans ?_, h3.trans ?_, ha⟩ <;> rw [e0, e1, e2]

end Cert.Memory
-- ==== Proof.Inproj.Pay.lean ====
/-
  What the projection kernel stores, as functions of the blocks it reads: the normalised rows, their products with a
  band of the weights' columns, the gates over those products, and per output window the contents the body leaves in it.
-/
module

public import proofs.«01_k».proof.Proof.Gen.Kernel2Ideal.Frame

@[expose] public section

set_option maxRecDepth 16384

noncomputable section

namespace Cert.Kernel2Ideal.Inproj

open Idealize.ShloMosaic Cert.Kernel2Ideal Cert.Kernel2Ideal.Gen
open Idealize.ShloMosaic.TcCoe

variable {F : FTy → Type} [FloatOps F] [Named F]

/-! ## The row block and the products -/

/-- The rows, each divided by its root mean square and multiplied by the gain, as the products read them. -/
def rows (x : FVec F S256x1024 .f32) (g : FVec F S1x1024 .f32) : FVec F S256x1024 .bf16 :=
  truncf .bf16 (mulf (mulf x (broadcastTo S256x1024 (rsqrt (addf
    (divf (shapeCast S256x1 (multiReduction .add [1] S256 (mulf x x) 0x00000000#32 reduces_S256x1024_S256 (.inl rfl) rfl) shapeCasts_S256_S256x1)
      (broadcast S256x1 (Scalar.ofBits .f32 0x44800000#32)))
    (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- The prompt's rows: the block without its leading unit axis. -/
def rowsP (x : FVec F S1x256x1024 .f32) (g : FVec F S1x1024 .f32) : FVec F S256x1024 .bf16 :=
  rows (shapeCast S256x1024 x shapeCasts_S1x256x1024_S256x1024) g

/-- The rows against a band of 768 columns of the weights, -/
def prod768 (n : FVec F S256x1024 .bf16) (w : FVec F S1024x768 .bf16) : FVec F S256x768 .f32 :=
  matmul dot_S256x1024_S1024x768_S256x768_1_0_0_1_n_n none n (shapeCast S1024x768 w shapeCasts_S1024x768_S1024x768) (constant S256x768 .f32 0x00000000#32)
/-- of 512 columns, -/
def prod512 (n : FVec F S256x1024 .bf16) (w : FVec F S1024x512 .bf16) : FVec F S256x512 .f32 :=
  matmul dot_S256x1024_S1024x512_S256x512_1_0_0_1_n_n none n (shapeCast S1024x512 w shapeCasts_S1024x512_S1024x512) (constant S256x512 .f32 0x00000000#32)
/-- of 1024 columns. -/
def prod1024 (n : FVec F S256x1024 .bf16) (w : FVec F S1024x1024 .bf16) : FVec F S256x1024 .f32 :=
  matmul dot_S256x1024_S1024x1024_S256x1024_1_0_0_1_n_n none n (shapeCast S1024x1024 w shapeCasts_S1024x1024_S1024x1024) (constant S256x1024 .f32 0x00000000#32)

/-- The logistic function, entry by entry, as the kernel spells it. -/
def gate {s : Shape} (v : FVec F s .f32) : FVec F s .f32 :=
  divf (broadcast s (Scalar.ofBits .f32 0x3F800000#32))
    (addf (broadcast s (Scalar.ofBits .f32 0x3F800000#32)) (exp (subf (broadcast s (Scalar.ofBits .f32 0x00000000#32)) v)))

/-- The queries' products times the band attention's scale, -/
def scaledA (v : FVec F S256x768 .f32) : FVec F S256x768 .f32 := mulf v (broadcast S256x768 (Named.named κ "scale_a" 0x3E38AA3B#32))
/-- and times the memory attention's. -/
def scaledC (v : FVec F S256x512 .f32) : FVec F S256x512 .f32 := mulf v (broadcast S256x512 (Named.named κ "scale_c" 0x3E0293EE#32))

/-! ## The weights' bands -/

abbrev rQ : Rect S1024x9472 := Rect.unit (s := S1024x9472) ![0, 0] S1024x768.size inb_S1024x9472_S1024x768_0_0
abbrev rK : Rect S1024x9472 := Rect.unit (s := S1024x9472) ![0, 768] S1024x768.size inb_S1024x9472_S1024x768_0_768
abbrev rV : Rect S1024x9472 := Rect.unit (s := S1024x9472) ![0, 1536] S1024x768.size inb_S1024x9472_S1024x768_0_1536
abbrev rZa : Rect S1024x9472 := Rect.unit (s := S1024x9472) ![0, 2304] S1024x768.size inb_S1024x9472_S1024x768_0_2304
abbrev rU : Rect S1024x9472 := Rect.unit (s := S1024x9472) ![0, 3072] S1024x768.size inb_S1024x9472_S1024x768_0_3072
abbrev rG : Rect S1024x9472 := Rect.unit (s := S1024x9472) ![0, 3840] S1024x768.size inb_S1024x9472_S1024x768_0_3840
abbrev rZb : Rect S1024x9472 := Rect.unit (s := S1024x9472) ![0, 4608] S1024x768.size inb_S1024x9472_S1024x768_0_4608
abbrev rQc : Rect S1024x9472 := Rect.unit (s := S1024x9472) ![0, 5376] S1024x512.size inb_S1024x9472_S1024x512_0_5376
abbrev rZc : Rect S1024x9472 := Rect.unit (s := S1024x9472) ![0, 5888] S1024x512.size inb_S1024x9472_S1024x512_0_5888
abbrev rG0 : Rect S1024x9472 := Rect.unit (s := S1024x9472) ![0, 6400] S1024x1024.size inb_S1024x9472_S1024x1024_0_6400
abbrev rG1 : Rect S1024x9472 := Rect.unit (s := S1024x9472) ![0, 7424] S1024x1024.size inb_S1024x9472_S1024x1024_0_7424
abbrev rG2 : Rect S1024x9472 := Rect.unit (s := S1024x9472) ![0, 8448] S1024x1024.size inb_S1024x9472_S1024x1024_0_8448

abbrev wQ (w : Vec F S1024x9472 .bf16) : FVec F S1024x768 .bf16 := View.ld w rQ
abbrev wK (w : Vec F S1024x9472 .bf16) : FVec F S1024x768 .bf16 := View.ld w rK
abbrev wV (w : Vec F S1024x9472 .bf16) : FVec F S1024x768 .bf16 := View.ld w rV
abbrev wZa (w : Vec F S1024x9472 .bf16) : FVec F S1024x768 .bf16 := View.ld w rZa
abbrev wU (w : Vec F S1024x9472 .bf16) : FVec F S1024x768 .bf16 := View.ld w rU
abbrev wG (w : Vec F S1024x9472 .bf16) : FVec F S1024x768 .bf16 := View.ld w rG
abbrev wZb (w : Vec F S1024x9472 .bf16) : FVec F S1024x768 .bf16 := View.ld w rZb
abbrev wQc (w : Vec F S1024x9472 .bf16) : FVec F S1024x512 .bf16 := View.ld w rQc
abbrev wZc (w : Vec F S1024x9472 .bf16) : FVec F S1024x512 .bf16 := View.ld w rZc
abbrev wG0 (w : Vec F S1024x9472 .bf16) : FVec F S1024x1024 .bf16 := View.ld w rG0
abbrev wG1 (w : Vec F S1024x9472 .bf16) : FVec F S1024x1024 .bf16 := View.ld w rG1
abbrev wG2 (w : Vec F S1024x9472 .bf16) : FVec F S1024x1024 .bf16 := View.ld w rG2

/-! ## The blocks read -/

abbrev rX : Rect S1x256x1024 := Rect.unit (s := S1x256x1024) ![0, 0, 0] S1x256x1024.size inb_S1x256x1024_S1x256x1024_0_0_0
abbrev rS : Rect S256x1024 := Rect.unit (s := S256x1024) ![0, 0] S256x1024.size inb_S256x1024_S256x1024_0_0
abbrev rGain : Rect S1x1024 := Rect.unit (s := S1x1024) ![0, 0] S1x1024.size inb_S1x1024_S1x1024_0_0

/-- The prompt block's rows as the products read them; -/
abbrev nP (x : Vec F S1x256x1024 .f32) (g : Vec F S1x1024 .f32) : FVec F S256x1024 .bf16 := rowsP (View.ld x rX) (View.ld g rGain)
/-- the sample block's. -/
abbrev nS (x : Vec F S256x1024 .f32) (g : Vec F S1x1024 .f32) : FVec F S256x1024 .bf16 := rows (shapeCast S256x1024 (View.ld x rS) shapeCasts_S256x1024_S256x1024) (View.ld g rGain)

/-! ## What the body leaves, per output window -/

/-- One head's 128 columns of a product, as a block of the heads' array. -/
def head (v : FVec F S256x768 .f32) (o : Nat) (h : S256x768.Slices ![0, o] S256x128) : FVec F S1x1x256x128 .bf16 :=
  shapeCast S1x1x256x128 (truncf .bf16 (extractStridedSlice S256x128 ![0, o] v h) bitsLt_bf16_f32) shapeCasts_S256x128_S1x1x256x128
abbrev rH0 : Rect S1x18x256x128 := Rect.unit (s := S1x18x256x128) ![0, 0, 0, 0] S1x1x256x128.size inb_S1x18x256x128_S1x1x256x128_0_0_0_0
abbrev rH1 : Rect S1x18x256x128 := Rect.unit (s := S1x18x256x128) ![0, 1, 0, 0] S1x1x256x128.size inb_S1x18x256x128_S1x1x256x128_0_1_0_0
abbrev rH2 : Rect S1x18x256x128 := Rect.unit (s := S1x18x256x128) ![0, 2, 0, 0] S1x1x256x128.size inb_S1x18x256x128_S1x1x256x128_0_2_0_0
abbrev rH3 : Rect S1x18x256x128 := Rect.unit (s := S1x18x256x128) ![0, 3, 0, 0] S1x1x256x128.size inb_S1x18x256x128_S1x1x256x128_0_3_0_0
abbrev rH4 : Rect S1x18x256x128 := Rect.unit (s := S1x18x256x128) ![0, 4, 0, 0] S1x1x256x128.size inb_S1x18x256x128_S1x1x256x128_0_4_0_0
abbrev rH5 : Rect S1x18x256x128 := Rect.unit (s := S1x18x256x128) ![0, 5, 0, 0] S1x1x256x128.size inb_S1x18x256x128_S1x1x256x128_0_5_0_0
abbrev rH6 : Rect S1x18x256x128 := Rect.unit (s := S1x18x256x128) ![0, 6, 0, 0] S1x1x256x128.size inb_S1x18x256x128_S1x1x256x128_0_6_0_0
abbrev rH7 : Rect S1x18x256x128 := Rect.unit (s := S1x18x256x128) ![0, 7, 0, 0] S1x1x256x128.size inb_S1x18x256x128_S1x1x256x128_0_7_0_0
abbrev rH8 : Rect S1x18x256x128 := Rect.unit (s := S1x18x256x128) ![0, 8, 0, 0] S1x1x256x128.size inb_S1x18x256x128_S1x1x256x128_0_8_0_0
abbrev rH9 : Rect S1x18x256x128 := Rect.unit (s := S1x18x256x128) ![0, 9, 0, 0] S1x1x256x128.size inb_S1x18x256x128_S1x1x256x128_0_9_0_0
abbrev rH10 : Rect S1x18x256x128 := Rect.unit (s := S1x18x256x128) ![0, 10, 0, 0] S1x1x256x128.size inb_S1x18x256x128_S1x1x256x128_0_10_0_0
abbrev rH11 : Rect S1x18x256x128 := Rect.unit (s := S1x18x256x128) ![0, 11, 0, 0] S1x1x256x128.size inb_S1x18x256x128_S1x1x256x128_0_11_0_0
abbrev rH12 : Rect S1x18x256x128 := Rect.unit (s := S1x18x256x128) ![0, 12, 0, 0] S1x1x256x128.size inb_S1x18x256x128_S1x1x256x128_0_12_0_0
abbrev rH13 : Rect S1x18x256x128 := Rect.unit (s := S1x18x256x128) ![0, 13, 0, 0] S1x1x256x128.size inb_S1x18x256x128_S1x1x256x128_0_13_0_0
abbrev rH14 : Rect S1x18x256x128 := Rect.unit (s := S1x18x256x128) ![0, 14, 0, 0] S1x1x256x128.size inb_S1x18x256x128_S1x1x256x128_0_14_0_0
abbrev rH15 : Rect S1x18x256x128 := Rect.unit (s := S1x18x256x128) ![0, 15, 0, 0] S1x1x256x128.size inb_S1x18x256x128_S1x1x256x128_0_15_0_0
abbrev rH16 : Rect S1x18x256x128 := Rect.unit (s := S1x18x256x128) ![0, 16, 0, 0] S1x1x256x128.size inb_S1x18x256x128_S1x1x256x128_0_16_0_0
abbrev rH17 : Rect S1x18x256x128 := Rect.unit (s := S1x18x256x128) ![0, 17, 0, 0] S1x1x256x128.size inb_S1x18x256x128_S1x1x256x128_0_17_0_0

/-- A product of 768 columns as a block of an array over the prompt's rows. -/
def asBlock (v : FVec F S256x768 .f32) : FVec F S1x256x768 .f32 := shapeCast S1x256x768 v shapeCasts_S256x768_S1x256x768
def asBlock16 (v : FVec F S256x768 .f32) : FVec F S1x256x768 .bf16 := shapeCast S1x256x768 (truncf .bf16 v bitsLt_bf16_f32) shapeCasts_S256x768_S1x256x768
def asBlock512 (v : FVec F S256x512 .f32) : FVec F S1x256x512 .bf16 := shapeCast S1x256x512 (truncf .bf16 v bitsLt_bf16_f32) shapeCasts_S256x512_S1x256x512
def asBlock1024 (v : FVec F S256x1024 .f32) : FVec F S1x256x1024 .bf16 := shapeCast S1x256x1024 (truncf .bf16 v bitsLt_bf16_f32) shapeCasts_S256x1024_S1x256x1024
/-- The last 32 rows. -/
def tail (v : FVec F S256x768 .f32) : FVec F S1x32x768 .f32 :=
  shapeCast S1x32x768 (extractStridedSlice S32x768 ![224, 0] v slices_S256x768_o224_0_S32x768) shapeCasts_S32x768_S1x32x768

abbrev rB : Rect S1x256x768 := Rect.unit (s := S1x256x768) ![0, 0, 0] S1x256x768.size inb_S1x256x768_S1x256x768_0_0_0
abbrev rB512 : Rect S1x256x512 := Rect.unit (s := S1x256x512) ![0, 0, 0] S1x256x512.size inb_S1x256x512_S1x256x512_0_0_0
abbrev rT : Rect S1x32x768 := Rect.unit (s := S1x32x768) ![0, 0, 0] S1x32x768.size inb_S1x32x768_S1x32x768_0_0_0
abbrev rGt0 : Rect S1x256x3072 := Rect.unit (s := S1x256x3072) ![0, 0, 0] S1x256x1024.size inb_S1x256x3072_S1x256x1024_0_0_0
abbrev rGt1 : Rect S1x256x3072 := Rect.unit (s := S1x256x3072) ![0, 0, 1024] S1x256x1024.size inb_S1x256x3072_S1x256x1024_0_0_1024
abbrev rGt2 : Rect S1x256x3072 := Rect.unit (s := S1x256x3072) ![0, 0, 2048] S1x256x1024.size inb_S1x256x3072_S1x256x1024_0_0_2048
abbrev rR : Rect S256x768 := Rect.unit (s := S256x768) ![0, 0] S256x768.size inb_S256x768_S256x768_0_0
abbrev rR512 : Rect S256x512 := Rect.unit (s := S256x512) ![0, 0] S256x512.size inb_S256x512_S256x512_0_0
abbrev rR3072 : Rect S256x3072 := Rect.unit (s := S256x3072) ![0, 0] S256x3072.size inb_S256x3072_S256x3072_0_0
abbrev rSt0 : Rect S256x3072 := Rect.unit (s := S256x3072) ![0, 0] S256x1024.size inb_S256x3072_S256x1024_0_0
abbrev rSt1 : Rect S256x3072 := Rect.unit (s := S256x3072) ![0, 1024] S256x1024.size inb_S256x3072_S256x1024_0_1024
abbrev rSt2 : Rect S256x3072 := Rect.unit (s := S256x3072) ![0, 2048] S256x1024.size inb_S256x3072_S256x1024_0_2048

section Prompt

variable (n : FVec F S256x1024 .bf16) (w : Vec F S1024x9472 .bf16)

/-- The scaled queries, the keys and the values, head by head; -/
def p4 : Vec F S1x18x256x128 .bf16 := View.canon [
  ⟨rH17, head (prod768 n (wV w)) 640 slices_S256x768_o0_640_S256x128⟩,
  ⟨rH16, head (prod768 n (wV w)) 512 slices_S256x768_o0_512_S256x128⟩,
  ⟨rH15, head (prod768 n (wV w)) 384 slices_S256x768_o0_384_S256x128⟩,
  ⟨rH14, head (prod768 n (wV w)) 256 slices_S256x768_o0_256_S256x128⟩,
  ⟨rH13, head (prod768 n (wV w)) 128 slices_S256x768_o0_128_S256x128⟩,
  ⟨rH12, head (prod768 n (wV w)) 0 slices_S256x768_o0_0_S256x128⟩,
  ⟨rH11, head (prod768 n (wK w)) 640 slices_S256x768_o0_640_S256x128⟩,
  ⟨rH10, head (prod768 n (wK w)) 512 slices_S256x768_o0_512_S256x128⟩,
  ⟨rH9, head (prod768 n (wK w)) 384 slices_S256x768_o0_384_S256x128⟩,
  ⟨rH8, head (prod768 n (wK w)) 256 slices_S256x768_o0_256_S256x128⟩,
  ⟨rH7, head (prod768 n (wK w)) 128 slices_S256x768_o0_128_S256x128⟩,
  ⟨rH6, head (prod768 n (wK w)) 0 slices_S256x768_o0_0_S256x128⟩,
  ⟨rH5, head (scaledA (prod768 n (wQ w))) 640 slices_S256x768_o0_640_S256x128⟩,
  ⟨rH4, head (scaledA (prod768 n (wQ w))) 512 slices_S256x768_o0_512_S256x128⟩,
  ⟨rH3, head (scaledA (prod768 n (wQ w))) 384 slices_S256x768_o0_384_S256x128⟩,
  ⟨rH2, head (scaledA (prod768 n (wQ w))) 256 slices_S256x768_o0_256_S256x128⟩,
  ⟨rH1, head (scaledA (prod768 n (wQ w))) 128 slices_S256x768_o0_128_S256x128⟩,
  ⟨rH0, head (scaledA (prod768 n (wQ w))) 0 slices_S256x768_o0_0_S256x128⟩]
/-- the keys and the values of the rows that are kept; -/
def p5 : Vec F S1x256x768 .f32 := View.canon [⟨rB, asBlock (prod768 n (wK w))⟩]
def p6 : Vec F S1x256x768 .f32 := View.canon [⟨rB, asBlock (prod768 n (wV w))⟩]
/-- the gate of the band attention; the gated convolution input; the convolution's gate; -/
def p7 : Vec F S1x256x768 .bf16 := View.canon [⟨rB, asBlock16 (mulf (prod768 n (wZa w)) (gate (prod768 n (wZa w))))⟩]
def p8 : Vec F S1x256x768 .bf16 := View.canon [⟨rB, asBlock16 (mulf (prod768 n (wU w)) (gate (prod768 n (wG w))))⟩]
def p9 : Vec F S1x256x768 .bf16 := View.canon [⟨rB, asBlock16 (mulf (prod768 n (wZb w)) (gate (prod768 n (wZb w))))⟩]
/-- the memory attention's queries and gate; -/
def p10 : Vec F S1x256x512 .bf16 := View.canon [⟨rB512, asBlock512 (scaledC (prod512 n (wQc w)))⟩]
def p11 : Vec F S1x256x512 .bf16 := View.canon [⟨rB512, asBlock512 (mulf (prod512 n (wZc w)) (gate (prod512 n (wZc w))))⟩]
/-- the mixing gates; -/
def p12 : Vec F S1x256x3072 .bf16 := View.canon [⟨rGt2, asBlock1024 (gate (prod1024 n (wG2 w)))⟩,
  ⟨rGt1, asBlock1024 (gate (prod1024 n (wG1 w)))⟩, ⟨rGt0, asBlock1024 (gate (prod1024 n (wG0 w)))⟩]
/-- the last rows of the convolution input. -/
def p13 : Vec F S1x32x768 .f32 := View.canon [⟨rT, tail (mulf (prod768 n (wU w)) (gate (prod768 n (wG w))))⟩]

end Prompt

section Sample

variable (n : FVec F S256x1024 .bf16) (w : Vec F S1024x9472 .bf16)

/-- The sample rows' queries, keys and values; -/
def s14 : Vec F S256x768 .f32 := View.canon [⟨rR, scaledA (prod768 n (wQ w))⟩]
def s15 : Vec F S256x768 .f32 := View.canon [⟨rR, prod768 n (wK w)⟩]
def s16 : Vec F S256x768 .f32 := View.canon [⟨rR, prod768 n (wV w)⟩]
/-- gates and convolution input; -/
def s17 : Vec F S256x768 .bf16 := View.canon [⟨rR, truncf .bf16 (mulf (prod768 n (wZa w)) (gate (prod768 n (wZa w)))) bitsLt_bf16_f32⟩]
def s18 : Vec F S256x768 .f32 := View.canon [⟨rR, mulf (prod768 n (wU w)) (gate (prod768 n (wG w)))⟩]
def s19 : Vec F S256x768 .bf16 := View.canon [⟨rR, truncf .bf16 (mulf (prod768 n (wZb w)) (gate (prod768 n (wZb w)))) bitsLt_bf16_f32⟩]
/-- the memory attention's queries and gate, and the mixing gates. -/
def s20 : Vec F S256x512 .f32 := View.canon [⟨rR512, scaledC (prod512 n (wQc w))⟩]
def s21 : Vec F S256x512 .bf16 := View.canon [⟨rR512, truncf .bf16 (mulf (prod512 n (wZc w)) (gate (prod512 n (wZc w)))) bitsLt_bf16_f32⟩]
def s22 : Vec F S256x3072 .bf16 := View.canon [⟨rSt2, truncf .bf16 (gate (prod1024 n (wG2 w))) bitsLt_bf16_f32⟩,
  ⟨rSt1, truncf .bf16 (gate (prod1024 n (wG1 w))) bitsLt_bf16_f32⟩, ⟨rSt0, truncf .bf16 (gate (prod1024 n (wG0 w))) bitsLt_bf16_f32⟩]

end Sample

/-- What the first point stores over the sample rows' buffers: zeros. -/
def zf : Vec F S256x768 .f32 := View.canon [⟨rR, broadcast S256x768 (Scalar.ofBits .f32 0x00000000#32)⟩]
def zb : Vec F S256x768 .bf16 := View.canon [⟨rR, broadcast S256x768 (Scalar.ofBits .bf16 0x0000#16)⟩]
def zf512 : Vec F S256x512 .f32 := View.canon [⟨rR512, broadcast S256x512 (Scalar.ofBits .f32 0x00000000#32)⟩]
def zb512 : Vec F S256x512 .bf16 := View.canon [⟨rR512, broadcast S256x512 (Scalar.ofBits .bf16 0x0000#16)⟩]
def zb3072 : Vec F S256x3072 .bf16 := View.canon [⟨rR3072, broadcast S256x3072 (Scalar.ofBits .bf16 0x0000#16)⟩]

end Cert.Kernel2Ideal.Inproj

end
-- ==== Proof.Inproj.Body.lean ====
/-
  The projection kernel's body at a grid point, case by case of its three conditions: a prompt point stores the ten
  prompt windows, the first point zeros over the nine sample windows besides, a sample point the nine sample windows.
-/
module

public import proofs.«01_k».proof.Proof.Inproj.Pay
public import Idealize.ShloMosaic.Lib.Claim

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F] [Named F]

local notation "𝕄" => MT nD τ sig Unit (Elt F) ℕ (UR sig nD τ) ℕ

/-! ## The stores of a window cover it -/

theorem cov4 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (p16 : Vec F S1x1x256x128 .bf16) (p17 : Vec F S1x1x256x128 .bf16) (y : S1x18x256x128.Idx) : ∃ q ∈ ([⟨rH17, p0⟩, ⟨rH16, p1⟩, ⟨rH15, p2⟩, ⟨rH14, p3⟩, ⟨rH13, p4⟩, ⟨rH12, p5⟩, ⟨rH11, p6⟩, ⟨rH10, p7⟩, ⟨rH9, p8⟩, ⟨rH8, p9⟩, ⟨rH7, p10⟩, ⟨rH6, p11⟩, ⟨rH5, p12⟩, ⟨rH4, p13⟩, ⟨rH3, p14⟩, ⟨rH2, p15⟩, ⟨rH1, p16⟩, ⟨rH0, p17⟩] : List (View.Piece (Elt F) S1x18x256x128 .bf16)), y ∈ q.1.set :=
  View.cover_of_tiled [⟨rH17, p0⟩, ⟨rH16, p1⟩, ⟨rH15, p2⟩, ⟨rH14, p3⟩, ⟨rH13, p4⟩, ⟨rH12, p5⟩, ⟨rH11, p6⟩, ⟨rH10, p7⟩, ⟨rH9, p8⟩, ⟨rH8, p9⟩, ⟨rH7, p10⟩, ⟨rH6, p11⟩, ⟨rH5, p12⟩, ⟨rH4, p13⟩, ⟨rH3, p14⟩, ⟨rH2, p15⟩, ⟨rH1, p16⟩, ⟨rH0, p17⟩] S1x1x256x128.size (by rfl) y
theorem covB (p0 : Vec F S1x256x768 .f32) (y : S1x256x768.Idx) : ∃ q ∈ ([⟨rB, p0⟩] : List (View.Piece (Elt F) S1x256x768 .f32)), y ∈ q.1.set :=
  View.cover_of_tiled [⟨rB, p0⟩] S1x256x768.size (by rfl) y
theorem covB16 (p0 : Vec F S1x256x768 .bf16) (y : S1x256x768.Idx) : ∃ q ∈ ([⟨rB, p0⟩] : List (View.Piece (Elt F) S1x256x768 .bf16)), y ∈ q.1.set :=
  View.cover_of_tiled [⟨rB, p0⟩] S1x256x768.size (by rfl) y
theorem covB512 (p0 : Vec F S1x256x512 .bf16) (y : S1x256x512.Idx) : ∃ q ∈ ([⟨rB512, p0⟩] : List (View.Piece (Elt F) S1x256x512 .bf16)), y ∈ q.1.set :=
  View.cover_of_tiled [⟨rB512, p0⟩] S1x256x512.size (by rfl) y
theorem covT (p0 : Vec F S1x32x768 .f32) (y : S1x32x768.Idx) : ∃ q ∈ ([⟨rT, p0⟩] : List (View.Piece (Elt F) S1x32x768 .f32)), y ∈ q.1.set :=
  View.cover_of_tiled [⟨rT, p0⟩] S1x32x768.size (by rfl) y
theorem covR (p0 : Vec F S256x768 .f32) (y : S256x768.Idx) : ∃ q ∈ ([⟨rR, p0⟩] : List (View.Piece (Elt F) S256x768 .f32)), y ∈ q.1.set :=
  View.cover_of_tiled [⟨rR, p0⟩] S256x768.size (by rfl) y
theorem covR16 (p0 : Vec F S256x768 .bf16) (y : S256x768.Idx) : ∃ q ∈ ([⟨rR, p0⟩] : List (View.Piece (Elt F) S256x768 .bf16)), y ∈ q.1.set :=
  View.cover_of_tiled [⟨rR, p0⟩] S256x768.size (by rfl) y
theorem covR512 (p0 : Vec F S256x512 .f32) (y : S256x512.Idx) : ∃ q ∈ ([⟨rR512, p0⟩] : List (View.Piece (Elt F) S256x512 .f32)), y ∈ q.1.set :=
  View.cover_of_tiled [⟨rR512, p0⟩] S256x512.size (by rfl) y
theorem covR512b (p0 : Vec F S256x512 .bf16) (y : S256x512.Idx) : ∃ q ∈ ([⟨rR512, p0⟩] : List (View.Piece (Elt F) S256x512 .bf16)), y ∈ q.1.set :=
  View.cover_of_tiled [⟨rR512, p0⟩] S256x512.size (by rfl) y
theorem covR3072 (p0 : Vec F S256x3072 .bf16) (y : S256x3072.Idx) : ∃ q ∈ ([⟨rR3072, p0⟩] : List (View.Piece (Elt F) S256x3072 .bf16)), y ∈ q.1.set :=
  View.cover_of_tiled [⟨rR3072, p0⟩] S256x3072.size (by rfl) y
theorem covGt (p0 : Vec F S1x256x1024 .bf16) (p1 : Vec F S1x256x1024 .bf16) (p2 : Vec F S1x256x1024 .bf16) (y : S1x256x3072.Idx) : ∃ q ∈ ([⟨rGt2, p0⟩, ⟨rGt1, p1⟩, ⟨rGt0, p2⟩] : List (View.Piece (Elt F) S1x256x3072 .bf16)), y ∈ q.1.set :=
  View.cover_of_tiled [⟨rGt2, p0⟩, ⟨rGt1, p1⟩, ⟨rGt0, p2⟩] S1x256x1024.size (by rfl) y
theorem covSt (p0 : Vec F S256x1024 .bf16) (p1 : Vec F S256x1024 .bf16) (p2 : Vec F S256x1024 .bf16) (y : S256x3072.Idx) : ∃ q ∈ ([⟨rSt2, p0⟩, ⟨rSt1, p1⟩, ⟨rSt0, p2⟩] : List (View.Piece (Elt F) S256x3072 .bf16)), y ∈ q.1.set :=
  View.cover_of_tiled [⟨rSt2, p0⟩, ⟨rSt1, p1⟩, ⟨rSt0, p2⟩] S256x1024.size (by rfl) y

set_option maxHeartbeats 8000000 in
/-- A sample point: the nine sample windows stored from the point's rows. -/
theorem run_sample (c : Dev nD) (E : Set ℕ) (i : grid0.Coords) (h1 : k0_cond1 i ≠ 1#1) (h2 : k0_cond2 i ≠ 1#1) (h3 : k0_cond3 i = 1#1)
    (arg1 : Memref sig .tc .vmem S1x256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x9472 .bf16) (harg4 : arg4.IsWhole) (arg5 : Memref sig .tc .vmem S1x18x256x128 .bf16) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .bf16) (harg8 : arg8.IsWhole) (arg9 : Memref sig .tc .vmem S1x256x768 .bf16) (harg9 : arg9.IsWhole) (arg10 : Memref sig .tc .vmem S1x256x768 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S1x256x3072 .bf16) (harg13 : arg13.IsWhole) (arg14 : Memref sig .tc .vmem S1x32x768 .f32) (harg14 : arg14.IsWhole) (arg15 : Memref sig .tc .vmem S256x768 .f32) (harg15 : arg15.IsWhole) (arg16 : Memref sig .tc .vmem S256x768 .f32) (harg16 : arg16.IsWhole) (arg17 : Memref sig .tc .vmem S256x768 .f32) (harg17 : arg17.IsWhole) (arg18 : Memref sig .tc .vmem S256x768 .bf16) (harg18 : arg18.IsWhole) (arg19 : Memref sig .tc .vmem S256x768 .f32) (harg19 : arg19.IsWhole) (arg20 : Memref sig .tc .vmem S256x768 .bf16) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x3072 .bf16) (harg23 : arg23.IsWhole)
    (x1 : Vec F S256x1024 .f32) (x2 : Vec F S1x1024 .f32) (x3 : Vec F S1024x9472 .bf16) (K : PUnit → sProp 𝕄) :
    iprop(owns (c : Thread nD τ) arg2 fullShare x1 ∗ owns (c : Thread nD τ) arg3 fullShare x2 ∗ owns (c : Thread nD τ) arg4 fullShare x3 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x1 ∗ owns (c : Thread nD τ) arg3 fullShare x2 ∗ owns (c : Thread nD τ) arg4 fullShare x3 ∗ owns (c : Thread nD τ) arg15 fullShare (s14 (nS x1 x2) x3) ∗ owns (c : Thread nD τ) arg16 fullShare (s15 (nS x1 x2) x3) ∗ owns (c : Thread nD τ) arg17 fullShare (s16 (nS x1 x2) x3) ∗ owns (c : Thread nD τ) arg18 fullShare (s17 (nS x1 x2) x3) ∗ owns (c : Thread nD τ) arg19 fullShare (s18 (nS x1 x2) x3) ∗ owns (c : Thread nD τ) arg20 fullShare (s19 (nS x1 x2) x3) ∗ owns (c : Thread nD τ) arg21 fullShare (s20 (nS x1 x2) x3) ∗ owns (c : Thread nD τ) arg22 fullShare (s21 (nS x1 x2) x3) ∗ owns (c : Thread nD τ) arg23 fullShare (s22 (nS x1 x2) x3)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  sl_unfold [cc0_inproj]
  unfold owns
  iintro ⟨⟨%f2, %hf2, H2⟩, ⟨%f3, %hf3, H3⟩, ⟨%f4, %hf4, H4⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H15]
  · iexists _; isplitr; swap; · iexact H15
    ipureintro; exact View.read_writes_eq_canon _ _ _ (covR _)
  isplitl [H16]
  · iexists _; isplitr; swap; · iexact H16
    ipureintro; exact View.read_writes_eq_canon _ _ _ (covR _)
  isplitl [H17]
  · iexists _; isplitr; swap; · iexact H17
    ipureintro; exact View.read_writes_eq_canon _ _ _ (covR _)
  isplitl [H18]
  · iexists _; isplitr; swap; · iexact H18
    ipureintro; exact View.read_writes_eq_canon _ _ _ (covR16 _)
  isplitl [H19]
  · iexists _; isplitr; swap; · iexact H19
    ipureintro; exact View.read_writes_eq_canon _ _ _ (covR _)
  isplitl [H20]
  · iexists _; isplitr; swap; · iexact H20
    ipureintro; exact View.read_writes_eq_canon _ _ _ (covR16 _)
  isplitl [H21]
  · iexists _; isplitr; swap; · iexact H21
    ipureintro; exact View.read_writes_eq_canon _ _ _ (covR512 _)
  isplitl [H22]
  · iexists _; isplitr; swap; · iexact H22
    ipureintro; exact View.read_writes_eq_canon _ _ _ (covR512b _)
  iexists _; isplitr; swap; · iexact H23
  ipureintro; exact View.read_writes_eq_canon _ _ _ (covSt _ _ _)

set_option maxHeartbeats 8000000 in
/-- A prompt point past the first: the ten prompt windows stored from the point's rows. -/
theorem run_prompt (c : Dev nD) (E : Set ℕ) (i : grid0.Coords) (h1 : k0_cond1 i ≠ 1#1) (h2 : k0_cond2 i = 1#1) (h3 : k0_cond3 i ≠ 1#1)
    (arg1 : Memref sig .tc .vmem S1x256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x9472 .bf16) (harg4 : arg4.IsWhole) (arg5 : Memref sig .tc .vmem S1x18x256x128 .bf16) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .bf16) (harg8 : arg8.IsWhole) (arg9 : Memref sig .tc .vmem S1x256x768 .bf16) (harg9 : arg9.IsWhole) (arg10 : Memref sig .tc .vmem S1x256x768 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S1x256x3072 .bf16) (harg13 : arg13.IsWhole) (arg14 : Memref sig .tc .vmem S1x32x768 .f32) (harg14 : arg14.IsWhole) (arg15 : Memref sig .tc .vmem S256x768 .f32) (harg15 : arg15.IsWhole) (arg16 : Memref sig .tc .vmem S256x768 .f32) (harg16 : arg16.IsWhole) (arg17 : Memref sig .tc .vmem S256x768 .f32) (harg17 : arg17.IsWhole) (arg18 : Memref sig .tc .vmem S256x768 .bf16) (harg18 : arg18.IsWhole) (arg19 : Memref sig .tc .vmem S256x768 .f32) (harg19 : arg19.IsWhole) (arg20 : Memref sig .tc .vmem S256x768 .bf16) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x3072 .bf16) (harg23 : arg23.IsWhole)
    (x0 : Vec F S1x256x1024 .f32) (x2 : Vec F S1x1024 .f32) (x3 : Vec F S1024x9472 .bf16) (K : PUnit → sProp 𝕄) :
    iprop(owns (c : Thread nD τ) arg1 fullShare x0 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg3 fullShare x2 ∗ owns (c : Thread nD τ) arg4 fullShare x3 ∗ owns (c : Thread nD τ) arg5 fullShare (p4 (nP x0 x2) x3) ∗ owns (c : Thread nD τ) arg6 fullShare (p5 (nP x0 x2) x3) ∗ owns (c : Thread nD τ) arg7 fullShare (p6 (nP x0 x2) x3) ∗ owns (c : Thread nD τ) arg8 fullShare (p7 (nP x0 x2) x3) ∗ owns (c : Thread nD τ) arg9 fullShare (p8 (nP x0 x2) x3) ∗ owns (c : Thread nD τ) arg10 fullShare (p9 (nP x0 x2) x3) ∗ owns (c : Thread nD τ) arg11 fullShare (p10 (nP x0 x2) x3) ∗ owns (c : Thread nD τ) arg12 fullShare (p11 (nP x0 x2) x3) ∗ owns (c : Thread nD τ) arg13 fullShare (p12 (nP x0 x2) x3) ∗ owns (c : Thread nD τ) arg14 fullShare (p13 (nP x0 x2) x3)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  sl_unfold [cc0_inproj]
  unfold owns
  iintro ⟨⟨%f1, %hf1, H1⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf1 hf3 hf4
  sl_exec
  sl_step
  iapply Hk
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists _; isplitr; swap; · iexact H5
    ipureintro; exact View.read_writes_eq_canon _ _ _ (cov4 _ _ _ _ _ _ _ _ _ _ _ _ _ _ _ _ _ _)
  isplitl [H6]
  · iexists _; isplitr; swap; · iexact H6
    ipureintro; exact View.read_writes_eq_canon _ _ _ (covB _)
  isplitl [H7]
  · iexists _; isplitr; swap; · iexact H7
    ipureintro; exact View.read_writes_eq_canon _ _ _ (covB _)
  isplitl [H8]
  · iexists _; isplitr; swap; · iexact H8
    ipureintro; exact View.read_writes_eq_canon _ _ _ (covB16 _)
  isplitl [H9]
  · iexists _; isplitr; swap; · iexact H9
    ipureintro; exact View.read_writes_eq_canon _ _ _ (covB16 _)
  isplitl [H10]
  · iexists _; isplitr; swap; · iexact H10
    ipureintro; exact View.read_writes_eq_canon _ _ _ (covB16 _)
  isplitl [H11]
  · iexists _; isplitr; swap; · iexact H11
    ipureintro; exact View.read_writes_eq_canon _ _ _ (covB512 _)
  isplitl [H12]
  · iexists _; isplitr; swap; · iexact H12
    ipureintro; exact View.read_writes_eq_canon _ _ _ (covB512 _)
  isplitl [H13]
  · iexists _; isplitr; swap; · iexact H13
    ipureintro; exact View.read_writes_eq_canon _ _ _ (covGt _ _ _)
  iexists _; isplitr; swap; · iexact H14
  ipureintro; exact View.read_writes_eq_canon _ _ _ (covT _)

set_option maxHeartbeats 8000000 in
/-- The first point: the same, and zeros over the nine sample windows. -/
theorem run_first (c : Dev nD) (E : Set ℕ) (i : grid0.Coords) (h1 : k0_cond1 i = 1#1) (h2 : k0_cond2 i = 1#1) (h3 : k0_cond3 i ≠ 1#1)
    (arg1 : Memref sig .tc .vmem S1x256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x9472 .bf16) (harg4 : arg4.IsWhole) (arg5 : Memref sig .tc .vmem S1x18x256x128 .bf16) (harg5 : arg5.IsWhole) (arg6 : Memref sig .tc .vmem S1x256x768 .f32) (harg6 : arg6.IsWhole) (arg7 : Memref sig .tc .vmem S1x256x768 .f32) (harg7 : arg7.IsWhole) (arg8 : Memref sig .tc .vmem S1x256x768 .bf16) (harg8 : arg8.IsWhole) (arg9 : Memref sig .tc .vmem S1x256x768 .bf16) (harg9 : arg9.IsWhole) (arg10 : Memref sig .tc .vmem S1x256x768 .bf16) (harg10 : arg10.IsWhole) (arg11 : Memref sig .tc .vmem S1x256x512 .bf16) (harg11 : arg11.IsWhole) (arg12 : Memref sig .tc .vmem S1x256x512 .bf16) (harg12 : arg12.IsWhole) (arg13 : Memref sig .tc .vmem S1x256x3072 .bf16) (harg13 : arg13.IsWhole) (arg14 : Memref sig .tc .vmem S1x32x768 .f32) (harg14 : arg14.IsWhole) (arg15 : Memref sig .tc .vmem S256x768 .f32) (harg15 : arg15.IsWhole) (arg16 : Memref sig .tc .vmem S256x768 .f32) (harg16 : arg16.IsWhole) (arg17 : Memref sig .tc .vmem S256x768 .f32) (harg17 : arg17.IsWhole) (arg18 : Memref sig .tc .vmem S256x768 .bf16) (harg18 : arg18.IsWhole) (arg19 : Memref sig .tc .vmem S256x768 .f32) (harg19 : arg19.IsWhole) (arg20 : Memref sig .tc .vmem S256x768 .bf16) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x3072 .bf16) (harg23 : arg23.IsWhole)
    (x0 : Vec F S1x256x1024 .f32) (x2 : Vec F S1x1024 .f32) (x3 : Vec F S1024x9472 .bf16) (K : PUnit → sProp 𝕄) :
    iprop(owns (c : Thread nD τ) arg1 fullShare x0 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg3 fullShare x2 ∗ owns (c : Thread nD τ) arg4 fullShare x3 ∗ owns (c : Thread nD τ) arg5 fullShare (p4 (nP x0 x2) x3) ∗ owns (c : Thread nD τ) arg6 fullShare (p5 (nP x0 x2) x3) ∗ owns (c : Thread nD τ) arg7 fullShare (p6 (nP x0 x2) x3) ∗ owns (c : Thread nD τ) arg8 fullShare (p7 (nP x0 x2) x3) ∗ owns (c : Thread nD τ) arg9 fullShare (p8 (nP x0 x2) x3) ∗ owns (c : Thread nD τ) arg10 fullShare (p9 (nP x0 x2) x3) ∗ owns (c : Thread nD τ) arg11 fullShare (p10 (nP x0 x2) x3) ∗ owns (c : Thread nD τ) arg12 fullShare (p11 (nP x0 x2) x3) ∗ owns (c : Thread nD τ) arg13 fullShare (p12 (nP x0 x2) x3) ∗ owns (c : Thread nD τ) arg14 fullShare (p13 (nP x0 x2) x3) ∗ owns (c : Thread nD τ) arg15 fullShare zf ∗ owns (c : Thread nD τ) arg16 fullShare zf ∗ owns (c : Thread nD τ) arg17 fullShare zf ∗ owns (c : Thread nD τ) arg18 fullShare zb ∗ owns (c : Thread nD τ) arg19 fullShare zf ∗ owns (c : Thread nD τ) arg20 fullShare zb ∗ owns (c : Thread nD τ) arg21 fullShare zf512 ∗ owns (c : Thread nD τ) arg22 fullShare zb512 ∗ owns (c : Thread nD τ) arg23 fullShare zb3072) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  sl_unfold [cc0_inproj]
  unfold owns
  iintro ⟨⟨%f1, %hf1, H1⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf1 hf3 hf4
  sl_exec
  sl_step
  iapply Hk
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists _; isplitr; swap; · iexact H5
    ipureintro; exact View.read_writes_eq_canon _ _ _ (cov4 _ _ _ _ _ _ _ _ _ _ _ _ _ _ _ _ _ _)
  isplitl [H6]
  · iexists _; isplitr; swap; · iexact H6
    ipureintro; exact View.read_writes_eq_canon _ _ _ (covB _)
  isplitl [H7]
  · iexists _; isplitr; swap; · iexact H7
    ipureintro; exact View.read_writes_eq_canon _ _ _ (covB _)
  isplitl [H8]
  · iexists _; isplitr; swap; · iexact H8
    ipureintro; exact View.read_writes_eq_canon _ _ _ (covB16 _)
  isplitl [H9]
  · iexists _; isplitr; swap; · iexact H9
    ipureintro; exact View.read_writes_eq_canon _ _ _ (covB16 _)
  isplitl [H10]
  · iexists _; isplitr; swap; · iexact H10
    ipureintro; exact View.read_writes_eq_canon _ _ _ (covB16 _)
  isplitl [H11]
  · iexists _; isplitr; swap; · iexact H11
    ipureintro; exact View.read_writes_eq_canon _ _ _ (covB512 _)
  isplitl [H12]
  · iexists _; isplitr; swap; · iexact H12
    ipureintro; exact View.read_writes_eq_canon _ _ _ (covB512 _)
  isplitl [H13]
  · iexists _; isplitr; swap; · iexact H13
    ipureintro; exact View.read_writes_eq_canon _ _ _ (covGt _ _ _)
  isplitl [H14]
  · iexists _; isplitr; swap; · iexact H14
    ipureintro; exact View.read_writes_eq_canon _ _ _ (covT _)
  isplitl [H15]
  · iexists _; isplitr; swap; · iexact H15
    ipureintro; exact View.read_writes_eq_canon _ _ _ (covR _)
  isplitl [H16]
  · iexists _; isplitr; swap; · iexact H16
    ipureintro; exact View.read_writes_eq_canon _ _ _ (covR _)
  isplitl [H17]
  · iexists _; isplitr; swap; · iexact H17
    ipureintro; exact View.read_writes_eq_canon _ _ _ (covR _)
  isplitl [H18]
  · iexists _; isplitr; swap; · iexact H18
    ipureintro; exact View.read_writes_eq_canon _ _ _ (covR16 _)
  isplitl [H19]
  · iexists _; isplitr; swap; · iexact H19
    ipureintro; exact View.read_writes_eq_canon _ _ _ (covR _)
  isplitl [H20]
  · iexists _; isplitr; swap; · iexact H20
    ipureintro; exact View.read_writes_eq_canon _ _ _ (covR16 _)
  isplitl [H21]
  · iexists _; isplitr; swap; · iexact H21
    ipureintro; exact View.read_writes_eq_canon _ _ _ (covR512 _)
  isplitl [H22]
  · iexists _; isplitr; swap; · iexact H22
    ipureintro; exact View.read_writes_eq_canon _ _ _ (covR512b _)
  iexists _; isplitr; swap; · iexact H23
  ipureintro; exact View.read_writes_eq_canon _ _ _ (covR3072 _)

end Cert.Kernel2Ideal.Inproj

end
-- ==== Proof.Inproj.Data.lean ====
/-
  The projection kernel's pipeline: what each window's buffer holds after the body at each of the 66 points, the body
  obligation from the three runs of the body, and the run of the whole program with its frame.
  Points 0 to 63 are the prompt's: they store the ten prompt windows, which points 64 and 65 leave as point 63 left
  them. Points 64 and 65 are the samples': they store the nine sample windows, over which point 0 stored zeros.
-/
module

public import proofs.«01_k».proof.Proof.Inproj.Body
public import Idealize.ShloMosaic.Lib.Pipeline.TableIdle

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 64 := by decide +kernel
theorem cond3_iff : ∀ t : Fin grid0.N, k0_cond3 (grid0.coords t) = 1#1 ↔ 64 ≤ t.val := by decide +kernel

/-- The prompt windows are idle at the sample points, -/
theorem idle_prompt : ∀ t : Fin grid0.N, ∀ w : Fin 23, 4 ≤ w.val → w.val < 14 → idle0 w (grid0.coords t) = decide (64 ≤ t.val) := by decide +kernel
/-- the sample windows at the prompt points past the first. -/
theorem idle_sample : ∀ t : Fin grid0.N, ∀ w : Fin 23, 14 ≤ w.val → idle0 w (grid0.coords t) = (decide (0 < t.val) && decide (t.val < 64)) := by decide +kernel

theorem flush_prompt : ∀ w : Fin 23, 4 ≤ w.val → w.val < 14 →
    (win0 w).flush (⟨63, by decide⟩ : Fin grid0.N) = false ∧ (win0 w).flush (⟨64, by decide⟩ : Fin grid0.N) = false := by decide +kernel
theorem flush_sample : ∀ t : Fin grid0.N, ∀ w : Fin 23, 14 ≤ w.val → t.val < 64 → (win0 w).flush t = false := by decide +kernel

/-- The prompt point whose stores a prompt window's buffer holds after point `t`. -/
def pt (t : Fin cfg0.N) : Fin cfg0.N := ⟨min t.val 63, lt_of_le_of_lt (Nat.min_le_left _ _) t.isLt⟩

theorem pt_of_lt (t : Fin cfg0.N) (h : t.val < 64) : pt t = t := Fin.ext (by unfold pt; simp only; omega)
theorem pt_pred (t : Fin cfg0.N) (h : 64 ≤ t.val) : pt t = pt ⟨t.val - 1, lt_of_le_of_lt (Nat.sub_le _ _) t.isLt⟩ :=
  Fin.ext (by unfold pt; simp only; omega)

/-! ## The proof data -/

/-- The prompt's rows at a point as the products read them, and the samples'. -/
abbrev rowsAt (c : Dev nD) (t : Fin cfg0.N) : FVec F S256x1024 .bf16 := nP (iblk m c 0 t) (iblk m c 2 t)
abbrev sampleAt (c : Dev nD) (t : Fin cfg0.N) : FVec F S256x1024 .bf16 := nS (iblk m c 1 t) (iblk m c 2 t)

/-- The arrays as the region finds them; after the body each input's buffer at its block, each prompt window's at the
    stores of the latest prompt point, each sample window's at zeros and then at the point's stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => p4 (rowsAt m c (pt t)) (iblk m c 3 (pt t))
    | ⟨5, _⟩ => p5 (rowsAt m c (pt t)) (iblk m c 3 (pt t))
    | ⟨6, _⟩ => p6 (rowsAt m c (pt t)) (iblk m c 3 (pt t))
    | ⟨7, _⟩ => p7 (rowsAt m c (pt t)) (iblk m c 3 (pt t))
    | ⟨8, _⟩ => p8 (rowsAt m c (pt t)) (iblk m c 3 (pt t))
    | ⟨9, _⟩ => p9 (rowsAt m c (pt t)) (iblk m c 3 (pt t))
    | ⟨10, _⟩ => p10 (rowsAt m c (pt t)) (iblk m c 3 (pt t))
    | ⟨11, _⟩ => p11 (rowsAt m c (pt t)) (iblk m c 3 (pt t))
    | ⟨12, _⟩ => p12 (rowsAt m c (pt t)) (iblk m c 3 (pt t))
    | ⟨13, _⟩ => p13 (rowsAt m c (pt t)) (iblk m c 3 (pt t))
    | ⟨14, _⟩ => if t.val < 64 then zf else s14 (sampleAt m c t) (iblk m c 3 t)
    | ⟨15, _⟩ => if t.val < 64 then zf else s15 (sampleAt m c t) (iblk m c 3 t)
    | ⟨16, _⟩ => if t.val < 64 then zf else s16 (sampleAt m c t) (iblk m c 3 t)
    | ⟨17, _⟩ => if t.val < 64 then zb else s17 (sampleAt m c t) (iblk m c 3 t)
    | ⟨18, _⟩ => if t.val < 64 then zf else s18 (sampleAt m c t) (iblk m c 3 t)
    | ⟨19, _⟩ => if t.val < 64 then zb else s19 (sampleAt m c t) (iblk m c 3 t)
    | ⟨20, _⟩ => if t.val < 64 then zf512 else s20 (sampleAt m c t) (iblk m c 3 t)
    | ⟨21, _⟩ => if t.val < 64 then zb512 else s21 (sampleAt m c t) (iblk m c 3 t)
    | ⟨22, _⟩ => if t.val < 64 then zb3072 else s22 (sampleAt m c t) (iblk m c 3 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = p4 (rowsAt m c (pt t)) (iblk m c 3 (pt t)) := by dsimp only [dats]
theorem after0_5 (c : Dev nD) (t : Fin cfg0.N) : (dats m 0 c).after 5 t = p5 (rowsAt m c (pt t)) (iblk m c 3 (pt t)) := by dsimp only [dats]
theorem after0_6 (c : Dev nD) (t : Fin cfg0.N) : (dats m 0 c).after 6 t = p6 (rowsAt m c (pt t)) (iblk m c 3 (pt t)) := by dsimp only [dats]
theorem after0_7 (c : Dev nD) (t : Fin cfg0.N) : (dats m 0 c).after 7 t = p7 (rowsAt m c (pt t)) (iblk m c 3 (pt t)) := by dsimp only [dats]
theorem after0_8 (c : Dev nD) (t : Fin cfg0.N) : (dats m 0 c).after 8 t = p8 (rowsAt m c (pt t)) (iblk m c 3 (pt t)) := by dsimp only [dats]
theorem after0_9 (c : Dev nD) (t : Fin cfg0.N) : (dats m 0 c).after 9 t = p9 (rowsAt m c (pt t)) (iblk m c 3 (pt t)) := by dsimp only [dats]
theorem after0_10 (c : Dev nD) (t : Fin cfg0.N) : (dats m 0 c).after 10 t = p10 (rowsAt m c (pt t)) (iblk m c 3 (pt t)) := by dsimp only [dats]
theorem after0_11 (c : Dev nD) (t : Fin cfg0.N) : (dats m 0 c).after 11 t = p11 (rowsAt m c (pt t)) (iblk m c 3 (pt t)) := by dsimp only [dats]
theorem after0_12 (c : Dev nD) (t : Fin cfg0.N) : (dats m 0 c).after 12 t = p12 (rowsAt m c (pt t)) (iblk m c 3 (pt t)) := by dsimp only [dats]
theorem after0_13 (c : Dev nD) (t : Fin cfg0.N) : (dats m 0 c).after 13 t = p13 (rowsAt m c (pt t)) (iblk m c 3 (pt t)) := by dsimp only [dats]
theorem after0_14 (c : Dev nD) (t : Fin cfg0.N) : (dats m 0 c).after 14 t = if t.val < 64 then zf else s14 (sampleAt m c t) (iblk m c 3 t) := by dsimp only [dats]
theorem after0_15 (c : Dev nD) (t : Fin cfg0.N) : (dats m 0 c).after 15 t = if t.val < 64 then zf else s15 (sampleAt m c t) (iblk m c 3 t) := by dsimp only [dats]
theorem after0_16 (c : Dev nD) (t : Fin cfg0.N) : (dats m 0 c).after 16 t = if t.val < 64 then zf else s16 (sampleAt m c t) (iblk m c 3 t) := by dsimp only [dats]
theorem after0_17 (c : Dev nD) (t : Fin cfg0.N) : (dats m 0 c).after 17 t = if t.val < 64 then zb else s17 (sampleAt m c t) (iblk m c 3 t) := by dsimp only [dats]
theorem after0_18 (c : Dev nD) (t : Fin cfg0.N) : (dats m 0 c).after 18 t = if t.val < 64 then zf else s18 (sampleAt m c t) (iblk m c 3 t) := by dsimp only [dats]
theorem after0_19 (c : Dev nD) (t : Fin cfg0.N) : (dats m 0 c).after 19 t = if t.val < 64 then zb else s19 (sampleAt m c t) (iblk m c 3 t) := by dsimp only [dats]
theorem after0_20 (c : Dev nD) (t : Fin cfg0.N) : (dats m 0 c).after 20 t = if t.val < 64 then zf512 else s20 (sampleAt m c t) (iblk m c 3 t) := by dsimp only [dats]
theorem after0_21 (c : Dev nD) (t : Fin cfg0.N) : (dats m 0 c).after 21 t = if t.val < 64 then zb512 else s21 (sampleAt m c t) (iblk m c 3 t) := by dsimp only [dats]
theorem after0_22 (c : Dev nD) (t : Fin cfg0.N) : (dats m 0 c).after 22 t = if t.val < 64 then zb3072 else s22 (sampleAt m c t) (iblk m c 3 t) := by dsimp only [dats]

/-- Each input's buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What the body leaves, window by window -/

/-- At a point live for the window: the stated contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A prompt window at a sample point: the buffer as it was found, which at the last point, where it is written back,
    holds what the last prompt point stored. -/
theorem carry (c : Dev nD) (w : Fin cfg0.W) (hw : (cfg0.win w).isOut = true)
    (hclip : ∀ (i : cfg0.grid.Coords) a, (cfg0.win w).clip i a = none)
    (h4 : 4 ≤ w.val) (h14 : w.val < 14)
    (hc : ∀ t : Fin cfg0.N, 64 ≤ t.val → (dats m 0 c).after w t = (dats m 0 c).after w ⟨t.val - 1, lt_of_le_of_lt (Nat.sub_le _ _) t.isLt⟩)
    (t : Fin cfg0.N) (ht : 64 ≤ t.val) :
    iprop(∃ d, owns (c : Thread nD τ) ((cfg0.win w).stage (cfg0.slots t w)) fullShare ((dats m 0 c).before w t d))
      ⊢ ((dats m 0 c).leavesExact w t : sProp 𝕄) := by
  have hN : t.val < 66 := t.isLt.trans_eq N_0
  have hid : ∀ t : Fin cfg0.N, cfg0.idle w (cfg0.grid.coords t) = decide (64 ≤ t.val) := fun t => idle_prompt t w h4 h14
  have hi : cfg0.idle w (cfg0.grid.coords t) = true := (hid t).trans (decide_eq_true ht)
  have h63 : (63 : ℕ) < cfg0.N := by decide
  have h64 : (64 : ℕ) < cfg0.N := by decide
  have f64 : cfg0.fresh w 64 = false := by
    rw [cfg0.fresh_succ w 63 h63, hid ⟨63, h63⟩, decide_eq_false (by simp), Bool.false_and, Bool.or_false]
    exact (flush_prompt w h4 h14).1
  have f65 : cfg0.fresh w 65 = false := by
    rw [cfg0.fresh_succ w 64 h64, f64, Bool.and_false, Bool.or_false]
    exact (flush_prompt w h4 h14).2
  have hfr : cfg0.fresh w t.val = false := by
    rcases (show t.val = 64 ∨ t.val = 65 by omega) with h | h
    · rw [h]; exact f64
    · rw [h]; exact f65
  cases hf : (cfg0.win w).flush t
  · rw [(dats m 0 c).leavesExact_idle w t hi hf]
  · have e : (dats m 0 c).leavesExact w t = owns (c : Thread nD τ) ((cfg0.win w).stage (cfg0.slots t w)) fullShare ((dats m 0 c).after w t) := by
      unfold Dat.leavesExact; rw [hi, hf]
    rw [e]
    iintro ⟨%d, H⟩
    have eb := (dats m 0 c).before_out_traj w hw hclip (fun t ht0 hi' _ => hc t (of_decide_eq_true ((hid t).symm.trans hi'))) t.val t rfl d
    rw [hfr, if_neg Bool.false_ne_true] at eb
    rw [hc t ht, ← eb]
    iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 4000000 in
/-- A prompt point past the first. -/
theorem body_prompt (c : Dev nD) (t : Fin cfg0.N) (h0 : 0 < t.val) (ht : t.val < 64) :
    bodyPre m c t ⊢ wp frame (wpE (defs₀ (F := F)) Variants.none c none) Set.univ (bodyAt0 t) (fun _ => bodyPost m c t) := by
  have hN : t.val < 66 := t.isLt.trans_eq N_0
  unfold bodyPre bodyPost bodyAt0
  rw [show (dats m 0 c).Φ t.succ = (dats m 0 c).Φ t.castSucc from rfl,
    show (dats m 0 c).owesAt () t.succ = (dats m 0 c).owesAt () t.castSucc from rfl]
  simp only [before0_0, before0_1, before0_2, before0_3]
  rw [leaves_live m c 0 t rfl, leaves_live m c 1 t rfl, leaves_live m c 2 t rfl, leaves_live m c 3 t rfl, leaves_live m c 4 t ((idle_prompt t 4 (by decide) (by decide)).trans (decide_eq_false (by omega))), leaves_live m c 5 t ((idle_prompt t 5 (by decide) (by decide)).trans (decide_eq_false (by omega))), leaves_live m c 6 t ((idle_prompt t 6 (by decide) (by decide)).trans (decide_eq_false (by omega))), leaves_live m c 7 t ((idle_prompt t 7 (by decide) (by decide)).trans (decide_eq_false (by omega))), leaves_live m c 8 t ((idle_prompt t 8 (by decide) (by decide)).trans (decide_eq_false (by omega))), leaves_live m c 9 t ((idle_prompt t 9 (by decide) (by decide)).trans (decide_eq_false (by omega))), leaves_live m c 10 t ((idle_prompt t 10 (by decide) (by decide)).trans (decide_eq_false (by omega))), leaves_live m c 11 t ((idle_prompt t 11 (by decide) (by decide)).trans (decide_eq_false (by omega))), leaves_live m c 12 t ((idle_prompt t 12 (by decide) (by decide)).trans (decide_eq_false (by omega))), leaves_live m c 13 t ((idle_prompt t 13 (by decide) (by decide)).trans (decide_eq_false (by omega)))]
  rw [(dats m 0 c).leavesExact_idle 14 t ((idle_sample t 14 (by decide)).trans (by simp; omega)) (flush_sample t 14 (by decide) (by omega))]
  rw [(dats m 0 c).leavesExact_idle 15 t ((idle_sample t 15 (by decide)).trans (by simp; omega)) (flush_sample t 15 (by decide) (by omega))]
  rw [(dats m 0 c).leavesExact_idle 16 t ((idle_sample t 16 (by decide)).trans (by simp; omega)) (flush_sample t 16 (by decide) (by omega))]
  rw [(dats m 0 c).leavesExact_idle 17 t ((idle_sample t 17 (by decide)).trans (by simp; omega)) (flush_sample t 17 (by decide) (by omega))]
  rw [(dats m 0 c).leavesExact_idle 18 t ((idle_sample t 18 (by decide)).trans (by simp; omega)) (flush_sample t 18 (by decide) (by omega))]
  rw [(dats m 0 c).leavesExact_idle 19 t ((idle_sample t 19 (by decide)).trans (by simp; omega)) (flush_sample t 19 (by decide) (by omega))]
  rw [(dats m 0 c).leavesExact_idle 20 t ((idle_sample t 20 (by decide)).trans (by simp; omega)) (flush_sample t 20 (by decide) (by omega))]
  rw [(dats m 0 c).leavesExact_idle 21 t ((idle_sample t 21 (by decide)).trans (by simp; omega)) (flush_sample t 21 (by decide) (by omega))]
  rw [(dats m 0 c).leavesExact_idle 22 t ((idle_sample t 22 (by decide)).trans (by simp; omega)) (flush_sample t 22 (by decide) (by omega))]
  rw [after0_0, after0_1, after0_2, after0_3, after0_4, after0_5, after0_6, after0_7, after0_8, after0_9, after0_10, after0_11, after0_12, after0_13]
  rw [pt_of_lt t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_prompt c Set.univ (grid0.coords t) (fun h => by have := (cond1_iff t).1 h; omega) ((cond2_iff t).2 ht) (fun h => by have := (cond3_iff t).1 h; omega) _ _ _ _ _ _ _ _ _ _ _ _ _ _ _ _ _ _ _ _ _ _ _ _ _ _ _ _ _ _ _ _ _ _ _ _ _ _ _ _ _ _ _ _ _ _ (iblk m c 0 t) (iblk m c 2 t) (iblk m c 3 t) _)
  isplitl [H0]; · iexact H0
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists d14; iexact H14
  isplitl [H15]; · iexists d15; iexact H15
  isplitl [H16]; · iexists d16; iexact H16
  isplitl [H17]; · iexists d17; iexact H17
  isplitl [H18]; · iexists d18; iexact H18
  isplitl [H19]; · iexists d19; iexact H19
  isplitl [H20]; · iexists d20; iexact H20
  isplitl [H21]; · iexists d21; iexact H21
  iexists d22; iexact H22

set_option maxHeartbeats 4000000 in
/-- The first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have hN : t.val < 66 := t.isLt.trans_eq N_0
  unfold bodyPre bodyPost bodyAt0
  rw [show (dats m 0 c).Φ t.succ = (dats m 0 c).Φ t.castSucc from rfl,
    show (dats m 0 c).owesAt () t.succ = (dats m 0 c).owesAt () t.castSucc from rfl]
  simp only [before0_0, before0_1, before0_2, before0_3]
  rw [leaves_live m c 0 t rfl, leaves_live m c 1 t rfl, leaves_live m c 2 t rfl, leaves_live m c 3 t rfl, leaves_live m c 4 t ((idle_prompt t 4 (by decide) (by decide)).trans (decide_eq_false (by omega))), leaves_live m c 5 t ((idle_prompt t 5 (by decide) (by decide)).trans (decide_eq_false (by omega))), leaves_live m c 6 t ((idle_prompt t 6 (by decide) (by decide)).trans (decide_eq_false (by omega))), leaves_live m c 7 t ((idle_prompt t 7 (by decide) (by decide)).trans (decide_eq_false (by omega))), leaves_live m c 8 t ((idle_prompt t 8 (by decide) (by decide)).trans (decide_eq_false (by omega))), leaves_live m c 9 t ((idle_prompt t 9 (by decide) (by decide)).trans (decide_eq_false (by omega))), leaves_live m c 10 t ((idle_prompt t 10 (by decide) (by decide)).trans (decide_eq_false (by omega))), leaves_live m c 11 t ((idle_prompt t 11 (by decide) (by decide)).trans (decide_eq_false (by omega))), leaves_live m c 12 t ((idle_prompt t 12 (by decide) (by decide)).trans (decide_eq_false (by omega))), leaves_live m c 13 t ((idle_prompt t 13 (by decide) (by decide)).trans (decide_eq_false (by omega))), leaves_live m c 14 t ((idle_sample t 14 (by decide)).trans (by simp; omega)), leaves_live m c 15 t ((idle_sample t 15 (by decide)).trans (by simp; omega)), leaves_live m c 16 t ((idle_sample t 16 (by decide)).trans (by simp; omega)), leaves_live m c 17 t ((idle_sample t 17 (by decide)).trans (by simp; omega)), leaves_live m c 18 t ((idle_sample t 18 (by decide)).trans (by simp; omega)), leaves_live m c 19 t ((idle_sample t 19 (by decide)).trans (by simp; omega)), leaves_live m c 20 t ((idle_sample t 20 (by decide)).trans (by simp; omega)), leaves_live m c 21 t ((idle_sample t 21 (by decide)).trans (by simp; omega)), leaves_live m c 22 t ((idle_sample t 22 (by decide)).trans (by simp; omega))]
  rw [after0_0, after0_1, after0_2, after0_3, after0_4, after0_5, after0_6, after0_7, after0_8, after0_9, after0_10, after0_11, after0_12, after0_13, after0_14, after0_15, after0_16, after0_17, after0_18, after0_19, after0_20, after0_21, after0_22]
  rw [pt_of_lt t (by omega)]
  simp only [if_pos (show t.val < 64 by omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_first c Set.univ (grid0.coords t) ((cond1_iff t).2 h0) ((cond2_iff t).2 (by omega)) (fun h => by have := (cond3_iff t).1 h; omega) _ _ _ _ _ _ _ _ _ _ _ _ _ _ _ _ _ _ _ _ _ _ _ _ _ _ _ _ _ _ _ _ _ _ _ _ _ _ _ _ _ _ _ _ _ _ (iblk m c 0 t) (iblk m c 2 t) (iblk m c 3 t) _)
  isplitl [H0]; · iexact H0
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
/-- A sample point. -/
theorem body_sample (c : Dev nD) (t : Fin cfg0.N) (ht : 64 ≤ t.val) :
    bodyPre m c t ⊢ wp frame (wpE (defs₀ (F := F)) Variants.none c none) Set.univ (bodyAt0 t) (fun _ => bodyPost m c t) := by
  have hN : t.val < 66 := t.isLt.trans_eq N_0
  unfold bodyPre bodyPost bodyAt0
  rw [show (dats m 0 c).Φ t.succ = (dats m 0 c).Φ t.castSucc from rfl,
    show (dats m 0 c).owesAt () t.succ = (dats m 0 c).owesAt () t.castSucc from rfl]
  simp only [before0_0, before0_1, before0_2, before0_3]
  rw [leaves_live m c 0 t rfl, leaves_live m c 1 t rfl, leaves_live m c 2 t rfl, leaves_live m c 3 t rfl, leaves_live m c 14 t ((idle_sample t 14 (by decide)).trans (by simp; omega)), leaves_live m c 15 t ((idle_sample t 15 (by decide)).trans (by simp; omega)), leaves_live m c 16 t ((idle_sample t 16 (by decide)).trans (by simp; omega)), leaves_live m c 17 t ((idle_sample t 17 (by decide)).trans (by simp; omega)), leaves_live m c 18 t ((idle_sample t 18 (by decide)).trans (by simp; omega)), leaves_live m c 19 t ((idle_sample t 19 (by decide)).trans (by simp; omega)), leaves_live m c 20 t ((idle_sample t 20 (by decide)).trans (by simp; omega)), leaves_live m c 21 t ((idle_sample t 21 (by decide)).trans (by simp; omega)), leaves_live m c 22 t ((idle_sample t 22 (by decide)).trans (by simp; omega))]
  rw [after0_0, after0_1, after0_2, after0_3, after0_14, after0_15, after0_16, after0_17, after0_18, after0_19, after0_20, after0_21, after0_22]
  simp only [if_neg (show ¬ t.val < 64 by omega)]
  iintro ⟨HΦ, Ho, ⟨%d0, H0⟩, ⟨%d1, H1⟩, ⟨%d2, H2⟩, ⟨%d3, H3⟩, H4, H5, H6, H7, H8, H9, H10, H11, H12, H13, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (run_sample c Set.univ (grid0.coords t) (fun h => by have := (cond1_iff t).1 h; omega) (fun h => by have := (cond2_iff t).1 h; omega) ((cond3_iff t).2 ht) _ _ _ _ _ _ _ _ _ _ _ _ _ _ _ _ _ _ _ _ _ _ _ _ _ _ _ _ _ _ _ _ _ _ _ _ _ _ _ _ _ _ _ _ _ _ (iblk m c 1 t) (iblk m c 2 t) (iblk m c 3 t) _)
  isplitl [H1]; · iexact H1
  isplitl [H2]; · iexact H2
  isplitl [H3]; · iexact H3
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H1, H2, H3, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (carry m c 4 rfl (fun _ _ => rfl) (by decide) (by decide) (fun t h => by rw [after0_4, after0_4, pt_pred t h]) t ht) $$ [H4]; iexact H4
  isplitl [H5]; · iapply (carry m c 5 rfl (fun _ _ => rfl) (by decide) (by decide) (fun t h => by rw [after0_5, after0_5, pt_pred t h]) t ht) $$ [H5]; iexact H5
  isplitl [H6]; · iapply (carry m c 6 rfl (fun _ _ => rfl) (by decide) (by decide) (fun t h => by rw [after0_6, after0_6, pt_pred t h]) t ht) $$ [H6]; iexact H6
  isplitl [H7]; · iapply (carry m c 7 rfl (fun _ _ => rfl) (by decide) (by decide) (fun t h => by rw [after0_7, after0_7, pt_pred t h]) t ht) $$ [H7]; iexact H7
  isplitl [H8]; · iapply (carry m c 8 rfl (fun _ _ => rfl) (by decide) (by decide) (fun t h => by rw [after0_8, after0_8, pt_pred t h]) t ht) $$ [H8]; iexact H8
  isplitl [H9]; · iapply (carry m c 9 rfl (fun _ _ => rfl) (by decide) (by decide) (fun t h => by rw [after0_9, after0_9, pt_pred t h]) t ht) $$ [H9]; iexact H9
  isplitl [H10]; · iapply (carry m c 10 rfl (fun _ _ => rfl) (by decide) (by decide) (fun t h => by rw [after0_10, after0_10, pt_pred t h]) t ht) $$ [H10]; iexact H10
  isplitl [H11]; · iapply (carry m c 11 rfl (fun _ _ => rfl) (by decide) (by decide) (fun t h => by rw [after0_11, after0_11, pt_pred t h]) t ht) $$ [H11]; iexact H11
  isplitl [H12]; · iapply (carry m c 12 rfl (fun _ _ => rfl) (by decide) (by decide) (fun t h => by rw [after0_12, after0_12, pt_pred t h]) t ht) $$ [H12]; iexact H12
  isplitl [H13]; · iapply (carry m c 13 rfl (fun _ _ => rfl) (by decide) (by decide) (fun t h => by rw [after0_13, after0_13, pt_pred t h]) t ht) $$ [H13]; iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with h | h
  · exact body_first m c t h
  · rcases Nat.lt_or_ge t.val 64 with h' | h'
    · exact body_prompt m c t h h'
    · exact body_sample m c t h'

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array of the pipeline at what the proof data compute, every other
    buffer as the region found it and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they began and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) fun _ _ => rfl) (run_main m ρ)

end Cert.Kernel2Ideal.Inproj

end
-- ==== Proof.InprojRef.lean ====
module

public import proofs.«01_k».proof.Proof.Gen.Reference2Ideal.Run
public import proofs.«01_k».proof.Proof.Spec

/-!
The reference of the input projection, read entry by entry. One array of products per group (the normalised rows times
all the weights' columns), and each result as a function of the entries of that array: a copy, a scaled copy, a gate.
-/

@[expose] public section

set_option maxRecDepth 16384

noncomputable section

namespace Cert.InprojRef

open Idealize.ShloMosaic Idealize.ShloMosaic.TcCoe Idealize.SL.Sem
open Cert.Reference2Ideal Cert.Reference2Ideal.Gen Cert.Spec

/-! ## Scalars -/

/-- The logistic function. -/
def sigm (v : EReal) : EReal :=
  Ideal.div (Ideal.ofBits .f32 0x3F800000#32) (Ideal.ofBits .f32 0x3F800000#32 + Ideal.exp (-v))

/-- The band attention's queries: divided by the root of the head width 64, in units of log 2; -/
def scaleA (v : EReal) : EReal := v * (((1 / 8) * (Real.log 2)⁻¹ : ℝ) : EReal)

/-- the memory attention's: the head width is 128. -/
def scaleC (v : EReal) : EReal := v * (((Real.sqrt 128)⁻¹ * (Real.log 2)⁻¹ : ℝ) : EReal)

theorem bits_two : Ideal.ofBits .f32 0x40000000#32 = ((2 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num

theorem log_two : Ideal.log ((2 : ℝ) : EReal) = ((Real.log 2 : ℝ) : EReal) := by
  rw [Ideal.log_coe, if_neg (by norm_num)]
theorem sqrt_128 : Ideal.sqrt ((128 : ℝ) : EReal) = ((Real.sqrt 128 : ℝ) : EReal) := by
  rw [Ideal.sqrt_coe, if_neg (by norm_num)]

theorem scaleA_eq (v : EReal) :
    Ideal.div (v * Ideal.ofBits .f32 0x3E000000#32) (Ideal.log (Ideal.ofBits .f32 0x40000000#32)) = scaleA v := by
  rw [bits_two, bits_eighth, log_two, Ideal.div_coe (Real.log_pos (by norm_num)).ne', mul_assoc, ← EReal.coe_mul, one_div (Real.log 2), scaleA]

theorem scaleC_eq (v : EReal) :
    Ideal.div (Ideal.div v (Ideal.sqrt (Ideal.ofBits .f32 0x43000000#32))) (Ideal.log (Ideal.ofBits .f32 0x40000000#32)) = scaleC v := by
  rw [bits_two, bits_128, log_two, sqrt_128, Ideal.div_coe (Real.log_pos (by norm_num)).ne',
    Ideal.div_coe (Real.sqrt_pos.2 (by norm_num)).ne', mul_assoc, ← EReal.coe_mul, one_div, one_div, scaleC]

/-! ## The products -/

/-- The prompt's products: row `r` of batch `b` normalised, times a column; -/
def prompt (x : FVec Ideal S4x4096x1024 .f32) (g : FVec Ideal S1x1024 .f32) (w : FVec Ideal S1x1024x9472 .f32) : FVec Ideal S4x4096x9472 .f32 :=
  fun i => dotted (fun k => x (ix3 (i 0) (i 1) k)) (fun k => g (ix2 0 k)) (fun k => w (ix3 0 k (i 2)))

/-- the samples'. -/
def sample (x : FVec Ideal S128x4x1024 .f32) (g : FVec Ideal S1x1024 .f32) (w : FVec Ideal S1x1024x9472 .f32) : FVec Ideal S128x4x9472 .f32 :=
  fun i => dotted (fun k => x (ix3 (i 0) (i 1) k)) (fun k => g (ix2 0 k)) (fun k => w (ix3 0 k (i 2)))

theorem prompt_eq (x : FVec Ideal S4x4096x1024 .f32) (g : FVec Ideal S1x1024 .f32) (w : FVec Ideal S1x1024x9472 .f32) :
    Host.dotGeneral dot_S4x4096x1024_S1024x9472_S4x4096x9472_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))) (shapeCast _ w shapeCasts_S1x1024x9472_S1024x9472)
      = prompt x g w := by
  funext j
  obtain ⟨b, r, l, rfl⟩ : ∃ (b : Fin 4) (r : Fin 4096) (l : Fin 9472), j = ix3 b r l := ⟨j 0, j 1, j 2, by idx_ext⟩
  show _ = dotted (fun k => x (ix3 b r k)) (fun k => g (ix2 0 k)) (fun k => w (ix3 0 k l))
  pointwise [dotted, normed]

theorem sample_eq (x : FVec Ideal S128x4x1024 .f32) (g : FVec Ideal S1x1024 .f32) (w : FVec Ideal S1x1024x9472 .f32) :
    Host.dotGeneral dot_S128x4x1024_S1024x9472_S128x4x9472_2_0_01_1_n_n none (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ g shapeCasts_S1x1024_S1024)))) (shapeCast _ w shapeCasts_S1x1024x9472_S1024x9472)
      = sample x g w := by
  funext j
  obtain ⟨b, r, l, rfl⟩ : ∃ (b : Fin 128) (r : Fin 4) (l : Fin 9472), j = ix3 b r l := ⟨j 0, j 1, j 2, by idx_ext⟩
  show _ = dotted (fun k => x (ix3 b r k)) (fun k => g (ix2 0 k)) (fun k => w (ix3 0 k l))
  pointwise [dotted, normed]

/-! ## The results as functions of the products -/

/-- A value times its own gate. -/
def silu (v : EReal) : EReal := v * sigm v

section Prompt

variable (p : FVec Ideal S4x4096x9472 .f32)

/-- The queries (scaled), keys and values, two heads of width 64 to a block of 128 columns; -/
def headsAt (b : Fin 4) (h : Fin 18) (r : Fin 4096) (l : Fin 128) : EReal :=
  if h.val < 6 then scaleA (p (ix3 b r (⟨h.val * 128 + l.val, by omega⟩ : Fin 9472)))
  else p (ix3 b r (⟨h.val * 128 + l.val, by omega⟩ : Fin 9472))
def heads : FVec Ideal S4x18x4096x128 .bf16 := fun i => headsAt p (i 0) (i 1) (i 2) (i 3)

/-! Each result below is an entry function of the batch, the row and the column. -/

/-- The keys of the last 2048 rows; -/
def keysKeptAt (b : Fin 4) (r : Fin 2048) (l : Fin 768) : EReal := p (ix3 b (⟨2048 + r.val, by omega⟩ : Fin 4096) (⟨768 + l.val, by omega⟩ : Fin 9472))
def keysKept : FVec Ideal S4x2048x768 .f32 := fun i => keysKeptAt p (i 0) (i 1) (i 2)

/-- the values; -/
def valsKeptAt (b : Fin 4) (r : Fin 2048) (l : Fin 768) : EReal := p (ix3 b (⟨2048 + r.val, by omega⟩ : Fin 4096) (⟨1536 + l.val, by omega⟩ : Fin 9472))
def valsKept : FVec Ideal S4x2048x768 .f32 := fun i => valsKeptAt p (i 0) (i 1) (i 2)

/-- the band attention's gate; -/
def zaAt (b : Fin 4) (r : Fin 4096) (l : Fin 768) : EReal := silu (p (ix3 b r (⟨2304 + l.val, by omega⟩ : Fin 9472)))
def za : FVec Ideal S4x4096x768 .bf16 := fun i => zaAt p (i 0) (i 1) (i 2)

/-- the convolution's input; -/
def gluAt (b : Fin 4) (r : Fin 4096) (l : Fin 768) : EReal := p (ix3 b r (⟨3072 + l.val, by omega⟩ : Fin 9472)) * sigm (p (ix3 b r (⟨3072 + (768 + l.val), by omega⟩ : Fin 9472)))
def glu : FVec Ideal S4x4096x768 .bf16 := fun i => gluAt p (i 0) (i 1) (i 2)

/-- the convolution's gate; -/
def zbAt (b : Fin 4) (r : Fin 4096) (l : Fin 768) : EReal := silu (p (ix3 b r (⟨4608 + l.val, by omega⟩ : Fin 9472)))
def zb : FVec Ideal S4x4096x768 .bf16 := fun i => zbAt p (i 0) (i 1) (i 2)

/-- the memory attention's queries -/
def qcAt (b : Fin 4) (r : Fin 4096) (l : Fin 512) : EReal := scaleC (p (ix3 b r (⟨5376 + l.val, by omega⟩ : Fin 9472)))
def qc : FVec Ideal S4x4096x512 .bf16 := fun i => qcAt p (i 0) (i 1) (i 2)

/-- and gate; -/
def zcAt (b : Fin 4) (r : Fin 4096) (l : Fin 512) : EReal := silu (p (ix3 b r (⟨5888 + l.val, by omega⟩ : Fin 9472)))
def zc : FVec Ideal S4x4096x512 .bf16 := fun i => zcAt p (i 0) (i 1) (i 2)

/-- the mixing gates; -/
def gtAt (b : Fin 4) (r : Fin 4096) (l : Fin 3072) : EReal := sigm (p (ix3 b r (⟨6400 + l.val, by omega⟩ : Fin 9472)))
def gt : FVec Ideal S4x4096x3072 .bf16 := fun i => gtAt p (i 0) (i 1) (i 2)

/-- the convolution's last 32 input rows. -/
def tailAt (b : Fin 4) (r : Fin 32) (l : Fin 768) : EReal := p (ix3 b (⟨4064 + r.val, by omega⟩ : Fin 4096) (⟨3072 + l.val, by omega⟩ : Fin 9472)) * sigm (p (ix3 b (⟨4064 + r.val, by omega⟩ : Fin 4096) (⟨3072 + (768 + l.val), by omega⟩ : Fin 9472)))
def tail : FVec Ideal S4x32x768 .f32 := fun i => tailAt p (i 0) (i 1) (i 2)

end Prompt

section Sample

variable (p : FVec Ideal S128x4x9472 .f32)

/-- The samples' queries, -/
def qSAt (r : Fin 512) (l : Fin 768) : EReal := scaleA (p (ix3 (⟨r.val / 4, by omega⟩ : Fin 128) (⟨r.val % 4, by omega⟩ : Fin 4) (⟨l.val, by omega⟩ : Fin 9472)))
def qS : FVec Ideal S512x768 .f32 := fun i => qSAt p (i 0) (i 1)

/-- keys -/
def kSAt (r : Fin 512) (l : Fin 768) : EReal := p (ix3 (⟨r.val / 4, by omega⟩ : Fin 128) (⟨r.val % 4, by omega⟩ : Fin 4) (⟨768 + l.val, by omega⟩ : Fin 9472))
def kS : FVec Ideal S512x768 .f32 := fun i => kSAt p (i 0) (i 1)

/-- and values; -/
def vSAt (r : Fin 512) (l : Fin 768) : EReal := p (ix3 (⟨r.val / 4, by omega⟩ : Fin 128) (⟨r.val % 4, by omega⟩ : Fin 4) (⟨1536 + l.val, by omega⟩ : Fin 9472))
def vS : FVec Ideal S512x768 .f32 := fun i => vSAt p (i 0) (i 1)

/-- the band attention's gate; -/
def zaSAt (r : Fin 512) (l : Fin 768) : EReal := silu (p (ix3 (⟨r.val / 4, by omega⟩ : Fin 128) (⟨r.val % 4, by omega⟩ : Fin 4) (⟨2304 + l.val, by omega⟩ : Fin 9472)))
def zaS : FVec Ideal S512x768 .bf16 := fun i => zaSAt p (i 0) (i 1)

/-- the convolution's input -/
def gluSAt (r : Fin 512) (l : Fin 768) : EReal := p (ix3 (⟨r.val / 4, by omega⟩ : Fin 128) (⟨r.val % 4, by omega⟩ : Fin 4) (⟨3072 + l.val, by omega⟩ : Fin 9472)) * sigm (p (ix3 (⟨r.val / 4, by omega⟩ : Fin 128) (⟨r.val % 4, by omega⟩ : Fin 4) (⟨3072 + (768 + l.val), by omega⟩ : Fin 9472)))
def gluS : FVec Ideal S512x768 .f32 := fun i => gluSAt p (i 0) (i 1)

/-- and gate; -/
def zbSAt (r : Fin 512) (l : Fin 768) : EReal := silu (p (ix3 (⟨r.val / 4, by omega⟩ : Fin 128) (⟨r.val % 4, by omega⟩ : Fin 4) (⟨4608 + l.val, by omega⟩ : Fin 9472)))
def zbS : FVec Ideal S512x768 .bf16 := fun i => zbSAt p (i 0) (i 1)

/-- the memory attention's queries -/
def qcSAt (r : Fin 512) (l : Fin 512) : EReal := scaleC (p (ix3 (⟨r.val / 4, by omega⟩ : Fin 128) (⟨r.val % 4, by omega⟩ : Fin 4) (⟨5376 + l.val, by omega⟩ : Fin 9472)))
def qcS : FVec Ideal S512x512 .f32 := fun i => qcSAt p (i 0) (i 1)

/-- and gate; -/
def zcSAt (r : Fin 512) (l : Fin 512) : EReal := silu (p (ix3 (⟨r.val / 4, by omega⟩ : Fin 128) (⟨r.val % 4, by omega⟩ : Fin 4) (⟨5888 + l.val, by omega⟩ : Fin 9472)))
def zcS : FVec Ideal S512x512 .bf16 := fun i => zcSAt p (i 0) (i 1)

/-- the mixing gates. -/
def gtSAt (r : Fin 512) (l : Fin 3072) : EReal := sigm (p (ix3 (⟨r.val / 4, by omega⟩ : Fin 128) (⟨r.val % 4, by omega⟩ : Fin 4) (⟨6400 + l.val, by omega⟩ : Fin 9472)))
def gtS : FVec Ideal S512x3072 .bf16 := fun i => gtSAt p (i 0) (i 1)

end Sample

/-! ## The reference's terms -/

theorem keysKept_eq (p : FVec Ideal S4x4096x9472 .f32) : (extractStridedSlice S4x2048x768 ![0, 2048, 0] (extractStridedSlice S4x4096x768 ![0, 0, 768] p slices_S4x4096x9472_S4x4096x768_0_0_768) slices_S4x4096x768_S4x2048x768_0_2048_0 : FVec Ideal S4x2048x768 .f32) = keysKept p := by
  funext j
  obtain ⟨b, r, l, rfl⟩ : ∃ (b : Fin 4) (r : Fin 2048) (l : Fin 768), j = ix3 b r l := ⟨j 0, j 1, j 2, by idx_ext⟩
  show _ = keysKeptAt p b r l
  unfold keysKeptAt
  pointwise [silu, sigm]

theorem valsKept_eq (p : FVec Ideal S4x4096x9472 .f32) : (extractStridedSlice S4x2048x768 ![0, 2048, 0] (extractStridedSlice S4x4096x768 ![0, 0, 1536] p slices_S4x4096x9472_S4x4096x768_0_0_1536) slices_S4x4096x768_S4x2048x768_0_2048_0 : FVec Ideal S4x2048x768 .f32) = valsKept p := by
  funext j
  obtain ⟨b, r, l, rfl⟩ : ∃ (b : Fin 4) (r : Fin 2048) (l : Fin 768), j = ix3 b r l := ⟨j 0, j 1, j 2, by idx_ext⟩
  show _ = valsKeptAt p b r l
  unfold valsKeptAt
  pointwise [silu, sigm]

theorem za_eq (p : FVec Ideal S4x4096x9472 .f32) : (truncf .bf16 (mulf (extractStridedSlice S4x4096x768 ![0, 0, 2304] p slices_S4x4096x9472_S4x4096x768_0_0_2304) (Host.divf (broadcastInDim S4x4096x768 ![] bcast_S_S4x4096x768 (constant S_ .f32 0x3F800000#32)) (addf (broadcastInDim S4x4096x768 ![] bcast_S_S4x4096x768 (constant S_ .f32 0x3F800000#32)) (Host.exp (Host.negf (extractStridedSlice S4x4096x768 ![0, 0, 2304] p slices_S4x4096x9472_S4x4096x768_0_0_2304)))))) bitsLt_bf16_f32 : FVec Ideal S4x4096x768 .bf16) = za p := by
  funext j
  obtain ⟨b, r, l, rfl⟩ : ∃ (b : Fin 4) (r : Fin 4096) (l : Fin 768), j = ix3 b r l := ⟨j 0, j 1, j 2, by idx_ext⟩
  show _ = zaAt p b r l
  unfold zaAt
  pointwise [silu, sigm]

theorem glu_eq (p : FVec Ideal S4x4096x9472 .f32) : (truncf .bf16 (mulf (extractStridedSlice S4x4096x768 ![0, 0, 0] (extractStridedSlice S4x4096x1536 ![0, 0, 3072] p slices_S4x4096x9472_S4x4096x1536_0_0_3072) slices_S4x4096x1536_S4x4096x768_0_0_0) (Host.divf (broadcastInDim S4x4096x768 ![] bcast_S_S4x4096x768 (constant S_ .f32 0x3F800000#32)) (addf (broadcastInDim S4x4096x768 ![] bcast_S_S4x4096x768 (constant S_ .f32 0x3F800000#32)) (Host.exp (Host.negf (extractStridedSlice S4x4096x768 ![0, 0, 768] (extractStridedSlice S4x4096x1536 ![0, 0, 3072] p slices_S4x4096x9472_S4x4096x1536_0_0_3072) slices_S4x4096x1536_S4x4096x768_0_0_768)))))) bitsLt_bf16_f32 : FVec Ideal S4x4096x768 .bf16) = glu p := by
  funext j
  obtain ⟨b, r, l, rfl⟩ : ∃ (b : Fin 4) (r : Fin 4096) (l : Fin 768), j = ix3 b r l := ⟨j 0, j 1, j 2, by idx_ext⟩
  show _ = gluAt p b r l
  unfold gluAt
  pointwise [silu, sigm]

theorem zb_eq (p : FVec Ideal S4x4096x9472 .f32) : (truncf .bf16 (mulf (extractStridedSlice S4x4096x768 ![0, 0, 4608] p slices_S4x4096x9472_S4x4096x768_0_0_4608) (Host.divf (broadcastInDim S4x4096x768 ![] bcast_S_S4x4096x768 (constant S_ .f32 0x3F800000#32)) (addf (broadcastInDim S4x4096x768 ![] bcast_S_S4x4096x768 (constant S_ .f32 0x3F800000#32)) (Host.exp (Host.negf (extractStridedSlice S4x4096x768 ![0, 0, 4608] p slices_S4x4096x9472_S4x4096x768_0_0_4608)))))) bitsLt_bf16_f32 : FVec Ideal S4x4096x768 .bf16) = zb p := by
  funext j
  obtain ⟨b, r, l, rfl⟩ : ∃ (b : Fin 4) (r : Fin 4096) (l : Fin 768), j = ix3 b r l := ⟨j 0, j 1, j 2, by idx_ext⟩
  show _ = zbAt p b r l
  unfold zbAt
  pointwise [silu, sigm]

theorem qc_eq (p : FVec Ideal S4x4096x9472 .f32) : (truncf .bf16 (Host.divf (Host.divf (extractStridedSlice S4x4096x512 ![0, 0, 5376] p slices_S4x4096x9472_S4x4096x512_0_0_5376) (broadcastInDim S4x4096x512 ![] bcast_S_S4x4096x512 (id (Host.sqrt (constant S_ .f32 0x43000000#32))))) (broadcastInDim S4x4096x512 ![] bcast_S_S4x4096x512 (id (Host.log (constant S_ .f32 0x40000000#32))))) bitsLt_bf16_f32 : FVec Ideal S4x4096x512 .bf16) = qc p := by
  funext j
  obtain ⟨b, r, l, rfl⟩ : ∃ (b : Fin 4) (r : Fin 4096) (l : Fin 512), j = ix3 b r l := ⟨j 0, j 1, j 2, by idx_ext⟩
  show _ = qcAt p b r l
  unfold qcAt
  rw [← scaleC_eq]
  pointwise [silu, sigm]
  rfl

theorem zc_eq (p : FVec Ideal S4x4096x9472 .f32) : (truncf .bf16 (mulf (extractStridedSlice S4x4096x512 ![0, 0, 5888] p slices_S4x4096x9472_S4x4096x512_0_0_5888) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 5888] p slices_S4x4096x9472_S4x4096x512_0_0_5888)))))) bitsLt_bf16_f32 : FVec Ideal S4x4096x512 .bf16) = zc p := by
  funext j
  obtain ⟨b, r, l, rfl⟩ : ∃ (b : Fin 4) (r : Fin 4096) (l : Fin 512), j = ix3 b r l := ⟨j 0, j 1, j 2, by idx_ext⟩
  show _ = zcAt p b r l
  unfold zcAt
  pointwise [silu, sigm]

theorem gt_eq (p : FVec Ideal S4x4096x9472 .f32) : (truncf .bf16 (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extractStridedSlice S4x4096x3072 ![0, 0, 6400] p slices_S4x4096x9472_S4x4096x3072_0_0_6400))))) bitsLt_bf16_f32 : FVec Ideal S4x4096x3072 .bf16) = gt p := by
  funext j
  obtain ⟨b, r, l, rfl⟩ : ∃ (b : Fin 4) (r : Fin 4096) (l : Fin 3072), j = ix3 b r l := ⟨j 0, j 1, j 2, by idx_ext⟩
  show _ = gtAt p b r l
  unfold gtAt
  pointwise [silu, sigm]

theorem tail_eq (p : FVec Ideal S4x4096x9472 .f32) : (extractStridedSlice S4x32x768 ![0, 4064, 0] (mulf (extractStridedSlice S4x4096x768 ![0, 0, 0] (extractStridedSlice S4x4096x1536 ![0, 0, 3072] p slices_S4x4096x9472_S4x4096x1536_0_0_3072) slices_S4x4096x1536_S4x4096x768_0_0_0) (Host.divf (broadcastInDim S4x4096x768 ![] bcast_S_S4x4096x768 (constant S_ .f32 0x3F800000#32)) (addf (broadcastInDim S4x4096x768 ![] bcast_S_S4x4096x768 (constant S_ .f32 0x3F800000#32)) (Host.exp (Host.negf (extractStridedSlice S4x4096x768 ![0, 0, 768] (extractStridedSlice S4x4096x1536 ![0, 0, 3072] p slices_S4x4096x9472_S4x4096x1536_0_0_3072) slices_S4x4096x1536_S4x4096x768_0_0_768)))))) slices_S4x4096x768_S4x32x768_0_4064_0 : FVec Ideal S4x32x768 .f32) = tail p := by
  funext j
  obtain ⟨b, r, l, rfl⟩ : ∃ (b : Fin 4) (r : Fin 32) (l : Fin 768), j = ix3 b r l := ⟨j 0, j 1, j 2, by idx_ext⟩
  show _ = tailAt p b r l
  unfold tailAt
  pointwise [silu, sigm]

theorem qS_eq (p : FVec Ideal S128x4x9472 .f32) : (shapeCast _ (Host.divf (mulf (extractStridedSlice S128x4x768 ![0, 0, 0] p slices_S128x4x9472_S128x4x768_0_0_0) (broadcastInDim S128x4x768 ![] bcast_S_S128x4x768 (constant S_ .f32 0x3E000000#32))) (broadcastInDim S128x4x768 ![] bcast_S_S128x4x768 (id (Host.log (constant S_ .f32 0x40000000#32))))) shapeCasts_S128x4x768_S512x768 : FVec Ideal S512x768 .f32) = qS p := by
  funext j
  obtain ⟨r, l, rfl⟩ : ∃ (r : Fin 512) (l : Fin 768), j = ix2 r l := ⟨j 0, j 1, by idx_ext⟩
  show _ = qSAt p r l
  unfold qSAt
  rw [← scaleA_eq]
  pointwise [silu, sigm]
  rfl

theorem kS_eq (p : FVec Ideal S128x4x9472 .f32) : (shapeCast _ (extractStridedSlice S128x4x768 ![0, 0, 768] p slices_S128x4x9472_S128x4x768_0_0_768) shapeCasts_S128x4x768_S512x768 : FVec Ideal S512x768 .f32) = kS p := by
  funext j
  obtain ⟨r, l, rfl⟩ : ∃ (r : Fin 512) (l : Fin 768), j = ix2 r l := ⟨j 0, j 1, by idx_ext⟩
  show _ = kSAt p r l
  unfold kSAt
  pointwise [silu, sigm]

theorem vS_eq (p : FVec Ideal S128x4x9472 .f32) : (shapeCast _ (extractStridedSlice S128x4x768 ![0, 0, 1536] p slices_S128x4x9472_S128x4x768_0_0_1536) shapeCasts_S128x4x768_S512x768 : FVec Ideal S512x768 .f32) = vS p := by
  funext j
  obtain ⟨r, l, rfl⟩ : ∃ (r : Fin 512) (l : Fin 768), j = ix2 r l := ⟨j 0, j 1, by idx_ext⟩
  show _ = vSAt p r l
  unfold vSAt
  pointwise [silu, sigm]

theorem zaS_eq (p : FVec Ideal S128x4x9472 .f32) : (truncf .bf16 (shapeCast _ (mulf (extractStridedSlice S128x4x768 ![0, 0, 2304] p slices_S128x4x9472_S128x4x768_0_0_2304) (Host.divf (broadcastInDim S128x4x768 ![] bcast_S_S128x4x768 (constant S_ .f32 0x3F800000#32)) (addf (broadcastInDim S128x4x768 ![] bcast_S_S128x4x768 (constant S_ .f32 0x3F800000#32)) (Host.exp (Host.negf (extractStridedSlice S128x4x768 ![0, 0, 2304] p slices_S128x4x9472_S128x4x768_0_0_2304)))))) shapeCasts_S128x4x768_S512x768) bitsLt_bf16_f32 : FVec Ideal S512x768 .bf16) = zaS p := by
  funext j
  obtain ⟨r, l, rfl⟩ : ∃ (r : Fin 512) (l : Fin 768), j = ix2 r l := ⟨j 0, j 1, by idx_ext⟩
  show _ = zaSAt p r l
  unfold zaSAt
  pointwise [silu, sigm]

theorem gluS_eq (p : FVec Ideal S128x4x9472 .f32) : (shapeCast _ (mulf (extractStridedSlice S128x4x768 ![0, 0, 0] (extractStridedSlice S128x4x1536 ![0, 0, 3072] p slices_S128x4x9472_S128x4x1536_0_0_3072) slices_S128x4x1536_S128x4x768_0_0_0) (Host.divf (broadcastInDim S128x4x768 ![] bcast_S_S128x4x768 (constant S_ .f32 0x3F800000#32)) (addf (broadcastInDim S128x4x768 ![] bcast_S_S128x4x768 (constant S_ .f32 0x3F800000#32)) (Host.exp (Host.negf (extractStridedSlice S128x4x768 ![0, 0, 768] (extractStridedSlice S128x4x1536 ![0, 0, 3072] p slices_S128x4x9472_S128x4x1536_0_0_3072) slices_S128x4x1536_S128x4x768_0_0_768)))))) shapeCasts_S128x4x768_S512x768 : FVec Ideal S512x768 .f32) = gluS p := by
  funext j
  obtain ⟨r, l, rfl⟩ : ∃ (r : Fin 512) (l : Fin 768), j = ix2 r l := ⟨j 0, j 1, by idx_ext⟩
  show _ = gluSAt p r l
  unfold gluSAt
  pointwise [silu, sigm]

theorem zbS_eq (p : FVec Ideal S128x4x9472 .f32) : (truncf .bf16 (shapeCast _ (mulf (extractStridedSlice S128x4x768 ![0, 0, 4608] p slices_S128x4x9472_S128x4x768_0_0_4608) (Host.divf (broadcastInDim S128x4x768 ![] bcast_S_S128x4x768 (constant S_ .f32 0x3F800000#32)) (addf (broadcastInDim S128x4x768 ![] bcast_S_S128x4x768 (constant S_ .f32 0x3F800000#32)) (Host.exp (Host.negf (extractStridedSlice S128x4x768 ![0, 0, 4608] p slices_S128x4x9472_S128x4x768_0_0_4608)))))) shapeCasts_S128x4x768_S512x768) bitsLt_bf16_f32 : FVec Ideal S512x768 .bf16) = zbS p := by
  funext j
  obtain ⟨r, l, rfl⟩ : ∃ (r : Fin 512) (l : Fin 768), j = ix2 r l := ⟨j 0, j 1, by idx_ext⟩
  show _ = zbSAt p r l
  unfold zbSAt
  pointwise [silu, sigm]

theorem qcS_eq (p : FVec Ideal S128x4x9472 .f32) : (shapeCast _ (Host.divf (Host.divf (extractStridedSlice S128x4x512 ![0, 0, 5376] p slices_S128x4x9472_S128x4x512_0_0_5376) (broadcastInDim S128x4x512 ![] bcast_S_S128x4x512 (id (Host.sqrt (constant S_ .f32 0x43000000#32))))) (broadcastInDim S128x4x512 ![] bcast_S_S128x4x512 (id (Host.log (constant S_ .f32 0x40000000#32))))) shapeCasts_S128x4x512_S512x512 : FVec Ideal S512x512 .f32) = qcS p := by
  funext j
  obtain ⟨r, l, rfl⟩ : ∃ (r : Fin 512) (l : Fin 512), j = ix2 r l := ⟨j 0, j 1, by idx_ext⟩
  show _ = qcSAt p r l
  unfold qcSAt
  rw [← scaleC_eq]
  pointwise [silu, sigm]
  rfl

theorem zcS_eq (p : FVec Ideal S128x4x9472 .f32) : (truncf .bf16 (shapeCast _ (mulf (extractStridedSlice S128x4x512 ![0, 0, 5888] p slices_S128x4x9472_S128x4x512_0_0_5888) (Host.divf (broadcastInDim S128x4x512 ![] bcast_S_S128x4x512 (constant S_ .f32 0x3F800000#32)) (addf (broadcastInDim S128x4x512 ![] bcast_S_S128x4x512 (constant S_ .f32 0x3F800000#32)) (Host.exp (Host.negf (extractStridedSlice S128x4x512 ![0, 0, 5888] p slices_S128x4x9472_S128x4x512_0_0_5888)))))) shapeCasts_S128x4x512_S512x512) bitsLt_bf16_f32 : FVec Ideal S512x512 .bf16) = zcS p := by
  funext j
  obtain ⟨r, l, rfl⟩ : ∃ (r : Fin 512) (l : Fin 512), j = ix2 r l := ⟨j 0, j 1, by idx_ext⟩
  show _ = zcSAt p r l
  unfold zcSAt
  pointwise [silu, sigm]

theorem gtS_eq (p : FVec Ideal S128x4x9472 .f32) : (truncf .bf16 (shapeCast _ (Host.divf (broadcastInDim S128x4x3072 ![] bcast_S_S128x4x3072 (constant S_ .f32 0x3F800000#32)) (addf (broadcastInDim S128x4x3072 ![] bcast_S_S128x4x3072 (constant S_ .f32 0x3F800000#32)) (Host.exp (Host.negf (extractStridedSlice S128x4x3072 ![0, 0, 6400] p slices_S128x4x9472_S128x4x3072_0_0_6400))))) shapeCasts_S128x4x3072_S512x3072) bitsLt_bf16_f32 : FVec Ideal S512x3072 .bf16) = gtS p := by
  funext j
  obtain ⟨r, l, rfl⟩ : ∃ (r : Fin 512) (l : Fin 3072), j = ix2 r l := ⟨j 0, j 1, by idx_ext⟩
  show _ = gtSAt p r l
  unfold gtSAt
  pointwise [silu, sigm]

theorem heads_eq (p : FVec Ideal S4x4096x9472 .f32) : (truncf .bf16 ((concatenate S4x18x4096x128 1 [⟨S4x6x4096x128, ((transpose S4x6x4096x128 [0, 2, 1, 3] (shapeCast _ (Host.divf (mulf (extractStridedSlice S4x4096x768 ![0, 0, 0] p slices_S4x4096x9472_S4x4096x768_0_0_0) (broadcastInDim S4x4096x768 ![] bcast_S_S4x4096x768 (constant S_ .f32 0x3E000000#32))) (broadcastInDim S4x4096x768 ![] bcast_S_S4x4096x768 (id (Host.log (constant S_ .f32 0x40000000#32))))) shapeCasts_S4x4096x768_S4x4096x6x128) transposes_S4x4096x6x128_S4x6x4096x128_0_2_1_3) : (⟨S4x6x4096x128, .f32⟩ : BufTy).Contents (Elt Ideal))⟩, ⟨S4x6x4096x128, ((transpose S4x6x4096x128 [0, 2, 1, 3] (shapeCast _ (extractStridedSlice S4x4096x768 ![0, 0, 768] p slices_S4x4096x9472_S4x4096x768_0_0_768) shapeCasts_S4x4096x768_S4x4096x6x128) transposes_S4x4096x6x128_S4x6x4096x128_0_2_1_3) : (⟨S4x6x4096x128, .f32⟩ : BufTy).Contents (Elt Ideal))⟩, ⟨S4x6x4096x128, ((transpose S4x6x4096x128 [0, 2, 1, 3] (shapeCast _ (extractStridedSlice S4x4096x768 ![0, 0, 1536] p slices_S4x4096x9472_S4x4096x768_0_0_1536) shapeCasts_S4x4096x768_S4x4096x6x128) transposes_S4x4096x6x128_S4x6x4096x128_0_2_1_3) : (⟨S4x6x4096x128, .f32⟩ : BufTy).Contents (Elt Ideal))⟩] concatenates_S4x6x4096x128_S4x6x4096x128_S4x6x4096x128_S4x18x4096x128_d1 : (⟨S4x18x4096x128, .f32⟩ : BufTy).Contents (Elt Ideal))) bitsLt_bf16_f32 : FVec Ideal S4x18x4096x128 .bf16) = heads p := by
  funext j
  obtain ⟨b, h, r, l, rfl⟩ : ∃ (b : Fin 4) (h : Fin 18) (r : Fin 4096) (l : Fin 128), j = ix4 b h r l := ⟨j 0, j 1, j 2, j 3, by idx_ext⟩
  show _ = headsAt p b h r l
  unfold headsAt
  rw [← scaleA_eq]
  pointwise []
  by_cases h6 : h.val < 6
  · rw [dif_pos h6, if_pos h6]; rfl
  · rw [dif_neg h6, if_neg h6]
    by_cases h12 : h.val - 6 < 6
    · rw [dif_pos h12]
      exact congrArg (fun l => p (ix3 b r l)) (Fin.ext (by show 768 + ((h.val - 6) * 128 + l.val) = h.val * 128 + l.val; omega))
    · rw [dif_neg h12]
      exact congrArg (fun l => p (ix3 b r l)) (Fin.ext (by show 1536 + ((h.val - 6 - 6) * 128 + l.val) = h.val * 128 + l.val; omega))

/-- The reference leaves its nineteen results at these arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121) = heads (prompt (m ((c.tc : Thread nD τ).loc main_arg0)) (m ((c.tc : Thread nD τ).loc main_arg2)) (m ((c.tc : Thread nD τ).loc main_arg3)))
      ∧ r.2.mem ((c.tc : Thread nD τ).loc main_v122) = keysKept (prompt (m ((c.tc : Thread nD τ).loc main_arg0)) (m ((c.tc : Thread nD τ).loc main_arg2)) (m ((c.tc : Thread nD τ).loc main_arg3)))
      ∧ r.2.mem ((c.tc : Thread nD τ).loc main_v123) = valsKept (prompt (m ((c.tc : Thread nD τ).loc main_arg0)) (m ((c.tc : Thread nD τ).loc main_arg2)) (m ((c.tc : Thread nD τ).loc main_arg3)))
      ∧ r.2.mem ((c.tc : Thread nD τ).loc main_v124) = za (prompt (m ((c.tc : Thread nD τ).loc main_arg0)) (m ((c.tc : Thread nD τ).loc main_arg2)) (m ((c.tc : Thread nD τ).loc main_arg3)))
      ∧ r.2.mem ((c.tc : Thread nD τ).loc main_v125) = glu (prompt (m ((c.tc : Thread nD τ).loc main_arg0)) (m ((c.tc : Thread nD τ).loc main_arg2)) (m ((c.tc : Thread nD τ).loc main_arg3)))
      ∧ r.2.mem ((c.tc : Thread nD τ).loc main_v126) = zb (prompt (m ((c.tc : Thread nD τ).loc main_arg0)) (m ((c.tc : Thread nD τ).loc main_arg2)) (m ((c.tc : Thread nD τ).loc main_arg3)))
      ∧ r.2.mem ((c.tc : Thread nD τ).loc main_v127) = qc (prompt (m ((c.tc : Thread nD τ).loc main_arg0)) (m ((c.tc : Thread nD τ).loc main_arg2)) (m ((c.tc : Thread nD τ).loc main_arg3)))
      ∧ r.2.mem ((c.tc : Thread nD τ).loc main_v128) = zc (prompt (m ((c.tc : Thread nD τ).loc main_arg0)) (m ((c.tc : Thread nD τ).loc main_arg2)) (m ((c.tc : Thread nD τ).loc main_arg3)))
      ∧ r.2.mem ((c.tc : Thread nD τ).loc main_v129) = gt (prompt (m ((c.tc : Thread nD τ).loc main_arg0)) (m ((c.tc : Thread nD τ).loc main_arg2)) (m ((c.tc : Thread nD τ).loc main_arg3)))
      ∧ r.2.mem ((c.tc : Thread nD τ).loc main_v130) = tail (prompt (m ((c.tc : Thread nD τ).loc main_arg0)) (m ((c.tc : Thread nD τ).loc main_arg2)) (m ((c.tc : Thread nD τ).loc main_arg3)))
      ∧ r.2.mem ((c.tc : Thread nD τ).loc main_v131) = qS (sample (m ((c.tc : Thread nD τ).loc main_arg1)) (m ((c.tc : Thread nD τ).loc main_arg2)) (m ((c.tc : Thread nD τ).loc main_arg3)))
      ∧ r.2.mem ((c.tc : Thread nD τ).loc main_v132) = kS (sample (m ((c.tc : Thread nD τ).loc main_arg1)) (m ((c.tc : Thread nD τ).loc main_arg2)) (m ((c.tc : Thread nD τ).loc main_arg3)))
      ∧ r.2.mem ((c.tc : Thread nD τ).loc main_v133) = vS (sample (m ((c.tc : Thread nD τ).loc main_arg1)) (m ((c.tc : Thread nD τ).loc main_arg2)) (m ((c.tc : Thread nD τ).loc main_arg3)))
      ∧ r.2.mem ((c.tc : Thread nD τ).loc main_v135) = zaS (sample (m ((c.tc : Thread nD τ).loc main_arg1)) (m ((c.tc : Thread nD τ).loc main_arg2)) (m ((c.tc : Thread nD τ).loc main_arg3)))
      ∧ r.2.mem ((c.tc : Thread nD τ).loc main_v136) = gluS (sample (m ((c.tc : Thread nD τ).loc main_arg1)) (m ((c.tc : Thread nD τ).loc main_arg2)) (m ((c.tc : Thread nD τ).loc main_arg3)))
      ∧ r.2.mem ((c.tc : Thread nD τ).loc main_v138) = zbS (sample (m ((c.tc : Thread nD τ).loc main_arg1)) (m ((c.tc : Thread nD τ).loc main_arg2)) (m ((c.tc : Thread nD τ).loc main_arg3)))
      ∧ r.2.mem ((c.tc : Thread nD τ).loc main_v139) = qcS (sample (m ((c.tc : Thread nD τ).loc main_arg1)) (m ((c.tc : Thread nD τ).loc main_arg2)) (m ((c.tc : Thread nD τ).loc main_arg3)))
      ∧ r.2.mem ((c.tc : Thread nD τ).loc main_v141) = zcS (sample (m ((c.tc : Thread nD τ).loc main_arg1)) (m ((c.tc : Thread nD τ).loc main_arg2)) (m ((c.tc : Thread nD τ).loc main_arg3)))
      ∧ r.2.mem ((c.tc : Thread nD τ).loc main_v143) = gtS (sample (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3)) :=
  (θ_run defs _ _).mono (fun _ h c => by
    obtain ⟨h0, h1, h2, h3, h4, h5, h6, h7, h8, h9, h10, h11, h12, h13, h14, h15, h16, h17, h18, ha⟩ := h c
    have hp : Value.res_main_v15 (StableHlo.launchContents m c) = prompt (m ((c.tc : Thread nD τ).loc main_arg0)) (m ((c.tc : Thread nD τ).loc main_arg2)) (m ((c.tc : Thread nD τ).loc main_arg3)) := prompt_eq _ _ _
    have hs : Value.res_main_v72 (StableHlo.launchContents m c) = sample (m ((c.tc : Thread nD τ).loc main_arg1)) (m ((c.tc : Thread nD τ).loc main_arg2)) (m ((c.tc : Thread nD τ).loc main_arg3)) := sample_eq _ _ _
    rw [← hp, ← hs]
    exact ⟨h0.trans (heads_eq _), h1.trans (keysKept_eq _), h2.trans (valsKept_eq _), h3.trans (za_eq _), h4.trans (glu_eq _), h5.trans (zb_eq _), h6.trans (qc_eq _), h7.trans (zc_eq _), h8.trans (gt_eq _), h9.trans (tail_eq _), h10.trans (qS_eq _), h11.trans (kS_eq _), h12.trans (vS_eq _), h13.trans (zaS_eq _), h14.trans (gluS_eq _), h15.trans (zbS_eq _), h16.trans (qcS_eq _), h17.trans (zcS_eq _), h18.trans (gtS_eq _), ha⟩) (Value.run m ρ)

end Cert.InprojRef

end
-- ==== Proof.InprojEntries.lean ====
module

public import proofs.«01_k».proof.Proof.Inproj.Data
public import proofs.«01_k».proof.Proof.InprojRef
public import Idealize.ShloMosaic.Lib.Pipeline.ValueKit

/-!
What the projection kernel stores, entry by entry over the extended reals: each window's contents as functions of the
products of the rows with the weights' columns.
-/

@[expose] public section

set_option maxRecDepth 16384

noncomputable section

namespace Cert.Inproj

open Idealize.ShloMosaic Idealize.ShloMosaic.TcCoe Idealize.SL.Sem
open Cert.Kernel2Ideal Cert.Kernel2Ideal.Gen Cert.Kernel2Ideal.Inproj Cert.Spec
open Cert.InprojRef (sigm silu scaleA scaleC)

/-! ## Rows, products, gates -/

/-- A prompt block's rows as the products read them are its rows normalised; -/
theorem nP_at (x : FVec Ideal S1x256x1024 .f32) (g : FVec Ideal S1x1024 .f32) (r : Fin 256) (k : Fin 1024) :
    nP (F := Ideal) x g (ix2 r k) = normed (fun k => x (ix3 0 r k)) (fun k => g (ix2 0 k)) k := by
  pointwise [nP, rowsP, rows, normed]

/-- so are a sample block's. -/
theorem nS_at (x : FVec Ideal S256x1024 .f32) (g : FVec Ideal S1x1024 .f32) (r : Fin 256) (k : Fin 1024) :
    nS (F := Ideal) x g (ix2 r k) = normed (fun k => x (ix2 r k)) (fun k => g (ix2 0 k)) k := by
  pointwise [nS, rows, normed]

/-- Row `r` against column `l` of the weights. -/
def prodAt (n : FVec Ideal S256x1024 .bf16) (w : FVec Ideal S1024x9472 .bf16) (r : Fin 256) (l : Fin 9472) : EReal :=
  ∑ k : Fin 1024, n (ix2 r k) * w (ix2 k l)

theorem prod768_at (n : FVec Ideal S256x1024 .bf16) (w : FVec Ideal S1024x768 .bf16) (r : Fin 256) (l : Fin 768) :
    prod768 n w (ix2 r l) = ∑ k : Fin 1024, n (ix2 r k) * w (ix2 k l) := by
  pointwise [prod768]
theorem prod512_at (n : FVec Ideal S256x1024 .bf16) (w : FVec Ideal S1024x512 .bf16) (r : Fin 256) (l : Fin 512) :
    prod512 n w (ix2 r l) = ∑ k : Fin 1024, n (ix2 r k) * w (ix2 k l) := by
  pointwise [prod512]
theorem prod1024_at (n : FVec Ideal S256x1024 .bf16) (w : FVec Ideal S1024x1024 .bf16) (r : Fin 256) (l : Fin 1024) :
    prod1024 n w (ix2 r l) = ∑ k : Fin 1024, n (ix2 r k) * w (ix2 k l) := by
  pointwise [prod1024]

theorem gate_at {s : Shape} (v : FVec Ideal s .f32) (i : s.Idx) : gate v i = sigm (v i) := by
  show Ideal.div _ (_ + Ideal.exp (Ideal.ofBits .f32 0x00000000#32 - v i)) = _
  rw [show Ideal.ofBits .f32 0x00000000#32 = 0 by simp [Ideal.ofBits, Ideal.ieee], zero_sub]
  rfl

theorem scaledA_at (v : FVec Ideal S256x768 .f32) (i : S256x768.Idx) : scaledA v i = scaleA (v i) := by
  show v i * Named.named (F := Ideal) κ "scale_a" _ = _
  rw [IdealRules.named_const.ideal_named_scalar _ _ _ _ rfl]; rfl

theorem scaledC_at (v : FVec Ideal S256x512 .f32) (i : S256x512.Idx) : scaledC v i = scaleC (v i) := by
  show v i * Named.named (F := Ideal) κ "scale_c" _ = _
  rw [IdealRules.named_const.ideal_named_scalar _ _ _ _ rfl]; rfl

section Bands

variable (n : FVec Ideal S256x1024 .bf16) (w : FVec Ideal S1024x9472 .bf16) (r : Fin 256)

theorem q_at (l : Fin 768) : prod768 n (wQ w) (ix2 r l) = prodAt n w r ⟨l.val, by omega⟩ := by
  rw [prod768_at]; unfold prodAt; pointwise [wQ]
theorem k_at (l : Fin 768) : prod768 n (wK w) (ix2 r l) = prodAt n w r ⟨768 + l.val, by omega⟩ := by
  rw [prod768_at]; unfold prodAt; pointwise [wK]
theorem v_at (l : Fin 768) : prod768 n (wV w) (ix2 r l) = prodAt n w r ⟨1536 + l.val, by omega⟩ := by
  rw [prod768_at]; unfold prodAt; pointwise [wV]
theorem za_at (l : Fin 768) : prod768 n (wZa w) (ix2 r l) = prodAt n w r ⟨2304 + l.val, by omega⟩ := by
  rw [prod768_at]; unfold prodAt; pointwise [wZa]
theorem u_at (l : Fin 768) : prod768 n (wU w) (ix2 r l) = prodAt n w r ⟨3072 + l.val, by omega⟩ := by
  rw [prod768_at]; unfold prodAt; pointwise [wU]
theorem g_at (l : Fin 768) : prod768 n (wG w) (ix2 r l) = prodAt n w r ⟨3072 + (768 + l.val), by omega⟩ := by
  rw [prod768_at]; unfold prodAt
  rw [show (⟨3072 + (768 + l.val), by omega⟩ : Fin 9472) = ⟨3840 + l.val, by omega⟩ from Fin.ext (by show 3072 + (768 + l.val) = 3840 + l.val; omega)]
  pointwise [wG]
theorem zb_at (l : Fin 768) : prod768 n (wZb w) (ix2 r l) = prodAt n w r ⟨4608 + l.val, by omega⟩ := by
  rw [prod768_at]; unfold prodAt; pointwise [wZb]
theorem qc_at (l : Fin 512) : prod512 n (wQc w) (ix2 r l) = prodAt n w r ⟨5376 + l.val, by omega⟩ := by
  rw [prod512_at]; unfold prodAt; pointwise [wQc]
theorem zc_at (l : Fin 512) : prod512 n (wZc w) (ix2 r l) = prodAt n w r ⟨5888 + l.val, by omega⟩ := by
  rw [prod512_at]; unfold prodAt; pointwise [wZc]
theorem g0_at (l : Fin 1024) : prod1024 n (wG0 w) (ix2 r l) = prodAt n w r ⟨6400 + (0 + l.val), by omega⟩ := by
  rw [prod1024_at]; unfold prodAt
  rw [show (⟨6400 + (0 + l.val), by omega⟩ : Fin 9472) = ⟨6400 + l.val, by omega⟩ from Fin.ext (by show 6400 + (0 + l.val) = 6400 + l.val; omega)]
  pointwise [wG0]
theorem g1_at (l : Fin 1024) : prod1024 n (wG1 w) (ix2 r l) = prodAt n w r ⟨6400 + (1024 + l.val), by omega⟩ := by
  rw [prod1024_at]; unfold prodAt
  rw [show (⟨6400 + (1024 + l.val), by omega⟩ : Fin 9472) = ⟨7424 + l.val, by omega⟩ from Fin.ext (by show 6400 + (1024 + l.val) = 7424 + l.val; omega)]
  pointwise [wG1]
theorem g2_at (l : Fin 1024) : prod1024 n (wG2 w) (ix2 r l) = prodAt n w r ⟨6400 + (2048 + l.val), by omega⟩ := by
  rw [prod1024_at]; unfold prodAt
  rw [show (⟨6400 + (2048 + l.val), by omega⟩ : Fin 9472) = ⟨8448 + l.val, by omega⟩ from Fin.ext (by show 6400 + (2048 + l.val) = 8448 + l.val; omega)]
  pointwise [wG2]

/-- The convolution's input, at an entry. -/
theorem glu_at (l : Fin 768) : mulf (prod768 n (wU w)) (gate (prod768 n (wG w))) (ix2 r l)
    = prodAt n w r ⟨3072 + l.val, by omega⟩ * sigm (prodAt n w r ⟨3072 + (768 + l.val), by omega⟩) := by
  show _ * gate (F := Ideal) _ _ = _
  rw [gate_at, u_at, g_at]

end Bands

/-! ## Blocks -/

theorem asBlock_at (v : FVec Ideal S256x768 .f32) (r : Fin 256) (l : Fin 768) : asBlock v (ix3 0 r l) = v (ix2 r l) := by
  pointwise [asBlock]
theorem asBlock16_at (v : FVec Ideal S256x768 .f32) (r : Fin 256) (l : Fin 768) : asBlock16 v (ix3 0 r l) = v (ix2 r l) := by
  pointwise [asBlock16]
theorem asBlock512_at (v : FVec Ideal S256x512 .f32) (r : Fin 256) (l : Fin 512) : asBlock512 v (ix3 0 r l) = v (ix2 r l) := by
  pointwise [asBlock512]
theorem asBlock1024_at (v : FVec Ideal S256x1024 .f32) (r : Fin 256) (l : Fin 1024) : asBlock1024 v (ix3 0 r l) = v (ix2 r l) := by
  pointwise [asBlock1024]
theorem tail_at (v : FVec Ideal S256x768 .f32) (r : Fin 32) (l : Fin 768) :
    Kernel2Ideal.Inproj.tail v (ix3 0 r l) = v (ix2 (⟨224 + r.val, by omega⟩ : Fin 256) l) := by
  pointwise [Kernel2Ideal.Inproj.tail]
theorem head_at (v : FVec Ideal S256x768 .f32) (o : Nat) (h : S256x768.Slices ![0, o] S256x128) (ho : o ≤ 640) (r : Fin 256) (l : Fin 128) :
    head v o h (ix4 0 0 r l) = v (ix2 r (⟨o + l.val, by omega⟩ : Fin 768)) := by
  pointwise [head]

/-! ## The windows' contents -/

section Prompt

variable (n : FVec Ideal S256x1024 .bf16) (w : FVec Ideal S1024x9472 .bf16) (r : Fin 256)

theorem p5_at (l : Fin 768) : p5 n w (ix3 0 r l) = prodAt n w r ⟨768 + l.val, by omega⟩ := by
  unfold p5; frame_out; rw [asBlock_at, k_at]
theorem p6_at (l : Fin 768) : p6 n w (ix3 0 r l) = prodAt n w r ⟨1536 + l.val, by omega⟩ := by
  unfold p6; frame_out; rw [asBlock_at, v_at]
theorem p7_at (l : Fin 768) : p7 n w (ix3 0 r l) = silu (prodAt n w r ⟨2304 + l.val, by omega⟩) := by
  unfold p7; frame_out; rw [asBlock16_at]; show _ * gate (F := Ideal) _ _ = _; rw [gate_at, za_at]; rfl
theorem p8_at (l : Fin 768) : p8 n w (ix3 0 r l)
    = prodAt n w r ⟨3072 + l.val, by omega⟩ * sigm (prodAt n w r ⟨3072 + (768 + l.val), by omega⟩) := by
  unfold p8; frame_out; rw [asBlock16_at, glu_at]
theorem p9_at (l : Fin 768) : p9 n w (ix3 0 r l) = silu (prodAt n w r ⟨4608 + l.val, by omega⟩) := by
  unfold p9; frame_out; rw [asBlock16_at]; show _ * gate (F := Ideal) _ _ = _; rw [gate_at, zb_at]; rfl
theorem p10_at (l : Fin 512) : p10 n w (ix3 0 r l) = scaleC (prodAt n w r ⟨5376 + l.val, by omega⟩) := by
  unfold p10; frame_out; rw [asBlock512_at, scaledC_at, qc_at]
theorem p11_at (l : Fin 512) : p11 n w (ix3 0 r l) = silu (prodAt n w r ⟨5888 + l.val, by omega⟩) := by
  unfold p11; frame_out; rw [asBlock512_at]; show _ * gate (F := Ideal) _ _ = _; rw [gate_at, zc_at]; rfl
theorem p13_at (r : Fin 32) (l : Fin 768) : p13 n w (ix3 0 r l)
    = prodAt n w ⟨224 + r.val, by omega⟩ ⟨3072 + l.val, by omega⟩
      * sigm (prodAt n w ⟨224 + r.val, by omega⟩ ⟨3072 + (768 + l.val), by omega⟩) := by
  unfold p13; frame_out; rw [tail_at, glu_at]

/-- A third of the mixing gates, where it holds column `l` of the block. -/
theorem gate_piece (l : Fin 3072) (v : FVec Ideal S256x1024 .f32) (o : Nat) (ho : o ≤ 2048)
    (hv : ∀ (r : Fin 256) (l : Fin 1024), v (ix2 r l) = prodAt n w r ⟨6400 + (o + l.val), by omega⟩)
    (x : S1x256x1024.Idx) (h1 : r.val = (x 1).val) (h2 : l.val = o + (x 2).val) :
    asBlock1024 (gate v) x = sigm (prodAt n w r ⟨6400 + l.val, by omega⟩) := by
  obtain ⟨a, r', l', rfl⟩ : ∃ (a : Fin 1) (r' : Fin 256) (l' : Fin 1024), x = ix3 a r' l' := ⟨x 0, x 1, x 2, by idx_ext⟩
  obtain rfl : a = 0 := Subsingleton.elim _ _
  obtain rfl : r = r' := Fin.ext h1
  rw [asBlock1024_at, gate_at, hv]
  exact congrArg (fun c => sigm (prodAt n w r c)) (Fin.ext (by show 6400 + (o + l'.val) = 6400 + l.val; rw [h2]; rfl))

theorem p12_at (l : Fin 3072) : p12 n w (ix3 0 r l) = sigm (prodAt n w r ⟨6400 + l.val, by omega⟩) := by
  unfold p12
  canon_tiles x hx
  · exact gate_piece n w r l _ 2048 (by omega) (g2_at n w) x hx1 hx2
  · exact gate_piece n w r l _ 1024 (by omega) (g1_at n w) x hx1 hx2
  · exact gate_piece n w r l _ 0 (by omega) (g0_at n w) x hx1 (hx2.trans (Nat.zero_add _).symm)

/-- One block of 128 columns of the keys or the values, as block `h` of the heads. -/
theorem head_plain (h : Fin 18) (l : Fin 128) (v : FVec Ideal S256x768 .f32) (off : Nat) (o : Nat) (hs : S256x768.Slices ![0, o] S256x128) (hoff : off ≤ 1536)
    (hv : ∀ (r : Fin 256) (l : Fin 768), v (ix2 r l) = prodAt n w r ⟨off + l.val, by omega⟩)
    (x : S1x1x256x128.Idx) (ho : o ≤ 640) (h6 : 6 ≤ h.val) (hh : off + o = h.val * 128) (h2 : r.val = (x 2).val) (h3 : l.val = (x 3).val) :
    head v o hs x = if h.val < 6 then scaleA (prodAt n w r ⟨h.val * 128 + l.val, by omega⟩) else prodAt n w r ⟨h.val * 128 + l.val, by omega⟩ := by
  obtain ⟨a, b, r', l', rfl⟩ : ∃ (a b : Fin 1) (r' : Fin 256) (l' : Fin 128), x = ix4 a b r' l' := ⟨x 0, x 1, x 2, x 3, by idx_ext⟩
  obtain rfl : a = 0 := Subsingleton.elim _ _
  obtain rfl : b = 0 := Subsingleton.elim _ _
  obtain rfl : r = r' := Fin.ext h2
  obtain rfl : l = l' := Fin.ext h3
  rw [head_at v o hs ho, hv, if_neg (by omega)]
  exact congrArg (prodAt n w r) (Fin.ext (by show off + (o + l.val) = h.val * 128 + l.val; omega))

/-- One block of 128 columns of the scaled queries. -/
theorem head_scaled (h : Fin 18) (l : Fin 128) (o : Nat) (hs : S256x768.Slices ![0, o] S256x128)
    (x : S1x1x256x128.Idx) (ho : o ≤ 640) (h6 : h.val < 6) (hh : o = h.val * 128) (h2 : r.val = (x 2).val) (h3 : l.val = (x 3).val) :
    head (scaledA (prod768 n (wQ w))) o hs x
      = if h.val < 6 then scaleA (prodAt n w r ⟨h.val * 128 + l.val, by omega⟩) else prodAt n w r ⟨h.val * 128 + l.val, by omega⟩ := by
  obtain ⟨a, b, r', l', rfl⟩ : ∃ (a b : Fin 1) (r' : Fin 256) (l' : Fin 128), x = ix4 a b r' l' := ⟨x 0, x 1, x 2, x 3, by idx_ext⟩
  obtain rfl : a = 0 := Subsingleton.elim _ _
  obtain rfl : b = 0 := Subsingleton.elim _ _
  obtain rfl : r = r' := Fin.ext h2
  obtain rfl : l = l' := Fin.ext h3
  rw [head_at _ o hs ho, scaledA_at, q_at, if_pos h6]
  exact congrArg (fun c => scaleA (prodAt n w r c)) (Fin.ext (by show o + l.val = h.val * 128 + l.val; omega))

theorem p4_at (h : Fin 18) (l : Fin 128) : p4 n w (ix4 0 h r l)
    = if h.val < 6 then scaleA (prodAt n w r ⟨h.val * 128 + l.val, by omega⟩) else prodAt n w r ⟨h.val * 128 + l.val, by omega⟩ := by
  unfold p4
  canon_tiles x hx
  all_goals have e1 : h.val = _ := hx1
  iterate 6 exact head_plain n w r h l _ 1536 _ _ (by omega) (v_at n w) x (by omega) (by omega) (by omega) hx2 hx3
  iterate 6 exact head_plain n w r h l _ 768 _ _ (by omega) (k_at n w) x (by omega) (by omega) (by omega) hx2 hx3
  iterate 6 exact head_scaled n w r h l _ _ x (by omega) (by omega) (by omega) hx2 hx3

end Prompt

section Sample

variable (n : FVec Ideal S256x1024 .bf16) (w : FVec Ideal S1024x9472 .bf16) (r : Fin 256)

theorem s14_at (l : Fin 768) : s14 n w (ix2 r l) = scaleA (prodAt n w r ⟨l.val, by omega⟩) := by
  unfold s14; frame_out; rw [scaledA_at, q_at]
theorem s15_at (l : Fin 768) : s15 n w (ix2 r l) = prodAt n w r ⟨768 + l.val, by omega⟩ := by
  unfold s15; frame_out; rw [k_at]
theorem s16_at (l : Fin 768) : s16 n w (ix2 r l) = prodAt n w r ⟨1536 + l.val, by omega⟩ := by
  unfold s16; frame_out; rw [v_at]
theorem s17_at (l : Fin 768) : s17 n w (ix2 r l) = silu (prodAt n w r ⟨2304 + l.val, by omega⟩) := by
  unfold s17; frame_out; show _ * gate (F := Ideal) _ _ = _; rw [gate_at, za_at]; rfl
theorem s18_at (l : Fin 768) : s18 n w (ix2 r l)
    = prodAt n w r ⟨3072 + l.val, by omega⟩ * sigm (prodAt n w r ⟨3072 + (768 + l.val), by omega⟩) := by
  unfold s18; frame_out; rw [glu_at]
theorem s19_at (l : Fin 768) : s19 n w (ix2 r l) = silu (prodAt n w r ⟨4608 + l.val, by omega⟩) := by
  unfold s19; frame_out; show _ * gate (F := Ideal) _ _ = _; rw [gate_at, zb_at]; rfl
theorem s20_at (l : Fin 512) : s20 n w (ix2 r l) = scaleC (prodAt n w r ⟨5376 + l.val, by omega⟩) := by
  unfold s20; frame_out; rw [scaledC_at, qc_at]
theorem s21_at (l : Fin 512) : s21 n w (ix2 r l) = silu (prodAt n w r ⟨5888 + l.val, by omega⟩) := by
  unfold s21; frame_out; show _ * gate (F := Ideal) _ _ = _; rw [gate_at, zc_at]; rfl
/-- A third of the samples' mixing gates, where it holds column `l`. -/
theorem gate_piece_sample (l : Fin 3072) (v : FVec Ideal S256x1024 .f32) (o : Nat) (ho : o ≤ 2048)
    (hv : ∀ (r : Fin 256) (l : Fin 1024), v (ix2 r l) = prodAt n w r ⟨6400 + (o + l.val), by omega⟩)
    (x : S256x1024.Idx) (h0 : r.val = (x 0).val) (h1 : l.val = o + (x 1).val) :
    gate v x = sigm (prodAt n w r ⟨6400 + l.val, by omega⟩) := by
  obtain ⟨r', l', rfl⟩ : ∃ (r' : Fin 256) (l' : Fin 1024), x = ix2 r' l' := ⟨x 0, x 1, by idx_ext⟩
  obtain rfl : r = r' := Fin.ext h0
  rw [gate_at, hv]
  exact congrArg (fun c => sigm (prodAt n w r c)) (Fin.ext (by show 6400 + (o + l'.val) = 6400 + l.val; rw [h1]; rfl))

theorem s22_at (l : Fin 3072) : s22 n w (ix2 r l) = sigm (prodAt n w r ⟨6400 + l.val, by omega⟩) := by
  unfold s22
  canon_tiles x hx
  · exact gate_piece_sample n w r l _ 2048 (by omega) (g2_at n w) x hx0 hx1
  · exact gate_piece_sample n w r l _ 1024 (by omega) (g1_at n w) x hx0 hx1
  · exact gate_piece_sample n w r l _ 0 (by omega) (g0_at n w) x hx0 (hx1.trans (Nat.zero_add _).symm)

end Sample

end Cert.Inproj

end
-- ==== Proof.InprojFinal.lean ====
module

public import proofs.«01_k».proof.Proof.InprojEntries
public import proofs.«01_k».proof.Defs

/-!
The input projection's call: point `t` of the first 64 writes 256 rows of the prompt's results, points 64 and 65 write the
samples'. The nineteen result arrays end at the arrays of `Cert.InprojRef`.
-/

@[expose] public section

set_option maxRecDepth 16384

noncomputable section

namespace Cert.Inproj

open Idealize.ShloMosaic Idealize.ShloMosaic.TcCoe Idealize.SL.Sem
open Cert.Kernel2Ideal Cert.Kernel2Ideal.Gen Cert.Kernel2Ideal.Inproj Cert.Spec
open Cert.InprojRef (sigm silu scaleA scaleC)

variable (m : (ℓ : Loc nD τ sig) → Buf (Elt Ideal) ℓ) (ρ : Dev nD → PrngReg)

/-! ## Where the windows stand -/

theorem idx_in : ∀ t : Fin grid0.N, win0_0.index t = ![min t.val 63 / 16, min t.val 63 % 16, 0] ∧ win0_1.index t = ![t.val - 64, 0]
    ∧ win0_2.index t = ![0, 0] ∧ win0_3.index t = ![0, 0] := by
  decide +kernel

theorem idx_out : ∀ t : Fin grid0.N, win0_4.index t = ![min t.val 63 / 16, 0, min t.val 63 % 16, 0]
    ∧ win0_5.index t = ![min t.val 63 / 16, min t.val 63 % 16 - 8, 0] ∧ win0_6.index t = ![min t.val 63 / 16, min t.val 63 % 16 - 8, 0]

    ∧ win0_7.index t = ![min t.val 63 / 16, min t.val 63 % 16, 0]
    ∧ win0_8.index t = ![min t.val 63 / 16, min t.val 63 % 16, 0]
    ∧ win0_9.index t = ![min t.val 63 / 16, min t.val 63 % 16, 0]
    ∧ win0_10.index t = ![min t.val 63 / 16, min t.val 63 % 16, 0]
    ∧ win0_11.index t = ![min t.val 63 / 16, min t.val 63 % 16, 0]
    ∧ win0_12.index t = ![min t.val 63 / 16, min t.val 63 % 16, 0]
    ∧ win0_13.index t = ![min t.val 63 / 16, 0, 0] := by
  decide +kernel

theorem idx_sample : ∀ t : Fin grid0.N, win0_14.index t = ![t.val - 64, 0] ∧ win0_15.index t = ![t.val - 64, 0] ∧ win0_16.index t = ![t.val - 64, 0] ∧ win0_17.index t = ![t.val - 64, 0] ∧ win0_18.index t = ![t.val - 64, 0] ∧ win0_19.index t = ![t.val - 64, 0] ∧ win0_20.index t = ![t.val - 64, 0] ∧ win0_21.index t = ![t.val - 64, 0] ∧ win0_22.index t = ![t.val - 64, 0] := by
  decide +kernel

/-- The kept keys and values are written back at the points of a batch's last eight blocks, the convolution's last rows at
    its last, the samples' windows at the last two. -/
theorem flush_kept : ∀ t : Fin grid0.N, (win0_5.flush t = true ∨ win0_6.flush t = true) → 8 ≤ min t.val 63 % 16 := by decide +kernel
theorem flush_tail : ∀ t : Fin grid0.N, win0_13.flush t = true → min t.val 63 % 16 = 15 := by decide +kernel
theorem flush_late : ∀ t : Fin grid0.N, ∀ w : Fin 23, 14 ≤ w.val → (win0 w).flush t = true → 64 ≤ t.val := by decide +kernel

/-! ## The arrays at entry, and the blocks -/

theorem V_rows (c : Dev nD) : V m c main_v4 = shapeCast S512x1024 (m ((c : Thread nD τ).loc main_arg1)) shapeCasts_S128x4x1024_S512x1024 := by
  unfold V; after_results; rfl
theorem V_scales (c : Dev nD) : V m c main_v3
    = broadcastInDim S1x1024 ![1] bcast_S1024_S1x1024_1 (shapeCast S1024 (m ((c : Thread nD τ).loc main_arg2)) shapeCasts_S1x1024_S1024) := by
  unfold V; after_results; rfl
theorem V_weights (c : Dev nD) : V m c main_v1
    = truncf (F := Ideal) (φ := .f32) .bf16 (shapeCast S1024x9472 (m ((c : Thread nD τ).loc main_arg3)) shapeCasts_S1x1024x9472_S1024x9472) bitsLt_bf16_f32 := by
  unfold V; after_results; rfl

theorem cast_rows_at (x : FVec Ideal S128x4x1024 .f32) (r : Fin 512) (k : Fin 1024) :
    shapeCast S512x1024 x shapeCasts_S128x4x1024_S512x1024 (ix2 r k)
      = x (ix3 (⟨r.val / 4, by omega⟩ : Fin 128) (⟨r.val % 4, by omega⟩ : Fin 4) k) := by
  pointwise []
theorem cast_weights_at (w : FVec Ideal S1x1024x9472 .f32) (k : Fin 1024) (l : Fin 9472) :
    truncf (F := Ideal) (φ := .f32) .bf16 (shapeCast S1024x9472 w shapeCasts_S1x1024x9472_S1024x9472) bitsLt_bf16_f32 (ix2 k l)
      = w (ix3 0 k l) := by
  pointwise []
theorem cast_scales_at (g : FVec Ideal S1x1024 .f32) (k : Fin 1024) :
    broadcastInDim S1x1024 ![1] bcast_S1024_S1x1024_1 (shapeCast S1024 g shapeCasts_S1x1024_S1024) (ix2 0 k) = g (ix2 0 k) := by
  pointwise []

/-- Row `r` of the prompt's block at point `t`. -/
theorem x_at (c : Dev nD) (t : Fin cfg0.N) (r : Fin 256) (k : Fin 1024) :
    (iblk m c 0 t : S1x256x1024.Idx → EReal) (ix3 0 r k)
      = m ((c : Thread nD τ).loc main_arg0) (ix3 (⟨min t.val 63 / 16, by omega⟩ : Fin 4) (⟨min t.val 63 % 16 * 256 + r.val, by omega⟩ : Fin 4096) k) := by
  show V m c main_arg0 ((win0_0.blk t).view.emb (ix3 0 r k)) = _
  have e : (win0_0.blk t).view.emb (ix3 0 r k)
      = ix3 (⟨min t.val 63 / 16, by omega⟩ : Fin 4) (⟨min t.val 63 % 16 * 256 + r.val, by omega⟩ : Fin 4096) k := by blk_ext [idx_in t]
  rw [e, V_main_arg0]

/-- Row `r` of the samples' block at point `t`. -/
theorem xs_at (c : Dev nD) (t : Fin cfg0.N) (r : Fin 256) (k : Fin 1024) (ht : t.val - 64 < 2) :
    (iblk m c 1 t : S256x1024.Idx → EReal) (ix2 r k)
      = m ((c : Thread nD τ).loc main_arg1) (ix3 (⟨((t.val - 64) * 256 + r.val) / 4, by omega⟩ : Fin 128) (⟨((t.val - 64) * 256 + r.val) % 4, by omega⟩ : Fin 4) k) := by
  show V m c main_v4 ((win0_1.blk t).view.emb (ix2 r k)) = _
  have e : (win0_1.blk t).view.emb (ix2 r k) = ix2 (⟨(t.val - 64) * 256 + r.val, by omega⟩ : Fin 512) k := by blk_ext [idx_in t]
  rw [e, V_rows]
  exact cast_rows_at _ _ k

theorem scales_at (c : Dev nD) (t : Fin cfg0.N) (k : Fin 1024) :
    (iblk m c 2 t : S1x1024.Idx → EReal) (ix2 0 k) = m ((c : Thread nD τ).loc main_arg2) (ix2 0 k) := by
  show V m c main_v3 ((win0_2.blk t).view.emb (ix2 0 k)) = _
  have e : (win0_2.blk t).view.emb (ix2 0 k) = ix2 0 k := by blk_ext [idx_in t]
  rw [e, V_scales]
  exact cast_scales_at _ k

theorem weights_at (c : Dev nD) (t : Fin cfg0.N) (k : Fin 1024) (l : Fin 9472) :
    (iblk m c 3 t : S1024x9472.Idx → EReal) (ix2 k l) = m ((c : Thread nD τ).loc main_arg3) (ix3 0 k l) := by
  show V m c main_v1 ((win0_3.blk t).view.emb (ix2 k l)) = _
  have e : (win0_3.blk t).view.emb (ix2 k l) = ix2 k l := by blk_ext [idx_in t]
  rw [e, V_weights]
  exact cast_weights_at _ k l

/-! ## A point's products -/

/-- The prompt's products, of the arguments; -/
abbrev prompt (c : Dev nD) := InprojRef.prompt (m ((c : Thread nD τ).loc main_arg0)) (m ((c : Thread nD τ).loc main_arg2)) (m ((c : Thread nD τ).loc main_arg3))
/-- the samples'. -/
abbrev sample (c : Dev nD) := InprojRef.sample (m ((c : Thread nD τ).loc main_arg1)) (m ((c : Thread nD τ).loc main_arg2)) (m ((c : Thread nD τ).loc main_arg3))

theorem pt_val (t : Fin cfg0.N) : (pt t).val = min t.val 63 := rfl

/-- What a prompt window holds after point `t` is computed from rows `256 (u % 16) + r` of batch `u / 16`, `u` the latest
    prompt point. -/
theorem prompt_at (c : Dev nD) (t : Fin cfg0.N) (r : Fin 256) (l : Fin 9472) :
    prodAt (rowsAt m c (pt t)) (iblk m c 3 (pt t)) r l
      = prompt m c (ix3 (⟨min t.val 63 / 16, by omega⟩ : Fin 4) (⟨min t.val 63 % 16 * 256 + r.val, by omega⟩ : Fin 4096) l) := by
  show _ = dotted _ _ _
  unfold prodAt dotted
  refine Finset.sum_congr rfl fun k _ => ?_
  refine congrArg₂ (· * ·) ((nP_at _ _ r k).trans ?_) (weights_at m c (pt t) k l)
  refine congrArg₂ (fun x g => normed x g k) (funext fun k => ?_) (funext fun k => scales_at m c (pt t) k)
  refine (x_at m c (pt t) r k).trans (congrArg (m ((c : Thread nD τ).loc main_arg0)) ?_)
  have e : min (pt t).val 63 = min t.val 63 := by rw [pt_val]; omega
  simp only [e]; rfl

/-- What a sample window holds after a point `t` of the last two is computed from sample rows `256 (t - 64) + r`. -/
theorem sample_at (c : Dev nD) (t : Fin cfg0.N) (ht : t.val - 64 < 2) (r : Fin 256) (l : Fin 9472) :
    prodAt (sampleAt m c t) (iblk m c 3 t) r l
      = sample m c (ix3 (⟨((t.val - 64) * 256 + r.val) / 4, by omega⟩ : Fin 128) (⟨((t.val - 64) * 256 + r.val) % 4, by omega⟩ : Fin 4) l) := by
  show _ = dotted _ _ _
  unfold prodAt dotted
  refine Finset.sum_congr rfl fun k _ => ?_
  refine congrArg₂ (· * ·) ((nS_at _ _ r k).trans ?_) (weights_at m c t k l)
  exact congrArg₂ (fun x g => normed x g k) (funext fun k => xs_at m c t r k ht) (funext fun k => scales_at m c t k)

theorem late (t : Fin cfg0.N) : t.val - 64 < 2 := by have : t.val < 66 := t.isLt.trans_eq N_0; omega

/-! ## The result arrays -/

theorem final4 (c : Dev nD) : (dats m 0 c).arrAt 4 cfg0.N = InprojRef.heads (prompt m c) := by
  refine (dats m 0 c).arrAt_eq_of_covers 4 _ (by decide +kernel) fun t hf y => ?_
  blk_simp
  rw [after0_4]
  obtain ⟨a, h, r, l, rfl⟩ : ∃ (a : Fin 1) (h : Fin 18) (r : Fin 256) (l : Fin 128), y = ix4 a h r l := ⟨y 0, y 1, y 2, y 3, by idx_ext⟩
  obtain rfl : a = 0 := Subsingleton.elim _ _
  have e : ((View.whole main_v5_0).slice (win0_4.rect t)).emb (ix4 0 h r l)
      = ix4 (⟨min t.val 63 / 16, by omega⟩ : Fin 4) h (⟨min t.val 63 % 16 * 256 + r.val, by omega⟩ : Fin 4096) l := by blk_ext [idx_out t]
  rw [e, p4_at, prompt_at]
  rfl

theorem final5 (c : Dev nD) : (dats m 0 c).arrAt 5 cfg0.N = InprojRef.keysKept (prompt m c) := by
  refine (dats m 0 c).arrAt_eq_of_covers 5 _ (by decide +kernel) fun t hf y => ?_
  blk_simp
  rw [after0_5]
  have hi : 8 ≤ min t.val 63 % 16 := flush_kept t (.inl hf)
  obtain ⟨a, r, l, rfl⟩ : ∃ (a : Fin 1) (r : Fin 256) (l : Fin 768), y = ix3 a r l := ⟨y 0, y 1, y 2, by idx_ext⟩
  obtain rfl : a = 0 := Subsingleton.elim _ _
  have e : ((View.whole main_v5_1).slice (win0_5.rect t)).emb (ix3 0 r l)
      = ix3 (⟨min t.val 63 / 16, by omega⟩ : Fin 4) (⟨(min t.val 63 % 16 - 8) * 256 + r.val, by omega⟩ : Fin 2048) l := by blk_ext [idx_out t]
  rw [e, p5_at, prompt_at]
  simp only [show min t.val 63 % 16 * 256 + r.val = 2048 + ((min t.val 63 % 16 - 8) * 256 + r.val) by omega]
  rfl

theorem final6 (c : Dev nD) : (dats m 0 c).arrAt 6 cfg0.N = InprojRef.valsKept (prompt m c) := by
  refine (dats m 0 c).arrAt_eq_of_covers 6 _ (by decide +kernel) fun t hf y => ?_
  blk_simp
  rw [after0_6]
  have hi : 8 ≤ min t.val 63 % 16 := flush_kept t (.inr hf)
  obtain ⟨a, r, l, rfl⟩ : ∃ (a : Fin 1) (r : Fin 256) (l : Fin 768), y = ix3 a r l := ⟨y 0, y 1, y 2, by idx_ext⟩
  obtain rfl : a = 0 := Subsingleton.elim _ _
  have e : ((View.whole main_v5_2).slice (win0_6.rect t)).emb (ix3 0 r l)
      = ix3 (⟨min t.val 63 / 16, by omega⟩ : Fin 4) (⟨(min t.val 63 % 16 - 8) * 256 + r.val, by omega⟩ : Fin 2048) l := by blk_ext [idx_out t]
  rw [e, p6_at, prompt_at]
  simp only [show min t.val 63 % 16 * 256 + r.val = 2048 + ((min t.val 63 % 16 - 8) * 256 + r.val) by omega]
  rfl

theorem final7 (c : Dev nD) : (dats m 0 c).arrAt 7 cfg0.N = InprojRef.za (prompt m c) := by
  refine (dats m 0 c).arrAt_eq_of_covers 7 _ (by decide +kernel) fun t hf y => ?_
  blk_simp
  rw [after0_7]
  obtain ⟨a, r, l, rfl⟩ : ∃ (a : Fin 1) (r : Fin 256) (l : Fin 768), y = ix3 a r l := ⟨y 0, y 1, y 2, by idx_ext⟩
  obtain rfl : a = 0 := Subsingleton.elim _ _
  have e : ((View.whole main_v5_3).slice (win0_7.rect t)).emb (ix3 0 r l)
      = ix3 (⟨min t.val 63 / 16, by omega⟩ : Fin 4) (⟨min t.val 63 % 16 * 256 + r.val, by omega⟩ : Fin 4096) l := by blk_ext [idx_out t]
  rw [e, p7_at, prompt_at]
  rfl

theorem final8 (c : Dev nD) : (dats m 0 c).arrAt 8 cfg0.N = InprojRef.glu (prompt m c) := by
  refine (dats m 0 c).arrAt_eq_of_covers 8 _ (by decide +kernel) fun t hf y => ?_
  blk_simp
  rw [after0_8]
  obtain ⟨a, r, l, rfl⟩ : ∃ (a : Fin 1) (r : Fin 256) (l : Fin 768), y = ix3 a r l := ⟨y 0, y 1, y 2, by idx_ext⟩
  obtain rfl : a = 0 := Subsingleton.elim _ _
  have e : ((View.whole main_v5_4).slice (win0_8.rect t)).emb (ix3 0 r l)
      = ix3 (⟨min t.val 63 / 16, by omega⟩ : Fin 4) (⟨min t.val 63 % 16 * 256 + r.val, by omega⟩ : Fin 4096) l := by blk_ext [idx_out t]
  rw [e, p8_at, prompt_at, prompt_at]
  rfl

theorem final9 (c : Dev nD) : (dats m 0 c).arrAt 9 cfg0.N = InprojRef.zb (prompt m c) := by
  refine (dats m 0 c).arrAt_eq_of_covers 9 _ (by decide +kernel) fun t hf y => ?_
  blk_simp
  rw [after0_9]
  obtain ⟨a, r, l, rfl⟩ : ∃ (a : Fin 1) (r : Fin 256) (l : Fin 768), y = ix3 a r l := ⟨y 0, y 1, y 2, by idx_ext⟩
  obtain rfl : a = 0 := Subsingleton.elim _ _
  have e : ((View.whole main_v5_5).slice (win0_9.rect t)).emb (ix3 0 r l)
      = ix3 (⟨min t.val 63 / 16, by omega⟩ : Fin 4) (⟨min t.val 63 % 16 * 256 + r.val, by omega⟩ : Fin 4096) l := by blk_ext [idx_out t]
  rw [e, p9_at, prompt_at]
  rfl

theorem final10 (c : Dev nD) : (dats m 0 c).arrAt 10 cfg0.N = InprojRef.qc (prompt m c) := by
  refine (dats m 0 c).arrAt_eq_of_covers 10 _ (by decide +kernel) fun t hf y => ?_
  blk_simp
  rw [after0_10]
  obtain ⟨a, r, l, rfl⟩ : ∃ (a : Fin 1) (r : Fin 256) (l : Fin 512), y = ix3 a r l := ⟨y 0, y 1, y 2, by idx_ext⟩
  obtain rfl : a = 0 := Subsingleton.elim _ _
  have e : ((View.whole main_v5_6).slice (win0_10.rect t)).emb (ix3 0 r l)
      = ix3 (⟨min t.val 63 / 16, by omega⟩ : Fin 4) (⟨min t.val 63 % 16 * 256 + r.val, by omega⟩ : Fin 4096) l := by blk_ext [idx_out t]
  rw [e, p10_at, prompt_at]
  rfl

theorem final11 (c : Dev nD) : (dats m 0 c).arrAt 11 cfg0.N = InprojRef.zc (prompt m c) := by
  refine (dats m 0 c).arrAt_eq_of_covers 11 _ (by decide +kernel) fun t hf y => ?_
  blk_simp
  rw [after0_11]
  obtain ⟨a, r, l, rfl⟩ : ∃ (a : Fin 1) (r : Fin 256) (l : Fin 512), y = ix3 a r l := ⟨y 0, y 1, y 2, by idx_ext⟩
  obtain rfl : a = 0 := Subsingleton.elim _ _
  have e : ((View.whole main_v5_7).slice (win0_11.rect t)).emb (ix3 0 r l)
      = ix3 (⟨min t.val 63 / 16, by omega⟩ : Fin 4) (⟨min t.val 63 % 16 * 256 + r.val, by omega⟩ : Fin 4096) l := by blk_ext [idx_out t]
  rw [e, p11_at, prompt_at]
  rfl

theorem final12 (c : Dev nD) : (dats m 0 c).arrAt 12 cfg0.N = InprojRef.gt (prompt m c) := by
  refine (dats m 0 c).arrAt_eq_of_covers 12 _ (by decide +kernel) fun t hf y => ?_
  blk_simp
  rw [after0_12]
  obtain ⟨a, r, l, rfl⟩ : ∃ (a : Fin 1) (r : Fin 256) (l : Fin 3072), y = ix3 a r l := ⟨y 0, y 1, y 2, by idx_ext⟩
  obtain rfl : a = 0 := Subsingleton.elim _ _
  have e : ((View.whole main_v5_8).slice (win0_12.rect t)).emb (ix3 0 r l)
      = ix3 (⟨min t.val 63 / 16, by omega⟩ : Fin 4) (⟨min t.val 63 % 16 * 256 + r.val, by omega⟩ : Fin 4096) l := by blk_ext [idx_out t]
  rw [e, p12_at, prompt_at]
  rfl

theorem final13 (c : Dev nD) : (dats m 0 c).arrAt 13 cfg0.N = InprojRef.tail (prompt m c) := by
  refine (dats m 0 c).arrAt_eq_of_covers 13 _ (by decide +kernel) fun t hf y => ?_
  blk_simp
  rw [after0_13]
  have hi : min t.val 63 % 16 = 15 := flush_tail t hf
  obtain ⟨a, r, l, rfl⟩ : ∃ (a : Fin 1) (r : Fin 32) (l : Fin 768), y = ix3 a r l := ⟨y 0, y 1, y 2, by idx_ext⟩
  obtain rfl : a = 0 := Subsingleton.elim _ _
  have e : ((View.whole main_v5_9).slice (win0_13.rect t)).emb (ix3 0 r l)
      = ix3 (⟨min t.val 63 / 16, by omega⟩ : Fin 4) (⟨r.val, by omega⟩ : Fin 32) l := by blk_ext [idx_out t]
  rw [e, p13_at, prompt_at, prompt_at]
  simp only [show min t.val 63 % 16 * 256 + (224 + r.val) = 4064 + r.val by omega]
  rfl

theorem final14 (c : Dev nD) : (dats m 0 c).arrAt 14 cfg0.N = InprojRef.qS (sample m c) := by
  refine (dats m 0 c).arrAt_eq_of_covers 14 _ (by decide +kernel) fun t hf y => ?_
  blk_simp
  have ht : 64 ≤ t.val := flush_late t 14 (by decide) hf
  have hl := late t
  rw [after0_14, if_neg (by omega)]
  obtain ⟨r, l, rfl⟩ : ∃ (r : Fin 256) (l : Fin 768), y = ix2 r l := ⟨y 0, y 1, by idx_ext⟩
  have e : ((View.whole main_v5_10).slice (win0_14.rect t)).emb (ix2 r l)
      = ix2 (⟨(t.val - 64) * 256 + r.val, by omega⟩ : Fin 512) l := by blk_ext [idx_sample t]
  rw [e, s14_at, sample_at m c t hl]
  rfl

theorem final15 (c : Dev nD) : (dats m 0 c).arrAt 15 cfg0.N = InprojRef.kS (sample m c) := by
  refine (dats m 0 c).arrAt_eq_of_covers 15 _ (by decide +kernel) fun t hf y => ?_
  blk_simp
  have ht : 64 ≤ t.val := flush_late t 15 (by decide) hf
  have hl := late t
  rw [after0_15, if_neg (by omega)]
  obtain ⟨r, l, rfl⟩ : ∃ (r : Fin 256) (l : Fin 768), y = ix2 r l := ⟨y 0, y 1, by idx_ext⟩
  have e : ((View.whole main_v5_11).slice (win0_15.rect t)).emb (ix2 r l)
      = ix2 (⟨(t.val - 64) * 256 + r.val, by omega⟩ : Fin 512) l := by blk_ext [idx_sample t]
  rw [e, s15_at, sample_at m c t hl]
  rfl

theorem final16 (c : Dev nD) : (dats m 0 c).arrAt 16 cfg0.N = InprojRef.vS (sample m c) := by
  refine (dats m 0 c).arrAt_eq_of_covers 16 _ (by decide +kernel) fun t hf y => ?_
  blk_simp
  have ht : 64 ≤ t.val := flush_late t 16 (by decide) hf
  have hl := late t
  rw [after0_16, if_neg (by omega)]
  obtain ⟨r, l, rfl⟩ : ∃ (r : Fin 256) (l : Fin 768), y = ix2 r l := ⟨y 0, y 1, by idx_ext⟩
  have e : ((View.whole main_v5_12).slice (win0_16.rect t)).emb (ix2 r l)
      = ix2 (⟨(t.val - 64) * 256 + r.val, by omega⟩ : Fin 512) l := by blk_ext [idx_sample t]
  rw [e, s16_at, sample_at m c t hl]
  rfl

theorem final17 (c : Dev nD) : (dats m 0 c).arrAt 17 cfg0.N = InprojRef.zaS (sample m c) := by
  refine (dats m 0 c).arrAt_eq_of_covers 17 _ (by decide +kernel) fun t hf y => ?_
  blk_simp
  have ht : 64 ≤ t.val := flush_late t 17 (by decide) hf
  have hl := late t
  rw [after0_17, if_neg (by omega)]
  obtain ⟨r, l, rfl⟩ : ∃ (r : Fin 256) (l : Fin 768), y = ix2 r l := ⟨y 0, y 1, by idx_ext⟩
  have e : ((View.whole main_v5_13).slice (win0_17.rect t)).emb (ix2 r l)
      = ix2 (⟨(t.val - 64) * 256 + r.val, by omega⟩ : Fin 512) l := by blk_ext [idx_sample t]
  rw [e, s17_at, sample_at m c t hl]
  rfl

theorem final18 (c : Dev nD) : (dats m 0 c).arrAt 18 cfg0.N = InprojRef.gluS (sample m c) := by
  refine (dats m 0 c).arrAt_eq_of_covers 18 _ (by decide +kernel) fun t hf y => ?_
  blk_simp
  have ht : 64 ≤ t.val := flush_late t 18 (by decide) hf
  have hl := late t
  rw [after0_18, if_neg (by omega)]
  obtain ⟨r, l, rfl⟩ : ∃ (r : Fin 256) (l : Fin 768), y = ix2 r l := ⟨y 0, y 1, by idx_ext⟩
  have e : ((View.whole main_v5_14).slice (win0_18.rect t)).emb (ix2 r l)
      = ix2 (⟨(t.val - 64) * 256 + r.val, by omega⟩ : Fin 512) l := by blk_ext [idx_sample t]
  rw [e, s18_at, sample_at m c t hl, sample_at m c t hl]
  rfl

theorem final19 (c : Dev nD) : (dats m 0 c).arrAt 19 cfg0.N = InprojRef.zbS (sample m c) := by
  refine (dats m 0 c).arrAt_eq_of_covers 19 _ (by decide +kernel) fun t hf y => ?_
  blk_simp
  have ht : 64 ≤ t.val := flush_late t 19 (by decide) hf
  have hl := late t
  rw [after0_19, if_neg (by omega)]
  obtain ⟨r, l, rfl⟩ : ∃ (r : Fin 256) (l : Fin 768), y = ix2 r l := ⟨y 0, y 1, by idx_ext⟩
  have e : ((View.whole main_v5_15).slice (win0_19.rect t)).emb (ix2 r l)
      = ix2 (⟨(t.val - 64) * 256 + r.val, by omega⟩ : Fin 512) l := by blk_ext [idx_sample t]
  rw [e, s19_at, sample_at m c t hl]
  rfl

theorem final20 (c : Dev nD) : (dats m 0 c).arrAt 20 cfg0.N = InprojRef.qcS (sample m c) := by
  refine (dats m 0 c).arrAt_eq_of_covers 20 _ (by decide +kernel) fun t hf y => ?_
  blk_simp
  have ht : 64 ≤ t.val := flush_late t 20 (by decide) hf
  have hl := late t
  rw [after0_20, if_neg (by omega)]
  obtain ⟨r, l, rfl⟩ : ∃ (r : Fin 256) (l : Fin 512), y = ix2 r l := ⟨y 0, y 1, by idx_ext⟩
  have e : ((View.whole main_v5_16).slice (win0_20.rect t)).emb (ix2 r l)
      = ix2 (⟨(t.val - 64) * 256 + r.val, by omega⟩ : Fin 512) l := by blk_ext [idx_sample t]
  rw [e, s20_at, sample_at m c t hl]
  rfl

theorem final21 (c : Dev nD) : (dats m 0 c).arrAt 21 cfg0.N = InprojRef.zcS (sample m c) := by
  refine (dats m 0 c).arrAt_eq_of_covers 21 _ (by decide +kernel) fun t hf y => ?_
  blk_simp
  have ht : 64 ≤ t.val := flush_late t 21 (by decide) hf
  have hl := late t
  rw [after0_21, if_neg (by omega)]
  obtain ⟨r, l, rfl⟩ : ∃ (r : Fin 256) (l : Fin 512), y = ix2 r l := ⟨y 0, y 1, by idx_ext⟩
  have e : ((View.whole main_v5_17).slice (win0_21.rect t)).emb (ix2 r l)
      = ix2 (⟨(t.val - 64) * 256 + r.val, by omega⟩ : Fin 512) l := by blk_ext [idx_sample t]
  rw [e, s21_at, sample_at m c t hl]
  rfl

theorem final22 (c : Dev nD) : (dats m 0 c).arrAt 22 cfg0.N = InprojRef.gtS (sample m c) := by
  refine (dats m 0 c).arrAt_eq_of_covers 22 _ (by decide +kernel) fun t hf y => ?_
  blk_simp
  have ht : 64 ≤ t.val := flush_late t 22 (by decide) hf
  have hl := late t
  rw [after0_22, if_neg (by omega)]
  obtain ⟨r, l, rfl⟩ : ∃ (r : Fin 256) (l : Fin 3072), y = ix2 r l := ⟨y 0, y 1, by idx_ext⟩
  have e : ((View.whole main_v5_18).slice (win0_22.rect t)).emb (ix2 r l)
      = ix2 (⟨(t.val - 64) * 256 + r.val, by omega⟩ : Fin 512) l := by blk_ext [idx_sample t]
  rw [e, s22_at, sample_at m c t hl]
  rfl

end Cert.Inproj

end
-- ==== Proof.Projection.lean ====
module

public import proofs.«01_k».proof.Proof.InprojFinal

/-!
The input projection's value claim: the call and its reference leave the same nineteen arrays.
-/

@[expose] public section

set_option maxRecDepth 16384

noncomputable section

namespace Cert.Inproj

open Idealize.ShloMosaic Idealize.ShloMosaic.TcCoe Idealize.SL.Sem
open Cert.Kernel2Ideal Cert.Kernel2Ideal.Gen Cert.Kernel2Ideal.Inproj

variable (m : (ℓ : Loc nD τ sig) → Buf (Elt Ideal) ℓ) (ρ : Dev nD → PrngReg)

set_option maxHeartbeats 2000000 in
/-- The call's run: each result at its array, the arguments as they were. -/
theorem run : θ_run defs (onTc (τ := τ) (main (F := Ideal))) ⟨m, fun _ => 0, ρ⟩ fun r => ∀ c : Dev nD,
      r.2.mem ((c.tc : Thread nD τ).loc main_v5_0) = InprojRef.heads (prompt m c)
      ∧ r.2.mem ((c.tc : Thread nD τ).loc main_v5_1) = InprojRef.keysKept (prompt m c)
      ∧ r.2.mem ((c.tc : Thread nD τ).loc main_v5_2) = InprojRef.valsKept (prompt m c)
      ∧ r.2.mem ((c.tc : Thread nD τ).loc main_v5_3) = InprojRef.za (prompt m c)
      ∧ r.2.mem ((c.tc : Thread nD τ).loc main_v5_4) = InprojRef.glu (prompt m c)
      ∧ r.2.mem ((c.tc : Thread nD τ).loc main_v5_5) = InprojRef.zb (prompt m c)
      ∧ r.2.mem ((c.tc : Thread nD τ).loc main_v5_6) = InprojRef.qc (prompt m c)
      ∧ r.2.mem ((c.tc : Thread nD τ).loc main_v5_7) = InprojRef.zc (prompt m c)
      ∧ r.2.mem ((c.tc : Thread nD τ).loc main_v5_8) = InprojRef.gt (prompt m c)
      ∧ r.2.mem ((c.tc : Thread nD τ).loc main_v5_9) = InprojRef.tail (prompt m c)
      ∧ r.2.mem ((c.tc : Thread nD τ).loc main_v5_10) = InprojRef.qS (sample m c)
      ∧ r.2.mem ((c.tc : Thread nD τ).loc main_v5_11) = InprojRef.kS (sample m c)
      ∧ r.2.mem ((c.tc : Thread nD τ).loc main_v5_12) = InprojRef.vS (sample m c)
      ∧ r.2.mem ((c.tc : Thread nD τ).loc main_v5_13) = InprojRef.zaS (sample m c)
      ∧ r.2.mem ((c.tc : Thread nD τ).loc main_v5_14) = InprojRef.gluS (sample m c)
      ∧ r.2.mem ((c.tc : Thread nD τ).loc main_v5_15) = InprojRef.zbS (sample m c)
      ∧ r.2.mem ((c.tc : Thread nD τ).loc main_v5_16) = InprojRef.qcS (sample m c)
      ∧ r.2.mem ((c.tc : Thread nD τ).loc main_v5_17) = InprojRef.zcS (sample m c)
      ∧ r.2.mem ((c.tc : Thread nD τ).loc main_v5_18) = InprojRef.gtS (sample m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨hw, hr⟩ := h.1 c
    refine ⟨(hw 4).trans (final4 m c), (hw 5).trans (final5 m c), (hw 6).trans (final6 m c), (hw 7).trans (final7 m c), (hw 8).trans (final8 m c), (hw 9).trans (final9 m c), (hw 10).trans (final10 m c), (hw 11).trans (final11 m c), (hw 12).trans (final12 m c), (hw 13).trans (final13 m c), (hw 14).trans (final14 m c), (hw 15).trans (final15 m c), (hw 16).trans (final16 m c), (hw 17).trans (final17 m c), (hw 18).trans (final18 m c), (hw 19).trans (final19 m c), (hw 20).trans (final20 m c), (hw 21).trans (final21 m c), (hw 22).trans (final22 m c), ?_, ?_, ?_, ?_⟩
    · exact (hw 0).trans (((dats m 0 c).arrAt_in 0 rfl _).trans ((A_eq m c 0).trans (V_main_arg0 m c)))
    · exact (hr main_arg1 (Pipeline.mem_restRefs_of main_arg1 (by decide) (by decide))).trans (V_main_arg1 m c)
    · exact (hr main_arg2 (Pipeline.mem_restRefs_of main_arg2 (by decide) (by decide))).trans (V_main_arg2 m c)
    · exact (hr main_arg3 (Pipeline.mem_restRefs_of main_arg3 (by decide) (by decide))).trans (V_main_arg3 m c)) (run_main m ρ)

/-- The call and the reference leave the same arrays. -/
theorem algebraic : Cert.algebraic_Kernel2Ideal_Reference2Ideal := by
  intro m g m' g' _ hagree
  refine ⟨fun c => InprojRef.heads (prompt m c), fun c => InprojRef.keysKept (prompt m c), fun c => InprojRef.valsKept (prompt m c), fun c => InprojRef.za (prompt m c), fun c => InprojRef.glu (prompt m c), fun c => InprojRef.zb (prompt m c), fun c => InprojRef.qc (prompt m c), fun c => InprojRef.zc (prompt m c), fun c => InprojRef.gt (prompt m c), fun c => InprojRef.tail (prompt m c), fun c => InprojRef.qS (sample m c), fun c => InprojRef.kS (sample m c), fun c => InprojRef.vS (sample m c), fun c => InprojRef.zaS (sample m c), fun c => InprojRef.gluS (sample m c), fun c => InprojRef.zbS (sample m c), fun c => InprojRef.qcS (sample m c), fun c => InprojRef.zcS (sample m c), fun c => InprojRef.gtS (sample m c),
    run m g, (θ_run _ _ _).mono (fun r h c => ?_) (InprojRef.run m' g')⟩
  obtain ⟨e0, e1, e2, e3⟩ := hagree c
  obtain ⟨h0, h1, h2, h3, h4, h5, h6, h7, h8, h9, h10, h11, h12, h13, h14, h15, h16, h17, h18, ha⟩ := h c
  have ep : InprojRef.prompt (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = prompt m c := by rw [e0, e2, e3]
  have es : InprojRef.sample (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = sample m c := by rw [e1, e2, e3]
  exact ⟨h0.trans (congrArg InprojRef.heads ep), h1.trans (congrArg InprojRef.keysKept ep), h2.trans (congrArg InprojRef.valsKept ep), h3.trans (congrArg InprojRef.za ep), h4.trans (congrArg InprojRef.glu ep), h5.trans (congrArg InprojRef.zb ep), h6.trans (congrArg InprojRef.qc ep), h7.trans (congrArg InprojRef.zc ep), h8.trans (congrArg InprojRef.gt ep), h9.trans (congrArg InprojRef.tail ep), h10.trans (congrArg InprojRef.qS es), h11.trans (congrArg InprojRef.kS es), h12.trans (congrArg InprojRef.vS es), h13.trans (congrArg InprojRef.zaS es), h14.trans (congrArg InprojRef.gluS es), h15.trans (congrArg InprojRef.zbS es), h16.trans (congrArg InprojRef.qcS es), h17.trans (congrArg InprojRef.zcS es), h18.trans (congrArg InprojRef.gtS es), ha⟩

end Cert.Inproj

end
-- ==== Proof.MergeRef.lean ====
module

public import proofs.«01_k».proof.Proof.Gen.Reference4Ideal.Run
public import proofs.«01_k».proof.Proof.Spec

/-!
The reference of the samples' merge, read entry by entry: the three branches gated, projected and summed with the merge
gates, projected again, normalised and added to the residual.
-/

@[expose] public section

set_option maxRecDepth 16384

noncomputable section

namespace Cert.MergeRef

open Idealize.ShloMosaic Idealize.ShloMosaic.TcCoe Idealize.SL.Sem
open Cert.Reference4Ideal Cert.Reference4Ideal.Gen Cert.Spec

/-- A row of a branch, times its gate path entry by entry, times one column of weights. -/
def gated {n : Nat} (o z w : Fin n → EReal) : EReal := ∑ e, o e * z e * w e

/-- Row `r` (sample `r / 4`, position `r % 4`) of the merged branches, at column `k`. -/
def mixAt (oa : FVec Ideal S128x4x768 .f32) (za : FVec Ideal S512x768 .bf16) (ob : FVec Ideal S4x128x768 .f32) (zb : FVec Ideal S512x768 .bf16)
    (oc : FVec Ideal S128x4x512 .f32) (zc : FVec Ideal S512x512 .bf16) (gt : FVec Ideal S512x3072 .bf16)
    (wa wb : FVec Ideal S1x768x1024 .f32) (wc : FVec Ideal S1x512x1024 .f32) (r : Fin 512) (k : Fin 1024) : EReal :=
  gt (ix2 r (⟨k.val, by omega⟩ : Fin 3072))
      * gated (fun e => oa (ix3 (⟨r.val / 4, by omega⟩ : Fin 128) (⟨r.val % 4, by omega⟩ : Fin 4) e)) (fun e => za (ix2 r e)) (fun e => wa (ix3 0 e k))
    + gt (ix2 r (⟨1024 + k.val, by omega⟩ : Fin 3072))
      * gated (fun e => ob (ix3 (⟨r.val % 4, by omega⟩ : Fin 4) (⟨r.val / 4, by omega⟩ : Fin 128) e)) (fun e => zb (ix2 r e)) (fun e => wb (ix3 0 e k))
    + gt (ix2 r (⟨2048 + k.val, by omega⟩ : Fin 3072))
      * gated (fun e => oc (ix3 (⟨r.val / 4, by omega⟩ : Fin 128) (⟨r.val % 4, by omega⟩ : Fin 4) e)) (fun e => zc (ix2 r e)) (fun e => wc (ix3 0 e k))

/-- The samples' output, as an array: the residual and the normalised projection of the merged rows. -/
def out (oa : FVec Ideal S128x4x768 .f32) (za : FVec Ideal S512x768 .bf16) (ob : FVec Ideal S4x128x768 .f32) (zb : FVec Ideal S512x768 .bf16)
    (oc : FVec Ideal S128x4x512 .f32) (zc : FVec Ideal S512x512 .bf16) (gt : FVec Ideal S512x3072 .bf16)
    (wa wb : FVec Ideal S1x768x1024 .f32) (wc : FVec Ideal S1x512x1024 .f32) (x : FVec Ideal S128x4x1024 .f32) (wo : FVec Ideal S1x1024x1024 .f32)
    (g : FVec Ideal S1x1024 .f32) : S512x1024.Idx → EReal :=
  fun i => x (ix3 (⟨(i 0).val / 4, by have := (i 0).isLt; change _ < 512 at this; omega⟩ : Fin 128) (⟨(i 0).val % 4, by omega⟩ : Fin 4) (i 1))
    + normed (fun l => ∑ k, mixAt oa za ob zb oc zc gt wa wb wc (i 0) k * wo (ix3 0 k l)) (fun l => g (ix2 0 l)) (i 1)

/-- The reference's merged branches. -/
def mix (oa : FVec Ideal S128x4x768 .f32) (za : FVec Ideal S512x768 .bf16) (ob : FVec Ideal S4x128x768 .f32) (zb : FVec Ideal S512x768 .bf16)
    (oc : FVec Ideal S128x4x512 .f32) (zc : FVec Ideal S512x512 .bf16) (gt : FVec Ideal S512x3072 .bf16)
    (wa wb : FVec Ideal S1x768x1024 .f32) (wc : FVec Ideal S1x512x1024 .f32) : FVec Ideal S128x4x1024 .f32 :=
  addf (addf (mulf (shapeCast _ (extractStridedSlice S128x4x1x1024 ![0, 0, 0, 0] (shapeCast _ (extf .f32 gt bitsLt_bf16_f32) shapeCasts_S512x3072_S128x4x3x1024) slices_S128x4x3x1024_S128x4x1x1024_0_0_0_0) shapeCasts_S128x4x1x1024_S128x4x1024) (Host.dotGeneral dot_S128x4x768_S768x1024_S128x4x1024_2_0_01_1_n_n none (mulf oa (shapeCast _ (extf .f32 za bitsLt_bf16_f32) shapeCasts_S512x768_S128x4x768)) (shapeCast _ wa shapeCasts_S1x768x1024_S768x1024))) (mulf (shapeCast _ (extractStridedSlice S128x4x1x1024 ![0, 0, 1, 0] (shapeCast _ (extf .f32 gt bitsLt_bf16_f32) shapeCasts_S512x3072_S128x4x3x1024) slices_S128x4x3x1024_S128x4x1x1024_0_0_1_0) shapeCasts_S128x4x1x1024_S128x4x1024) (Host.dotGeneral dot_S128x4x768_S768x1024_S128x4x1024_2_0_01_1_n_n none (mulf (transpose S128x4x768 [1, 0, 2] ob transposes_S4x128x768_S128x4x768_1_0_2) (shapeCast _ (extf .f32 zb bitsLt_bf16_f32) shapeCasts_S512x768_S128x4x768)) (shapeCast _ wb shapeCasts_S1x768x1024_S768x1024)))) (mulf (shapeCast _ (extractStridedSlice S128x4x1x1024 ![0, 0, 2, 0] (shapeCast _ (extf .f32 gt bitsLt_bf16_f32) shapeCasts_S512x3072_S128x4x3x1024) slices_S128x4x3x1024_S128x4x1x1024_0_0_2_0) shapeCasts_S128x4x1x1024_S128x4x1024) (Host.dotGeneral dot_S128x4x512_S512x1024_S128x4x1024_2_0_01_1_n_n none (mulf oc (shapeCast _ (extf .f32 zc bitsLt_bf16_f32) shapeCasts_S512x512_S128x4x512)) (shapeCast _ wc shapeCasts_S1x512x1024_S512x1024)))

/-- Their entries. -/
theorem mix_at (oa : FVec Ideal S128x4x768 .f32) (za : FVec Ideal S512x768 .bf16) (ob : FVec Ideal S4x128x768 .f32) (zb : FVec Ideal S512x768 .bf16)
    (oc : FVec Ideal S128x4x512 .f32) (zc : FVec Ideal S512x512 .bf16) (gt : FVec Ideal S512x3072 .bf16)
    (wa wb : FVec Ideal S1x768x1024 .f32) (wc : FVec Ideal S1x512x1024 .f32) (r : Fin 512) (k : Fin 1024) :
    mix oa za ob zb oc zc gt wa wb wc (ix3 (⟨r.val / 4, by omega⟩ : Fin 128) (⟨r.val % 4, by omega⟩ : Fin 4) k) = mixAt oa za ob zb oc zc gt wa wb wc r k := by
  pointwise [mix, mixAt, gated]

/-- The projection of an array of rows. -/
theorem project_at (y : FVec Ideal S128x4x1024 .f32) (wo : FVec Ideal S1x1024x1024 .f32) (b : Fin 128) (t : Fin 4) (l : Fin 1024) :
    Host.dotGeneral dot_S128x4x1024_S1024x1024_S128x4x1024_2_0_01_1_n_n none y (shapeCast _ wo shapeCasts_S1x1024x1024_S1024x1024) (ix3 b t l)
      = ∑ k, y (ix3 b t k) * wo (ix3 0 k l) := by
  pointwise []

/-- The norm and the residual of an array of rows, the rows of the samples counted through. -/
theorem residual_at (x z : FVec Ideal S128x4x1024 .f32) (g : FVec Ideal S1x1024 .f32) (r : Fin 512) (l : Fin 1024) :
    ((shapeCast _ (addf x (mulf (mulf z (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf z z) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ g shapeCasts_S1x1024_S1024))))) shapeCasts_S128x4x1024_S512x1024) : FVec Ideal S512x1024 .f32) (ix2 r l)
      = x (ix3 (⟨r.val / 4, by omega⟩ : Fin 128) (⟨r.val % 4, by omega⟩ : Fin 4) l)
        + normed (fun k => z (ix3 (⟨r.val / 4, by omega⟩ : Fin 128) (⟨r.val % 4, by omega⟩ : Fin 4) k)) (fun k => g (ix2 0 k)) l := by
  pointwise [normed]

/-- The reference's result is `out` of its arguments. -/
theorem result_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg7)) (m ((c.tc : Thread nD τ).loc main_arg11)) (m ((c.tc : Thread nD τ).loc main_arg12)) := by
  funext j
  obtain ⟨r, l, rfl⟩ : ∃ (r : Fin 512) (l : Fin 1024), j = ix2 r l := ⟨j 0, j 1, by idx_ext⟩
  refine (residual_at (m ((c.tc : Thread nD τ).loc main_arg7)) (Host.dotGeneral dot_S128x4x1024_S1024x1024_S128x4x1024_2_0_01_1_n_n none
    (mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)))
    (shapeCast _ (m ((c.tc : Thread nD τ).loc main_arg11)) shapeCasts_S1x1024x1024_S1024x1024)) (m ((c.tc : Thread nD τ).loc main_arg12)) r l).trans ?_
  unfold out
  simp only [project_at, mix_at]
  rfl

end Cert.MergeRef
-- ==== Proof.Merge.lean ====
module

public import proofs.«01_k».proof.Proof.Gen.Kernel4Ideal.Value
public import proofs.«01_k».proof.Defs
public import proofs.«01_k».proof.Proof.MergeRef
public import Idealize.ShloMosaic.Lib.Pipeline.ValueKit

/-!
The samples' merge: the call's one grid point takes all 512 rows, so its result array ends at `Cert.MergeRef.out` of the
arguments.
-/

@[expose] public section

set_option maxRecDepth 16384

noncomputable section

namespace Cert.Merge

open Idealize.ShloMosaic Idealize.ShloMosaic.TcCoe Idealize.SL.Sem
open Cert.Kernel4Ideal Cert.Kernel4Ideal.Gen Cert.Spec

variable (m : (ℓ : Loc nD τ sig) → Buf (Elt Ideal) ℓ) (ρ : Dev nD → PrngReg)

/-- The first two branches, gated, projected and weighted, at an entry. -/
theorem pay4_at (oa : FVec Ideal S512x768 .f32) (za : FVec Ideal S512x768 .bf16) (ob : FVec Ideal S512x768 .f32) (zb : FVec Ideal S512x768 .bf16)
    (g0 : FVec Ideal S512x1024 .bf16) (wa : FVec Ideal S768x1024 .bf16) (g1 : FVec Ideal S512x1024 .bf16) (wb : FVec Ideal S768x1024 .bf16)
    (r : Fin 512) (k : Fin 1024) :
    k0_pay4 (F := Ideal) oa za ob zb g0 wa g1 wb (ix2 r k)
      = g0 (ix2 r k) * MergeRef.gated (fun e => oa (ix2 r e)) (fun e => za (ix2 r e)) (fun e => wa (ix2 e k))
        + g1 (ix2 r k) * MergeRef.gated (fun e => ob (ix2 r e)) (fun e => zb (ix2 r e)) (fun e => wb (ix2 e k)) := by
  pointwise [k0_pay4, MergeRef.gated]

/-- The third branch added, the sum projected, normalised and added to the residual, at an entry. -/
theorem pay1_at (oc : FVec Ideal S512x512 .f32) (zc : FVec Ideal S512x512 .bf16) (x : FVec Ideal S512x1024 .f32) (y : FVec Ideal S512x1024 .f32)
    (g2 : FVec Ideal S512x1024 .bf16) (wc : FVec Ideal S512x1024 .bf16) (wo : FVec Ideal S1024x1024 .bf16) (g : FVec Ideal S1x1024 .f32)
    (r : Fin 512) (l : Fin 1024) :
    k0_pay1 (F := Ideal) (k0_pay2 oc zc) (k0_pay3 x) y g2 wc wo g (ix2 r l)
      = x (ix2 r l) + normed (fun l => ∑ k, (y (ix2 r k)
          + g2 (ix2 r k) * MergeRef.gated (fun e => oc (ix2 r e)) (fun e => zc (ix2 r e)) (fun e => wc (ix2 e k))) * wo (ix2 k l))
          (fun k => g (ix2 0 k)) l := by
  pointwise [k0_pay1, k0_pay2, k0_pay3, normed, MergeRef.gated]

/-- Every window stands at the first block. -/
theorem idx : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] := by
  decide +kernel

/-! ## The arrays at region entry -/

/-- The first branch, the samples counted through; -/
theorem V_a (c : Dev nD) : V m c main_v10 = shapeCast S512x768 (m ((c : Thread nD τ).loc main_arg0)) shapeCasts_S128x4x768_S512x768 := by
  unfold V; after_results; rfl

/-- the second; -/
theorem V_b (c : Dev nD) : V m c main_v9 = shapeCast S512x768 (transpose S128x4x768 [1, 0, 2] (m ((c : Thread nD τ).loc main_arg2)) transposes_S4x128x768_S128x4x768_1_0_2) shapeCasts_S128x4x768_S512x768 := by
  unfold V; after_results; rfl

/-- the third; -/
theorem V_c (c : Dev nD) : V m c main_v11 = shapeCast S512x512 (m ((c : Thread nD τ).loc main_arg4)) shapeCasts_S128x4x512_S512x512 := by
  unfold V; after_results; rfl

/-- the residual; -/
theorem V_x (c : Dev nD) : V m c main_v12 = shapeCast S512x1024 (m ((c : Thread nD τ).loc main_arg7)) shapeCasts_S128x4x1024_S512x1024 := by
  unfold V; after_results; rfl

/-- the weights of the first branch, -/
theorem V_wa (c : Dev nD) : V m c main_v1 = truncf (F := Ideal) (φ := .f32) .bf16 (shapeCast S768x1024 (m ((c : Thread nD τ).loc main_arg8)) shapeCasts_S1x768x1024_S768x1024) bitsLt_bf16_f32 := by
  unfold V; after_results; rfl

/-- of the second, -/
theorem V_wb (c : Dev nD) : V m c main_v3 = truncf (F := Ideal) (φ := .f32) .bf16 (shapeCast S768x1024 (m ((c : Thread nD τ).loc main_arg9)) shapeCasts_S1x768x1024_S768x1024) bitsLt_bf16_f32 := by
  unfold V; after_results; rfl

/-- of the third, -/
theorem V_wc (c : Dev nD) : V m c main_v5 = truncf (F := Ideal) (φ := .f32) .bf16 (shapeCast S512x1024 (m ((c : Thread nD τ).loc main_arg10)) shapeCasts_S1x512x1024_S512x1024) bitsLt_bf16_f32 := by
  unfold V; after_results; rfl

/-- of the output; -/
theorem V_wo (c : Dev nD) : V m c main_v7 = truncf (F := Ideal) (φ := .f32) .bf16 (shapeCast S1024x1024 (m ((c : Thread nD τ).loc main_arg11)) shapeCasts_S1x1024x1024_S1024x1024) bitsLt_bf16_f32 := by
  unfold V; after_results; rfl

/-- the scales. -/
theorem V_g (c : Dev nD) : V m c main_v14 = broadcastInDim S1x1024 ![1] bcast_S1024_S1x1024_1 (shapeCast S1024 (m ((c : Thread nD τ).loc main_arg12)) shapeCasts_S1x1024_S1024) := by
  unfold V; after_results; rfl

/-! ## The casts, at an entry -/

/-- Row `r` of 768 columns is sample `r / 4`, position `r % 4`. -/
theorem cast_a_at (x : FVec Ideal S128x4x768 .f32) (r : Fin 512) (k : Fin 768) :
    shapeCast S512x768 x shapeCasts_S128x4x768_S512x768 (ix2 r k) = x (ix3 (⟨r.val / 4, by omega⟩ : Fin 128) (⟨r.val % 4, by omega⟩ : Fin 4) k) := by
  pointwise []

/-- Row `r` of 512 columns is sample `r / 4`, position `r % 4`. -/
theorem cast_c_at (x : FVec Ideal S128x4x512 .f32) (r : Fin 512) (k : Fin 512) :
    shapeCast S512x512 x shapeCasts_S128x4x512_S512x512 (ix2 r k) = x (ix3 (⟨r.val / 4, by omega⟩ : Fin 128) (⟨r.val % 4, by omega⟩ : Fin 4) k) := by
  pointwise []

/-- Row `r` of 1024 columns is sample `r / 4`, position `r % 4`. -/
theorem cast_x_at (x : FVec Ideal S128x4x1024 .f32) (r : Fin 512) (k : Fin 1024) :
    shapeCast S512x1024 x shapeCasts_S128x4x1024_S512x1024 (ix2 r k) = x (ix3 (⟨r.val / 4, by omega⟩ : Fin 128) (⟨r.val % 4, by omega⟩ : Fin 4) k) := by
  pointwise []

/-- The same, of an array whose first axis is the position. -/
theorem cast_b_at (x : FVec Ideal S4x128x768 .f32) (r : Fin 512) (k : Fin 768) :
    shapeCast S512x768 (transpose S128x4x768 [1, 0, 2] x transposes_S4x128x768_S128x4x768_1_0_2) shapeCasts_S128x4x768_S512x768 (ix2 r k) = x (ix3 (⟨r.val % 4, by omega⟩ : Fin 4) (⟨r.val / 4, by omega⟩ : Fin 128) k) := by
  pointwise []

/-- Weights of 768 rows without their leading axis. -/
theorem cast_w768_at (w : FVec Ideal S1x768x1024 .f32) (k : Fin 768) (l : Fin 1024) :
    truncf (F := Ideal) (φ := .f32) .bf16 (shapeCast S768x1024 w shapeCasts_S1x768x1024_S768x1024) bitsLt_bf16_f32 (ix2 k l) = w (ix3 0 k l) := by
  pointwise []

/-- Weights of 512 rows without their leading axis. -/
theorem cast_w512_at (w : FVec Ideal S1x512x1024 .f32) (k : Fin 512) (l : Fin 1024) :
    truncf (F := Ideal) (φ := .f32) .bf16 (shapeCast S512x1024 w shapeCasts_S1x512x1024_S512x1024) bitsLt_bf16_f32 (ix2 k l) = w (ix3 0 k l) := by
  pointwise []

/-- Weights of 1024 rows without their leading axis. -/
theorem cast_w1024_at (w : FVec Ideal S1x1024x1024 .f32) (k : Fin 1024) (l : Fin 1024) :
    truncf (F := Ideal) (φ := .f32) .bf16 (shapeCast S1024x1024 w shapeCasts_S1x1024x1024_S1024x1024) bitsLt_bf16_f32 (ix2 k l) = w (ix3 0 k l) := by
  pointwise []

/-- The scales' reshape and broadcast. -/
theorem cast_g_at (g : FVec Ideal S1x1024 .f32) (k : Fin 1024) :
    broadcastInDim S1x1024 ![1] bcast_S1024_S1x1024_1 (shapeCast S1024 g shapeCasts_S1x1024_S1024) (ix2 0 k) = g (ix2 0 k) := by
  pointwise []

/-! ## The blocks, at an entry -/

/-- The first branch; -/
theorem oa_at (c : Dev nD) (t : Fin cfg0.N) (r : Fin 512) (k : Fin 768) :
    (iblk m c 0 t : S512x768.Idx → EReal) (ix2 r k) = m ((c : Thread nD τ).loc main_arg0) (ix3 (⟨r.val / 4, by omega⟩ : Fin 128) (⟨r.val % 4, by omega⟩ : Fin 4) k) := by
  show V m c main_v10 ((win0_0.blk t).view.emb (ix2 r k)) = _
  have e : (win0_0.blk t).view.emb (ix2 r k) = ix2 r k := by blk_ext [idx t]
  rw [e, V_a]
  exact cast_a_at _ r k

/-- its gate path; -/
theorem za_at (c : Dev nD) (t : Fin cfg0.N) (r : Fin 512) (k : Fin 768) :
    (iblk m c 1 t : S512x768.Idx → EReal) (ix2 r k) = m ((c : Thread nD τ).loc main_arg1) (ix2 r k) := by
  show V m c main_arg1 ((win0_1.blk t).view.emb (ix2 r k)) = _
  have e : (win0_1.blk t).view.emb (ix2 r k) = ix2 r k := by blk_ext [idx t]
  rw [e, V_main_arg1]

/-- the second branch; -/
theorem ob_at (c : Dev nD) (t : Fin cfg0.N) (r : Fin 512) (k : Fin 768) :
    (iblk m c 2 t : S512x768.Idx → EReal) (ix2 r k) = m ((c : Thread nD τ).loc main_arg2) (ix3 (⟨r.val % 4, by omega⟩ : Fin 4) (⟨r.val / 4, by omega⟩ : Fin 128) k) := by
  show V m c main_v9 ((win0_2.blk t).view.emb (ix2 r k)) = _
  have e : (win0_2.blk t).view.emb (ix2 r k) = ix2 r k := by blk_ext [idx t]
  rw [e, V_b]
  exact cast_b_at _ r k

/-- its gate path; -/
theorem zb_at (c : Dev nD) (t : Fin cfg0.N) (r : Fin 512) (k : Fin 768) :
    (iblk m c 3 t : S512x768.Idx → EReal) (ix2 r k) = m ((c : Thread nD τ).loc main_arg3) (ix2 r k) := by
  show V m c main_arg3 ((win0_3.blk t).view.emb (ix2 r k)) = _
  have e : (win0_3.blk t).view.emb (ix2 r k) = ix2 r k := by blk_ext [idx t]
  rw [e, V_main_arg3]

/-- the third branch; -/
theorem oc_at (c : Dev nD) (t : Fin cfg0.N) (r : Fin 512) (k : Fin 512) :
    (iblk m c 4 t : S512x512.Idx → EReal) (ix2 r k) = m ((c : Thread nD τ).loc main_arg4) (ix3 (⟨r.val / 4, by omega⟩ : Fin 128) (⟨r.val % 4, by omega⟩ : Fin 4) k) := by
  show V m c main_v11 ((win0_4.blk t).view.emb (ix2 r k)) = _
  have e : (win0_4.blk t).view.emb (ix2 r k) = ix2 r k := by blk_ext [idx t]
  rw [e, V_c]
  exact cast_c_at _ r k

/-- its gate path; -/
theorem zc_at (c : Dev nD) (t : Fin cfg0.N) (r : Fin 512) (k : Fin 512) :
    (iblk m c 5 t : S512x512.Idx → EReal) (ix2 r k) = m ((c : Thread nD τ).loc main_arg5) (ix2 r k) := by
  show V m c main_arg5 ((win0_5.blk t).view.emb (ix2 r k)) = _
  have e : (win0_5.blk t).view.emb (ix2 r k) = ix2 r k := by blk_ext [idx t]
  rw [e, V_main_arg5]

/-- the merge gates; -/
theorem gt_at (c : Dev nD) (t : Fin cfg0.N) (r : Fin 512) (k : Fin 3072) :
    (iblk m c 6 t : S512x3072.Idx → EReal) (ix2 r k) = m ((c : Thread nD τ).loc main_arg6) (ix2 r k) := by
  show V m c main_arg6 ((win0_6.blk t).view.emb (ix2 r k)) = _
  have e : (win0_6.blk t).view.emb (ix2 r k) = ix2 r k := by blk_ext [idx t]
  rw [e, V_main_arg6]

/-- the residual; -/
theorem x_at (c : Dev nD) (t : Fin cfg0.N) (r : Fin 512) (k : Fin 1024) :
    (iblk m c 7 t : S512x1024.Idx → EReal) (ix2 r k) = m ((c : Thread nD τ).loc main_arg7) (ix3 (⟨r.val / 4, by omega⟩ : Fin 128) (⟨r.val % 4, by omega⟩ : Fin 4) k) := by
  show V m c main_v12 ((win0_7.blk t).view.emb (ix2 r k)) = _
  have e : (win0_7.blk t).view.emb (ix2 r k) = ix2 r k := by blk_ext [idx t]
  rw [e, V_x]
  exact cast_x_at _ r k

/-- the weights of the first branch, -/
theorem wa_at (c : Dev nD) (t : Fin cfg0.N) (r : Fin 768) (k : Fin 1024) :
    (iblk m c 8 t : S768x1024.Idx → EReal) (ix2 r k) = m ((c : Thread nD τ).loc main_arg8) (ix3 0 r k) := by
  show V m c main_v1 ((win0_8.blk t).view.emb (ix2 r k)) = _
  have e : (win0_8.blk t).view.emb (ix2 r k) = ix2 r k := by blk_ext [idx t]
  rw [e, V_wa]
  exact cast_w768_at _ r k

/-- of the second, -/
theorem wb_at (c : Dev nD) (t : Fin cfg0.N) (r : Fin 768) (k : Fin 1024) :
    (iblk m c 9 t : S768x1024.Idx → EReal) (ix2 r k) = m ((c : Thread nD τ).loc main_arg9) (ix3 0 r k) := by
  show V m c main_v3 ((win0_9.blk t).view.emb (ix2 r k)) = _
  have e : (win0_9.blk t).view.emb (ix2 r k) = ix2 r k := by blk_ext [idx t]
  rw [e, V_wb]
  exact cast_w768_at _ r k

/-- of the third, -/
theorem wc_at (c : Dev nD) (t : Fin cfg0.N) (r : Fin 512) (k : Fin 1024) :
    (iblk m c 10 t : S512x1024.Idx → EReal) (ix2 r k) = m ((c : Thread nD τ).loc main_arg10) (ix3 0 r k) := by
  show V m c main_v5 ((win0_10.blk t).view.emb (ix2 r k)) = _
  have e : (win0_10.blk t).view.emb (ix2 r k) = ix2 r k := by blk_ext [idx t]
  rw [e, V_wc]
  exact cast_w512_at _ r k

/-- of the output; -/
theorem wo_at (c : Dev nD) (t : Fin cfg0.N) (r : Fin 1024) (k : Fin 1024) :
    (iblk m c 11 t : S1024x1024.Idx → EReal) (ix2 r k) = m ((c : Thread nD τ).loc main_arg11) (ix3 0 r k) := by
  show V m c main_v7 ((win0_11.blk t).view.emb (ix2 r k)) = _
  have e : (win0_11.blk t).view.emb (ix2 r k) = ix2 r k := by blk_ext [idx t]
  rw [e, V_wo]
  exact cast_w1024_at _ r k

/-- the scales. -/
theorem g_at (c : Dev nD) (t : Fin cfg0.N) (k : Fin 1024) :
    (iblk m c 12 t : S1x1024.Idx → EReal) (ix2 0 k) = m ((c : Thread nD τ).loc main_arg12) (ix2 0 k) := by
  show V m c main_v14 ((win0_12.blk t).view.emb (ix2 0 k)) = _
  have e : (win0_12.blk t).view.emb (ix2 0 k) = ix2 0 k := by blk_ext [idx t]
  rw [e, V_g]
  exact cast_g_at _ k

/-- What the point computes from its blocks and three gates `g0`, `g1`, `g2` is the reference's output. -/
theorem point_at (c : Dev nD) (t : Fin cfg0.N) (g0 g1 g2 : FVec Ideal S512x1024 .bf16)
    (h0 : ∀ (r : Fin 512) (k : Fin 1024), g0 (ix2 r k) = (iblk m c 6 t : S512x3072.Idx → EReal) (ix2 r (⟨k.val, by omega⟩ : Fin 3072)))
    (h1 : ∀ (r : Fin 512) (k : Fin 1024), g1 (ix2 r k) = (iblk m c 6 t : S512x3072.Idx → EReal) (ix2 r (⟨1024 + k.val, by omega⟩ : Fin 3072)))
    (h2 : ∀ (r : Fin 512) (k : Fin 1024), g2 (ix2 r k) = (iblk m c 6 t : S512x3072.Idx → EReal) (ix2 r (⟨2048 + k.val, by omega⟩ : Fin 3072)))
    (r : Fin 512) (l : Fin 1024) :
    k0_pay1 (F := Ideal) (k0_pay2 (iblk m c 4 t) (iblk m c 5 t)) (k0_pay3 (iblk m c 7 t))
        (k0_pay4 (iblk m c 0 t) (iblk m c 1 t) (iblk m c 2 t) (iblk m c 3 t) g0 (iblk m c 8 t) g1 (iblk m c 9 t)) g2
        (iblk m c 10 t) (iblk m c 11 t) (iblk m c 12 t) (ix2 r l)
      = MergeRef.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg7)) (m ((c : Thread nD τ).loc main_arg11)) (m ((c : Thread nD τ).loc main_arg12)) (ix2 r l) := by
  have ha : (fun e => (iblk m c 0 t : S512x768.Idx → EReal) (ix2 r e)) = _ := funext fun e => oa_at m c t r e
  have hza : (fun e => (iblk m c 1 t : S512x768.Idx → EReal) (ix2 r e)) = _ := funext fun e => za_at m c t r e
  have hb : (fun e => (iblk m c 2 t : S512x768.Idx → EReal) (ix2 r e)) = _ := funext fun e => ob_at m c t r e
  have hzb : (fun e => (iblk m c 3 t : S512x768.Idx → EReal) (ix2 r e)) = _ := funext fun e => zb_at m c t r e
  have hc : (fun e => (iblk m c 4 t : S512x512.Idx → EReal) (ix2 r e)) = _ := funext fun e => oc_at m c t r e
  have hzc : (fun e => (iblk m c 5 t : S512x512.Idx → EReal) (ix2 r e)) = _ := funext fun e => zc_at m c t r e
  have hwa (k : Fin 1024) : (fun e => (iblk m c 8 t : S768x1024.Idx → EReal) (ix2 e k)) = _ := funext fun e => wa_at m c t e k
  have hwb (k : Fin 1024) : (fun e => (iblk m c 9 t : S768x1024.Idx → EReal) (ix2 e k)) = _ := funext fun e => wb_at m c t e k
  have hwc (k : Fin 1024) : (fun e => (iblk m c 10 t : S512x1024.Idx → EReal) (ix2 e k)) = _ := funext fun e => wc_at m c t e k
  have hg : (fun k => (iblk m c 12 t : S1x1024.Idx → EReal) (ix2 0 k)) = _ := funext fun k => g_at m c t k
  have mixed (k : Fin 1024) := congrArg₂ (· + ·)
    (congrArg₂ (· + ·)
      (congrArg₂ (· * ·) ((h0 r k).trans (gt_at m c t r _)) (congr (congr (congrArg MergeRef.gated ha) hza) (hwa k)))
      (congrArg₂ (· * ·) ((h1 r k).trans (gt_at m c t r _)) (congr (congr (congrArg MergeRef.gated hb) hzb) (hwb k))))
    (congrArg₂ (· * ·) ((h2 r k).trans (gt_at m c t r _)) (congr (congr (congrArg MergeRef.gated hc) hzc) (hwc k)))
  refine (pay1_at _ _ _ _ _ _ _ _ r l).trans ?_
  refine congrArg₂ (· + ·) (x_at m c t r l) (congrFun (congr (congrArg normed (funext fun l' =>
    Finset.sum_congr rfl fun k _ => congrArg₂ (· * ·) ?_ (wo_at m c t k l'))) hg) l)
  rw [pay4_at]
  exact mixed k

/-- The result array ends at the reference's output. -/
theorem final13 (c : Dev nD) : (dats m 0 c).arrAt 13 cfg0.N
    = MergeRef.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg7)) (m ((c : Thread nD τ).loc main_arg11)) (m ((c : Thread nD τ).loc main_arg12)) := by
  refine (dats m 0 c).arrAt_eq_of_covers 13 _ (by decide +kernel) fun t hf y => ?_
  blk_simp
  rw [after0_13]
  frame_out
  obtain ⟨r, l, rfl⟩ : ∃ (r : Fin 512) (l : Fin 1024), y = ix2 r l := ⟨y 0, y 1, by idx_ext⟩
  have e : ((View.whole main_v15).slice (win0_13.rect t)).emb (ix2 r l) = ix2 r l := by blk_ext [idx t]
  rw [e]
  exact point_at m c t _ _ _ (fun r k => by pointwise []) (fun r k => by pointwise []) (fun r k => by pointwise []) r l

/-- The call and the reference leave the same array. -/
theorem algebraic : Cert.algebraic_Kernel4Ideal_Reference4Ideal := by
  intro m g m' g' _ hagree
  refine ⟨fun c => MergeRef.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg7)) (m ((c : Thread nD τ).loc main_arg11)) (m ((c : Thread nD τ).loc main_arg12)),
    (θ_run _ _ _).mono (fun r h c => ?_) (Value.run_blocks m g), (θ_run _ _ _).mono (fun r h c => ?_) (Cert.Reference4Ideal.Value.run m' g')⟩
  · obtain ⟨h0, ha⟩ := h c
    exact ⟨h0.trans (final13 m c), ha⟩
  · obtain ⟨h0, ha⟩ := h c
    obtain ⟨e0, e1, e2, e3, e4, e5, e6, e7, e8, e9, e10, e11, e12⟩ := hagree c
    refine ⟨(h0.trans (MergeRef.result_eq m' c)).trans ?_, ha⟩
    rw [e0, e1, e2, e3, e4, e5, e6, e7, e8, e9, e10, e11, e12]

end Cert.Merge
-- ==== Proof.lean ====
/-
  The certificate: for the band attention (`Kernel`, `KernelIdeal`) the frames, proved over the band's own trips
  (Proof/Data.lean and Proof/Plain/Data.lean); for the input projection (`Kernel2`) the frames of Proof/Inproj/Data.lean
  and Proof/InprojPlain/Data.lean and the value claim of Proof/Projection.lean; for the memory projection (`Kernel3`) the
  generated frames and the value claim of Proof/Memory.lean; for the samples' merge (`Kernel4`) the generated frames and
  the value claim of Proof/Merge.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Data
public import proofs.«01_k».proof.Proof.Plain.Data
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Memory
public import proofs.«01_k».proof.Proof.Projection
public import proofs.«01_k».proof.Proof.Merge
public import proofs.«01_k».proof.Proof.InprojPlain.Data
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import Idealize.ShloMosaic.Adequacy
public import Idealize.ShloMosaic.Init

@[expose] public section

noncomputable section

namespace Cert.Proof

open Idealize.ShloMosaic Idealize.ShloMosaic.TcCoe Idealize.SL.Sem

/-- The memory projection's reference leaves its arguments as they were; it declares no semaphore. -/
theorem frame_reference3 : Cert.quiescent_Reference3Ideal := fun m ρ _ =>
  (θ_run Cert.Reference3Ideal.defs _ _).mono
    (fun r h => ⟨fun c => (h c).2.2.2.2, sem_eq_zero_of_no_sems (by decide) r.2⟩) (Cert.Reference3Ideal.Value.run m ρ)

/-- The input projection's reference likewise. -/
theorem frame_reference2 : Cert.quiescent_Reference2Ideal := fun m ρ _ =>
  (θ_run Cert.Reference2Ideal.defs _ _).mono
    (fun r h => ⟨fun c => by
      obtain ⟨_, _, _, _, _, _, _, _, _, _, _, _, _, _, _, _, _, _, _, ha⟩ := h c
      exact ha, sem_eq_zero_of_no_sems (by decide) r.2⟩) (Cert.Reference2Ideal.Value.run m ρ)

/-- The two scales of the input projection, named: each constant stands for its real value. -/
theorem named_scales : Cert.preserves_Kernel2_Kernel2Ideal :=
  ⟨IdealRules.named_const.statement Cert.Kernel2Ideal.κ "scale_a" .f32 0x3E38AA3B#32 _ rfl,
    IdealRules.named_const.statement Cert.Kernel2Ideal.κ "scale_c" .f32 0x3E0293EE#32 _ rfl⟩

/-- The samples' merge's reference likewise. -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Band.frame m ρ, fun m ρ _ => Cert.KernelIdeal.Band.frame m ρ,
    fun m ρ _ => Cert.Kernel2.Inproj.frame m ρ, fun m ρ _ => Cert.Kernel2Ideal.Inproj.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    trivial, named_scales, Cert.Inproj.algebraic, trivial, Cert.Memory.algebraic, trivial, Cert.Merge.algebraic⟩

end Cert.Proof

end
